-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v9_0)) (v1 : (c : Dev Cert.Kernel2Ideal.nD) → Buf (Elt Ideal) ((c.tc : Thread Cert.Kernel2Ideal.nD Cert.Kernel2Ideal.τ).loc Cert.Kernel2Ideal.main_v9_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v9_0) = v0 c
          ∧ r.2.mem ((c.tc : Thread Cert.Kernel2Ideal.nD Cert.Kernel2Ideal.τ).loc Cert.Kernel2Ideal.main_v9_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v7) = v0 c
          ∧ r.2.mem ((c.tc : Thread Cert.Reference2Ideal.nD Cert.Reference2Ideal.τ).loc Cert.Reference2Ideal.main_v10) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v11) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v11_0)) (v1 : (c : Dev Cert.Kernel4Ideal.nD) → Buf (Elt Ideal) ((c.tc : Thread Cert.Kernel4Ideal.nD Cert.Kernel4Ideal.τ).loc Cert.Kernel4Ideal.main_v11_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v11_0) = v0 c
          ∧ r.2.mem ((c.tc : Thread Cert.Kernel4Ideal.nD Cert.Kernel4Ideal.τ).loc Cert.Kernel4Ideal.main_v11_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v9) = v0 c
          ∧ r.2.mem ((c.tc : Thread Cert.Reference4Ideal.nD Cert.Reference4Ideal.τ).loc Cert.Reference4Ideal.main_v12) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v1_0)) (v1 : (c : Dev Cert.Kernel5Ideal.nD) → Buf (Elt Ideal) ((c.tc : Thread Cert.Kernel5Ideal.nD Cert.Kernel5Ideal.τ).loc Cert.Kernel5Ideal.main_v1_1)) (v2 : (c : Dev Cert.Kernel5Ideal.nD) → Buf (Elt Ideal) ((c.tc : Thread Cert.Kernel5Ideal.nD Cert.Kernel5Ideal.τ).loc Cert.Kernel5Ideal.main_v1_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1_0) = v0 c
          ∧ r.2.mem ((c.tc : Thread Cert.Kernel5Ideal.nD Cert.Kernel5Ideal.τ).loc Cert.Kernel5Ideal.main_v1_1) = v1 c
          ∧ r.2.mem ((c.tc : Thread Cert.Kernel5Ideal.nD Cert.Kernel5Ideal.τ).loc Cert.Kernel5Ideal.main_v1_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v8) = v0 c
          ∧ r.2.mem ((c.tc : Thread Cert.Reference5Ideal.nD Cert.Reference5Ideal.τ).loc Cert.Reference5Ideal.main_v12) = v1 c
          ∧ r.2.mem ((c.tc : Thread Cert.Reference5Ideal.nD Cert.Reference5Ideal.τ).loc Cert.Reference5Ideal.main_v16) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite.lean ====
abbrev S16384x2048 : Shape := ⟨2, ![16384, 2048]⟩
abbrev S1x4x128 : Shape := ⟨3, ![1, 4, 128]⟩
abbrev S1x256 : Shape := ⟨2, ![1, 256]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S1x4x128 : S_.BroadcastsInDim S1x4x128 (![] : Fin 0 → Fin S1x4x128.rank)
  reducesTo_S1x4x128_S_d0_1_2 : S1x4x128.ReducesTo [0, 1, 2] S_

variable [Facts]

def fn_part1 {F : FTy → Type} [FloatOps F] (main_v13 : IVec S_ 1) (main_v16 : IVec S1x4x128 1) : IVec S_ 1 :=
  let main_c_5 : IVec S_ 1 := constantI S_ 1 1#1
  let main_v17 : IVec S_ 1 := (fun x v => Host.reduce IntOp.andi x v reducesTo_S1x4x128_S_d0_1_2 h_S_) main_v16 main_c_5
  let main_v18 : IVec S_ 1 := andi main_v13 main_v17
  main_v18

def fn {F : FTy → Type} [FloatOps F] (main_arg0 : FVec F S16384x2048 .f32) (main_arg1 : FVec F S16384x2048 .f32) (main_arg2 : FVec F S16384x2048 .f32) (main_arg3 : FVec F S1x4x128 .f32) (main_arg4 : FVec F S1x256 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S16384x2048 .f32 := Host.absf main_arg1
  let main_cst_0 : FVec F S_ .f32 := constant S_ .f32 0x7F800000#32
  let main_v5 : FVec F S16384x2048 .f32 := broadcastInDim S16384x2048 ![] bcast_S_S16384x2048 main_cst_0
  let main_v6 : IVec S16384x2048 1 := cmpf .olt main_v4 main_v5
  let main_c_1 : IVec S_ 1 := constantI S_ 1 1#1
  let main_v7 : IVec S_ 1 := (fun x v => Host.reduce IntOp.andi x v reducesTo_S16384x2048_S_d0_1 h_S_) main_v6 main_c_1
  let main_v8 : IVec S_ 1 := andi main_v3 main_v7
  let main_v9 : FVec F S16384x2048 .f32 := Host.absf main_arg2
  let main_cst_2 : FVec F S_ .f32 := constant S_ .f32 0x7F800000#32
  let main_v10 : FVec F S16384x2048 .f32 := broadcastInDim S16384x2048 ![] bcast_S_S16384x2048 main_cst_2
  let main_v11 : IVec S16384x2048 1 := cmpf .olt main_v9 main_v10
  let main_c_3 : IVec S_ 1 := constantI S_ 1 1#1
  let main_v12 : IVec S_ 1 := (fun x v => Host.reduce IntOp.andi x v reducesTo_S16384x2048_S_d0_1 h_S_) main_v11 main_c_3
  let main_v13 : IVec S_ 1 := andi main_v8 main_v12
  let main_v14 : FVec F S1x4x128 .f32 := Host.absf main_arg3
  let main_cst_4 : FVec F S_ .f32 := constant S_ .f32 0x7F800000#32
  let main_v15 : FVec F S1x4x128 .f32 := broadcastInDim S1x4x128 ![] bcast_S_S1x4x128 main_cst_4
  let main_v16 : IVec S1x4x128 1 := cmpf .olt main_v14 main_v15
  fn_part1 (F := F) main_v13 main_v16
-- ==== Kernel.lean ====
abbrev S16384x2048 : Shape := ⟨2, ![16384, 2048]⟩
abbrev S1x4x128 : Shape := ⟨3, ![1, 4, 128]⟩
abbrev S1x256 : Shape := ⟨2, ![1, 256]⟩
abbrev S_ : Shape := ⟨0, ![]⟩
abbrev S16384x4096 : Shape := ⟨2, ![16384, 4096]⟩
abbrev S32x512x2048 : Shape := ⟨3, ![32, 512, 2048]⟩
abbrev S32x2048x512 : Shape := ⟨3, ![32, 2048, 512]⟩
abbrev S4x128 : Shape := ⟨2, ![4, 128]⟩
abbrev S256 : Shape := ⟨1, ![256]⟩
abbrev S512x512 : Shape := ⟨2, ![512, 512]⟩
abbrev S4096x512 : Shape := ⟨2, ![4096, 512]⟩
abbrev S8x512x512 : Shape := ⟨3, ![8, 512, 512]⟩
abbrev S2x512x512 : Shape := ⟨3, ![2, 512, 512]⟩
abbrev S8x1x512 : Shape := ⟨3, ![8, 1, 512]⟩
abbrev S4x1x512 : Shape := ⟨3, ![4, 1, 512]⟩
abbrev S4x256x512 : Shape := ⟨3, ![4, 256, 512]⟩
abbrev S512x128 : Shape := ⟨2, ![512, 128]⟩
abbrev S1x512x512 : Shape := ⟨3, ![1, 512, 512]⟩
abbrev S512 : Shape := ⟨1, ![512]⟩
abbrev S1x512 : Shape := ⟨2, ![1, 512]⟩
abbrev S1x1x512 : Shape := ⟨3, ![1, 1, 512]⟩
abbrev S1x256x512 : Shape := ⟨3, ![1, 256, 512]⟩
abbrev S256x512 : Shape := ⟨2, ![256, 512]⟩
abbrev S1x128 : Shape := ⟨2, ![1, 128]⟩
abbrev S1 : Shape := ⟨1, ![1]⟩
abbrev S1x1 : Shape := ⟨2, ![1, 1]⟩
abbrev S512x256 : Shape := ⟨2, ![512, 256]⟩

abbrev nBuf : Space → Nat
  | .hbm => 21
  | .vmem => 18
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S16384x2048, .f32⟩
  | .hbm, ⟨3, _⟩ => ⟨S1x4x128, .f32⟩
  | .hbm, ⟨4, _⟩ => ⟨S1x256, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S16384x2048, .f32⟩
  | .hbm, ⟨11, _⟩ => ⟨S16384x2048, .f32⟩
  | .hbm, ⟨12, _⟩ => ⟨S16384x4096, .f32⟩
  | .hbm, ⟨13, _⟩ => ⟨S16384x4096, .bf16⟩
  | .hbm, ⟨14, _⟩ => ⟨S32x512x2048, .f32⟩
  | .hbm, ⟨15, _⟩ => ⟨S32x2048x512, .f32⟩
  | .hbm, ⟨16, _⟩ => ⟨S32x2048x512, .bf16⟩
  | .hbm, ⟨17, _⟩ => ⟨S4x128, .f32⟩
  | .hbm, ⟨18, _⟩ => ⟨S256, .f32⟩
  | .hbm, ⟨19, _⟩ => ⟨S1x256, .f32⟩
  | .hbm, ⟨20, _⟩ => ⟨S16384x2048, .bf16⟩
  | .local _ .vmem, ⟨0, _⟩ => ⟨S512x512, .bf16⟩
  | .local _ .vmem, ⟨1, _⟩ => ⟨S512x512, .bf16⟩
  | .local _ .vmem, ⟨2, _⟩ => ⟨S4096x512, .bf16⟩
  | .local _ .vmem, ⟨3, _⟩ => ⟨S4096x512, .bf16⟩
  | .local _ .vmem, ⟨4, _⟩ => ⟨S8x512x512, .bf16⟩
  | .local _ .vmem, ⟨5, _⟩ => ⟨S8x512x512, .bf16⟩
  | .local _ .vmem, ⟨6, _⟩ => ⟨S4x128, .f32⟩
  | .local _ .vmem, ⟨7, _⟩ => ⟨S1x256, .f32⟩
  | .local _ .vmem, ⟨8, _⟩ => ⟨S512x512, .bf16⟩
  | .local _ .vmem, ⟨9, _⟩ => ⟨S512x512, .bf16⟩
  | .local _ .vmem, ⟨10, _⟩ => ⟨S2x512x512, .f32⟩
  | .local _ .vmem, ⟨11, _⟩ => ⟨S2x512x512, .f32⟩
  | .local _ .vmem, ⟨12, _⟩ => ⟨S2x512x512, .f32⟩
  | .local _ .vmem, ⟨13, _⟩ => ⟨S2x512x512, .f32⟩
  | .local _ .vmem, ⟨14, _⟩ => ⟨S8x1x512, .f32⟩
  | .local _ .vmem, ⟨15, _⟩ => ⟨S4x1x512, .f32⟩
  | .local _ .vmem, ⟨16, _⟩ => ⟨S4x1x512, .f32⟩
  | .local _ .vmem, ⟨17, _⟩ => ⟨S4x256x512, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_scratch6 : Ref sig .tc := ⟨.vmem, 16, rfl⟩
abbrev cc0_scratch7 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![4, 4, 8], ![false, false, false]⟩

@[reducible] def k0_t1_loop (i : grid0.Coords) : Scf.Loop 32 :=
  let c0_i32_11 : BitVec 32 := 0#32
  let arg2 : BitVec 32 := BitVec.ofNat 32 (i 2).val
  let c0_i32 : BitVec 32 := 0#32
  let v12 : BitVec 1 := Scalar.cmpi .eq arg2 c0_i32
  let v13 : BitVec 32 := Scalar.extui v12
  let v14 : BitVec 32 := Scalar.subi v13 c0_i32_11
  let c1_i32 : BitVec 32 := 1#32
  let v16 : BitVec 32 := Scalar.divsi v14 c1_i32
  let v17 : BitVec 32 := Scalar.muli v16 c1_i32
  let v18 : BitVec 32 := Scalar.addi c0_i32_11 v17
  let c1_i32_12 : BitVec 32 := 1#32
  ⟨c0_i32_11, v18, c1_i32_12⟩
def k0_mult1 : BitVec 32 :=
  let c0_i32_104 : BitVec 32 := 0#32
  c0_i32_104
def k0_mult2 : BitVec 32 :=
  let c0_i32_130 : BitVec 32 := 0#32
  c0_i32_130
def k0_mult3 : BitVec 32 :=
  let c0_i32_156 : BitVec 32 := 0#32
  c0_i32_156
def k0_mult4 : BitVec 32 :=
  let c0_i32_182 : BitVec 32 := 0#32
  c0_i32_182
@[reducible] def k0_t2_loop (i : grid0.Coords) : Scf.Loop 32 :=
  let c0_i32_11 : BitVec 32 := 0#32
  let arg2 : BitVec 32 := BitVec.ofNat 32 (i 2).val
  let c0_i32 : BitVec 32 := 0#32
  let v12 : BitVec 1 := Scalar.cmpi .eq arg2 c0_i32
  let v13 : BitVec 32 := Scalar.extui v12
  let v14 : BitVec 32 := Scalar.subi v13 c0_i32_11
  let c1_i32 : BitVec 32 := 1#32
  let v16 : BitVec 32 := Scalar.divsi v14 c1_i32
  let v17 : BitVec 32 := Scalar.muli v16 c1_i32
  let v18 : BitVec 32 := Scalar.addi c0_i32_11 v17
  let v15 : BitVec 32 := Scalar.addi c0_i32_11 v14
  let c1_i32_13 : BitVec 32 := 1#32
  ⟨v18, v15, c1_i32_13⟩
def k0_mult5 : BitVec 32 :=
  let c0_i32_104 : BitVec 32 := 0#32
  c0_i32_104
def k0_mult6 : BitVec 32 :=
  let c0_i32_130 : BitVec 32 := 0#32
  c0_i32_130
def k0_mult7 : BitVec 32 :=
  let c0_i32_156 : BitVec 32 := 0#32
  c0_i32_156
def k0_mult8 : BitVec 32 :=
  let c0_i32_182 : BitVec 32 := 0#32
  c0_i32_182
@[reducible] def k0_t3_loop (i : grid0.Coords) : Scf.Loop 32 :=
  let c0_i32_16 : BitVec 32 := 0#32
  let arg2 : BitVec 32 := BitVec.ofNat 32 (i 2).val
  let c0_i32_14 : BitVec 32 := 0#32
  let v19 : BitVec 1 := Scalar.cmpi .sgt arg2 c0_i32_14
  let v20 : BitVec 32 := Scalar.extui v19
  let v21 : BitVec 32 := Scalar.subi v20 c0_i32_16
  let c1_i32_17 : BitVec 32 := 1#32
  let v23 : BitVec 32 := Scalar.divsi v21 c1_i32_17
  let v24 : BitVec 32 := Scalar.muli v23 c1_i32_17
  let v25 : BitVec 32 := Scalar.addi c0_i32_16 v24
  let c1_i32_18 : BitVec 32 := 1#32
  ⟨c0_i32_16, v25, c1_i32_18⟩
def k0_mult9 : BitVec 32 :=
  let c0_i32_104 : BitVec 32 := 0#32
  c0_i32_104
def k0_mult10 : BitVec 32 :=
  let c0_i32_116 : BitVec 32 := 0#32
  c0_i32_116
def k0_mult11 : BitVec 32 :=
  let c0_i32_127 : BitVec 32 := 0#32
  c0_i32_127
def k0_mult12 : BitVec 32 :=
  let c0_i32_138 : BitVec 32 := 0#32
  c0_i32_138
@[reducible] def k0_t4_loop (i : grid0.Coords) : Scf.Loop 32 :=
  let c0_i32_16 : BitVec 32 := 0#32
  let arg2 : BitVec 32 := BitVec.ofNat 32 (i 2).val
  let c0_i32_14 : BitVec 32 := 0#32
  let v19 : BitVec 1 := Scalar.cmpi .sgt arg2 c0_i32_14
  let v20 : BitVec 32 := Scalar.extui v19
  let v21 : BitVec 32 := Scalar.subi v20 c0_i32_16
  let c1_i32_17 : BitVec 32 := 1#32
  let v23 : BitVec 32 := Scalar.divsi v21 c1_i32_17
  let v24 : BitVec 32 := Scalar.muli v23 c1_i32_17
  let v25 : BitVec 32 := Scalar.addi c0_i32_16 v24
  let v22 : BitVec 32 := Scalar.addi c0_i32_16 v21
  let c1_i32_19 : BitVec 32 := 1#32
  ⟨v25, v22, c1_i32_19⟩
def k0_mult13 : BitVec 32 :=
  let c0_i32_104 : BitVec 32 := 0#32
  c0_i32_104
def k0_mult14 : BitVec 32 :=
  let c0_i32_116 : BitVec 32 := 0#32
  c0_i32_116
def k0_mult15 : BitVec 32 :=
  let c0_i32_127 : BitVec 32 := 0#32
  c0_i32_127
def k0_mult16 : BitVec 32 :=
  let c0_i32_138 : BitVec 32 := 0#32
  c0_i32_138
@[reducible] def k0_t5_loop (i : grid0.Coords) : Scf.Loop 32 :=
  let c0_i32_30 : BitVec 32 := 0#32
  let arg2 : BitVec 32 := BitVec.ofNat 32 (i 2).val
  let c1_i32_20 : BitVec 32 := 1#32
  let v26 : BitVec 32 := Scalar.subi arg2 c1_i32_20
  let c0_i32_21 : BitVec 32 := 0#32
  let v27 : BitVec 32 := Scalar.maxsi v26 c0_i32_21
  let c0_i32_22 : BitVec 32 := 0#32
  let v29 : BitVec 1 := Scalar.cmpi .sgt v27 c0_i32_22
  let v30 : BitVec 32 := Scalar.extui v29
  let c0_i32_23 : BitVec 32 := 0#32
  let v31 : BitVec 1 := Scalar.cmpi .slt v27 c0_i32_23
  let v32 : BitVec 32 := Scalar.extui v31
  let v33 : BitVec 32 := Scalar.subi v30 v32
  let c2_i32 : BitVec 32 := 2#32
  let c0_i32_24 : BitVec 32 := 0#32
  let v34 : BitVec 1 := Scalar.cmpi .sgt c2_i32 c0_i32_24
  let v35 : BitVec 32 := Scalar.extui v34
  let c0_i32_25 : BitVec 32 := 0#32
  let v36 : BitVec 1 := Scalar.cmpi .slt c2_i32 c0_i32_25
  let v37 : BitVec 32 := Scalar.extui v36
  let v38 : BitVec 32 := Scalar.subi v35 v37
  let v39 : BitVec 1 := Scalar.cmpi .ne v33 v38
  let v40 : BitVec 32 := Scalar.remsi v27 c2_i32
  let c0_i32_26 : BitVec 32 := 0#32
  let v41 : BitVec 1 := Scalar.cmpi .ne v40 c0_i32_26
  let v42 : BitVec 1 := Scalar.andi v39 v41
  let v28 : BitVec 32 := Scalar.divsi v27 c2_i32
  let c1_i32_27 : BitVec 32 := 1#32
  let v43 : BitVec 32 := Scalar.subi v28 c1_i32_27
  let v44 : BitVec 32 := Scalar.select v42 v43 v28
  let v46 : BitVec 32 := Scalar.subi v44 c0_i32_30
  let c1_i32_31 : BitVec 32 := 1#32
  let v48 : BitVec 32 := Scalar.divsi v46 c1_i32_31
  let v49 : BitVec 32 := Scalar.muli v48 c1_i32_31
  let v50 : BitVec 32 := Scalar.addi c0_i32_30 v49
  let c1_i32_32 : BitVec 32 := 1#32
  ⟨c0_i32_30, v50, c1_i32_32⟩
def k0_mult17 (i : grid0.Coords) (k0_t5 : Fin (k0_t5_loop i).trips) : BitVec 32 :=
  let c2_i32_104 : BitVec 32 := 2#32
  let c0_i32_30 : BitVec 32 := 0#32
  let c1_i32_32 : BitVec 32 := 1#32
  let arg17 : BitVec 32 := Scf.iv c0_i32_30 c1_i32_32 k0_t5
  let v175 : BitVec 32 := Scalar.muli c2_i32_104 arg17
  let c1_i32_105 : BitVec 32 := 1#32
  let v176 : BitVec 32 := Scalar.addi v175 c1_i32_105
  let c512_i32 : BitVec 32 := 512#32
  let v177 : BitVec 32 := Scalar.muli v176 c512_i32
  v177
def k0_off1 (i : grid0.Coords) (k0_t5 : Fin (k0_t5_loop i).trips) : Fin 2 → Nat :=
  let c2_i32_104 : BitVec 32 := 2#32
  let c0_i32_30 : BitVec 32 := 0#32
  let c1_i32_32 : BitVec 32 := 1#32
  let arg17 : BitVec 32 := Scf.iv c0_i32_30 c1_i32_32 k0_t5
  let v175 : BitVec 32 := Scalar.muli c2_i32_104 arg17
  let c1_i32_105 : BitVec 32 := 1#32
  let v176 : BitVec 32 := Scalar.addi v175 c1_i32_105
  let c512_i32 : BitVec 32 := 512#32
  let v177 : BitVec 32 := Scalar.muli v176 c512_i32
  let v178 : BitVec 32 := v177
  let v179 : Index := Scalar.indexCast v178
  let c0_106 : Index := 0#32
  ![v179.toNat, 0]
def k0_off2 (i : grid0.Coords) (k0_t5 : Fin (k0_t5_loop i).trips) : Fin 3 → Nat :=
  let c2_i32_104 : BitVec 32 := 2#32
  let c0_i32_30 : BitVec 32 := 0#32
  let c1_i32_32 : BitVec 32 := 1#32
  let arg17 : BitVec 32 := Scf.iv c0_i32_30 c1_i32_32 k0_t5
  let v175 : BitVec 32 := Scalar.muli c2_i32_104 arg17
  let v197 : Index := Scalar.indexCast v175
  let c0_123 : Index := 0#32
  let c0_124 : Index := 0#32
  ![v197.toNat, 0, 0]
def k0_mult18 (i : grid0.Coords) (k0_t5 : Fin (k0_t5_loop i).trips) : BitVec 32 :=
  let c2_i32_104 : BitVec 32 := 2#32
  let c0_i32_30 : BitVec 32 := 0#32
  let c1_i32_32 : BitVec 32 := 1#32
  let arg17 : BitVec 32 := Scf.iv c0_i32_30 c1_i32_32 k0_t5
  let v175 : BitVec 32 := Scalar.muli c2_i32_104 arg17
  let c1_i32_145 : BitVec 32 := 1#32
  let v230 : BitVec 32 := Scalar.addi v175 c1_i32_145
  let c512_i32_146 : BitVec 32 := 512#32
  let v231 : BitVec 32 := Scalar.muli v230 c512_i32_146
  v231
def k0_off3 (i : grid0.Coords) (k0_t5 : Fin (k0_t5_loop i).trips) : Fin 2 → Nat :=
  let c2_i32_104 : BitVec 32 := 2#32
  let c0_i32_30 : BitVec 32 := 0#32
  let c1_i32_32 : BitVec 32 := 1#32
  let arg17 : BitVec 32 := Scf.iv c0_i32_30 c1_i32_32 k0_t5
  let v175 : BitVec 32 := Scalar.muli c2_i32_104 arg17
  let c1_i32_145 : BitVec 32 := 1#32
  let v230 : BitVec 32 := Scalar.addi v175 c1_i32_145
  let c512_i32_146 : BitVec 32 := 512#32
  let v231 : BitVec 32 := Scalar.muli v230 c512_i32_146
  let v232 : BitVec 32 := v231
  let v233 : Index := Scalar.indexCast v232
  let c128 : Index := 128#32
  ![v233.toNat, 128]
def k0_mult19 (i : grid0.Coords) (k0_t5 : Fin (k0_t5_loop i).trips) : BitVec 32 :=
  let c2_i32_104 : BitVec 32 := 2#32
  let c0_i32_30 : BitVec 32 := 0#32
  let c1_i32_32 : BitVec 32 := 1#32
  let arg17 : BitVec 32 := Scf.iv c0_i32_30 c1_i32_32 k0_t5
  let v175 : BitVec 32 := Scalar.muli c2_i32_104 arg17
  let c1_i32_185 : BitVec 32 := 1#32
  let v284 : BitVec 32 := Scalar.addi v175 c1_i32_185
  let c512_i32_186 : BitVec 32 := 512#32
  let v285 : BitVec 32 := Scalar.muli v284 c512_i32_186
  v285
def k0_off4 (i : grid0.Coords) (k0_t5 : Fin (k0_t5_loop i).trips) : Fin 2 → Nat :=
  let c2_i32_104 : BitVec 32 := 2#32
  let c0_i32_30 : BitVec 32 := 0#32
  let c1_i32_32 : BitVec 32 := 1#32
  let arg17 : BitVec 32 := Scf.iv c0_i32_30 c1_i32_32 k0_t5
  let v175 : BitVec 32 := Scalar.muli c2_i32_104 arg17
  let c1_i32_185 : BitVec 32 := 1#32
  let v284 : BitVec 32 := Scalar.addi v175 c1_i32_185
  let c512_i32_186 : BitVec 32 := 512#32
  let v285 : BitVec 32 := Scalar.muli v284 c512_i32_186
  let v286 : BitVec 32 := v285
  let v287 : Index := Scalar.indexCast v286
  let c256_187 : Index := 256#32
  ![v287.toNat, 256]
def k0_off5 (i : grid0.Coords) (k0_t5 : Fin (k0_t5_loop i).trips) : Fin 3 → Nat :=
  let c2_i32_104 : BitVec 32 := 2#32
  let c0_i32_30 : BitVec 32 := 0#32
  let c1_i32_32 : BitVec 32 := 1#32
  let arg17 : BitVec 32 := Scf.iv c0_i32_30 c1_i32_32 k0_t5
  let v175 : BitVec 32 := Scalar.muli c2_i32_104 arg17
  let v305 : Index := Scalar.indexCast v175
  let c256_202 : Index := 256#32
  let c0_203 : Index := 0#32
  ![v305.toNat, 256, 0]
def k0_mult20 (i : grid0.Coords) (k0_t5 : Fin (k0_t5_loop i).trips) : BitVec 32 :=
  let c2_i32_104 : BitVec 32 := 2#32
  let c0_i32_30 : BitVec 32 := 0#32
  let c1_i32_32 : BitVec 32 := 1#32
  let arg17 : BitVec 32 := Scf.iv c0_i32_30 c1_i32_32 k0_t5
  let v175 : BitVec 32 := Scalar.muli c2_i32_104 arg17
  let c1_i32_224 : BitVec 32 := 1#32
  let v338 : BitVec 32 := Scalar.addi v175 c1_i32_224
  let c512_i32_225 : BitVec 32 := 512#32
  let v339 : BitVec 32 := Scalar.muli v338 c512_i32_225
  v339
def k0_off6 (i : grid0.Coords) (k0_t5 : Fin (k0_t5_loop i).trips) : Fin 2 → Nat :=
  let c2_i32_104 : BitVec 32 := 2#32
  let c0_i32_30 : BitVec 32 := 0#32
  let c1_i32_32 : BitVec 32 := 1#32
  let arg17 : BitVec 32 := Scf.iv c0_i32_30 c1_i32_32 k0_t5
  let v175 : BitVec 32 := Scalar.muli c2_i32_104 arg17
  let c1_i32_224 : BitVec 32 := 1#32
  let v338 : BitVec 32 := Scalar.addi v175 c1_i32_224
  let c512_i32_225 : BitVec 32 := 512#32
  let v339 : BitVec 32 := Scalar.muli v338 c512_i32_225
  let v340 : BitVec 32 := v339
  let v341 : Index := Scalar.indexCast v340
  let c384 : Index := 384#32
  ![v341.toNat, 384]
def k0_mult21 (i : grid0.Coords) (k0_t5 : Fin (k0_t5_loop i).trips) : BitVec 32 :=
  let c2_i32_262 : BitVec 32 := 2#32
  let c0_i32_30 : BitVec 32 := 0#32
  let c1_i32_32 : BitVec 32 := 1#32
  let arg17 : BitVec 32 := Scf.iv c0_i32_30 c1_i32_32 k0_t5
  let v392 : BitVec 32 := Scalar.muli c2_i32_262 arg17
  let c1_i32_263 : BitVec 32 := 1#32
  let v393 : BitVec 32 := Scalar.addi v392 c1_i32_263
  let c1_i32_264 : BitVec 32 := 1#32
  let v394 : BitVec 32 := Scalar.addi v393 c1_i32_264
  let c512_i32_265 : BitVec 32 := 512#32
  let v395 : BitVec 32 := Scalar.muli v394 c512_i32_265
  v395
def k0_off7 (i : grid0.Coords) (k0_t5 : Fin (k0_t5_loop i).trips) : Fin 2 → Nat :=
  let c2_i32_262 : BitVec 32 := 2#32
  let c0_i32_30 : BitVec 32 := 0#32
  let c1_i32_32 : BitVec 32 := 1#32
  let arg17 : BitVec 32 := Scf.iv c0_i32_30 c1_i32_32 k0_t5
  let v392 : BitVec 32 := Scalar.muli c2_i32_262 arg17
  let c1_i32_263 : BitVec 32 := 1#32
  let v393 : BitVec 32 := Scalar.addi v392 c1_i32_263
  let c1_i32_264 : BitVec 32 := 1#32
  let v394 : BitVec 32 := Scalar.addi v393 c1_i32_264
  let c512_i32_265 : BitVec 32 := 512#32
  let v395 : BitVec 32 := Scalar.muli v394 c512_i32_265
  let v396 : BitVec 32 := v395
  let v397 : Index := Scalar.indexCast v396
  let c0_266 : Index := 0#32
  ![v397.toNat, 0]
def k0_off8 (i : grid0.Coords) (k0_t5 : Fin (k0_t5_loop i).trips) : Fin 3 → Nat :=
  let c2_i32_262 : BitVec 32 := 2#32
  let c0_i32_30 : BitVec 32 := 0#32
  let c1_i32_32 : BitVec 32 := 1#32
  let arg17 : BitVec 32 := Scf.iv c0_i32_30 c1_i32_32 k0_t5
  let v392 : BitVec 32 := Scalar.muli c2_i32_262 arg17
  let c1_i32_263 : BitVec 32 := 1#32
  let v393 : BitVec 32 := Scalar.addi v392 c1_i32_263
  let v415 : Index := Scalar.indexCast v393
  let c0_283 : Index := 0#32
  let c0_284 : Index := 0#32
  ![v415.toNat, 0, 0]
def k0_mult22 (i : grid0.Coords) (k0_t5 : Fin (k0_t5_loop i).trips) : BitVec 32 :=
  let c2_i32_262 : BitVec 32 := 2#32
  let c0_i32_30 : BitVec 32 := 0#32
  let c1_i32_32 : BitVec 32 := 1#32
  let arg17 : BitVec 32 := Scf.iv c0_i32_30 c1_i32_32 k0_t5
  let v392 : BitVec 32 := Scalar.muli c2_i32_262 arg17
  let c1_i32_263 : BitVec 32 := 1#32
  let v393 : BitVec 32 := Scalar.addi v392 c1_i32_263
  let c1_i32_305 : BitVec 32 := 1#32
  let v448 : BitVec 32 := Scalar.addi v393 c1_i32_305
  let c512_i32_306 : BitVec 32 := 512#32
  let v449 : BitVec 32 := Scalar.muli v448 c512_i32_306
  v449
def k0_off9 (i : grid0.Coords) (k0_t5 : Fin (k0_t5_loop i).trips) : Fin 2 → Nat :=
  let c2_i32_262 : BitVec 32 := 2#32
  let c0_i32_30 : BitVec 32 := 0#32
  let c1_i32_32 : BitVec 32 := 1#32
  let arg17 : BitVec 32 := Scf.iv c0_i32_30 c1_i32_32 k0_t5
  let v392 : BitVec 32 := Scalar.muli c2_i32_262 arg17
  let c1_i32_263 : BitVec 32 := 1#32
  let v393 : BitVec 32 := Scalar.addi v392 c1_i32_263
  let c1_i32_305 : BitVec 32 := 1#32
  let v448 : BitVec 32 := Scalar.addi v393 c1_i32_305
  let c512_i32_306 : BitVec 32 := 512#32
  let v449 : BitVec 32 := Scalar.muli v448 c512_i32_306
  let v450 : BitVec 32 := v449
  let v451 : Index := Scalar.indexCast v450
  let c128_307 : Index := 128#32
  ![v451.toNat, 128]
def k0_mult23 (i : grid0.Coords) (k0_t5 : Fin (k0_t5_loop i).trips) : BitVec 32 :=
  let c2_i32_262 : BitVec 32 := 2#32
  let c0_i32_30 : BitVec 32 := 0#32
  let c1_i32_32 : BitVec 32 := 1#32
  let arg17 : BitVec 32 := Scf.iv c0_i32_30 c1_i32_32 k0_t5
  let v392 : BitVec 32 := Scalar.muli c2_i32_262 arg17
  let c1_i32_263 : BitVec 32 := 1#32
  let v393 : BitVec 32 := Scalar.addi v392 c1_i32_263
  let c1_i32_346 : BitVec 32 := 1#32
  let v502 : BitVec 32 := Scalar.addi v393 c1_i32_346
  let c512_i32_347 : BitVec 32 := 512#32
  let v503 : BitVec 32 := Scalar.muli v502 c512_i32_347
  v503
def k0_off10 (i : grid0.Coords) (k0_t5 : Fin (k0_t5_loop i).trips) : Fin 2 → Nat :=
  let c2_i32_262 : BitVec 32 := 2#32
  let c0_i32_30 : BitVec 32 := 0#32
  let c1_i32_32 : BitVec 32 := 1#32
  let arg17 : BitVec 32 := Scf.iv c0_i32_30 c1_i32_32 k0_t5
  let v392 : BitVec 32 := Scalar.muli c2_i32_262 arg17
  let c1_i32_263 : BitVec 32 := 1#32
  let v393 : BitVec 32 := Scalar.addi v392 c1_i32_263
  let c1_i32_346 : BitVec 32 := 1#32
  let v502 : BitVec 32 := Scalar.addi v393 c1_i32_346
  let c512_i32_347 : BitVec 32 := 512#32
  let v503 : BitVec 32 := Scalar.muli v502 c512_i32_347
  let v504 : BitVec 32 := v503
  let v505 : Index := Scalar.indexCast v504
  let c256_348 : Index := 256#32
  ![v505.toNat, 256]
def k0_off11 (i : grid0.Coords) (k0_t5 : Fin (k0_t5_loop i).trips) : Fin 3 → Nat :=
  let c2_i32_262 : BitVec 32 := 2#32
  let c0_i32_30 : BitVec 32 := 0#32
  let c1_i32_32 : BitVec 32 := 1#32
  let arg17 : BitVec 32 := Scf.iv c0_i32_30 c1_i32_32 k0_t5
  let v392 : BitVec 32 := Scalar.muli c2_i32_262 arg17
  let c1_i32_263 : BitVec 32 := 1#32
  let v393 : BitVec 32 := Scalar.addi v392 c1_i32_263
  let v523 : Index := Scalar.indexCast v393
  let c256_365 : Index := 256#32
  let c0_366 : Index := 0#32
  ![v523.toNat, 256, 0]
def k0_mult24 (i : grid0.Coords) (k0_t5 : Fin (k0_t5_loop i).trips) : BitVec 32 :=
  let c2_i32_262 : BitVec 32 := 2#32
  let c0_i32_30 : BitVec 32 := 0#32
  let c1_i32_32 : BitVec 32 := 1#32
  let arg17 : BitVec 32 := Scf.iv c0_i32_30 c1_i32_32 k0_t5
  let v392 : BitVec 32 := Scalar.muli c2_i32_262 arg17
  let c1_i32_263 : BitVec 32 := 1#32
  let v393 : BitVec 32 := Scalar.addi v392 c1_i32_263
  let c1_i32_387 : BitVec 32 := 1#32
  let v556 : BitVec 32 := Scalar.addi v393 c1_i32_387
  let c512_i32_388 : BitVec 32 := 512#32
  let v557 : BitVec 32 := Scalar.muli v556 c512_i32_388
  v557
def k0_off12 (i : grid0.Coords) (k0_t5 : Fin (k0_t5_loop i).trips) : Fin 2 → Nat :=
  let c2_i32_262 : BitVec 32 := 2#32
  let c0_i32_30 : BitVec 32 := 0#32
  let c1_i32_32 : BitVec 32 := 1#32
  let arg17 : BitVec 32 := Scf.iv c0_i32_30 c1_i32_32 k0_t5
  let v392 : BitVec 32 := Scalar.muli c2_i32_262 arg17
  let c1_i32_263 : BitVec 32 := 1#32
  let v393 : BitVec 32 := Scalar.addi v392 c1_i32_263
  let c1_i32_387 : BitVec 32 := 1#32
  let v556 : BitVec 32 := Scalar.addi v393 c1_i32_387
  let c512_i32_388 : BitVec 32 := 512#32
  let v557 : BitVec 32 := Scalar.muli v556 c512_i32_388
  let v558 : BitVec 32 := v557
  let v559 : Index := Scalar.indexCast v558
  let c384_389 : Index := 384#32
  ![v559.toNat, 384]
@[reducible] def k0_t6_loop (i : grid0.Coords) : Scf.Loop 32 :=
  let c0_i32_30 : BitVec 32 := 0#32
  let arg2 : BitVec 32 := BitVec.ofNat 32 (i 2).val
  let c1_i32_20 : BitVec 32 := 1#32
  let v26 : BitVec 32 := Scalar.subi arg2 c1_i32_20
  let c0_i32_21 : BitVec 32 := 0#32
  let v27 : BitVec 32 := Scalar.maxsi v26 c0_i32_21
  let c0_i32_22 : BitVec 32 := 0#32
  let v29 : BitVec 1 := Scalar.cmpi .sgt v27 c0_i32_22
  let v30 : BitVec 32 := Scalar.extui v29
  let c0_i32_23 : BitVec 32 := 0#32
  let v31 : BitVec 1 := Scalar.cmpi .slt v27 c0_i32_23
  let v32 : BitVec 32 := Scalar.extui v31
  let v33 : BitVec 32 := Scalar.subi v30 v32
  let c2_i32 : BitVec 32 := 2#32
  let c0_i32_24 : BitVec 32 := 0#32
  let v34 : BitVec 1 := Scalar.cmpi .sgt c2_i32 c0_i32_24
  let v35 : BitVec 32 := Scalar.extui v34
  let c0_i32_25 : BitVec 32 := 0#32
  let v36 : BitVec 1 := Scalar.cmpi .slt c2_i32 c0_i32_25
  let v37 : BitVec 32 := Scalar.extui v36
  let v38 : BitVec 32 := Scalar.subi v35 v37
  let v39 : BitVec 1 := Scalar.cmpi .ne v33 v38
  let v40 : BitVec 32 := Scalar.remsi v27 c2_i32
  let c0_i32_26 : BitVec 32 := 0#32
  let v41 : BitVec 1 := Scalar.cmpi .ne v40 c0_i32_26
  let v42 : BitVec 1 := Scalar.andi v39 v41
  let v28 : BitVec 32 := Scalar.divsi v27 c2_i32
  let c1_i32_27 : BitVec 32 := 1#32
  let v43 : BitVec 32 := Scalar.subi v28 c1_i32_27
  let v44 : BitVec 32 := Scalar.select v42 v43 v28
  let v46 : BitVec 32 := Scalar.subi v44 c0_i32_30
  let c1_i32_31 : BitVec 32 := 1#32
  let v48 : BitVec 32 := Scalar.divsi v46 c1_i32_31
  let v49 : BitVec 32 := Scalar.muli v48 c1_i32_31
  let v50 : BitVec 32 := Scalar.addi c0_i32_30 v49
  let v47 : BitVec 32 := Scalar.addi c0_i32_30 v46
  let c1_i32_33 : BitVec 32 := 1#32
  ⟨v50, v47, c1_i32_33⟩
def k0_mult25 (i : grid0.Coords) (k0_t6 : Fin (k0_t6_loop i).trips) : BitVec 32 :=
  let c2_i32_104 : BitVec 32 := 2#32
  let c0_i32_30 : BitVec 32 := 0#32
  let arg2 : BitVec 32 := BitVec.ofNat 32 (i 2).val
  let c1_i32_20 : BitVec 32 := 1#32
  let v26 : BitVec 32 := Scalar.subi arg2 c1_i32_20
  let c0_i32_21 : BitVec 32 := 0#32
  let v27 : BitVec 32 := Scalar.maxsi v26 c0_i32_21
  let c0_i32_22 : BitVec 32 := 0#32
  let v29 : BitVec 1 := Scalar.cmpi .sgt v27 c0_i32_22
  let v30 : BitVec 32 := Scalar.extui v29
  let c0_i32_23 : BitVec 32 := 0#32
  let v31 : BitVec 1 := Scalar.cmpi .slt v27 c0_i32_23
  let v32 : BitVec 32 := Scalar.extui v31
  let v33 : BitVec 32 := Scalar.subi v30 v32
  let c2_i32 : BitVec 32 := 2#32
  let c0_i32_24 : BitVec 32 := 0#32
  let v34 : BitVec 1 := Scalar.cmpi .sgt c2_i32 c0_i32_24
  let v35 : BitVec 32 := Scalar.extui v34
  let c0_i32_25 : BitVec 32 := 0#32
  let v36 : BitVec 1 := Scalar.cmpi .slt c2_i32 c0_i32_25
  let v37 : BitVec 32 := Scalar.extui v36
  let v38 : BitVec 32 := Scalar.subi v35 v37
  let v39 : BitVec 1 := Scalar.cmpi .ne v33 v38
  let v40 : BitVec 32 := Scalar.remsi v27 c2_i32
  let c0_i32_26 : BitVec 32 := 0#32
  let v41 : BitVec 1 := Scalar.cmpi .ne v40 c0_i32_26
  let v42 : BitVec 1 := Scalar.andi v39 v41
  let v28 : BitVec 32 := Scalar.divsi v27 c2_i32
  let c1_i32_27 : BitVec 32 := 1#32
  let v43 : BitVec 32 := Scalar.subi v28 c1_i32_27
  let v44 : BitVec 32 := Scalar.select v42 v43 v28
  let v46 : BitVec 32 := Scalar.subi v44 c0_i32_30
  let c1_i32_31 : BitVec 32 := 1#32
  let v48 : BitVec 32 := Scalar.divsi v46 c1_i32_31
  let v49 : BitVec 32 := Scalar.muli v48 c1_i32_31
  let v50 : BitVec 32 := Scalar.addi c0_i32_30 v49
  let c1_i32_33 : BitVec 32 := 1#32
  let arg17 : BitVec 32 := Scf.iv v50 c1_i32_33 k0_t6
  let v175 : BitVec 32 := Scalar.muli c2_i32_104 arg17
  let c1_i32_105 : BitVec 32 := 1#32
  let v176 : BitVec 32 := Scalar.addi v175 c1_i32_105
  let c512_i32 : BitVec 32 := 512#32
  let v177 : BitVec 32 := Scalar.muli v176 c512_i32
  v177
def k0_off13 (i : grid0.Coords) (k0_t6 : Fin (k0_t6_loop i).trips) : Fin 2 → Nat :=
  let c2_i32_104 : BitVec 32 := 2#32
  let c0_i32_30 : BitVec 32 := 0#32
  let arg2 : BitVec 32 := BitVec.ofNat 32 (i 2).val
  let c1_i32_20 : BitVec 32 := 1#32
  let v26 : BitVec 32 := Scalar.subi arg2 c1_i32_20
  let c0_i32_21 : BitVec 32 := 0#32
  let v27 : BitVec 32 := Scalar.maxsi v26 c0_i32_21
  let c0_i32_22 : BitVec 32 := 0#32
  let v29 : BitVec 1 := Scalar.cmpi .sgt v27 c0_i32_22
  let v30 : BitVec 32 := Scalar.extui v29
  let c0_i32_23 : BitVec 32 := 0#32
  let v31 : BitVec 1 := Scalar.cmpi .slt v27 c0_i32_23
  let v32 : BitVec 32 := Scalar.extui v31
  let v33 : BitVec 32 := Scalar.subi v30 v32
  let c2_i32 : BitVec 32 := 2#32
  let c0_i32_24 : BitVec 32 := 0#32
  let v34 : BitVec 1 := Scalar.cmpi .sgt c2_i32 c0_i32_24
  let v35 : BitVec 32 := Scalar.extui v34
  let c0_i32_25 : BitVec 32 := 0#32
  let v36 : BitVec 1 := Scalar.cmpi .slt c2_i32 c0_i32_25
  let v37 : BitVec 32 := Scalar.extui v36
  let v38 : BitVec 32 := Scalar.subi v35 v37
  let v39 : BitVec 1 := Scalar.cmpi .ne v33 v38
  let v40 : BitVec 32 := Scalar.remsi v27 c2_i32
  let c0_i32_26 : BitVec 32 := 0#32
  let v41 : BitVec 1 := Scalar.cmpi .ne v40 c0_i32_26
  let v42 : BitVec 1 := Scalar.andi v39 v41
  let v28 : BitVec 32 := Scalar.divsi v27 c2_i32
  let c1_i32_27 : BitVec 32 := 1#32
  let v43 : BitVec 32 := Scalar.subi v28 c1_i32_27
  let v44 : BitVec 32 := Scalar.select v42 v43 v28
  let v46 : BitVec 32 := Scalar.subi v44 c0_i32_30
  let c1_i32_31 : BitVec 32 := 1#32
  let v48 : BitVec 32 := Scalar.divsi v46 c1_i32_31
  let v49 : BitVec 32 := Scalar.muli v48 c1_i32_31
  let v50 : BitVec 32 := Scalar.addi c0_i32_30 v49
  let c1_i32_33 : BitVec 32 := 1#32
  let arg17 : BitVec 32 := Scf.iv v50 c1_i32_33 k0_t6
  let v175 : BitVec 32 := Scalar.muli c2_i32_104 arg17
  let c1_i32_105 : BitVec 32 := 1#32
  let v176 : BitVec 32 := Scalar.addi v175 c1_i32_105
  let c512_i32 : BitVec 32 := 512#32
  let v177 : BitVec 32 := Scalar.muli v176 c512_i32
  let v178 : BitVec 32 := v177
  let v179 : Index := Scalar.indexCast v178
  let c0_106 : Index := 0#32
  ![v179.toNat, 0]
def k0_off14 (i : grid0.Coords) (k0_t6 : Fin (k0_t6_loop i).trips) : Fin 3 → Nat :=
  let c2_i32_104 : BitVec 32 := 2#32
  let c0_i32_30 : BitVec 32 := 0#32
  let arg2 : BitVec 32 := BitVec.ofNat 32 (i 2).val
  let c1_i32_20 : BitVec 32 := 1#32
  let v26 : BitVec 32 := Scalar.subi arg2 c1_i32_20
  let c0_i32_21 : BitVec 32 := 0#32
  let v27 : BitVec 32 := Scalar.maxsi v26 c0_i32_21
  let c0_i32_22 : BitVec 32 := 0#32
  let v29 : BitVec 1 := Scalar.cmpi .sgt v27 c0_i32_22
  let v30 : BitVec 32 := Scalar.extui v29
  let c0_i32_23 : BitVec 32 := 0#32
  let v31 : BitVec 1 := Scalar.cmpi .slt v27 c0_i32_23
  let v32 : BitVec 32 := Scalar.extui v31
  let v33 : BitVec 32 := Scalar.subi v30 v32
  let c2_i32 : BitVec 32 := 2#32
  let c0_i32_24 : BitVec 32 := 0#32
  let v34 : BitVec 1 := Scalar.cmpi .sgt c2_i32 c0_i32_24
  let v35 : BitVec 32 := Scalar.extui v34
  let c0_i32_25 : BitVec 32 := 0#32
  let v36 : BitVec 1 := Scalar.cmpi .slt c2_i32 c0_i32_25
  let v37 : BitVec 32 := Scalar.extui v36
  let v38 : BitVec 32 := Scalar.subi v35 v37
  let v39 : BitVec 1 := Scalar.cmpi .ne v33 v38
  let v40 : BitVec 32 := Scalar.remsi v27 c2_i32
  let c0_i32_26 : BitVec 32 := 0#32
  let v41 : BitVec 1 := Scalar.cmpi .ne v40 c0_i32_26
  let v42 : BitVec 1 := Scalar.andi v39 v41
  let v28 : BitVec 32 := Scalar.divsi v27 c2_i32
  let c1_i32_27 : BitVec 32 := 1#32
  let v43 : BitVec 32 := Scalar.subi v28 c1_i32_27
  let v44 : BitVec 32 := Scalar.select v42 v43 v28
  let v46 : BitVec 32 := Scalar.subi v44 c0_i32_30
  let c1_i32_31 : BitVec 32 := 1#32
  let v48 : BitVec 32 := Scalar.divsi v46 c1_i32_31
  let v49 : BitVec 32 := Scalar.muli v48 c1_i32_31
  let v50 : BitVec 32 := Scalar.addi c0_i32_30 v49
  let c1_i32_33 : BitVec 32 := 1#32
  let arg17 : BitVec 32 := Scf.iv v50 c1_i32_33 k0_t6
  let v175 : BitVec 32 := Scalar.muli c2_i32_104 arg17
  let v197 : Index := Scalar.indexCast v175
  let c0_123 : Index := 0#32
  let c0_124 : Index := 0#32
  ![v197.toNat, 0, 0]
def k0_mult26 (i : grid0.Coords) (k0_t6 : Fin (k0_t6_loop i).trips) : BitVec 32 :=
  let c2_i32_104 : BitVec 32 := 2#32
  let c0_i32_30 : BitVec 32 := 0#32
  let arg2 : BitVec 32 := BitVec.ofNat 32 (i 2).val
  let c1_i32_20 : BitVec 32 := 1#32
  let v26 : BitVec 32 := Scalar.subi arg2 c1_i32_20
  let c0_i32_21 : BitVec 32 := 0#32
  let v27 : BitVec 32 := Scalar.maxsi v26 c0_i32_21
  let c0_i32_22 : BitVec 32 := 0#32
  let v29 : BitVec 1 := Scalar.cmpi .sgt v27 c0_i32_22
  let v30 : BitVec 32 := Scalar.extui v29
  let c0_i32_23 : BitVec 32 := 0#32
  let v31 : BitVec 1 := Scalar.cmpi .slt v27 c0_i32_23
  let v32 : BitVec 32 := Scalar.extui v31
  let v33 : BitVec 32 := Scalar.subi v30 v32
  let c2_i32 : BitVec 32 := 2#32
  let c0_i32_24 : BitVec 32 := 0#32
  let v34 : BitVec 1 := Scalar.cmpi .sgt c2_i32 c0_i32_24
  let v35 : BitVec 32 := Scalar.extui v34
  let c0_i32_25 : BitVec 32 := 0#32
  let v36 : BitVec 1 := Scalar.cmpi .slt c2_i32 c0_i32_25
  let v37 : BitVec 32 := Scalar.extui v36
  let v38 : BitVec 32 := Scalar.subi v35 v37
  let v39 : BitVec 1 := Scalar.cmpi .ne v33 v38
  let v40 : BitVec 32 := Scalar.remsi v27 c2_i32
  let c0_i32_26 : BitVec 32 := 0#32
  let v41 : BitVec 1 := Scalar.cmpi .ne v40 c0_i32_26
  let v42 : BitVec 1 := Scalar.andi v39 v41
  let v28 : BitVec 32 := Scalar.divsi v27 c2_i32
  let c1_i32_27 : BitVec 32 := 1#32
  let v43 : BitVec 32 := Scalar.subi v28 c1_i32_27
  let v44 : BitVec 32 := Scalar.select v42 v43 v28
  let v46 : BitVec 32 := Scalar.subi v44 c0_i32_30
  let c1_i32_31 : BitVec 32 := 1#32
  let v48 : BitVec 32 := Scalar.divsi v46 c1_i32_31
  let v49 : BitVec 32 := Scalar.muli v48 c1_i32_31
  let v50 : BitVec 32 := Scalar.addi c0_i32_30 v49
  let c1_i32_33 : BitVec 32 := 1#32
  let arg17 : BitVec 32 := Scf.iv v50 c1_i32_33 k0_t6
  let v175 : BitVec 32 := Scalar.muli c2_i32_104 arg17
  let c1_i32_145 : BitVec 32 := 1#32
  let v230 : BitVec 32 := Scalar.addi v175 c1_i32_145
  let c512_i32_146 : BitVec 32 := 512#32
  let v231 : BitVec 32 := Scalar.muli v230 c512_i32_146
  v231
def k0_off15 (i : grid0.Coords) (k0_t6 : Fin (k0_t6_loop i).trips) : Fin 2 → Nat :=
  let c2_i32_104 : BitVec 32 := 2#32
  let c0_i32_30 : BitVec 32 := 0#32
  let arg2 : BitVec 32 := BitVec.ofNat 32 (i 2).val
  let c1_i32_20 : BitVec 32 := 1#32
  let v26 : BitVec 32 := Scalar.subi arg2 c1_i32_20
  let c0_i32_21 : BitVec 32 := 0#32
  let v27 : BitVec 32 := Scalar.maxsi v26 c0_i32_21
  let c0_i32_22 : BitVec 32 := 0#32
  let v29 : BitVec 1 := Scalar.cmpi .sgt v27 c0_i32_22
  let v30 : BitVec 32 := Scalar.extui v29
  let c0_i32_23 : BitVec 32 := 0#32
  let v31 : BitVec 1 := Scalar.cmpi .slt v27 c0_i32_23
  let v32 : BitVec 32 := Scalar.extui v31
  let v33 : BitVec 32 := Scalar.subi v30 v32
  let c2_i32 : BitVec 32 := 2#32
  let c0_i32_24 : BitVec 32 := 0#32
  let v34 : BitVec 1 := Scalar.cmpi .sgt c2_i32 c0_i32_24
  let v35 : BitVec 32 := Scalar.extui v34
  let c0_i32_25 : BitVec 32 := 0#32
  let v36 : BitVec 1 := Scalar.cmpi .slt c2_i32 c0_i32_25
  let v37 : BitVec 32 := Scalar.extui v36
  let v38 : BitVec 32 := Scalar.subi v35 v37
  let v39 : BitVec 1 := Scalar.cmpi .ne v33 v38
  let v40 : BitVec 32 := Scalar.remsi v27 c2_i32
  let c0_i32_26 : BitVec 32 := 0#32
  let v41 : BitVec 1 := Scalar.cmpi .ne v40 c0_i32_26
  let v42 : BitVec 1 := Scalar.andi v39 v41
  let v28 : BitVec 32 := Scalar.divsi v27 c2_i32
  let c1_i32_27 : BitVec 32 := 1#32
  let v43 : BitVec 32 := Scalar.subi v28 c1_i32_27
  let v44 : BitVec 32 := Scalar.select v42 v43 v28
  let v46 : BitVec 32 := Scalar.subi v44 c0_i32_30
  let c1_i32_31 : BitVec 32 := 1#32
  let v48 : BitVec 32 := Scalar.divsi v46 c1_i32_31
  let v49 : BitVec 32 := Scalar.muli v48 c1_i32_31
  let v50 : BitVec 32 := Scalar.addi c0_i32_30 v49
  let c1_i32_33 : BitVec 32 := 1#32
  let arg17 : BitVec 32 := Scf.iv v50 c1_i32_33 k0_t6
  let v175 : BitVec 32 := Scalar.muli c2_i32_104 arg17
  let c1_i32_145 : BitVec 32 := 1#32
  let v230 : BitVec 32 := Scalar.addi v175 c1_i32_145
  let c512_i32_146 : BitVec 32 := 512#32
  let v231 : BitVec 32 := Scalar.muli v230 c512_i32_146
  let v232 : BitVec 32 := v231
  let v233 : Index := Scalar.indexCast v232
  let c128 : Index := 128#32
  ![v233.toNat, 128]
def k0_mult27 (i : grid0.Coords) (k0_t6 : Fin (k0_t6_loop i).trips) : BitVec 32 :=
  let c2_i32_104 : BitVec 32 := 2#32
  let c0_i32_30 : BitVec 32 := 0#32
  let arg2 : BitVec 32 := BitVec.ofNat 32 (i 2).val
  let c1_i32_20 : BitVec 32 := 1#32
  let v26 : BitVec 32 := Scalar.subi arg2 c1_i32_20
  let c0_i32_21 : BitVec 32 := 0#32
  let v27 : BitVec 32 := Scalar.maxsi v26 c0_i32_21
  let c0_i32_22 : BitVec 32 := 0#32
  let v29 : BitVec 1 := Scalar.cmpi .sgt v27 c0_i32_22
  let v30 : BitVec 32 := Scalar.extui v29
  let c0_i32_23 : BitVec 32 := 0#32
  let v31 : BitVec 1 := Scalar.cmpi .slt v27 c0_i32_23
  let v32 : BitVec 32 := Scalar.extui v31
  let v33 : BitVec 32 := Scalar.subi v30 v32
  let c2_i32 : BitVec 32 := 2#32
  let c0_i32_24 : BitVec 32 := 0#32
  let v34 : BitVec 1 := Scalar.cmpi .sgt c2_i32 c0_i32_24
  let v35 : BitVec 32 := Scalar.extui v34
  let c0_i32_25 : BitVec 32 := 0#32
  let v36 : BitVec 1 := Scalar.cmpi .slt c2_i32 c0_i32_25
  let v37 : BitVec 32 := Scalar.extui v36
  let v38 : BitVec 32 := Scalar.subi v35 v37
  let v39 : BitVec 1 := Scalar.cmpi .ne v33 v38
  let v40 : BitVec 32 := Scalar.remsi v27 c2_i32
  let c0_i32_26 : BitVec 32 := 0#32
  let v41 : BitVec 1 := Scalar.cmpi .ne v40 c0_i32_26
  let v42 : BitVec 1 := Scalar.andi v39 v41
  let v28 : BitVec 32 := Scalar.divsi v27 c2_i32
  let c1_i32_27 : BitVec 32 := 1#32
  let v43 : BitVec 32 := Scalar.subi v28 c1_i32_27
  let v44 : BitVec 32 := Scalar.select v42 v43 v28
  let v46 : BitVec 32 := Scalar.subi v44 c0_i32_30
  let c1_i32_31 : BitVec 32 := 1#32
  let v48 : BitVec 32 := Scalar.divsi v46 c1_i32_31
  let v49 : BitVec 32 := Scalar.muli v48 c1_i32_31
  let v50 : BitVec 32 := Scalar.addi c0_i32_30 v49
  let c1_i32_33 : BitVec 32 := 1#32
  let arg17 : BitVec 32 := Scf.iv v50 c1_i32_33 k0_t6
  let v175 : BitVec 32 := Scalar.muli c2_i32_104 arg17
  let c1_i32_185 : BitVec 32 := 1#32
  let v284 : BitVec 32 := Scalar.addi v175 c1_i32_185
  let c512_i32_186 : BitVec 32 := 512#32
  let v285 : BitVec 32 := Scalar.muli v284 c512_i32_186
  v285
def k0_off16 (i : grid0.Coords) (k0_t6 : Fin (k0_t6_loop i).trips) : Fin 2 → Nat :=
  let c2_i32_104 : BitVec 32 := 2#32
  let c0_i32_30 : BitVec 32 := 0#32
  let arg2 : BitVec 32 := BitVec.ofNat 32 (i 2).val
  let c1_i32_20 : BitVec 32 := 1#32
  let v26 : BitVec 32 := Scalar.subi arg2 c1_i32_20
  let c0_i32_21 : BitVec 32 := 0#32
  let v27 : BitVec 32 := Scalar.maxsi v26 c0_i32_21
  let c0_i32_22 : BitVec 32 := 0#32
  let v29 : BitVec 1 := Scalar.cmpi .sgt v27 c0_i32_22
  let v30 : BitVec 32 := Scalar.extui v29
  let c0_i32_23 : BitVec 32 := 0#32
  let v31 : BitVec 1 := Scalar.cmpi .slt v27 c0_i32_23
  let v32 : BitVec 32 := Scalar.extui v31
  let v33 : BitVec 32 := Scalar.subi v30 v32
  let c2_i32 : BitVec 32 := 2#32
  let c0_i32_24 : BitVec 32 := 0#32
  let v34 : BitVec 1 := Scalar.cmpi .sgt c2_i32 c0_i32_24
  let v35 : BitVec 32 := Scalar.extui v34
  let c0_i32_25 : BitVec 32 := 0#32
  let v36 : BitVec 1 := Scalar.cmpi .slt c2_i32 c0_i32_25
  let v37 : BitVec 32 := Scalar.extui v36
  let v38 : BitVec 32 := Scalar.subi v35 v37
  let v39 : BitVec 1 := Scalar.cmpi .ne v33 v38
  let v40 : BitVec 32 := Scalar.remsi v27 c2_i32
  let c0_i32_26 : BitVec 32 := 0#32
  let v41 : BitVec 1 := Scalar.cmpi .ne v40 c0_i32_26
  let v42 : BitVec 1 := Scalar.andi v39 v41
  let v28 : BitVec 32 := Scalar.divsi v27 c2_i32
  let c1_i32_27 : BitVec 32 := 1#32
  let v43 : BitVec 32 := Scalar.subi v28 c1_i32_27
  let v44 : BitVec 32 := Scalar.select v42 v43 v28
  let v46 : BitVec 32 := Scalar.subi v44 c0_i32_30
  let c1_i32_31 : BitVec 32 := 1#32
  let v48 : BitVec 32 := Scalar.divsi v46 c1_i32_31
  let v49 : BitVec 32 := Scalar.muli v48 c1_i32_31
  let v50 : BitVec 32 := Scalar.addi c0_i32_30 v49
  let c1_i32_33 : BitVec 32 := 1#32
  let arg17 : BitVec 32 := Scf.iv v50 c1_i32_33 k0_t6
  let v175 : BitVec 32 := Scalar.muli c2_i32_104 arg17
  let c1_i32_185 : BitVec 32 := 1#32
  let v284 : BitVec 32 := Scalar.addi v175 c1_i32_185
  let c512_i32_186 : BitVec 32 := 512#32
  let v285 : BitVec 32 := Scalar.muli v284 c512_i32_186
  let v286 : BitVec 32 := v285
  let v287 : Index := Scalar.indexCast v286
  let c256_187 : Index := 256#32
  ![v287.toNat, 256]
def k0_off17 (i : grid0.Coords) (k0_t6 : Fin (k0_t6_loop i).trips) : Fin 3 → Nat :=
  let c2_i32_104 : BitVec 32 := 2#32
  let c0_i32_30 : BitVec 32 := 0#32
  let arg2 : BitVec 32 := BitVec.ofNat 32 (i 2).val
  let c1_i32_20 : BitVec 32 := 1#32
  let v26 : BitVec 32 := Scalar.subi arg2 c1_i32_20
  let c0_i32_21 : BitVec 32 := 0#32
  let v27 : BitVec 32 := Scalar.maxsi v26 c0_i32_21
  let c0_i32_22 : BitVec 32 := 0#32
  let v29 : BitVec 1 := Scalar.cmpi .sgt v27 c0_i32_22
  let v30 : BitVec 32 := Scalar.extui v29
  let c0_i32_23 : BitVec 32 := 0#32
  let v31 : BitVec 1 := Scalar.cmpi .slt v27 c0_i32_23
  let v32 : BitVec 32 := Scalar.extui v31
  let v33 : BitVec 32 := Scalar.subi v30 v32
  let c2_i32 : BitVec 32 := 2#32
  let c0_i32_24 : BitVec 32 := 0#32
  let v34 : BitVec 1 := Scalar.cmpi .sgt c2_i32 c0_i32_24
  let v35 : BitVec 32 := Scalar.extui v34
  let c0_i32_25 : BitVec 32 := 0#32
  let v36 : BitVec 1 := Scalar.cmpi .slt c2_i32 c0_i32_25
  let v37 : BitVec 32 := Scalar.extui v36
  let v38 : BitVec 32 := Scalar.subi v35 v37
  let v39 : BitVec 1 := Scalar.cmpi .ne v33 v38
  let v40 : BitVec 32 := Scalar.remsi v27 c2_i32
  let c0_i32_26 : BitVec 32 := 0#32
  let v41 : BitVec 1 := Scalar.cmpi .ne v40 c0_i32_26
  let v42 : BitVec 1 := Scalar.andi v39 v41
  let v28 : BitVec 32 := Scalar.divsi v27 c2_i32
  let c1_i32_27 : BitVec 32 := 1#32
  let v43 : BitVec 32 := Scalar.subi v28 c1_i32_27
  let v44 : BitVec 32 := Scalar.select v42 v43 v28
  let v46 : BitVec 32 := Scalar.subi v44 c0_i32_30
  let c1_i32_31 : BitVec 32 := 1#32
  let v48 : BitVec 32 := Scalar.divsi v46 c1_i32_31
  let v49 : BitVec 32 := Scalar.muli v48 c1_i32_31
  let v50 : BitVec 32 := Scalar.addi c0_i32_30 v49
  let c1_i32_33 : BitVec 32 := 1#32
  let arg17 : BitVec 32 := Scf.iv v50 c1_i32_33 k0_t6
  let v175 : BitVec 32 := Scalar.muli c2_i32_104 arg17
  let v305 : Index := Scalar.indexCast v175
  let c256_202 : Index := 256#32
  let c0_203 : Index := 0#32
  ![v305.toNat, 256, 0]
def k0_mult28 (i : grid0.Coords) (k0_t6 : Fin (k0_t6_loop i).trips) : BitVec 32 :=
  let c2_i32_104 : BitVec 32 := 2#32
  let c0_i32_30 : BitVec 32 := 0#32
  let arg2 : BitVec 32 := BitVec.ofNat 32 (i 2).val
  let c1_i32_20 : BitVec 32 := 1#32
  let v26 : BitVec 32 := Scalar.subi arg2 c1_i32_20
  let c0_i32_21 : BitVec 32 := 0#32
  let v27 : BitVec 32 := Scalar.maxsi v26 c0_i32_21
  let c0_i32_22 : BitVec 32 := 0#32
  let v29 : BitVec 1 := Scalar.cmpi .sgt v27 c0_i32_22
  let v30 : BitVec 32 := Scalar.extui v29
  let c0_i32_23 : BitVec 32 := 0#32
  let v31 : BitVec 1 := Scalar.cmpi .slt v27 c0_i32_23
  let v32 : BitVec 32 := Scalar.extui v31
  let v33 : BitVec 32 := Scalar.subi v30 v32
  let c2_i32 : BitVec 32 := 2#32
  let c0_i32_24 : BitVec 32 := 0#32
  let v34 : BitVec 1 := Scalar.cmpi .sgt c2_i32 c0_i32_24
  let v35 : BitVec 32 := Scalar.extui v34
  let c0_i32_25 : BitVec 32 := 0#32
  let v36 : BitVec 1 := Scalar.cmpi .slt c2_i32 c0_i32_25
  let v37 : BitVec 32 := Scalar.extui v36
  let v38 : BitVec 32 := Scalar.subi v35 v37
  let v39 : BitVec 1 := Scalar.cmpi .ne v33 v38
  let v40 : BitVec 32 := Scalar.remsi v27 c2_i32
  let c0_i32_26 : BitVec 32 := 0#32
  let v41 : BitVec 1 := Scalar.cmpi .ne v40 c0_i32_26
  let v42 : BitVec 1 := Scalar.andi v39 v41
  let v28 : BitVec 32 := Scalar.divsi v27 c2_i32
  let c1_i32_27 : BitVec 32 := 1#32
  let v43 : BitVec 32 := Scalar.subi v28 c1_i32_27
  let v44 : BitVec 32 := Scalar.select v42 v43 v28
  let v46 : BitVec 32 := Scalar.subi v44 c0_i32_30
  let c1_i32_31 : BitVec 32 := 1#32
  let v48 : BitVec 32 := Scalar.divsi v46 c1_i32_31
  let v49 : BitVec 32 := Scalar.muli v48 c1_i32_31
  let v50 : BitVec 32 := Scalar.addi c0_i32_30 v49
  let c1_i32_33 : BitVec 32 := 1#32
  let arg17 : BitVec 32 := Scf.iv v50 c1_i32_33 k0_t6
  let v175 : BitVec 32 := Scalar.muli c2_i32_104 arg17
  let c1_i32_224 : BitVec 32 := 1#32
  let v338 : BitVec 32 := Scalar.addi v175 c1_i32_224
  let c512_i32_225 : BitVec 32 := 512#32
  let v339 : BitVec 32 := Scalar.muli v338 c512_i32_225
  v339
def k0_off18 (i : grid0.Coords) (k0_t6 : Fin (k0_t6_loop i).trips) : Fin 2 → Nat :=
  let c2_i32_104 : BitVec 32 := 2#32
  let c0_i32_30 : BitVec 32 := 0#32
  let arg2 : BitVec 32 := BitVec.ofNat 32 (i 2).val
  let c1_i32_20 : BitVec 32 := 1#32
  let v26 : BitVec 32 := Scalar.subi arg2 c1_i32_20
  let c0_i32_21 : BitVec 32 := 0#32
  let v27 : BitVec 32 := Scalar.maxsi v26 c0_i32_21
  let c0_i32_22 : BitVec 32 := 0#32
  let v29 : BitVec 1 := Scalar.cmpi .sgt v27 c0_i32_22
  let v30 : BitVec 32 := Scalar.extui v29
  let c0_i32_23 : BitVec 32 := 0#32
  let v31 : BitVec 1 := Scalar.cmpi .slt v27 c0_i32_23
  let v32 : BitVec 32 := Scalar.extui v31
  let v33 : BitVec 32 := Scalar.subi v30 v32
  let c2_i32 : BitVec 32 := 2#32
  let c0_i32_24 : BitVec 32 := 0#32
  let v34 : BitVec 1 := Scalar.cmpi .sgt c2_i32 c0_i32_24
  let v35 : BitVec 32 := Scalar.extui v34
  let c0_i32_25 : BitVec 32 := 0#32
  let v36 : BitVec 1 := Scalar.cmpi .slt c2_i32 c0_i32_25
  let v37 : BitVec 32 := Scalar.extui v36
  let v38 : BitVec 32 := Scalar.subi v35 v37
  let v39 : BitVec 1 := Scalar.cmpi .ne v33 v38
  let v40 : BitVec 32 := Scalar.remsi v27 c2_i32
  let c0_i32_26 : BitVec 32 := 0#32
  let v41 : BitVec 1 := Scalar.cmpi .ne v40 c0_i32_26
  let v42 : BitVec 1 := Scalar.andi v39 v41
  let v28 : BitVec 32 := Scalar.divsi v27 c2_i32
  let c1_i32_27 : BitVec 32 := 1#32
  let v43 : BitVec 32 := Scalar.subi v28 c1_i32_27
  let v44 : BitVec 32 := Scalar.select v42 v43 v28
  let v46 : BitVec 32 := Scalar.subi v44 c0_i32_30
  let c1_i32_31 : BitVec 32 := 1#32
  let v48 : BitVec 32 := Scalar.divsi v46 c1_i32_31
  let v49 : BitVec 32 := Scalar.muli v48 c1_i32_31
  let v50 : BitVec 32 := Scalar.addi c0_i32_30 v49
  let c1_i32_33 : BitVec 32 := 1#32
  let arg17 : BitVec 32 := Scf.iv v50 c1_i32_33 k0_t6
  let v175 : BitVec 32 := Scalar.muli c2_i32_104 arg17
  let c1_i32_224 : BitVec 32 := 1#32
  let v338 : BitVec 32 := Scalar.addi v175 c1_i32_224
  let c512_i32_225 : BitVec 32 := 512#32
  let v339 : BitVec 32 := Scalar.muli v338 c512_i32_225
  let v340 : BitVec 32 := v339
  let v341 : Index := Scalar.indexCast v340
  let c384 : Index := 384#32
  ![v341.toNat, 384]
def k0_mult29 (i : grid0.Coords) (k0_t6 : Fin (k0_t6_loop i).trips) : BitVec 32 :=
  let c2_i32_262 : BitVec 32 := 2#32
  let c0_i32_30 : BitVec 32 := 0#32
  let arg2 : BitVec 32 := BitVec.ofNat 32 (i 2).val
  let c1_i32_20 : BitVec 32 := 1#32
  let v26 : BitVec 32 := Scalar.subi arg2 c1_i32_20
  let c0_i32_21 : BitVec 32 := 0#32
  let v27 : BitVec 32 := Scalar.maxsi v26 c0_i32_21
  let c0_i32_22 : BitVec 32 := 0#32
  let v29 : BitVec 1 := Scalar.cmpi .sgt v27 c0_i32_22
  let v30 : BitVec 32 := Scalar.extui v29
  let c0_i32_23 : BitVec 32 := 0#32
  let v31 : BitVec 1 := Scalar.cmpi .slt v27 c0_i32_23
  let v32 : BitVec 32 := Scalar.extui v31
  let v33 : BitVec 32 := Scalar.subi v30 v32
  let c2_i32 : BitVec 32 := 2#32
  let c0_i32_24 : BitVec 32 := 0#32
  let v34 : BitVec 1 := Scalar.cmpi .sgt c2_i32 c0_i32_24
  let v35 : BitVec 32 := Scalar.extui v34
  let c0_i32_25 : BitVec 32 := 0#32
  let v36 : BitVec 1 := Scalar.cmpi .slt c2_i32 c0_i32_25
  let v37 : BitVec 32 := Scalar.extui v36
  let v38 : BitVec 32 := Scalar.subi v35 v37
  let v39 : BitVec 1 := Scalar.cmpi .ne v33 v38
  let v40 : BitVec 32 := Scalar.remsi v27 c2_i32
  let c0_i32_26 : BitVec 32 := 0#32
  let v41 : BitVec 1 := Scalar.cmpi .ne v40 c0_i32_26
  let v42 : BitVec 1 := Scalar.andi v39 v41
  let v28 : BitVec 32 := Scalar.divsi v27 c2_i32
  let c1_i32_27 : BitVec 32 := 1#32
  let v43 : BitVec 32 := Scalar.subi v28 c1_i32_27
  let v44 : BitVec 32 := Scalar.select v42 v43 v28
  let v46 : BitVec 32 := Scalar.subi v44 c0_i32_30
  let c1_i32_31 : BitVec 32 := 1#32
  let v48 : BitVec 32 := Scalar.divsi v46 c1_i32_31
  let v49 : BitVec 32 := Scalar.muli v48 c1_i32_31
  let v50 : BitVec 32 := Scalar.addi c0_i32_30 v49
  let c1_i32_33 : BitVec 32 := 1#32
  let arg17 : BitVec 32 := Scf.iv v50 c1_i32_33 k0_t6
  let v392 : BitVec 32 := Scalar.muli c2_i32_262 arg17
  let c1_i32_263 : BitVec 32 := 1#32
  let v393 : BitVec 32 := Scalar.addi v392 c1_i32_263
  let c1_i32_264 : BitVec 32 := 1#32
  let v394 : BitVec 32 := Scalar.addi v393 c1_i32_264
  let c512_i32_265 : BitVec 32 := 512#32
  let v395 : BitVec 32 := Scalar.muli v394 c512_i32_265
  v395
def k0_off19 (i : grid0.Coords) (k0_t6 : Fin (k0_t6_loop i).trips) : Fin 2 → Nat :=
  let c2_i32_262 : BitVec 32 := 2#32
  let c0_i32_30 : BitVec 32 := 0#32
  let arg2 : BitVec 32 := BitVec.ofNat 32 (i 2).val
  let c1_i32_20 : BitVec 32 := 1#32
  let v26 : BitVec 32 := Scalar.subi arg2 c1_i32_20
  let c0_i32_21 : BitVec 32 := 0#32
  let v27 : BitVec 32 := Scalar.maxsi v26 c0_i32_21
  let c0_i32_22 : BitVec 32 := 0#32
  let v29 : BitVec 1 := Scalar.cmpi .sgt v27 c0_i32_22
  let v30 : BitVec 32 := Scalar.extui v29
  let c0_i32_23 : BitVec 32 := 0#32
  let v31 : BitVec 1 := Scalar.cmpi .slt v27 c0_i32_23
  let v32 : BitVec 32 := Scalar.extui v31
  let v33 : BitVec 32 := Scalar.subi v30 v32
  let c2_i32 : BitVec 32 := 2#32
  let c0_i32_24 : BitVec 32 := 0#32
  let v34 : BitVec 1 := Scalar.cmpi .sgt c2_i32 c0_i32_24
  let v35 : BitVec 32 := Scalar.extui v34
  let c0_i32_25 : BitVec 32 := 0#32
  let v36 : BitVec 1 := Scalar.cmpi .slt c2_i32 c0_i32_25
  let v37 : BitVec 32 := Scalar.extui v36
  let v38 : BitVec 32 := Scalar.subi v35 v37
  let v39 : BitVec 1 := Scalar.cmpi .ne v33 v38
  let v40 : BitVec 32 := Scalar.remsi v27 c2_i32
  let c0_i32_26 : BitVec 32 := 0#32
  let v41 : BitVec 1 := Scalar.cmpi .ne v40 c0_i32_26
  let v42 : BitVec 1 := Scalar.andi v39 v41
  let v28 : BitVec 32 := Scalar.divsi v27 c2_i32
  let c1_i32_27 : BitVec 32 := 1#32
  let v43 : BitVec 32 := Scalar.subi v28 c1_i32_27
  let v44 : BitVec 32 := Scalar.select v42 v43 v28
  let v46 : BitVec 32 := Scalar.subi v44 c0_i32_30
  let c1_i32_31 : BitVec 32 := 1#32
  let v48 : BitVec 32 := Scalar.divsi v46 c1_i32_31
  let v49 : BitVec 32 := Scalar.muli v48 c1_i32_31
  let v50 : BitVec 32 := Scalar.addi c0_i32_30 v49
  let c1_i32_33 : BitVec 32 := 1#32
  let arg17 : BitVec 32 := Scf.iv v50 c1_i32_33 k0_t6
  let v392 : BitVec 32 := Scalar.muli c2_i32_262 arg17
  let c1_i32_263 : BitVec 32 := 1#32
  let v393 : BitVec 32 := Scalar.addi v392 c1_i32_263
  let c1_i32_264 : BitVec 32 := 1#32
  let v394 : BitVec 32 := Scalar.addi v393 c1_i32_264
  let c512_i32_265 : BitVec 32 := 512#32
  let v395 : BitVec 32 := Scalar.muli v394 c512_i32_265
  let v396 : BitVec 32 := v395
  let v397 : Index := Scalar.indexCast v396
  let c0_266 : Index := 0#32
  ![v397.toNat, 0]
def k0_off20 (i : grid0.Coords) (k0_t6 : Fin (k0_t6_loop i).trips) : Fin 3 → Nat :=
  let c2_i32_262 : BitVec 32 := 2#32
  let c0_i32_30 : BitVec 32 := 0#32
  let arg2 : BitVec 32 := BitVec.ofNat 32 (i 2).val
  let c1_i32_20 : BitVec 32 := 1#32
  let v26 : BitVec 32 := Scalar.subi arg2 c1_i32_20
  let c0_i32_21 : BitVec 32 := 0#32
  let v27 : BitVec 32 := Scalar.maxsi v26 c0_i32_21
  let c0_i32_22 : BitVec 32 := 0#32
  let v29 : BitVec 1 := Scalar.cmpi .sgt v27 c0_i32_22
  let v30 : BitVec 32 := Scalar.extui v29
  let c0_i32_23 : BitVec 32 := 0#32
  let v31 : BitVec 1 := Scalar.cmpi .slt v27 c0_i32_23
  let v32 : BitVec 32 := Scalar.extui v31
  let v33 : BitVec 32 := Scalar.subi v30 v32
  let c2_i32 : BitVec 32 := 2#32
  let c0_i32_24 : BitVec 32 := 0#32
  let v34 : BitVec 1 := Scalar.cmpi .sgt c2_i32 c0_i32_24
  let v35 : BitVec 32 := Scalar.extui v34
  let c0_i32_25 : BitVec 32 := 0#32
  let v36 : BitVec 1 := Scalar.cmpi .slt c2_i32 c0_i32_25
  let v37 : BitVec 32 := Scalar.extui v36
  let v38 : BitVec 32 := Scalar.subi v35 v37
  let v39 : BitVec 1 := Scalar.cmpi .ne v33 v38
  let v40 : BitVec 32 := Scalar.remsi v27 c2_i32
  let c0_i32_26 : BitVec 32 := 0#32
  let v41 : BitVec 1 := Scalar.cmpi .ne v40 c0_i32_26
  let v42 : BitVec 1 := Scalar.andi v39 v41
  let v28 : BitVec 32 := Scalar.divsi v27 c2_i32
  let c1_i32_27 : BitVec 32 := 1#32
  let v43 : BitVec 32 := Scalar.subi v28 c1_i32_27
  let v44 : BitVec 32 := Scalar.select v42 v43 v28
  let v46 : BitVec 32 := Scalar.subi v44 c0_i32_30
  let c1_i32_31 : BitVec 32 := 1#32
  let v48 : BitVec 32 := Scalar.divsi v46 c1_i32_31
  let v49 : BitVec 32 := Scalar.muli v48 c1_i32_31
  let v50 : BitVec 32 := Scalar.addi c0_i32_30 v49
  let c1_i32_33 : BitVec 32 := 1#32
  let arg17 : BitVec 32 := Scf.iv v50 c1_i32_33 k0_t6
  let v392 : BitVec 32 := Scalar.muli c2_i32_262 arg17
  let c1_i32_263 : BitVec 32 := 1#32
  let v393 : BitVec 32 := Scalar.addi v392 c1_i32_263
  let v415 : Index := Scalar.indexCast v393
  let c0_283 : Index := 0#32
  let c0_284 : Index := 0#32
  ![v415.toNat, 0, 0]
def k0_mult30 (i : grid0.Coords) (k0_t6 : Fin (k0_t6_loop i).trips) : BitVec 32 :=
  let c2_i32_262 : BitVec 32 := 2#32
  let c0_i32_30 : BitVec 32 := 0#32
  let arg2 : BitVec 32 := BitVec.ofNat 32 (i 2).val
  let c1_i32_20 : BitVec 32 := 1#32
  let v26 : BitVec 32 := Scalar.subi arg2 c1_i32_20
  let c0_i32_21 : BitVec 32 := 0#32
  let v27 : BitVec 32 := Scalar.maxsi v26 c0_i32_21
  let c0_i32_22 : BitVec 32 := 0#32
  let v29 : BitVec 1 := Scalar.cmpi .sgt v27 c0_i32_22
  let v30 : BitVec 32 := Scalar.extui v29
  let c0_i32_23 : BitVec 32 := 0#32
  let v31 : BitVec 1 := Scalar.cmpi .slt v27 c0_i32_23
  let v32 : BitVec 32 := Scalar.extui v31
  let v33 : BitVec 32 := Scalar.subi v30 v32
  let c2_i32 : BitVec 32 := 2#32
  let c0_i32_24 : BitVec 32 := 0#32
  let v34 : BitVec 1 := Scalar.cmpi .sgt c2_i32 c0_i32_24
  let v35 : BitVec 32 := Scalar.extui v34
  let c0_i32_25 : BitVec 32 := 0#32
  let v36 : BitVec 1 := Scalar.cmpi .slt c2_i32 c0_i32_25
  let v37 : BitVec 32 := Scalar.extui v36
  let v38 : BitVec 32 := Scalar.subi v35 v37
  let v39 : BitVec 1 := Scalar.cmpi .ne v33 v38
  let v40 : BitVec 32 := Scalar.remsi v27 c2_i32
  let c0_i32_26 : BitVec 32 := 0#32
  let v41 : BitVec 1 := Scalar.cmpi .ne v40 c0_i32_26
  let v42 : BitVec 1 := Scalar.andi v39 v41
  let v28 : BitVec 32 := Scalar.divsi v27 c2_i32
  let c1_i32_27 : BitVec 32 := 1#32
  let v43 : BitVec 32 := Scalar.subi v28 c1_i32_27
  let v44 : BitVec 32 := Scalar.select v42 v43 v28
  let v46 : BitVec 32 := Scalar.subi v44 c0_i32_30
  let c1_i32_31 : BitVec 32 := 1#32
  let v48 : BitVec 32 := Scalar.divsi v46 c1_i32_31
  let v49 : BitVec 32 := Scalar.muli v48 c1_i32_31
  let v50 : BitVec 32 := Scalar.addi c0_i32_30 v49
  let c1_i32_33 : BitVec 32 := 1#32
  let arg17 : BitVec 32 := Scf.iv v50 c1_i32_33 k0_t6
  let v392 : BitVec 32 := Scalar.muli c2_i32_262 arg17
  let c1_i32_263 : BitVec 32 := 1#32
  let v393 : BitVec 32 := Scalar.addi v392 c1_i32_263
  let c1_i32_305 : BitVec 32 := 1#32
  let v448 : BitVec 32 := Scalar.addi v393 c1_i32_305
  let c512_i32_306 : BitVec 32 := 512#32
  let v449 : BitVec 32 := Scalar.muli v448 c512_i32_306
  v449
def k0_off21 (i : grid0.Coords) (k0_t6 : Fin (k0_t6_loop i).trips) : Fin 2 → Nat :=
  let c2_i32_262 : BitVec 32 := 2#32
  let c0_i32_30 : BitVec 32 := 0#32
  let arg2 : BitVec 32 := BitVec.ofNat 32 (i 2).val
  let c1_i32_20 : BitVec 32 := 1#32
  let v26 : BitVec 32 := Scalar.subi arg2 c1_i32_20
  let c0_i32_21 : BitVec 32 := 0#32
  let v27 : BitVec 32 := Scalar.maxsi v26 c0_i32_21
  let c0_i32_22 : BitVec 32 := 0#32
  let v29 : BitVec 1 := Scalar.cmpi .sgt v27 c0_i32_22
  let v30 : BitVec 32 := Scalar.extui v29
  let c0_i32_23 : BitVec 32 := 0#32
  let v31 : BitVec 1 := Scalar.cmpi .slt v27 c0_i32_23
  let v32 : BitVec 32 := Scalar.extui v31
  let v33 : BitVec 32 := Scalar.subi v30 v32
  let c2_i32 : BitVec 32 := 2#32
  let c0_i32_24 : BitVec 32 := 0#32
  let v34 : BitVec 1 := Scalar.cmpi .sgt c2_i32 c0_i32_24
  let v35 : BitVec 32 := Scalar.extui v34
  let c0_i32_25 : BitVec 32 := 0#32
  let v36 : BitVec 1 := Scalar.cmpi .slt c2_i32 c0_i32_25
  let v37 : BitVec 32 := Scalar.extui v36
  let v38 : BitVec 32 := Scalar.subi v35 v37
  let v39 : BitVec 1 := Scalar.cmpi .ne v33 v38
  let v40 : BitVec 32 := Scalar.remsi v27 c2_i32
  let c0_i32_26 : BitVec 32 := 0#32
  let v41 : BitVec 1 := Scalar.cmpi .ne v40 c0_i32_26
  let v42 : BitVec 1 := Scalar.andi v39 v41
  let v28 : BitVec 32 := Scalar.divsi v27 c2_i32
  let c1_i32_27 : BitVec 32 := 1#32
  let v43 : BitVec 32 := Scalar.subi v28 c1_i32_27
  let v44 : BitVec 32 := Scalar.select v42 v43 v28
  let v46 : BitVec 32 := Scalar.subi v44 c0_i32_30
  let c1_i32_31 : BitVec 32 := 1#32
  let v48 : BitVec 32 := Scalar.divsi v46 c1_i32_31
  let v49 : BitVec 32 := Scalar.muli v48 c1_i32_31
  let v50 : BitVec 32 := Scalar.addi c0_i32_30 v49
  let c1_i32_33 : BitVec 32 := 1#32
  let arg17 : BitVec 32 := Scf.iv v50 c1_i32_33 k0_t6
  let v392 : BitVec 32 := Scalar.muli c2_i32_262 arg17
  let c1_i32_263 : BitVec 32 := 1#32
  let v393 : BitVec 32 := Scalar.addi v392 c1_i32_263
  let c1_i32_305 : BitVec 32 := 1#32
  let v448 : BitVec 32 := Scalar.addi v393 c1_i32_305
  let c512_i32_306 : BitVec 32 := 512#32
  let v449 : BitVec 32 := Scalar.muli v448 c512_i32_306
  let v450 : BitVec 32 := v449
  let v451 : Index := Scalar.indexCast v450
  let c128_307 : Index := 128#32
  ![v451.toNat, 128]
def k0_mult31 (i : grid0.Coords) (k0_t6 : Fin (k0_t6_loop i).trips) : BitVec 32 :=
  let c2_i32_262 : BitVec 32 := 2#32
  let c0_i32_30 : BitVec 32 := 0#32
  let arg2 : BitVec 32 := BitVec.ofNat 32 (i 2).val
  let c1_i32_20 : BitVec 32 := 1#32
  let v26 : BitVec 32 := Scalar.subi arg2 c1_i32_20
  let c0_i32_21 : BitVec 32 := 0#32
  let v27 : BitVec 32 := Scalar.maxsi v26 c0_i32_21
  let c0_i32_22 : BitVec 32 := 0#32
  let v29 : BitVec 1 := Scalar.cmpi .sgt v27 c0_i32_22
  let v30 : BitVec 32 := Scalar.extui v29
  let c0_i32_23 : BitVec 32 := 0#32
  let v31 : BitVec 1 := Scalar.cmpi .slt v27 c0_i32_23
  let v32 : BitVec 32 := Scalar.extui v31
  let v33 : BitVec 32 := Scalar.subi v30 v32
  let c2_i32 : BitVec 32 := 2#32
  let c0_i32_24 : BitVec 32 := 0#32
  let v34 : BitVec 1 := Scalar.cmpi .sgt c2_i32 c0_i32_24
  let v35 : BitVec 32 := Scalar.extui v34
  let c0_i32_25 : BitVec 32 := 0#32
  let v36 : BitVec 1 := Scalar.cmpi .slt c2_i32 c0_i32_25
  let v37 : BitVec 32 := Scalar.extui v36
  let v38 : BitVec 32 := Scalar.subi v35 v37
  let v39 : BitVec 1 := Scalar.cmpi .ne v33 v38
  let v40 : BitVec 32 := Scalar.remsi v27 c2_i32
  let c0_i32_26 : BitVec 32 := 0#32
  let v41 : BitVec 1 := Scalar.cmpi .ne v40 c0_i32_26
  let v42 : BitVec 1 := Scalar.andi v39 v41
  let v28 : BitVec 32 := Scalar.divsi v27 c2_i32
  let c1_i32_27 : BitVec 32 := 1#32
  let v43 : BitVec 32 := Scalar.subi v28 c1_i32_27
  let v44 : BitVec 32 := Scalar.select v42 v43 v28
  let v46 : BitVec 32 := Scalar.subi v44 c0_i32_30
  let c1_i32_31 : BitVec 32 := 1#32
  let v48 : BitVec 32 := Scalar.divsi v46 c1_i32_31
  let v49 : BitVec 32 := Scalar.muli v48 c1_i32_31
  let v50 : BitVec 32 := Scalar.addi c0_i32_30 v49
  let c1_i32_33 : BitVec 32 := 1#32
  let arg17 : BitVec 32 := Scf.iv v50 c1_i32_33 k0_t6
  let v392 : BitVec 32 := Scalar.muli c2_i32_262 arg17
  let c1_i32_263 : BitVec 32 := 1#32
  let v393 : BitVec 32 := Scalar.addi v392 c1_i32_263
  let c1_i32_346 : BitVec 32 := 1#32
  let v502 : BitVec 32 := Scalar.addi v393 c1_i32_346
  let c512_i32_347 : BitVec 32 := 512#32
  let v503 : BitVec 32 := Scalar.muli v502 c512_i32_347
  v503
def k0_off22 (i : grid0.Coords) (k0_t6 : Fin (k0_t6_loop i).trips) : Fin 2 → Nat :=
  let c2_i32_262 : BitVec 32 := 2#32
  let c0_i32_30 : BitVec 32 := 0#32
  let arg2 : BitVec 32 := BitVec.ofNat 32 (i 2).val
  let c1_i32_20 : BitVec 32 := 1#32
  let v26 : BitVec 32 := Scalar.subi arg2 c1_i32_20
  let c0_i32_21 : BitVec 32 := 0#32
  let v27 : BitVec 32 := Scalar.maxsi v26 c0_i32_21
  let c0_i32_22 : BitVec 32 := 0#32
  let v29 : BitVec 1 := Scalar.cmpi .sgt v27 c0_i32_22
  let v30 : BitVec 32 := Scalar.extui v29
  let c0_i32_23 : BitVec 32 := 0#32
  let v31 : BitVec 1 := Scalar.cmpi .slt v27 c0_i32_23
  let v32 : BitVec 32 := Scalar.extui v31
  let v33 : BitVec 32 := Scalar.subi v30 v32
  let c2_i32 : BitVec 32 := 2#32
  let c0_i32_24 : BitVec 32 := 0#32
  let v34 : BitVec 1 := Scalar.cmpi .sgt c2_i32 c0_i32_24
  let v35 : BitVec 32 := Scalar.extui v34
  let c0_i32_25 : BitVec 32 := 0#32
  let v36 : BitVec 1 := Scalar.cmpi .slt c2_i32 c0_i32_25
  let v37 : BitVec 32 := Scalar.extui v36
  let v38 : BitVec 32 := Scalar.subi v35 v37
  let v39 : BitVec 1 := Scalar.cmpi .ne v33 v38
  let v40 : BitVec 32 := Scalar.remsi v27 c2_i32
  let c0_i32_26 : BitVec 32 := 0#32
  let v41 : BitVec 1 := Scalar.cmpi .ne v40 c0_i32_26
  let v42 : BitVec 1 := Scalar.andi v39 v41
  let v28 : BitVec 32 := Scalar.divsi v27 c2_i32
  let c1_i32_27 : BitVec 32 := 1#32
  let v43 : BitVec 32 := Scalar.subi v28 c1_i32_27
  let v44 : BitVec 32 := Scalar.select v42 v43 v28
  let v46 : BitVec 32 := Scalar.subi v44 c0_i32_30
  let c1_i32_31 : BitVec 32 := 1#32
  let v48 : BitVec 32 := Scalar.divsi v46 c1_i32_31
  let v49 : BitVec 32 := Scalar.muli v48 c1_i32_31
  let v50 : BitVec 32 := Scalar.addi c0_i32_30 v49
  let c1_i32_33 : BitVec 32 := 1#32
  let arg17 : BitVec 32 := Scf.iv v50 c1_i32_33 k0_t6
  let v392 : BitVec 32 := Scalar.muli c2_i32_262 arg17
  let c1_i32_263 : BitVec 32 := 1#32
  let v393 : BitVec 32 := Scalar.addi v392 c1_i32_263
  let c1_i32_346 : BitVec 32 := 1#32
  let v502 : BitVec 32 := Scalar.addi v393 c1_i32_346
  let c512_i32_347 : BitVec 32 := 512#32
  let v503 : BitVec 32 := Scalar.muli v502 c512_i32_347
  let v504 : BitVec 32 := v503
  let v505 : Index := Scalar.indexCast v504
  let c256_348 : Index := 256#32
  ![v505.toNat, 256]
def k0_off23 (i : grid0.Coords) (k0_t6 : Fin (k0_t6_loop i).trips) : Fin 3 → Nat :=
  let c2_i32_262 : BitVec 32 := 2#32
  let c0_i32_30 : BitVec 32 := 0#32
  let arg2 : BitVec 32 := BitVec.ofNat 32 (i 2).val
  let c1_i32_20 : BitVec 32 := 1#32
  let v26 : BitVec 32 := Scalar.subi arg2 c1_i32_20
  let c0_i32_21 : BitVec 32 := 0#32
  let v27 : BitVec 32 := Scalar.maxsi v26 c0_i32_21
  let c0_i32_22 : BitVec 32 := 0#32
  let v29 : BitVec 1 := Scalar.cmpi .sgt v27 c0_i32_22
  let v30 : BitVec 32 := Scalar.extui v29
  let c0_i32_23 : BitVec 32 := 0#32
  let v31 : BitVec 1 := Scalar.cmpi .slt v27 c0_i32_23
  let v32 : BitVec 32 := Scalar.extui v31
  let v33 : BitVec 32 := Scalar.subi v30 v32
  let c2_i32 : BitVec 32 := 2#32
  let c0_i32_24 : BitVec 32 := 0#32
  let v34 : BitVec 1 := Scalar.cmpi .sgt c2_i32 c0_i32_24
  let v35 : BitVec 32 := Scalar.extui v34
  let c0_i32_25 : BitVec 32 := 0#32
  let v36 : BitVec 1 := Scalar.cmpi .slt c2_i32 c0_i32_25
  let v37 : BitVec 32 := Scalar.extui v36
  let v38 : BitVec 32 := Scalar.subi v35 v37
  let v39 : BitVec 1 := Scalar.cmpi .ne v33 v38
  let v40 : BitVec 32 := Scalar.remsi v27 c2_i32
  let c0_i32_26 : BitVec 32 := 0#32
  let v41 : BitVec 1 := Scalar.cmpi .ne v40 c0_i32_26
  let v42 : BitVec 1 := Scalar.andi v39 v41
  let v28 : BitVec 32 := Scalar.divsi v27 c2_i32
  let c1_i32_27 : BitVec 32 := 1#32
  let v43 : BitVec 32 := Scalar.subi v28 c1_i32_27
  let v44 : BitVec 32 := Scalar.select v42 v43 v28
  let v46 : BitVec 32 := Scalar.subi v44 c0_i32_30
  let c1_i32_31 : BitVec 32 := 1#32
  let v48 : BitVec 32 := Scalar.divsi v46 c1_i32_31
  let v49 : BitVec 32 := Scalar.muli v48 c1_i32_31
  let v50 : BitVec 32 := Scalar.addi c0_i32_30 v49
  let c1_i32_33 : BitVec 32 := 1#32
  let arg17 : BitVec 32 := Scf.iv v50 c1_i32_33 k0_t6
  let v392 : BitVec 32 := Scalar.muli c2_i32_262 arg17
  let c1_i32_263 : BitVec 32 := 1#32
  let v393 : BitVec 32 := Scalar.addi v392 c1_i32_263
  let v523 : Index := Scalar.indexCast v393
  let c256_365 : Index := 256#32
  let c0_366 : Index := 0#32
  ![v523.toNat, 256, 0]
def k0_mult32 (i : grid0.Coords) (k0_t6 : Fin (k0_t6_loop i).trips) : BitVec 32 :=
  let c2_i32_262 : BitVec 32 := 2#32
  let c0_i32_30 : BitVec 32 := 0#32
  let arg2 : BitVec 32 := BitVec.ofNat 32 (i 2).val
  let c1_i32_20 : BitVec 32 := 1#32
  let v26 : BitVec 32 := Scalar.subi arg2 c1_i32_20
  let c0_i32_21 : BitVec 32 := 0#32
  let v27 : BitVec 32 := Scalar.maxsi v26 c0_i32_21
  let c0_i32_22 : BitVec 32 := 0#32
  let v29 : BitVec 1 := Scalar.cmpi .sgt v27 c0_i32_22
  let v30 : BitVec 32 := Scalar.extui v29
  let c0_i32_23 : BitVec 32 := 0#32
  let v31 : BitVec 1 := Scalar.cmpi .slt v27 c0_i32_23
  let v32 : BitVec 32 := Scalar.extui v31
  let v33 : BitVec 32 := Scalar.subi v30 v32
  let c2_i32 : BitVec 32 := 2#32
  let c0_i32_24 : BitVec 32 := 0#32
  let v34 : BitVec 1 := Scalar.cmpi .sgt c2_i32 c0_i32_24
  let v35 : BitVec 32 := Scalar.extui v34
  let c0_i32_25 : BitVec 32 := 0#32
  let v36 : BitVec 1 := Scalar.cmpi .slt c2_i32 c0_i32_25
  let v37 : BitVec 32 := Scalar.extui v36
  let v38 : BitVec 32 := Scalar.subi v35 v37
  let v39 : BitVec 1 := Scalar.cmpi .ne v33 v38
  let v40 : BitVec 32 := Scalar.remsi v27 c2_i32
  let c0_i32_26 : BitVec 32 := 0#32
  let v41 : BitVec 1 := Scalar.cmpi .ne v40 c0_i32_26
  let v42 : BitVec 1 := Scalar.andi v39 v41
  let v28 : BitVec 32 := Scalar.divsi v27 c2_i32
  let c1_i32_27 : BitVec 32 := 1#32
  let v43 : BitVec 32 := Scalar.subi v28 c1_i32_27
  let v44 : BitVec 32 := Scalar.select v42 v43 v28
  let v46 : BitVec 32 := Scalar.subi v44 c0_i32_30
  let c1_i32_31 : BitVec 32 := 1#32
  let v48 : BitVec 32 := Scalar.divsi v46 c1_i32_31
  let v49 : BitVec 32 := Scalar.muli v48 c1_i32_31
  let v50 : BitVec 32 := Scalar.addi c0_i32_30 v49
  let c1_i32_33 : BitVec 32 := 1#32
  let arg17 : BitVec 32 := Scf.iv v50 c1_i32_33 k0_t6
  let v392 : BitVec 32 := Scalar.muli c2_i32_262 arg17
  let c1_i32_263 : BitVec 32 := 1#32
  let v393 : BitVec 32 := Scalar.addi v392 c1_i32_263
  let c1_i32_387 : BitVec 32 := 1#32
  let v556 : BitVec 32 := Scalar.addi v393 c1_i32_387
  let c512_i32_388 : BitVec 32 := 512#32
  let v557 : BitVec 32 := Scalar.muli v556 c512_i32_388
  v557
def k0_off24 (i : grid0.Coords) (k0_t6 : Fin (k0_t6_loop i).trips) : Fin 2 → Nat :=
  let c2_i32_262 : BitVec 32 := 2#32
  let c0_i32_30 : BitVec 32 := 0#32
  let arg2 : BitVec 32 := BitVec.ofNat 32 (i 2).val
  let c1_i32_20 : BitVec 32 := 1#32
  let v26 : BitVec 32 := Scalar.subi arg2 c1_i32_20
  let c0_i32_21 : BitVec 32 := 0#32
  let v27 : BitVec 32 := Scalar.maxsi v26 c0_i32_21
  let c0_i32_22 : BitVec 32 := 0#32
  let v29 : BitVec 1 := Scalar.cmpi .sgt v27 c0_i32_22
  let v30 : BitVec 32 := Scalar.extui v29
  let c0_i32_23 : BitVec 32 := 0#32
  let v31 : BitVec 1 := Scalar.cmpi .slt v27 c0_i32_23
  let v32 : BitVec 32 := Scalar.extui v31
  let v33 : BitVec 32 := Scalar.subi v30 v32
  let c2_i32 : BitVec 32 := 2#32
  let c0_i32_24 : BitVec 32 := 0#32
  let v34 : BitVec 1 := Scalar.cmpi .sgt c2_i32 c0_i32_24
  let v35 : BitVec 32 := Scalar.extui v34
  let c0_i32_25 : BitVec 32 := 0#32
  let v36 : BitVec 1 := Scalar.cmpi .slt c2_i32 c0_i32_25
  let v37 : BitVec 32 := Scalar.extui v36
  let v38 : BitVec 32 := Scalar.subi v35 v37
  let v39 : BitVec 1 := Scalar.cmpi .ne v33 v38
  let v40 : BitVec 32 := Scalar.remsi v27 c2_i32
  let c0_i32_26 : BitVec 32 := 0#32
  let v41 : BitVec 1 := Scalar.cmpi .ne v40 c0_i32_26
  let v42 : BitVec 1 := Scalar.andi v39 v41
  let v28 : BitVec 32 := Scalar.divsi v27 c2_i32
  let c1_i32_27 : BitVec 32 := 1#32
  let v43 : BitVec 32 := Scalar.subi v28 c1_i32_27
  let v44 : BitVec 32 := Scalar.select v42 v43 v28
  let v46 : BitVec 32 := Scalar.subi v44 c0_i32_30
  let c1_i32_31 : BitVec 32 := 1#32
  let v48 : BitVec 32 := Scalar.divsi v46 c1_i32_31
  let v49 : BitVec 32 := Scalar.muli v48 c1_i32_31
  let v50 : BitVec 32 := Scalar.addi c0_i32_30 v49
  let c1_i32_33 : BitVec 32 := 1#32
  let arg17 : BitVec 32 := Scf.iv v50 c1_i32_33 k0_t6
  let v392 : BitVec 32 := Scalar.muli c2_i32_262 arg17
  let c1_i32_263 : BitVec 32 := 1#32
  let v393 : BitVec 32 := Scalar.addi v392 c1_i32_263
  let c1_i32_387 : BitVec 32 := 1#32
  let v556 : BitVec 32 := Scalar.addi v393 c1_i32_387
  let c512_i32_388 : BitVec 32 := 512#32
  let v557 : BitVec 32 := Scalar.muli v556 c512_i32_388
  let v558 : BitVec 32 := v557
  let v559 : Index := Scalar.indexCast v558
  let c384_389 : Index := 384#32
  ![v559.toNat, 384]
@[reducible] def k0_t7_loop (i : grid0.Coords) : Scf.Loop 32 :=
  let c0_i32_39 : BitVec 32 := 0#32
  let arg2 : BitVec 32 := BitVec.ofNat 32 (i 2).val
  let c0_i32_34 : BitVec 32 := 0#32
  let v51 : BitVec 1 := Scalar.cmpi .sgt arg2 c0_i32_34
  let c2_i32_28 : BitVec 32 := 2#32
  let c1_i32_20 : BitVec 32 := 1#32
  let v26 : BitVec 32 := Scalar.subi arg2 c1_i32_20
  let c0_i32_21 : BitVec 32 := 0#32
  let v27 : BitVec 32 := Scalar.maxsi v26 c0_i32_21
  let c0_i32_22 : BitVec 32 := 0#32
  let v29 : BitVec 1 := Scalar.cmpi .sgt v27 c0_i32_22
  let v30 : BitVec 32 := Scalar.extui v29
  let c0_i32_23 : BitVec 32 := 0#32
  let v31 : BitVec 1 := Scalar.cmpi .slt v27 c0_i32_23
  let v32 : BitVec 32 := Scalar.extui v31
  let v33 : BitVec 32 := Scalar.subi v30 v32
  let c2_i32 : BitVec 32 := 2#32
  let c0_i32_24 : BitVec 32 := 0#32
  let v34 : BitVec 1 := Scalar.cmpi .sgt c2_i32 c0_i32_24
  let v35 : BitVec 32 := Scalar.extui v34
  let c0_i32_25 : BitVec 32 := 0#32
  let v36 : BitVec 1 := Scalar.cmpi .slt c2_i32 c0_i32_25
  let v37 : BitVec 32 := Scalar.extui v36
  let v38 : BitVec 32 := Scalar.subi v35 v37
  let v39 : BitVec 1 := Scalar.cmpi .ne v33 v38
  let v40 : BitVec 32 := Scalar.remsi v27 c2_i32
  let c0_i32_26 : BitVec 32 := 0#32
  let v41 : BitVec 1 := Scalar.cmpi .ne v40 c0_i32_26
  let v42 : BitVec 1 := Scalar.andi v39 v41
  let v28 : BitVec 32 := Scalar.divsi v27 c2_i32
  let c1_i32_27 : BitVec 32 := 1#32
  let v43 : BitVec 32 := Scalar.subi v28 c1_i32_27
  let v44 : BitVec 32 := Scalar.select v42 v43 v28
  let v45 : BitVec 32 := Scalar.muli c2_i32_28 v44
  let v52 : BitVec 32 := Scalar.subi arg2 v45
  let c2_i32_35 : BitVec 32 := 2#32
  let v53 : BitVec 1 := Scalar.cmpi .eq v52 c2_i32_35
  let v54 : BitVec 1 := Scalar.andi v51 v53
  let v59 : BitVec 32 := Scalar.extui v54
  let v60 : BitVec 32 := Scalar.subi v59 c0_i32_39
  let c1_i32_40 : BitVec 32 := 1#32
  let v62 : BitVec 32 := Scalar.divsi v60 c1_i32_40
  let v63 : BitVec 32 := Scalar.muli v62 c1_i32_40
  let v64 : BitVec 32 := Scalar.addi c0_i32_39 v63
  let c1_i32_41 : BitVec 32 := 1#32
  ⟨c0_i32_39, v64, c1_i32_41⟩
def k0_mult33 (i : grid0.Coords) : BitVec 32 :=
  let c2_i32_28 : BitVec 32 := 2#32
  let arg2 : BitVec 32 := BitVec.ofNat 32 (i 2).val
  let c1_i32_20 : BitVec 32 := 1#32
  let v26 : BitVec 32 := Scalar.subi arg2 c1_i32_20
  let c0_i32_21 : BitVec 32 := 0#32
  let v27 : BitVec 32 := Scalar.maxsi v26 c0_i32_21
  let c0_i32_22 : BitVec 32 := 0#32
  let v29 : BitVec 1 := Scalar.cmpi .sgt v27 c0_i32_22
  let v30 : BitVec 32 := Scalar.extui v29
  let c0_i32_23 : BitVec 32 := 0#32
  let v31 : BitVec 1 := Scalar.cmpi .slt v27 c0_i32_23
  let v32 : BitVec 32 := Scalar.extui v31
  let v33 : BitVec 32 := Scalar.subi v30 v32
  let c2_i32 : BitVec 32 := 2#32
  let c0_i32_24 : BitVec 32 := 0#32
  let v34 : BitVec 1 := Scalar.cmpi .sgt c2_i32 c0_i32_24
  let v35 : BitVec 32 := Scalar.extui v34
  let c0_i32_25 : BitVec 32 := 0#32
  let v36 : BitVec 1 := Scalar.cmpi .slt c2_i32 c0_i32_25
  let v37 : BitVec 32 := Scalar.extui v36
  let v38 : BitVec 32 := Scalar.subi v35 v37
  let v39 : BitVec 1 := Scalar.cmpi .ne v33 v38
  let v40 : BitVec 32 := Scalar.remsi v27 c2_i32
  let c0_i32_26 : BitVec 32 := 0#32
  let v41 : BitVec 1 := Scalar.cmpi .ne v40 c0_i32_26
  let v42 : BitVec 1 := Scalar.andi v39 v41
  let v28 : BitVec 32 := Scalar.divsi v27 c2_i32
  let c1_i32_27 : BitVec 32 := 1#32
  let v43 : BitVec 32 := Scalar.subi v28 c1_i32_27
  let v44 : BitVec 32 := Scalar.select v42 v43 v28
  let v45 : BitVec 32 := Scalar.muli c2_i32_28 v44
  let c1_i32_104 : BitVec 32 := 1#32
  let v175 : BitVec 32 := Scalar.addi v45 c1_i32_104
  let c512_i32 : BitVec 32 := 512#32
  let v176 : BitVec 32 := Scalar.muli v175 c512_i32
  v176
def k0_off25 (i : grid0.Coords) : Fin 2 → Nat :=
  let c2_i32_28 : BitVec 32 := 2#32
  let arg2 : BitVec 32 := BitVec.ofNat 32 (i 2).val
  let c1_i32_20 : BitVec 32 := 1#32
  let v26 : BitVec 32 := Scalar.subi arg2 c1_i32_20
  let c0_i32_21 : BitVec 32 := 0#32
  let v27 : BitVec 32 := Scalar.maxsi v26 c0_i32_21
  let c0_i32_22 : BitVec 32 := 0#32
  let v29 : BitVec 1 := Scalar.cmpi .sgt v27 c0_i32_22
  let v30 : BitVec 32 := Scalar.extui v29
  let c0_i32_23 : BitVec 32 := 0#32
  let v31 : BitVec 1 := Scalar.cmpi .slt v27 c0_i32_23
  let v32 : BitVec 32 := Scalar.extui v31
  let v33 : BitVec 32 := Scalar.subi v30 v32
  let c2_i32 : BitVec 32 := 2#32
  let c0_i32_24 : BitVec 32 := 0#32
  let v34 : BitVec 1 := Scalar.cmpi .sgt c2_i32 c0_i32_24
  let v35 : BitVec 32 := Scalar.extui v34
  let c0_i32_25 : BitVec 32 := 0#32
  let v36 : BitVec 1 := Scalar.cmpi .slt c2_i32 c0_i32_25
  let v37 : BitVec 32 := Scalar.extui v36
  let v38 : BitVec 32 := Scalar.subi v35 v37
  let v39 : BitVec 1 := Scalar.cmpi .ne v33 v38
  let v40 : BitVec 32 := Scalar.remsi v27 c2_i32
  let c0_i32_26 : BitVec 32 := 0#32
  let v41 : BitVec 1 := Scalar.cmpi .ne v40 c0_i32_26
  let v42 : BitVec 1 := Scalar.andi v39 v41
  let v28 : BitVec 32 := Scalar.divsi v27 c2_i32
  let c1_i32_27 : BitVec 32 := 1#32
  let v43 : BitVec 32 := Scalar.subi v28 c1_i32_27
  let v44 : BitVec 32 := Scalar.select v42 v43 v28
  let v45 : BitVec 32 := Scalar.muli c2_i32_28 v44
  let c1_i32_104 : BitVec 32 := 1#32
  let v175 : BitVec 32 := Scalar.addi v45 c1_i32_104
  let c512_i32 : BitVec 32 := 512#32
  let v176 : BitVec 32 := Scalar.muli v175 c512_i32
  let v177 : BitVec 32 := v176
  let v178 : Index := Scalar.indexCast v177
  let c0_105 : Index := 0#32
  ![v178.toNat, 0]
def k0_off26 (i : grid0.Coords) : Fin 3 → Nat :=
  let c2_i32_28 : BitVec 32 := 2#32
  let arg2 : BitVec 32 := BitVec.ofNat 32 (i 2).val
  let c1_i32_20 : BitVec 32 := 1#32
  let v26 : BitVec 32 := Scalar.subi arg2 c1_i32_20
  let c0_i32_21 : BitVec 32 := 0#32
  let v27 : BitVec 32 := Scalar.maxsi v26 c0_i32_21
  let c0_i32_22 : BitVec 32 := 0#32
  let v29 : BitVec 1 := Scalar.cmpi .sgt v27 c0_i32_22
  let v30 : BitVec 32 := Scalar.extui v29
  let c0_i32_23 : BitVec 32 := 0#32
  let v31 : BitVec 1 := Scalar.cmpi .slt v27 c0_i32_23
  let v32 : BitVec 32 := Scalar.extui v31
  let v33 : BitVec 32 := Scalar.subi v30 v32
  let c2_i32 : BitVec 32 := 2#32
  let c0_i32_24 : BitVec 32 := 0#32
  let v34 : BitVec 1 := Scalar.cmpi .sgt c2_i32 c0_i32_24
  let v35 : BitVec 32 := Scalar.extui v34
  let c0_i32_25 : BitVec 32 := 0#32
  let v36 : BitVec 1 := Scalar.cmpi .slt c2_i32 c0_i32_25
  let v37 : BitVec 32 := Scalar.extui v36
  let v38 : BitVec 32 := Scalar.subi v35 v37
  let v39 : BitVec 1 := Scalar.cmpi .ne v33 v38
  let v40 : BitVec 32 := Scalar.remsi v27 c2_i32
  let c0_i32_26 : BitVec 32 := 0#32
  let v41 : BitVec 1 := Scalar.cmpi .ne v40 c0_i32_26
  let v42 : BitVec 1 := Scalar.andi v39 v41
  let v28 : BitVec 32 := Scalar.divsi v27 c2_i32
  let c1_i32_27 : BitVec 32 := 1#32
  let v43 : BitVec 32 := Scalar.subi v28 c1_i32_27
  let v44 : BitVec 32 := Scalar.select v42 v43 v28
  let v45 : BitVec 32 := Scalar.muli c2_i32_28 v44
  let v196 : Index := Scalar.indexCast v45
  let c0_122 : Index := 0#32
  let c0_123 : Index := 0#32
  ![v196.toNat, 0, 0]
def k0_mult34 (i : grid0.Coords) : BitVec 32 :=
  let c2_i32_28 : BitVec 32 := 2#32
  let arg2 : BitVec 32 := BitVec.ofNat 32 (i 2).val
  let c1_i32_20 : BitVec 32 := 1#32
  let v26 : BitVec 32 := Scalar.subi arg2 c1_i32_20
  let c0_i32_21 : BitVec 32 := 0#32
  let v27 : BitVec 32 := Scalar.maxsi v26 c0_i32_21
  let c0_i32_22 : BitVec 32 := 0#32
  let v29 : BitVec 1 := Scalar.cmpi .sgt v27 c0_i32_22
  let v30 : BitVec 32 := Scalar.extui v29
  let c0_i32_23 : BitVec 32 := 0#32
  let v31 : BitVec 1 := Scalar.cmpi .slt v27 c0_i32_23
  let v32 : BitVec 32 := Scalar.extui v31
  let v33 : BitVec 32 := Scalar.subi v30 v32
  let c2_i32 : BitVec 32 := 2#32
  let c0_i32_24 : BitVec 32 := 0#32
  let v34 : BitVec 1 := Scalar.cmpi .sgt c2_i32 c0_i32_24
  let v35 : BitVec 32 := Scalar.extui v34
  let c0_i32_25 : BitVec 32 := 0#32
  let v36 : BitVec 1 := Scalar.cmpi .slt c2_i32 c0_i32_25
  let v37 : BitVec 32 := Scalar.extui v36
  let v38 : BitVec 32 := Scalar.subi v35 v37
  let v39 : BitVec 1 := Scalar.cmpi .ne v33 v38
  let v40 : BitVec 32 := Scalar.remsi v27 c2_i32
  let c0_i32_26 : BitVec 32 := 0#32
  let v41 : BitVec 1 := Scalar.cmpi .ne v40 c0_i32_26
  let v42 : BitVec 1 := Scalar.andi v39 v41
  let v28 : BitVec 32 := Scalar.divsi v27 c2_i32
  let c1_i32_27 : BitVec 32 := 1#32
  let v43 : BitVec 32 := Scalar.subi v28 c1_i32_27
  let v44 : BitVec 32 := Scalar.select v42 v43 v28
  let v45 : BitVec 32 := Scalar.muli c2_i32_28 v44
  let c1_i32_144 : BitVec 32 := 1#32
  let v229 : BitVec 32 := Scalar.addi v45 c1_i32_144
  let c512_i32_145 : BitVec 32 := 512#32
  let v230 : BitVec 32 := Scalar.muli v229 c512_i32_145
  v230
def k0_off27 (i : grid0.Coords) : Fin 2 → Nat :=
  let c2_i32_28 : BitVec 32 := 2#32
  let arg2 : BitVec 32 := BitVec.ofNat 32 (i 2).val
  let c1_i32_20 : BitVec 32 := 1#32
  let v26 : BitVec 32 := Scalar.subi arg2 c1_i32_20
  let c0_i32_21 : BitVec 32 := 0#32
  let v27 : BitVec 32 := Scalar.maxsi v26 c0_i32_21
  let c0_i32_22 : BitVec 32 := 0#32
  let v29 : BitVec 1 := Scalar.cmpi .sgt v27 c0_i32_22
  let v30 : BitVec 32 := Scalar.extui v29
  let c0_i32_23 : BitVec 32 := 0#32
  let v31 : BitVec 1 := Scalar.cmpi .slt v27 c0_i32_23
  let v32 : BitVec 32 := Scalar.extui v31
  let v33 : BitVec 32 := Scalar.subi v30 v32
  let c2_i32 : BitVec 32 := 2#32
  let c0_i32_24 : BitVec 32 := 0#32
  let v34 : BitVec 1 := Scalar.cmpi .sgt c2_i32 c0_i32_24
  let v35 : BitVec 32 := Scalar.extui v34
  let c0_i32_25 : BitVec 32 := 0#32
  let v36 : BitVec 1 := Scalar.cmpi .slt c2_i32 c0_i32_25
  let v37 : BitVec 32 := Scalar.extui v36
  let v38 : BitVec 32 := Scalar.subi v35 v37
  let v39 : BitVec 1 := Scalar.cmpi .ne v33 v38
  let v40 : BitVec 32 := Scalar.remsi v27 c2_i32
  let c0_i32_26 : BitVec 32 := 0#32
  let v41 : BitVec 1 := Scalar.cmpi .ne v40 c0_i32_26
  let v42 : BitVec 1 := Scalar.andi v39 v41
  let v28 : BitVec 32 := Scalar.divsi v27 c2_i32
  let c1_i32_27 : BitVec 32 := 1#32
  let v43 : BitVec 32 := Scalar.subi v28 c1_i32_27
  let v44 : BitVec 32 := Scalar.select v42 v43 v28
  let v45 : BitVec 32 := Scalar.muli c2_i32_28 v44
  let c1_i32_144 : BitVec 32 := 1#32
  let v229 : BitVec 32 := Scalar.addi v45 c1_i32_144
  let c512_i32_145 : BitVec 32 := 512#32
  let v230 : BitVec 32 := Scalar.muli v229 c512_i32_145
  let v231 : BitVec 32 := v230
  let v232 : Index := Scalar.indexCast v231
  let c128 : Index := 128#32
  ![v232.toNat, 128]
def k0_mult35 (i : grid0.Coords) : BitVec 32 :=
  let c2_i32_28 : BitVec 32 := 2#32
  let arg2 : BitVec 32 := BitVec.ofNat 32 (i 2).val
  let c1_i32_20 : BitVec 32 := 1#32
  let v26 : BitVec 32 := Scalar.subi arg2 c1_i32_20
  let c0_i32_21 : BitVec 32 := 0#32
  let v27 : BitVec 32 := Scalar.maxsi v26 c0_i32_21
  let c0_i32_22 : BitVec 32 := 0#32
  let v29 : BitVec 1 := Scalar.cmpi .sgt v27 c0_i32_22
  let v30 : BitVec 32 := Scalar.extui v29
  let c0_i32_23 : BitVec 32 := 0#32
  let v31 : BitVec 1 := Scalar.cmpi .slt v27 c0_i32_23
  let v32 : BitVec 32 := Scalar.extui v31
  let v33 : BitVec 32 := Scalar.subi v30 v32
  let c2_i32 : BitVec 32 := 2#32
  let c0_i32_24 : BitVec 32 := 0#32
  let v34 : BitVec 1 := Scalar.cmpi .sgt c2_i32 c0_i32_24
  let v35 : BitVec 32 := Scalar.extui v34
  let c0_i32_25 : BitVec 32 := 0#32
  let v36 : BitVec 1 := Scalar.cmpi .slt c2_i32 c0_i32_25
  let v37 : BitVec 32 := Scalar.extui v36
  let v38 : BitVec 32 := Scalar.subi v35 v37
  let v39 : BitVec 1 := Scalar.cmpi .ne v33 v38
  let v40 : BitVec 32 := Scalar.remsi v27 c2_i32
  let c0_i32_26 : BitVec 32 := 0#32
  let v41 : BitVec 1 := Scalar.cmpi .ne v40 c0_i32_26
  let v42 : BitVec 1 := Scalar.andi v39 v41
  let v28 : BitVec 32 := Scalar.divsi v27 c2_i32
  let c1_i32_27 : BitVec 32 := 1#32
  let v43 : BitVec 32 := Scalar.subi v28 c1_i32_27
  let v44 : BitVec 32 := Scalar.select v42 v43 v28
  let v45 : BitVec 32 := Scalar.muli c2_i32_28 v44
  let c1_i32_184 : BitVec 32 := 1#32
  let v283 : BitVec 32 := Scalar.addi v45 c1_i32_184
  let c512_i32_185 : BitVec 32 := 512#32
  let v284 : BitVec 32 := Scalar.muli v283 c512_i32_185
  v284
def k0_off28 (i : grid0.Coords) : Fin 2 → Nat :=
  let c2_i32_28 : BitVec 32 := 2#32
  let arg2 : BitVec 32 := BitVec.ofNat 32 (i 2).val
  let c1_i32_20 : BitVec 32 := 1#32
  let v26 : BitVec 32 := Scalar.subi arg2 c1_i32_20
  let c0_i32_21 : BitVec 32 := 0#32
  let v27 : BitVec 32 := Scalar.maxsi v26 c0_i32_21
  let c0_i32_22 : BitVec 32 := 0#32
  let v29 : BitVec 1 := Scalar.cmpi .sgt v27 c0_i32_22
  let v30 : BitVec 32 := Scalar.extui v29
  let c0_i32_23 : BitVec 32 := 0#32
  let v31 : BitVec 1 := Scalar.cmpi .slt v27 c0_i32_23
  let v32 : BitVec 32 := Scalar.extui v31
  let v33 : BitVec 32 := Scalar.subi v30 v32
  let c2_i32 : BitVec 32 := 2#32
  let c0_i32_24 : BitVec 32 := 0#32
  let v34 : BitVec 1 := Scalar.cmpi .sgt c2_i32 c0_i32_24
  let v35 : BitVec 32 := Scalar.extui v34
  let c0_i32_25 : BitVec 32 := 0#32
  let v36 : BitVec 1 := Scalar.cmpi .slt c2_i32 c0_i32_25
  let v37 : BitVec 32 := Scalar.extui v36
  let v38 : BitVec 32 := Scalar.subi v35 v37
  let v39 : BitVec 1 := Scalar.cmpi .ne v33 v38
  let v40 : BitVec 32 := Scalar.remsi v27 c2_i32
  let c0_i32_26 : BitVec 32 := 0#32
  let v41 : BitVec 1 := Scalar.cmpi .ne v40 c0_i32_26
  let v42 : BitVec 1 := Scalar.andi v39 v41
  let v28 : BitVec 32 := Scalar.divsi v27 c2_i32
  let c1_i32_27 : BitVec 32 := 1#32
  let v43 : BitVec 32 := Scalar.subi v28 c1_i32_27
  let v44 : BitVec 32 := Scalar.select v42 v43 v28
  let v45 : BitVec 32 := Scalar.muli c2_i32_28 v44
  let c1_i32_184 : BitVec 32 := 1#32
  let v283 : BitVec 32 := Scalar.addi v45 c1_i32_184
  let c512_i32_185 : BitVec 32 := 512#32
  let v284 : BitVec 32 := Scalar.muli v283 c512_i32_185
  let v285 : BitVec 32 := v284
  let v286 : Index := Scalar.indexCast v285
  let c256_186 : Index := 256#32
  ![v286.toNat, 256]
def k0_off29 (i : grid0.Coords) : Fin 3 → Nat :=
  let c2_i32_28 : BitVec 32 := 2#32
  let arg2 : BitVec 32 := BitVec.ofNat 32 (i 2).val
  let c1_i32_20 : BitVec 32 := 1#32
  let v26 : BitVec 32 := Scalar.subi arg2 c1_i32_20
  let c0_i32_21 : BitVec 32 := 0#32
  let v27 : BitVec 32 := Scalar.maxsi v26 c0_i32_21
  let c0_i32_22 : BitVec 32 := 0#32
  let v29 : BitVec 1 := Scalar.cmpi .sgt v27 c0_i32_22
  let v30 : BitVec 32 := Scalar.extui v29
  let c0_i32_23 : BitVec 32 := 0#32
  let v31 : BitVec 1 := Scalar.cmpi .slt v27 c0_i32_23
  let v32 : BitVec 32 := Scalar.extui v31
  let v33 : BitVec 32 := Scalar.subi v30 v32
  let c2_i32 : BitVec 32 := 2#32
  let c0_i32_24 : BitVec 32 := 0#32
  let v34 : BitVec 1 := Scalar.cmpi .sgt c2_i32 c0_i32_24
  let v35 : BitVec 32 := Scalar.extui v34
  let c0_i32_25 : BitVec 32 := 0#32
  let v36 : BitVec 1 := Scalar.cmpi .slt c2_i32 c0_i32_25
  let v37 : BitVec 32 := Scalar.extui v36
  let v38 : BitVec 32 := Scalar.subi v35 v37
  let v39 : BitVec 1 := Scalar.cmpi .ne v33 v38
  let v40 : BitVec 32 := Scalar.remsi v27 c2_i32
  let c0_i32_26 : BitVec 32 := 0#32
  let v41 : BitVec 1 := Scalar.cmpi .ne v40 c0_i32_26
  let v42 : BitVec 1 := Scalar.andi v39 v41
  let v28 : BitVec 32 := Scalar.divsi v27 c2_i32
  let c1_i32_27 : BitVec 32 := 1#32
  let v43 : BitVec 32 := Scalar.subi v28 c1_i32_27
  let v44 : BitVec 32 := Scalar.select v42 v43 v28
  let v45 : BitVec 32 := Scalar.muli c2_i32_28 v44
  let v304 : Index := Scalar.indexCast v45
  let c256_201 : Index := 256#32
  let c0_202 : Index := 0#32
  ![v304.toNat, 256, 0]
def k0_mult36 (i : grid0.Coords) : BitVec 32 :=
  let c2_i32_28 : BitVec 32 := 2#32
  let arg2 : BitVec 32 := BitVec.ofNat 32 (i 2).val
  let c1_i32_20 : BitVec 32 := 1#32
  let v26 : BitVec 32 := Scalar.subi arg2 c1_i32_20
  let c0_i32_21 : BitVec 32 := 0#32
  let v27 : BitVec 32 := Scalar.maxsi v26 c0_i32_21
  let c0_i32_22 : BitVec 32 := 0#32
  let v29 : BitVec 1 := Scalar.cmpi .sgt v27 c0_i32_22
  let v30 : BitVec 32 := Scalar.extui v29
  let c0_i32_23 : BitVec 32 := 0#32
  let v31 : BitVec 1 := Scalar.cmpi .slt v27 c0_i32_23
  let v32 : BitVec 32 := Scalar.extui v31
  let v33 : BitVec 32 := Scalar.subi v30 v32
  let c2_i32 : BitVec 32 := 2#32
  let c0_i32_24 : BitVec 32 := 0#32
  let v34 : BitVec 1 := Scalar.cmpi .sgt c2_i32 c0_i32_24
  let v35 : BitVec 32 := Scalar.extui v34
  let c0_i32_25 : BitVec 32 := 0#32
  let v36 : BitVec 1 := Scalar.cmpi .slt c2_i32 c0_i32_25
  let v37 : BitVec 32 := Scalar.extui v36
  let v38 : BitVec 32 := Scalar.subi v35 v37
  let v39 : BitVec 1 := Scalar.cmpi .ne v33 v38
  let v40 : BitVec 32 := Scalar.remsi v27 c2_i32
  let c0_i32_26 : BitVec 32 := 0#32
  let v41 : BitVec 1 := Scalar.cmpi .ne v40 c0_i32_26
  let v42 : BitVec 1 := Scalar.andi v39 v41
  let v28 : BitVec 32 := Scalar.divsi v27 c2_i32
  let c1_i32_27 : BitVec 32 := 1#32
  let v43 : BitVec 32 := Scalar.subi v28 c1_i32_27
  let v44 : BitVec 32 := Scalar.select v42 v43 v28
  let v45 : BitVec 32 := Scalar.muli c2_i32_28 v44
  let c1_i32_223 : BitVec 32 := 1#32
  let v337 : BitVec 32 := Scalar.addi v45 c1_i32_223
  let c512_i32_224 : BitVec 32 := 512#32
  let v338 : BitVec 32 := Scalar.muli v337 c512_i32_224
  v338
def k0_off30 (i : grid0.Coords) : Fin 2 → Nat :=
  let c2_i32_28 : BitVec 32 := 2#32
  let arg2 : BitVec 32 := BitVec.ofNat 32 (i 2).val
  let c1_i32_20 : BitVec 32 := 1#32
  let v26 : BitVec 32 := Scalar.subi arg2 c1_i32_20
  let c0_i32_21 : BitVec 32 := 0#32
  let v27 : BitVec 32 := Scalar.maxsi v26 c0_i32_21
  let c0_i32_22 : BitVec 32 := 0#32
  let v29 : BitVec 1 := Scalar.cmpi .sgt v27 c0_i32_22
  let v30 : BitVec 32 := Scalar.extui v29
  let c0_i32_23 : BitVec 32 := 0#32
  let v31 : BitVec 1 := Scalar.cmpi .slt v27 c0_i32_23
  let v32 : BitVec 32 := Scalar.extui v31
  let v33 : BitVec 32 := Scalar.subi v30 v32
  let c2_i32 : BitVec 32 := 2#32
  let c0_i32_24 : BitVec 32 := 0#32
  let v34 : BitVec 1 := Scalar.cmpi .sgt c2_i32 c0_i32_24
  let v35 : BitVec 32 := Scalar.extui v34
  let c0_i32_25 : BitVec 32 := 0#32
  let v36 : BitVec 1 := Scalar.cmpi .slt c2_i32 c0_i32_25
  let v37 : BitVec 32 := Scalar.extui v36
  let v38 : BitVec 32 := Scalar.subi v35 v37
  let v39 : BitVec 1 := Scalar.cmpi .ne v33 v38
  let v40 : BitVec 32 := Scalar.remsi v27 c2_i32
  let c0_i32_26 : BitVec 32 := 0#32
  let v41 : BitVec 1 := Scalar.cmpi .ne v40 c0_i32_26
  let v42 : BitVec 1 := Scalar.andi v39 v41
  let v28 : BitVec 32 := Scalar.divsi v27 c2_i32
  let c1_i32_27 : BitVec 32 := 1#32
  let v43 : BitVec 32 := Scalar.subi v28 c1_i32_27
  let v44 : BitVec 32 := Scalar.select v42 v43 v28
  let v45 : BitVec 32 := Scalar.muli c2_i32_28 v44
  let c1_i32_223 : BitVec 32 := 1#32
  let v337 : BitVec 32 := Scalar.addi v45 c1_i32_223
  let c512_i32_224 : BitVec 32 := 512#32
  let v338 : BitVec 32 := Scalar.muli v337 c512_i32_224
  let v339 : BitVec 32 := v338
  let v340 : Index := Scalar.indexCast v339
  let c384 : Index := 384#32
  ![v340.toNat, 384]
@[reducible] def k0_t8_loop (i : grid0.Coords) : Scf.Loop 32 :=
  let c0_i32_39 : BitVec 32 := 0#32
  let arg2 : BitVec 32 := BitVec.ofNat 32 (i 2).val
  let c0_i32_34 : BitVec 32 := 0#32
  let v51 : BitVec 1 := Scalar.cmpi .sgt arg2 c0_i32_34
  let c2_i32_28 : BitVec 32 := 2#32
  let c1_i32_20 : BitVec 32 := 1#32
  let v26 : BitVec 32 := Scalar.subi arg2 c1_i32_20
  let c0_i32_21 : BitVec 32 := 0#32
  let v27 : BitVec 32 := Scalar.maxsi v26 c0_i32_21
  let c0_i32_22 : BitVec 32 := 0#32
  let v29 : BitVec 1 := Scalar.cmpi .sgt v27 c0_i32_22
  let v30 : BitVec 32 := Scalar.extui v29
  let c0_i32_23 : BitVec 32 := 0#32
  let v31 : BitVec 1 := Scalar.cmpi .slt v27 c0_i32_23
  let v32 : BitVec 32 := Scalar.extui v31
  let v33 : BitVec 32 := Scalar.subi v30 v32
  let c2_i32 : BitVec 32 := 2#32
  let c0_i32_24 : BitVec 32 := 0#32
  let v34 : BitVec 1 := Scalar.cmpi .sgt c2_i32 c0_i32_24
  let v35 : BitVec 32 := Scalar.extui v34
  let c0_i32_25 : BitVec 32 := 0#32
  let v36 : BitVec 1 := Scalar.cmpi .slt c2_i32 c0_i32_25
  let v37 : BitVec 32 := Scalar.extui v36
  let v38 : BitVec 32 := Scalar.subi v35 v37
  let v39 : BitVec 1 := Scalar.cmpi .ne v33 v38
  let v40 : BitVec 32 := Scalar.remsi v27 c2_i32
  let c0_i32_26 : BitVec 32 := 0#32
  let v41 : BitVec 1 := Scalar.cmpi .ne v40 c0_i32_26
  let v42 : BitVec 1 := Scalar.andi v39 v41
  let v28 : BitVec 32 := Scalar.divsi v27 c2_i32
  let c1_i32_27 : BitVec 32 := 1#32
  let v43 : BitVec 32 := Scalar.subi v28 c1_i32_27
  let v44 : BitVec 32 := Scalar.select v42 v43 v28
  let v45 : BitVec 32 := Scalar.muli c2_i32_28 v44
  let v52 : BitVec 32 := Scalar.subi arg2 v45
  let c2_i32_35 : BitVec 32 := 2#32
  let v53 : BitVec 1 := Scalar.cmpi .eq v52 c2_i32_35
  let v54 : BitVec 1 := Scalar.andi v51 v53
  let v59 : BitVec 32 := Scalar.extui v54
  let v60 : BitVec 32 := Scalar.subi v59 c0_i32_39
  let c1_i32_40 : BitVec 32 := 1#32
  let v62 : BitVec 32 := Scalar.divsi v60 c1_i32_40
  let v63 : BitVec 32 := Scalar.muli v62 c1_i32_40
  let v64 : BitVec 32 := Scalar.addi c0_i32_39 v63
  let v61 : BitVec 32 := Scalar.addi c0_i32_39 v60
  let c1_i32_42 : BitVec 32 := 1#32
  ⟨v64, v61, c1_i32_42⟩
def k0_mult37 (i : grid0.Coords) : BitVec 32 :=
  let c2_i32_28 : BitVec 32 := 2#32
  let arg2 : BitVec 32 := BitVec.ofNat 32 (i 2).val
  let c1_i32_20 : BitVec 32 := 1#32
  let v26 : BitVec 32 := Scalar.subi arg2 c1_i32_20
  let c0_i32_21 : BitVec 32 := 0#32
  let v27 : BitVec 32 := Scalar.maxsi v26 c0_i32_21
  let c0_i32_22 : BitVec 32 := 0#32
  let v29 : BitVec 1 := Scalar.cmpi .sgt v27 c0_i32_22
  let v30 : BitVec 32 := Scalar.extui v29
  let c0_i32_23 : BitVec 32 := 0#32
  let v31 : BitVec 1 := Scalar.cmpi .slt v27 c0_i32_23
  let v32 : BitVec 32 := Scalar.extui v31
  let v33 : BitVec 32 := Scalar.subi v30 v32
  let c2_i32 : BitVec 32 := 2#32
  let c0_i32_24 : BitVec 32 := 0#32
  let v34 : BitVec 1 := Scalar.cmpi .sgt c2_i32 c0_i32_24
  let v35 : BitVec 32 := Scalar.extui v34
  let c0_i32_25 : BitVec 32 := 0#32
  let v36 : BitVec 1 := Scalar.cmpi .slt c2_i32 c0_i32_25
  let v37 : BitVec 32 := Scalar.extui v36
  let v38 : BitVec 32 := Scalar.subi v35 v37
  let v39 : BitVec 1 := Scalar.cmpi .ne v33 v38
  let v40 : BitVec 32 := Scalar.remsi v27 c2_i32
  let c0_i32_26 : BitVec 32 := 0#32
  let v41 : BitVec 1 := Scalar.cmpi .ne v40 c0_i32_26
  let v42 : BitVec 1 := Scalar.andi v39 v41
  let v28 : BitVec 32 := Scalar.divsi v27 c2_i32
  let c1_i32_27 : BitVec 32 := 1#32
  let v43 : BitVec 32 := Scalar.subi v28 c1_i32_27
  let v44 : BitVec 32 := Scalar.select v42 v43 v28
  let v45 : BitVec 32 := Scalar.muli c2_i32_28 v44
  let c1_i32_104 : BitVec 32 := 1#32
  let v175 : BitVec 32 := Scalar.addi v45 c1_i32_104
  let c512_i32 : BitVec 32 := 512#32
  let v176 : BitVec 32 := Scalar.muli v175 c512_i32
  v176
def k0_off31 (i : grid0.Coords) : Fin 2 → Nat :=
  let c2_i32_28 : BitVec 32 := 2#32
  let arg2 : BitVec 32 := BitVec.ofNat 32 (i 2).val
  let c1_i32_20 : BitVec 32 := 1#32
  let v26 : BitVec 32 := Scalar.subi arg2 c1_i32_20
  let c0_i32_21 : BitVec 32 := 0#32
  let v27 : BitVec 32 := Scalar.maxsi v26 c0_i32_21
  let c0_i32_22 : BitVec 32 := 0#32
  let v29 : BitVec 1 := Scalar.cmpi .sgt v27 c0_i32_22
  let v30 : BitVec 32 := Scalar.extui v29
  let c0_i32_23 : BitVec 32 := 0#32
  let v31 : BitVec 1 := Scalar.cmpi .slt v27 c0_i32_23
  let v32 : BitVec 32 := Scalar.extui v31
  let v33 : BitVec 32 := Scalar.subi v30 v32
  let c2_i32 : BitVec 32 := 2#32
  let c0_i32_24 : BitVec 32 := 0#32
  let v34 : BitVec 1 := Scalar.cmpi .sgt c2_i32 c0_i32_24
  let v35 : BitVec 32 := Scalar.extui v34
  let c0_i32_25 : BitVec 32 := 0#32
  let v36 : BitVec 1 := Scalar.cmpi .slt c2_i32 c0_i32_25
  let v37 : BitVec 32 := Scalar.extui v36
  let v38 : BitVec 32 := Scalar.subi v35 v37
  let v39 : BitVec 1 := Scalar.cmpi .ne v33 v38
  let v40 : BitVec 32 := Scalar.remsi v27 c2_i32
  let c0_i32_26 : BitVec 32 := 0#32
  let v41 : BitVec 1 := Scalar.cmpi .ne v40 c0_i32_26
  let v42 : BitVec 1 := Scalar.andi v39 v41
  let v28 : BitVec 32 := Scalar.divsi v27 c2_i32
  let c1_i32_27 : BitVec 32 := 1#32
  let v43 : BitVec 32 := Scalar.subi v28 c1_i32_27
  let v44 : BitVec 32 := Scalar.select v42 v43 v28
  let v45 : BitVec 32 := Scalar.muli c2_i32_28 v44
  let c1_i32_104 : BitVec 32 := 1#32
  let v175 : BitVec 32 := Scalar.addi v45 c1_i32_104
  let c512_i32 : BitVec 32 := 512#32
  let v176 : BitVec 32 := Scalar.muli v175 c512_i32
  let v177 : BitVec 32 := v176
  let v178 : Index := Scalar.indexCast v177
  let c0_105 : Index := 0#32
  ![v178.toNat, 0]
def k0_off32 (i : grid0.Coords) : Fin 3 → Nat :=
  let c2_i32_28 : BitVec 32 := 2#32
  let arg2 : BitVec 32 := BitVec.ofNat 32 (i 2).val
  let c1_i32_20 : BitVec 32 := 1#32
  let v26 : BitVec 32 := Scalar.subi arg2 c1_i32_20
  let c0_i32_21 : BitVec 32 := 0#32
  let v27 : BitVec 32 := Scalar.maxsi v26 c0_i32_21
  let c0_i32_22 : BitVec 32 := 0#32
  let v29 : BitVec 1 := Scalar.cmpi .sgt v27 c0_i32_22
  let v30 : BitVec 32 := Scalar.extui v29
  let c0_i32_23 : BitVec 32 := 0#32
  let v31 : BitVec 1 := Scalar.cmpi .slt v27 c0_i32_23
  let v32 : BitVec 32 := Scalar.extui v31
  let v33 : BitVec 32 := Scalar.subi v30 v32
  let c2_i32 : BitVec 32 := 2#32
  let c0_i32_24 : BitVec 32 := 0#32
  let v34 : BitVec 1 := Scalar.cmpi .sgt c2_i32 c0_i32_24
  let v35 : BitVec 32 := Scalar.extui v34
  let c0_i32_25 : BitVec 32 := 0#32
  let v36 : BitVec 1 := Scalar.cmpi .slt c2_i32 c0_i32_25
  let v37 : BitVec 32 := Scalar.extui v36
  let v38 : BitVec 32 := Scalar.subi v35 v37
  let v39 : BitVec 1 := Scalar.cmpi .ne v33 v38
  let v40 : BitVec 32 := Scalar.remsi v27 c2_i32
  let c0_i32_26 : BitVec 32 := 0#32
  let v41 : BitVec 1 := Scalar.cmpi .ne v40 c0_i32_26
  let v42 : BitVec 1 := Scalar.andi v39 v41
  let v28 : BitVec 32 := Scalar.divsi v27 c2_i32
  let c1_i32_27 : BitVec 32 := 1#32
  let v43 : BitVec 32 := Scalar.subi v28 c1_i32_27
  let v44 : BitVec 32 := Scalar.select v42 v43 v28
  let v45 : BitVec 32 := Scalar.muli c2_i32_28 v44
  let v196 : Index := Scalar.indexCast v45
  let c0_122 : Index := 0#32
  let c0_123 : Index := 0#32
  ![v196.toNat, 0, 0]
def k0_mult38 (i : grid0.Coords) : BitVec 32 :=
  let c2_i32_28 : BitVec 32 := 2#32
  let arg2 : BitVec 32 := BitVec.ofNat 32 (i 2).val
  let c1_i32_20 : BitVec 32 := 1#32
  let v26 : BitVec 32 := Scalar.subi arg2 c1_i32_20
  let c0_i32_21 : BitVec 32 := 0#32
  let v27 : BitVec 32 := Scalar.maxsi v26 c0_i32_21
  let c0_i32_22 : BitVec 32 := 0#32
  let v29 : BitVec 1 := Scalar.cmpi .sgt v27 c0_i32_22
  let v30 : BitVec 32 := Scalar.extui v29
  let c0_i32_23 : BitVec 32 := 0#32
  let v31 : BitVec 1 := Scalar.cmpi .slt v27 c0_i32_23
  let v32 : BitVec 32 := Scalar.extui v31
  let v33 : BitVec 32 := Scalar.subi v30 v32
  let c2_i32 : BitVec 32 := 2#32
  let c0_i32_24 : BitVec 32 := 0#32
  let v34 : BitVec 1 := Scalar.cmpi .sgt c2_i32 c0_i32_24
  let v35 : BitVec 32 := Scalar.extui v34
  let c0_i32_25 : BitVec 32 := 0#32
  let v36 : BitVec 1 := Scalar.cmpi .slt c2_i32 c0_i32_25
  let v37 : BitVec 32 := Scalar.extui v36
  let v38 : BitVec 32 := Scalar.subi v35 v37
  let v39 : BitVec 1 := Scalar.cmpi .ne v33 v38
  let v40 : BitVec 32 := Scalar.remsi v27 c2_i32
  let c0_i32_26 : BitVec 32 := 0#32
  let v41 : BitVec 1 := Scalar.cmpi .ne v40 c0_i32_26
  let v42 : BitVec 1 := Scalar.andi v39 v41
  let v28 : BitVec 32 := Scalar.divsi v27 c2_i32
  let c1_i32_27 : BitVec 32 := 1#32
  let v43 : BitVec 32 := Scalar.subi v28 c1_i32_27
  let v44 : BitVec 32 := Scalar.select v42 v43 v28
  let v45 : BitVec 32 := Scalar.muli c2_i32_28 v44
  let c1_i32_144 : BitVec 32 := 1#32
  let v229 : BitVec 32 := Scalar.addi v45 c1_i32_144
  let c512_i32_145 : BitVec 32 := 512#32
  let v230 : BitVec 32 := Scalar.muli v229 c512_i32_145
  v230
def k0_off33 (i : grid0.Coords) : Fin 2 → Nat :=
  let c2_i32_28 : BitVec 32 := 2#32
  let arg2 : BitVec 32 := BitVec.ofNat 32 (i 2).val
  let c1_i32_20 : BitVec 32 := 1#32
  let v26 : BitVec 32 := Scalar.subi arg2 c1_i32_20
  let c0_i32_21 : BitVec 32 := 0#32
  let v27 : BitVec 32 := Scalar.maxsi v26 c0_i32_21
  let c0_i32_22 : BitVec 32 := 0#32
  let v29 : BitVec 1 := Scalar.cmpi .sgt v27 c0_i32_22
  let v30 : BitVec 32 := Scalar.extui v29
  let c0_i32_23 : BitVec 32 := 0#32
  let v31 : BitVec 1 := Scalar.cmpi .slt v27 c0_i32_23
  let v32 : BitVec 32 := Scalar.extui v31
  let v33 : BitVec 32 := Scalar.subi v30 v32
  let c2_i32 : BitVec 32 := 2#32
  let c0_i32_24 : BitVec 32 := 0#32
  let v34 : BitVec 1 := Scalar.cmpi .sgt c2_i32 c0_i32_24
  let v35 : BitVec 32 := Scalar.extui v34
  let c0_i32_25 : BitVec 32 := 0#32
  let v36 : BitVec 1 := Scalar.cmpi .slt c2_i32 c0_i32_25
  let v37 : BitVec 32 := Scalar.extui v36
  let v38 : BitVec 32 := Scalar.subi v35 v37
  let v39 : BitVec 1 := Scalar.cmpi .ne v33 v38
  let v40 : BitVec 32 := Scalar.remsi v27 c2_i32
  let c0_i32_26 : BitVec 32 := 0#32
  let v41 : BitVec 1 := Scalar.cmpi .ne v40 c0_i32_26
  let v42 : BitVec 1 := Scalar.andi v39 v41
  let v28 : BitVec 32 := Scalar.divsi v27 c2_i32
  let c1_i32_27 : BitVec 32 := 1#32
  let v43 : BitVec 32 := Scalar.subi v28 c1_i32_27
  let v44 : BitVec 32 := Scalar.select v42 v43 v28
  let v45 : BitVec 32 := Scalar.muli c2_i32_28 v44
  let c1_i32_144 : BitVec 32 := 1#32
  let v229 : BitVec 32 := Scalar.addi v45 c1_i32_144
  let c512_i32_145 : BitVec 32 := 512#32
  let v230 : BitVec 32 := Scalar.muli v229 c512_i32_145
  let v231 : BitVec 32 := v230
  let v232 : Index := Scalar.indexCast v231
  let c128 : Index := 128#32
  ![v232.toNat, 128]
def k0_mult39 (i : grid0.Coords) : BitVec 32 :=
  let c2_i32_28 : BitVec 32 := 2#32
  let arg2 : BitVec 32 := BitVec.ofNat 32 (i 2).val
  let c1_i32_20 : BitVec 32 := 1#32
  let v26 : BitVec 32 := Scalar.subi arg2 c1_i32_20
  let c0_i32_21 : BitVec 32 := 0#32
  let v27 : BitVec 32 := Scalar.maxsi v26 c0_i32_21
  let c0_i32_22 : BitVec 32 := 0#32
  let v29 : BitVec 1 := Scalar.cmpi .sgt v27 c0_i32_22
  let v30 : BitVec 32 := Scalar.extui v29
  let c0_i32_23 : BitVec 32 := 0#32
  let v31 : BitVec 1 := Scalar.cmpi .slt v27 c0_i32_23
  let v32 : BitVec 32 := Scalar.extui v31
  let v33 : BitVec 32 := Scalar.subi v30 v32
  let c2_i32 : BitVec 32 := 2#32
  let c0_i32_24 : BitVec 32 := 0#32
  let v34 : BitVec 1 := Scalar.cmpi .sgt c2_i32 c0_i32_24
  let v35 : BitVec 32 := Scalar.extui v34
  let c0_i32_25 : BitVec 32 := 0#32
  let v36 : BitVec 1 := Scalar.cmpi .slt c2_i32 c0_i32_25
  let v37 : BitVec 32 := Scalar.extui v36
  let v38 : BitVec 32 := Scalar.subi v35 v37
  let v39 : BitVec 1 := Scalar.cmpi .ne v33 v38
  let v40 : BitVec 32 := Scalar.remsi v27 c2_i32
  let c0_i32_26 : BitVec 32 := 0#32
  let v41 : BitVec 1 := Scalar.cmpi .ne v40 c0_i32_26
  let v42 : BitVec 1 := Scalar.andi v39 v41
  let v28 : BitVec 32 := Scalar.divsi v27 c2_i32
  let c1_i32_27 : BitVec 32 := 1#32
  let v43 : BitVec 32 := Scalar.subi v28 c1_i32_27
  let v44 : BitVec 32 := Scalar.select v42 v43 v28
  let v45 : BitVec 32 := Scalar.muli c2_i32_28 v44
  let c1_i32_184 : BitVec 32 := 1#32
  let v283 : BitVec 32 := Scalar.addi v45 c1_i32_184
  let c512_i32_185 : BitVec 32 := 512#32
  let v284 : BitVec 32 := Scalar.muli v283 c512_i32_185
  v284
def k0_off34 (i : grid0.Coords) : Fin 2 → Nat :=
  let c2_i32_28 : BitVec 32 := 2#32
  let arg2 : BitVec 32 := BitVec.ofNat 32 (i 2).val
  let c1_i32_20 : BitVec 32 := 1#32
  let v26 : BitVec 32 := Scalar.subi arg2 c1_i32_20
  let c0_i32_21 : BitVec 32 := 0#32
  let v27 : BitVec 32 := Scalar.maxsi v26 c0_i32_21
  let c0_i32_22 : BitVec 32 := 0#32
  let v29 : BitVec 1 := Scalar.cmpi .sgt v27 c0_i32_22
  let v30 : BitVec 32 := Scalar.extui v29
  let c0_i32_23 : BitVec 32 := 0#32
  let v31 : BitVec 1 := Scalar.cmpi .slt v27 c0_i32_23
  let v32 : BitVec 32 := Scalar.extui v31
  let v33 : BitVec 32 := Scalar.subi v30 v32
  let c2_i32 : BitVec 32 := 2#32
  let c0_i32_24 : BitVec 32 := 0#32
  let v34 : BitVec 1 := Scalar.cmpi .sgt c2_i32 c0_i32_24
  let v35 : BitVec 32 := Scalar.extui v34
  let c0_i32_25 : BitVec 32 := 0#32
  let v36 : BitVec 1 := Scalar.cmpi .slt c2_i32 c0_i32_25
  let v37 : BitVec 32 := Scalar.extui v36
  let v38 : BitVec 32 := Scalar.subi v35 v37
  let v39 : BitVec 1 := Scalar.cmpi .ne v33 v38
  let v40 : BitVec 32 := Scalar.remsi v27 c2_i32
  let c0_i32_26 : BitVec 32 := 0#32
  let v41 : BitVec 1 := Scalar.cmpi .ne v40 c0_i32_26
  let v42 : BitVec 1 := Scalar.andi v39 v41
  let v28 : BitVec 32 := Scalar.divsi v27 c2_i32
  let c1_i32_27 : BitVec 32 := 1#32
  let v43 : BitVec 32 := Scalar.subi v28 c1_i32_27
  let v44 : BitVec 32 := Scalar.select v42 v43 v28
  let v45 : BitVec 32 := Scalar.muli c2_i32_28 v44
  let c1_i32_184 : BitVec 32 := 1#32
  let v283 : BitVec 32 := Scalar.addi v45 c1_i32_184
  let c512_i32_185 : BitVec 32 := 512#32
  let v284 : BitVec 32 := Scalar.muli v283 c512_i32_185
  let v285 : BitVec 32 := v284
  let v286 : Index := Scalar.indexCast v285
  let c256_186 : Index := 256#32
  ![v286.toNat, 256]
def k0_off35 (i : grid0.Coords) : Fin 3 → Nat :=
  let c2_i32_28 : BitVec 32 := 2#32
  let arg2 : BitVec 32 := BitVec.ofNat 32 (i 2).val
  let c1_i32_20 : BitVec 32 := 1#32
  let v26 : BitVec 32 := Scalar.subi arg2 c1_i32_20
  let c0_i32_21 : BitVec 32 := 0#32
  let v27 : BitVec 32 := Scalar.maxsi v26 c0_i32_21
  let c0_i32_22 : BitVec 32 := 0#32
  let v29 : BitVec 1 := Scalar.cmpi .sgt v27 c0_i32_22
  let v30 : BitVec 32 := Scalar.extui v29
  let c0_i32_23 : BitVec 32 := 0#32
  let v31 : BitVec 1 := Scalar.cmpi .slt v27 c0_i32_23
  let v32 : BitVec 32 := Scalar.extui v31
  let v33 : BitVec 32 := Scalar.subi v30 v32
  let c2_i32 : BitVec 32 := 2#32
  let c0_i32_24 : BitVec 32 := 0#32
  let v34 : BitVec 1 := Scalar.cmpi .sgt c2_i32 c0_i32_24
  let v35 : BitVec 32 := Scalar.extui v34
  let c0_i32_25 : BitVec 32 := 0#32
  let v36 : BitVec 1 := Scalar.cmpi .slt c2_i32 c0_i32_25
  let v37 : BitVec 32 := Scalar.extui v36
  let v38 : BitVec 32 := Scalar.subi v35 v37
  let v39 : BitVec 1 := Scalar.cmpi .ne v33 v38
  let v40 : BitVec 32 := Scalar.remsi v27 c2_i32
  let c0_i32_26 : BitVec 32 := 0#32
  let v41 : BitVec 1 := Scalar.cmpi .ne v40 c0_i32_26
  let v42 : BitVec 1 := Scalar.andi v39 v41
  let v28 : BitVec 32 := Scalar.divsi v27 c2_i32
  let c1_i32_27 : BitVec 32 := 1#32
  let v43 : BitVec 32 := Scalar.subi v28 c1_i32_27
  let v44 : BitVec 32 := Scalar.select v42 v43 v28
  let v45 : BitVec 32 := Scalar.muli c2_i32_28 v44
  let v304 : Index := Scalar.indexCast v45
  let c256_201 : Index := 256#32
  let c0_202 : Index := 0#32
  ![v304.toNat, 256, 0]
def k0_mult40 (i : grid0.Coords) : BitVec 32 :=
  let c2_i32_28 : BitVec 32 := 2#32
  let arg2 : BitVec 32 := BitVec.ofNat 32 (i 2).val
  let c1_i32_20 : BitVec 32 := 1#32
  let v26 : BitVec 32 := Scalar.subi arg2 c1_i32_20
  let c0_i32_21 : BitVec 32 := 0#32
  let v27 : BitVec 32 := Scalar.maxsi v26 c0_i32_21
  let c0_i32_22 : BitVec 32 := 0#32
  let v29 : BitVec 1 := Scalar.cmpi .sgt v27 c0_i32_22
  let v30 : BitVec 32 := Scalar.extui v29
  let c0_i32_23 : BitVec 32 := 0#32
  let v31 : BitVec 1 := Scalar.cmpi .slt v27 c0_i32_23
  let v32 : BitVec 32 := Scalar.extui v31
  let v33 : BitVec 32 := Scalar.subi v30 v32
  let c2_i32 : BitVec 32 := 2#32
  let c0_i32_24 : BitVec 32 := 0#32
  let v34 : BitVec 1 := Scalar.cmpi .sgt c2_i32 c0_i32_24
  let v35 : BitVec 32 := Scalar.extui v34
  let c0_i32_25 : BitVec 32 := 0#32
  let v36 : BitVec 1 := Scalar.cmpi .slt c2_i32 c0_i32_25
  let v37 : BitVec 32 := Scalar.extui v36
  let v38 : BitVec 32 := Scalar.subi v35 v37
  let v39 : BitVec 1 := Scalar.cmpi .ne v33 v38
  let v40 : BitVec 32 := Scalar.remsi v27 c2_i32
  let c0_i32_26 : BitVec 32 := 0#32
  let v41 : BitVec 1 := Scalar.cmpi .ne v40 c0_i32_26
  let v42 : BitVec 1 := Scalar.andi v39 v41
  let v28 : BitVec 32 := Scalar.divsi v27 c2_i32
  let c1_i32_27 : BitVec 32 := 1#32
  let v43 : BitVec 32 := Scalar.subi v28 c1_i32_27
  let v44 : BitVec 32 := Scalar.select v42 v43 v28
  let v45 : BitVec 32 := Scalar.muli c2_i32_28 v44
  let c1_i32_223 : BitVec 32 := 1#32
  let v337 : BitVec 32 := Scalar.addi v45 c1_i32_223
  let c512_i32_224 : BitVec 32 := 512#32
  let v338 : BitVec 32 := Scalar.muli v337 c512_i32_224
  v338
def k0_off36 (i : grid0.Coords) : Fin 2 → Nat :=
  let c2_i32_28 : BitVec 32 := 2#32
  let arg2 : BitVec 32 := BitVec.ofNat 32 (i 2).val
  let c1_i32_20 : BitVec 32 := 1#32
  let v26 : BitVec 32 := Scalar.subi arg2 c1_i32_20
  let c0_i32_21 : BitVec 32 := 0#32
  let v27 : BitVec 32 := Scalar.maxsi v26 c0_i32_21
  let c0_i32_22 : BitVec 32 := 0#32
  let v29 : BitVec 1 := Scalar.cmpi .sgt v27 c0_i32_22
  let v30 : BitVec 32 := Scalar.extui v29
  let c0_i32_23 : BitVec 32 := 0#32
  let v31 : BitVec 1 := Scalar.cmpi .slt v27 c0_i32_23
  let v32 : BitVec 32 := Scalar.extui v31
  let v33 : BitVec 32 := Scalar.subi v30 v32
  let c2_i32 : BitVec 32 := 2#32
  let c0_i32_24 : BitVec 32 := 0#32
  let v34 : BitVec 1 := Scalar.cmpi .sgt c2_i32 c0_i32_24
  let v35 : BitVec 32 := Scalar.extui v34
  let c0_i32_25 : BitVec 32 := 0#32
  let v36 : BitVec 1 := Scalar.cmpi .slt c2_i32 c0_i32_25
  let v37 : BitVec 32 := Scalar.extui v36
  let v38 : BitVec 32 := Scalar.subi v35 v37
  let v39 : BitVec 1 := Scalar.cmpi .ne v33 v38
  let v40 : BitVec 32 := Scalar.remsi v27 c2_i32
  let c0_i32_26 : BitVec 32 := 0#32
  let v41 : BitVec 1 := Scalar.cmpi .ne v40 c0_i32_26
  let v42 : BitVec 1 := Scalar.andi v39 v41
  let v28 : BitVec 32 := Scalar.divsi v27 c2_i32
  let c1_i32_27 : BitVec 32 := 1#32
  let v43 : BitVec 32 := Scalar.subi v28 c1_i32_27
  let v44 : BitVec 32 := Scalar.select v42 v43 v28
  let v45 : BitVec 32 := Scalar.muli c2_i32_28 v44
  let c1_i32_223 : BitVec 32 := 1#32
  let v337 : BitVec 32 := Scalar.addi v45 c1_i32_223
  let c512_i32_224 : BitVec 32 := 512#32
  let v338 : BitVec 32 := Scalar.muli v337 c512_i32_224
  let v339 : BitVec 32 := v338
  let v340 : Index := Scalar.indexCast v339
  let c384 : Index := 384#32
  ![v340.toNat, 384]
@[reducible] def k0_t9_loop (i : grid0.Coords) : Scf.Loop 32 :=
  let c0_i32_44 : BitVec 32 := 0#32
  let arg2 : BitVec 32 := BitVec.ofNat 32 (i 2).val
  let c0_i32_34 : BitVec 32 := 0#32
  let v51 : BitVec 1 := Scalar.cmpi .sgt arg2 c0_i32_34
  let c2_i32_28 : BitVec 32 := 2#32
  let c1_i32_20 : BitVec 32 := 1#32
  let v26 : BitVec 32 := Scalar.subi arg2 c1_i32_20
  let c0_i32_21 : BitVec 32 := 0#32
  let v27 : BitVec 32 := Scalar.maxsi v26 c0_i32_21
  let c0_i32_22 : BitVec 32 := 0#32
  let v29 : BitVec 1 := Scalar.cmpi .sgt v27 c0_i32_22
  let v30 : BitVec 32 := Scalar.extui v29
  let c0_i32_23 : BitVec 32 := 0#32
  let v31 : BitVec 1 := Scalar.cmpi .slt v27 c0_i32_23
  let v32 : BitVec 32 := Scalar.extui v31
  let v33 : BitVec 32 := Scalar.subi v30 v32
  let c2_i32 : BitVec 32 := 2#32
  let c0_i32_24 : BitVec 32 := 0#32
  let v34 : BitVec 1 := Scalar.cmpi .sgt c2_i32 c0_i32_24
  let v35 : BitVec 32 := Scalar.extui v34
  let c0_i32_25 : BitVec 32 := 0#32
  let v36 : BitVec 1 := Scalar.cmpi .slt c2_i32 c0_i32_25
  let v37 : BitVec 32 := Scalar.extui v36
  let v38 : BitVec 32 := Scalar.subi v35 v37
  let v39 : BitVec 1 := Scalar.cmpi .ne v33 v38
  let v40 : BitVec 32 := Scalar.remsi v27 c2_i32
  let c0_i32_26 : BitVec 32 := 0#32
  let v41 : BitVec 1 := Scalar.cmpi .ne v40 c0_i32_26
  let v42 : BitVec 1 := Scalar.andi v39 v41
  let v28 : BitVec 32 := Scalar.divsi v27 c2_i32
  let c1_i32_27 : BitVec 32 := 1#32
  let v43 : BitVec 32 := Scalar.subi v28 c1_i32_27
  let v44 : BitVec 32 := Scalar.select v42 v43 v28
  let v45 : BitVec 32 := Scalar.muli c2_i32_28 v44
  let v52 : BitVec 32 := Scalar.subi arg2 v45
  let c2_i32_35 : BitVec 32 := 2#32
  let v53 : BitVec 1 := Scalar.cmpi .eq v52 c2_i32_35
  let v54 : BitVec 1 := Scalar.andi v51 v53
  let v65 : BitVec 32 := Scalar.extui v54
  let v66 : BitVec 32 := Scalar.subi v65 c0_i32_44
  let c1_i32_45 : BitVec 32 := 1#32
  let v68 : BitVec 32 := Scalar.divsi v66 c1_i32_45
  let v69 : BitVec 32 := Scalar.muli v68 c1_i32_45
  let v70 : BitVec 32 := Scalar.addi c0_i32_44 v69
  let c1_i32_46 : BitVec 32 := 1#32
  ⟨c0_i32_44, v70, c1_i32_46⟩
def k0_mult41 (i : grid0.Coords) : BitVec 32 :=
  let c2_i32_28 : BitVec 32 := 2#32
  let arg2 : BitVec 32 := BitVec.ofNat 32 (i 2).val
  let c1_i32_20 : BitVec 32 := 1#32
  let v26 : BitVec 32 := Scalar.subi arg2 c1_i32_20
  let c0_i32_21 : BitVec 32 := 0#32
  let v27 : BitVec 32 := Scalar.maxsi v26 c0_i32_21
  let c0_i32_22 : BitVec 32 := 0#32
  let v29 : BitVec 1 := Scalar.cmpi .sgt v27 c0_i32_22
  let v30 : BitVec 32 := Scalar.extui v29
  let c0_i32_23 : BitVec 32 := 0#32
  let v31 : BitVec 1 := Scalar.cmpi .slt v27 c0_i32_23
  let v32 : BitVec 32 := Scalar.extui v31
  let v33 : BitVec 32 := Scalar.subi v30 v32
  let c2_i32 : BitVec 32 := 2#32
  let c0_i32_24 : BitVec 32 := 0#32
  let v34 : BitVec 1 := Scalar.cmpi .sgt c2_i32 c0_i32_24
  let v35 : BitVec 32 := Scalar.extui v34
  let c0_i32_25 : BitVec 32 := 0#32
  let v36 : BitVec 1 := Scalar.cmpi .slt c2_i32 c0_i32_25
  let v37 : BitVec 32 := Scalar.extui v36
  let v38 : BitVec 32 := Scalar.subi v35 v37
  let v39 : BitVec 1 := Scalar.cmpi .ne v33 v38
  let v40 : BitVec 32 := Scalar.remsi v27 c2_i32
  let c0_i32_26 : BitVec 32 := 0#32
  let v41 : BitVec 1 := Scalar.cmpi .ne v40 c0_i32_26
  let v42 : BitVec 1 := Scalar.andi v39 v41
  let v28 : BitVec 32 := Scalar.divsi v27 c2_i32
  let c1_i32_27 : BitVec 32 := 1#32
  let v43 : BitVec 32 := Scalar.subi v28 c1_i32_27
  let v44 : BitVec 32 := Scalar.select v42 v43 v28
  let v45 : BitVec 32 := Scalar.muli c2_i32_28 v44
  let c1_i32_104 : BitVec 32 := 1#32
  let v175 : BitVec 32 := Scalar.addi v45 c1_i32_104
  let c1_i32_105 : BitVec 32 := 1#32
  let v176 : BitVec 32 := Scalar.addi v175 c1_i32_105
  let c512_i32 : BitVec 32 := 512#32
  let v177 : BitVec 32 := Scalar.muli v176 c512_i32
  v177
def k0_off37 (i : grid0.Coords) : Fin 2 → Nat :=
  let c2_i32_28 : BitVec 32 := 2#32
  let arg2 : BitVec 32 := BitVec.ofNat 32 (i 2).val
  let c1_i32_20 : BitVec 32 := 1#32
  let v26 : BitVec 32 := Scalar.subi arg2 c1_i32_20
  let c0_i32_21 : BitVec 32 := 0#32
  let v27 : BitVec 32 := Scalar.maxsi v26 c0_i32_21
  let c0_i32_22 : BitVec 32 := 0#32
  let v29 : BitVec 1 := Scalar.cmpi .sgt v27 c0_i32_22
  let v30 : BitVec 32 := Scalar.extui v29
  let c0_i32_23 : BitVec 32 := 0#32
  let v31 : BitVec 1 := Scalar.cmpi .slt v27 c0_i32_23
  let v32 : BitVec 32 := Scalar.extui v31
  let v33 : BitVec 32 := Scalar.subi v30 v32
  let c2_i32 : BitVec 32 := 2#32
  let c0_i32_24 : BitVec 32 := 0#32
  let v34 : BitVec 1 := Scalar.cmpi .sgt c2_i32 c0_i32_24
  let v35 : BitVec 32 := Scalar.extui v34
  let c0_i32_25 : BitVec 32 := 0#32
  let v36 : BitVec 1 := Scalar.cmpi .slt c2_i32 c0_i32_25
  let v37 : BitVec 32 := Scalar.extui v36
  let v38 : BitVec 32 := Scalar.subi v35 v37
  let v39 : BitVec 1 := Scalar.cmpi .ne v33 v38
  let v40 : BitVec 32 := Scalar.remsi v27 c2_i32
  let c0_i32_26 : BitVec 32 := 0#32
  let v41 : BitVec 1 := Scalar.cmpi .ne v40 c0_i32_26
  let v42 : BitVec 1 := Scalar.andi v39 v41
  let v28 : BitVec 32 := Scalar.divsi v27 c2_i32
  let c1_i32_27 : BitVec 32 := 1#32
  let v43 : BitVec 32 := Scalar.subi v28 c1_i32_27
  let v44 : BitVec 32 := Scalar.select v42 v43 v28
  let v45 : BitVec 32 := Scalar.muli c2_i32_28 v44
  let c1_i32_104 : BitVec 32 := 1#32
  let v175 : BitVec 32 := Scalar.addi v45 c1_i32_104
  let c1_i32_105 : BitVec 32 := 1#32
  let v176 : BitVec 32 := Scalar.addi v175 c1_i32_105
  let c512_i32 : BitVec 32 := 512#32
  let v177 : BitVec 32 := Scalar.muli v176 c512_i32
  let v178 : BitVec 32 := v177
  let v179 : Index := Scalar.indexCast v178
  let c0_106 : Index := 0#32
  ![v179.toNat, 0]
def k0_off38 (i : grid0.Coords) : Fin 3 → Nat :=
  let c2_i32_28 : BitVec 32 := 2#32
  let arg2 : BitVec 32 := BitVec.ofNat 32 (i 2).val
  let c1_i32_20 : BitVec 32 := 1#32
  let v26 : BitVec 32 := Scalar.subi arg2 c1_i32_20
  let c0_i32_21 : BitVec 32 := 0#32
  let v27 : BitVec 32 := Scalar.maxsi v26 c0_i32_21
  let c0_i32_22 : BitVec 32 := 0#32
  let v29 : BitVec 1 := Scalar.cmpi .sgt v27 c0_i32_22
  let v30 : BitVec 32 := Scalar.extui v29
  let c0_i32_23 : BitVec 32 := 0#32
  let v31 : BitVec 1 := Scalar.cmpi .slt v27 c0_i32_23
  let v32 : BitVec 32 := Scalar.extui v31
  let v33 : BitVec 32 := Scalar.subi v30 v32
  let c2_i32 : BitVec 32 := 2#32
  let c0_i32_24 : BitVec 32 := 0#32
  let v34 : BitVec 1 := Scalar.cmpi .sgt c2_i32 c0_i32_24
  let v35 : BitVec 32 := Scalar.extui v34
  let c0_i32_25 : BitVec 32 := 0#32
  let v36 : BitVec 1 := Scalar.cmpi .slt c2_i32 c0_i32_25
  let v37 : BitVec 32 := Scalar.extui v36
  let v38 : BitVec 32 := Scalar.subi v35 v37
  let v39 : BitVec 1 := Scalar.cmpi .ne v33 v38
  let v40 : BitVec 32 := Scalar.remsi v27 c2_i32
  let c0_i32_26 : BitVec 32 := 0#32
  let v41 : BitVec 1 := Scalar.cmpi .ne v40 c0_i32_26
  let v42 : BitVec 1 := Scalar.andi v39 v41
  let v28 : BitVec 32 := Scalar.divsi v27 c2_i32
  let c1_i32_27 : BitVec 32 := 1#32
  let v43 : BitVec 32 := Scalar.subi v28 c1_i32_27
  let v44 : BitVec 32 := Scalar.select v42 v43 v28
  let v45 : BitVec 32 := Scalar.muli c2_i32_28 v44
  let c1_i32_104 : BitVec 32 := 1#32
  let v175 : BitVec 32 := Scalar.addi v45 c1_i32_104
  let v250 : Index := Scalar.indexCast v175
  let c0_137 : Index := 0#32
  let c0_138 : Index := 0#32
  ![v250.toNat, 0, 0]
def k0_mult42 (i : grid0.Coords) : BitVec 32 :=
  let c2_i32_28 : BitVec 32 := 2#32
  let arg2 : BitVec 32 := BitVec.ofNat 32 (i 2).val
  let c1_i32_20 : BitVec 32 := 1#32
  let v26 : BitVec 32 := Scalar.subi arg2 c1_i32_20
  let c0_i32_21 : BitVec 32 := 0#32
  let v27 : BitVec 32 := Scalar.maxsi v26 c0_i32_21
  let c0_i32_22 : BitVec 32 := 0#32
  let v29 : BitVec 1 := Scalar.cmpi .sgt v27 c0_i32_22
  let v30 : BitVec 32 := Scalar.extui v29
  let c0_i32_23 : BitVec 32 := 0#32
  let v31 : BitVec 1 := Scalar.cmpi .slt v27 c0_i32_23
  let v32 : BitVec 32 := Scalar.extui v31
  let v33 : BitVec 32 := Scalar.subi v30 v32
  let c2_i32 : BitVec 32 := 2#32
  let c0_i32_24 : BitVec 32 := 0#32
  let v34 : BitVec 1 := Scalar.cmpi .sgt c2_i32 c0_i32_24
  let v35 : BitVec 32 := Scalar.extui v34
  let c0_i32_25 : BitVec 32 := 0#32
  let v36 : BitVec 1 := Scalar.cmpi .slt c2_i32 c0_i32_25
  let v37 : BitVec 32 := Scalar.extui v36
  let v38 : BitVec 32 := Scalar.subi v35 v37
  let v39 : BitVec 1 := Scalar.cmpi .ne v33 v38
  let v40 : BitVec 32 := Scalar.remsi v27 c2_i32
  let c0_i32_26 : BitVec 32 := 0#32
  let v41 : BitVec 1 := Scalar.cmpi .ne v40 c0_i32_26
  let v42 : BitVec 1 := Scalar.andi v39 v41
  let v28 : BitVec 32 := Scalar.divsi v27 c2_i32
  let c1_i32_27 : BitVec 32 := 1#32
  let v43 : BitVec 32 := Scalar.subi v28 c1_i32_27
  let v44 : BitVec 32 := Scalar.select v42 v43 v28
  let v45 : BitVec 32 := Scalar.muli c2_i32_28 v44
  let c1_i32_104 : BitVec 32 := 1#32
  let v175 : BitVec 32 := Scalar.addi v45 c1_i32_104
  let c1_i32_159 : BitVec 32 := 1#32
  let v283 : BitVec 32 := Scalar.addi v175 c1_i32_159
  let c512_i32_160 : BitVec 32 := 512#32
  let v284 : BitVec 32 := Scalar.muli v283 c512_i32_160
  v284
def k0_off39 (i : grid0.Coords) : Fin 2 → Nat :=
  let c2_i32_28 : BitVec 32 := 2#32
  let arg2 : BitVec 32 := BitVec.ofNat 32 (i 2).val
  let c1_i32_20 : BitVec 32 := 1#32
  let v26 : BitVec 32 := Scalar.subi arg2 c1_i32_20
  let c0_i32_21 : BitVec 32 := 0#32
  let v27 : BitVec 32 := Scalar.maxsi v26 c0_i32_21
  let c0_i32_22 : BitVec 32 := 0#32
  let v29 : BitVec 1 := Scalar.cmpi .sgt v27 c0_i32_22
  let v30 : BitVec 32 := Scalar.extui v29
  let c0_i32_23 : BitVec 32 := 0#32
  let v31 : BitVec 1 := Scalar.cmpi .slt v27 c0_i32_23
  let v32 : BitVec 32 := Scalar.extui v31
  let v33 : BitVec 32 := Scalar.subi v30 v32
  let c2_i32 : BitVec 32 := 2#32
  let c0_i32_24 : BitVec 32 := 0#32
  let v34 : BitVec 1 := Scalar.cmpi .sgt c2_i32 c0_i32_24
  let v35 : BitVec 32 := Scalar.extui v34
  let c0_i32_25 : BitVec 32 := 0#32
  let v36 : BitVec 1 := Scalar.cmpi .slt c2_i32 c0_i32_25
  let v37 : BitVec 32 := Scalar.extui v36
  let v38 : BitVec 32 := Scalar.subi v35 v37
  let v39 : BitVec 1 := Scalar.cmpi .ne v33 v38
  let v40 : BitVec 32 := Scalar.remsi v27 c2_i32
  let c0_i32_26 : BitVec 32 := 0#32
  let v41 : BitVec 1 := Scalar.cmpi .ne v40 c0_i32_26
  let v42 : BitVec 1 := Scalar.andi v39 v41
  let v28 : BitVec 32 := Scalar.divsi v27 c2_i32
  let c1_i32_27 : BitVec 32 := 1#32
  let v43 : BitVec 32 := Scalar.subi v28 c1_i32_27
  let v44 : BitVec 32 := Scalar.select v42 v43 v28
  let v45 : BitVec 32 := Scalar.muli c2_i32_28 v44
  let c1_i32_104 : BitVec 32 := 1#32
  let v175 : BitVec 32 := Scalar.addi v45 c1_i32_104
  let c1_i32_159 : BitVec 32 := 1#32
  let v283 : BitVec 32 := Scalar.addi v175 c1_i32_159
  let c512_i32_160 : BitVec 32 := 512#32
  let v284 : BitVec 32 := Scalar.muli v283 c512_i32_160
  let v285 : BitVec 32 := v284
  let v286 : Index := Scalar.indexCast v285
  let c128 : Index := 128#32
  ![v286.toNat, 128]
def k0_mult43 (i : grid0.Coords) : BitVec 32 :=
  let c2_i32_28 : BitVec 32 := 2#32
  let arg2 : BitVec 32 := BitVec.ofNat 32 (i 2).val
  let c1_i32_20 : BitVec 32 := 1#32
  let v26 : BitVec 32 := Scalar.subi arg2 c1_i32_20
  let c0_i32_21 : BitVec 32 := 0#32
  let v27 : BitVec 32 := Scalar.maxsi v26 c0_i32_21
  let c0_i32_22 : BitVec 32 := 0#32
  let v29 : BitVec 1 := Scalar.cmpi .sgt v27 c0_i32_22
  let v30 : BitVec 32 := Scalar.extui v29
  let c0_i32_23 : BitVec 32 := 0#32
  let v31 : BitVec 1 := Scalar.cmpi .slt v27 c0_i32_23
  let v32 : BitVec 32 := Scalar.extui v31
  let v33 : BitVec 32 := Scalar.subi v30 v32
  let c2_i32 : BitVec 32 := 2#32
  let c0_i32_24 : BitVec 32 := 0#32
  let v34 : BitVec 1 := Scalar.cmpi .sgt c2_i32 c0_i32_24
  let v35 : BitVec 32 := Scalar.extui v34
  let c0_i32_25 : BitVec 32 := 0#32
  let v36 : BitVec 1 := Scalar.cmpi .slt c2_i32 c0_i32_25
  let v37 : BitVec 32 := Scalar.extui v36
  let v38 : BitVec 32 := Scalar.subi v35 v37
  let v39 : BitVec 1 := Scalar.cmpi .ne v33 v38
  let v40 : BitVec 32 := Scalar.remsi v27 c2_i32
  let c0_i32_26 : BitVec 32 := 0#32
  let v41 : BitVec 1 := Scalar.cmpi .ne v40 c0_i32_26
  let v42 : BitVec 1 := Scalar.andi v39 v41
  let v28 : BitVec 32 := Scalar.divsi v27 c2_i32
  let c1_i32_27 : BitVec 32 := 1#32
  let v43 : BitVec 32 := Scalar.subi v28 c1_i32_27
  let v44 : BitVec 32 := Scalar.select v42 v43 v28
  let v45 : BitVec 32 := Scalar.muli c2_i32_28 v44
  let c1_i32_104 : BitVec 32 := 1#32
  let v175 : BitVec 32 := Scalar.addi v45 c1_i32_104
  let c1_i32_214 : BitVec 32 := 1#32
  let v390 : BitVec 32 := Scalar.addi v175 c1_i32_214
  let c512_i32_215 : BitVec 32 := 512#32
  let v391 : BitVec 32 := Scalar.muli v390 c512_i32_215
  v391
def k0_off40 (i : grid0.Coords) : Fin 2 → Nat :=
  let c2_i32_28 : BitVec 32 := 2#32
  let arg2 : BitVec 32 := BitVec.ofNat 32 (i 2).val
  let c1_i32_20 : BitVec 32 := 1#32
  let v26 : BitVec 32 := Scalar.subi arg2 c1_i32_20
  let c0_i32_21 : BitVec 32 := 0#32
  let v27 : BitVec 32 := Scalar.maxsi v26 c0_i32_21
  let c0_i32_22 : BitVec 32 := 0#32
  let v29 : BitVec 1 := Scalar.cmpi .sgt v27 c0_i32_22
  let v30 : BitVec 32 := Scalar.extui v29
  let c0_i32_23 : BitVec 32 := 0#32
  let v31 : BitVec 1 := Scalar.cmpi .slt v27 c0_i32_23
  let v32 : BitVec 32 := Scalar.extui v31
  let v33 : BitVec 32 := Scalar.subi v30 v32
  let c2_i32 : BitVec 32 := 2#32
  let c0_i32_24 : BitVec 32 := 0#32
  let v34 : BitVec 1 := Scalar.cmpi .sgt c2_i32 c0_i32_24
  let v35 : BitVec 32 := Scalar.extui v34
  let c0_i32_25 : BitVec 32 := 0#32
  let v36 : BitVec 1 := Scalar.cmpi .slt c2_i32 c0_i32_25
  let v37 : BitVec 32 := Scalar.extui v36
  let v38 : BitVec 32 := Scalar.subi v35 v37
  let v39 : BitVec 1 := Scalar.cmpi .ne v33 v38
  let v40 : BitVec 32 := Scalar.remsi v27 c2_i32
  let c0_i32_26 : BitVec 32 := 0#32
  let v41 : BitVec 1 := Scalar.cmpi .ne v40 c0_i32_26
  let v42 : BitVec 1 := Scalar.andi v39 v41
  let v28 : BitVec 32 := Scalar.divsi v27 c2_i32
  let c1_i32_27 : BitVec 32 := 1#32
  let v43 : BitVec 32 := Scalar.subi v28 c1_i32_27
  let v44 : BitVec 32 := Scalar.select v42 v43 v28
  let v45 : BitVec 32 := Scalar.muli c2_i32_28 v44
  let c1_i32_104 : BitVec 32 := 1#32
  let v175 : BitVec 32 := Scalar.addi v45 c1_i32_104
  let c1_i32_214 : BitVec 32 := 1#32
  let v390 : BitVec 32 := Scalar.addi v175 c1_i32_214
  let c512_i32_215 : BitVec 32 := 512#32
  let v391 : BitVec 32 := Scalar.muli v390 c512_i32_215
  let v392 : BitVec 32 := v391
  let v393 : Index := Scalar.indexCast v392
  let c256_216 : Index := 256#32
  ![v393.toNat, 256]
def k0_off41 (i : grid0.Coords) : Fin 3 → Nat :=
  let c2_i32_28 : BitVec 32 := 2#32
  let arg2 : BitVec 32 := BitVec.ofNat 32 (i 2).val
  let c1_i32_20 : BitVec 32 := 1#32
  let v26 : BitVec 32 := Scalar.subi arg2 c1_i32_20
  let c0_i32_21 : BitVec 32 := 0#32
  let v27 : BitVec 32 := Scalar.maxsi v26 c0_i32_21
  let c0_i32_22 : BitVec 32 := 0#32
  let v29 : BitVec 1 := Scalar.cmpi .sgt v27 c0_i32_22
  let v30 : BitVec 32 := Scalar.extui v29
  let c0_i32_23 : BitVec 32 := 0#32
  let v31 : BitVec 1 := Scalar.cmpi .slt v27 c0_i32_23
  let v32 : BitVec 32 := Scalar.extui v31
  let v33 : BitVec 32 := Scalar.subi v30 v32
  let c2_i32 : BitVec 32 := 2#32
  let c0_i32_24 : BitVec 32 := 0#32
  let v34 : BitVec 1 := Scalar.cmpi .sgt c2_i32 c0_i32_24
  let v35 : BitVec 32 := Scalar.extui v34
  let c0_i32_25 : BitVec 32 := 0#32
  let v36 : BitVec 1 := Scalar.cmpi .slt c2_i32 c0_i32_25
  let v37 : BitVec 32 := Scalar.extui v36
  let v38 : BitVec 32 := Scalar.subi v35 v37
  let v39 : BitVec 1 := Scalar.cmpi .ne v33 v38
  let v40 : BitVec 32 := Scalar.remsi v27 c2_i32
  let c0_i32_26 : BitVec 32 := 0#32
  let v41 : BitVec 1 := Scalar.cmpi .ne v40 c0_i32_26
  let v42 : BitVec 1 := Scalar.andi v39 v41
  let v28 : BitVec 32 := Scalar.divsi v27 c2_i32
  let c1_i32_27 : BitVec 32 := 1#32
  let v43 : BitVec 32 := Scalar.subi v28 c1_i32_27
  let v44 : BitVec 32 := Scalar.select v42 v43 v28
  let v45 : BitVec 32 := Scalar.muli c2_i32_28 v44
  let c1_i32_104 : BitVec 32 := 1#32
  let v175 : BitVec 32 := Scalar.addi v45 c1_i32_104
  let v464 : Index := Scalar.indexCast v175
  let c256_246 : Index := 256#32
  let c0_247 : Index := 0#32
  ![v464.toNat, 256, 0]
def k0_mult44 (i : grid0.Coords) : BitVec 32 :=
  let c2_i32_28 : BitVec 32 := 2#32
  let arg2 : BitVec 32 := BitVec.ofNat 32 (i 2).val
  let c1_i32_20 : BitVec 32 := 1#32
  let v26 : BitVec 32 := Scalar.subi arg2 c1_i32_20
  let c0_i32_21 : BitVec 32 := 0#32
  let v27 : BitVec 32 := Scalar.maxsi v26 c0_i32_21
  let c0_i32_22 : BitVec 32 := 0#32
  let v29 : BitVec 1 := Scalar.cmpi .sgt v27 c0_i32_22
  let v30 : BitVec 32 := Scalar.extui v29
  let c0_i32_23 : BitVec 32 := 0#32
  let v31 : BitVec 1 := Scalar.cmpi .slt v27 c0_i32_23
  let v32 : BitVec 32 := Scalar.extui v31
  let v33 : BitVec 32 := Scalar.subi v30 v32
  let c2_i32 : BitVec 32 := 2#32
  let c0_i32_24 : BitVec 32 := 0#32
  let v34 : BitVec 1 := Scalar.cmpi .sgt c2_i32 c0_i32_24
  let v35 : BitVec 32 := Scalar.extui v34
  let c0_i32_25 : BitVec 32 := 0#32
  let v36 : BitVec 1 := Scalar.cmpi .slt c2_i32 c0_i32_25
  let v37 : BitVec 32 := Scalar.extui v36
  let v38 : BitVec 32 := Scalar.subi v35 v37
  let v39 : BitVec 1 := Scalar.cmpi .ne v33 v38
  let v40 : BitVec 32 := Scalar.remsi v27 c2_i32
  let c0_i32_26 : BitVec 32 := 0#32
  let v41 : BitVec 1 := Scalar.cmpi .ne v40 c0_i32_26
  let v42 : BitVec 1 := Scalar.andi v39 v41
  let v28 : BitVec 32 := Scalar.divsi v27 c2_i32
  let c1_i32_27 : BitVec 32 := 1#32
  let v43 : BitVec 32 := Scalar.subi v28 c1_i32_27
  let v44 : BitVec 32 := Scalar.select v42 v43 v28
  let v45 : BitVec 32 := Scalar.muli c2_i32_28 v44
  let c1_i32_104 : BitVec 32 := 1#32
  let v175 : BitVec 32 := Scalar.addi v45 c1_i32_104
  let c1_i32_268 : BitVec 32 := 1#32
  let v497 : BitVec 32 := Scalar.addi v175 c1_i32_268
  let c512_i32_269 : BitVec 32 := 512#32
  let v498 : BitVec 32 := Scalar.muli v497 c512_i32_269
  v498
def k0_off42 (i : grid0.Coords) : Fin 2 → Nat :=
  let c2_i32_28 : BitVec 32 := 2#32
  let arg2 : BitVec 32 := BitVec.ofNat 32 (i 2).val
  let c1_i32_20 : BitVec 32 := 1#32
  let v26 : BitVec 32 := Scalar.subi arg2 c1_i32_20
  let c0_i32_21 : BitVec 32 := 0#32
  let v27 : BitVec 32 := Scalar.maxsi v26 c0_i32_21
  let c0_i32_22 : BitVec 32 := 0#32
  let v29 : BitVec 1 := Scalar.cmpi .sgt v27 c0_i32_22
  let v30 : BitVec 32 := Scalar.extui v29
  let c0_i32_23 : BitVec 32 := 0#32
  let v31 : BitVec 1 := Scalar.cmpi .slt v27 c0_i32_23
  let v32 : BitVec 32 := Scalar.extui v31
  let v33 : BitVec 32 := Scalar.subi v30 v32
  let c2_i32 : BitVec 32 := 2#32
  let c0_i32_24 : BitVec 32 := 0#32
  let v34 : BitVec 1 := Scalar.cmpi .sgt c2_i32 c0_i32_24
  let v35 : BitVec 32 := Scalar.extui v34
  let c0_i32_25 : BitVec 32 := 0#32
  let v36 : BitVec 1 := Scalar.cmpi .slt c2_i32 c0_i32_25
  let v37 : BitVec 32 := Scalar.extui v36
  let v38 : BitVec 32 := Scalar.subi v35 v37
  let v39 : BitVec 1 := Scalar.cmpi .ne v33 v38
  let v40 : BitVec 32 := Scalar.remsi v27 c2_i32
  let c0_i32_26 : BitVec 32 := 0#32
  let v41 : BitVec 1 := Scalar.cmpi .ne v40 c0_i32_26
  let v42 : BitVec 1 := Scalar.andi v39 v41
  let v28 : BitVec 32 := Scalar.divsi v27 c2_i32
  let c1_i32_27 : BitVec 32 := 1#32
  let v43 : BitVec 32 := Scalar.subi v28 c1_i32_27
  let v44 : BitVec 32 := Scalar.select v42 v43 v28
  let v45 : BitVec 32 := Scalar.muli c2_i32_28 v44
  let c1_i32_104 : BitVec 32 := 1#32
  let v175 : BitVec 32 := Scalar.addi v45 c1_i32_104
  let c1_i32_268 : BitVec 32 := 1#32
  let v497 : BitVec 32 := Scalar.addi v175 c1_i32_268
  let c512_i32_269 : BitVec 32 := 512#32
  let v498 : BitVec 32 := Scalar.muli v497 c512_i32_269
  let v499 : BitVec 32 := v498
  let v500 : Index := Scalar.indexCast v499
  let c384 : Index := 384#32
  ![v500.toNat, 384]
@[reducible] def k0_t10_loop (i : grid0.Coords) : Scf.Loop 32 :=
  let c0_i32_44 : BitVec 32 := 0#32
  let arg2 : BitVec 32 := BitVec.ofNat 32 (i 2).val
  let c0_i32_34 : BitVec 32 := 0#32
  let v51 : BitVec 1 := Scalar.cmpi .sgt arg2 c0_i32_34
  let c2_i32_28 : BitVec 32 := 2#32
  let c1_i32_20 : BitVec 32 := 1#32
  let v26 : BitVec 32 := Scalar.subi arg2 c1_i32_20
  let c0_i32_21 : BitVec 32 := 0#32
  let v27 : BitVec 32 := Scalar.maxsi v26 c0_i32_21
  let c0_i32_22 : BitVec 32 := 0#32
  let v29 : BitVec 1 := Scalar.cmpi .sgt v27 c0_i32_22
  let v30 : BitVec 32 := Scalar.extui v29
  let c0_i32_23 : BitVec 32 := 0#32
  let v31 : BitVec 1 := Scalar.cmpi .slt v27 c0_i32_23
  let v32 : BitVec 32 := Scalar.extui v31
  let v33 : BitVec 32 := Scalar.subi v30 v32
  let c2_i32 : BitVec 32 := 2#32
  let c0_i32_24 : BitVec 32 := 0#32
  let v34 : BitVec 1 := Scalar.cmpi .sgt c2_i32 c0_i32_24
  let v35 : BitVec 32 := Scalar.extui v34
  let c0_i32_25 : BitVec 32 := 0#32
  let v36 : BitVec 1 := Scalar.cmpi .slt c2_i32 c0_i32_25
  let v37 : BitVec 32 := Scalar.extui v36
  let v38 : BitVec 32 := Scalar.subi v35 v37
  let v39 : BitVec 1 := Scalar.cmpi .ne v33 v38
  let v40 : BitVec 32 := Scalar.remsi v27 c2_i32
  let c0_i32_26 : BitVec 32 := 0#32
  let v41 : BitVec 1 := Scalar.cmpi .ne v40 c0_i32_26
  let v42 : BitVec 1 := Scalar.andi v39 v41
  let v28 : BitVec 32 := Scalar.divsi v27 c2_i32
  let c1_i32_27 : BitVec 32 := 1#32
  let v43 : BitVec 32 := Scalar.subi v28 c1_i32_27
  let v44 : BitVec 32 := Scalar.select v42 v43 v28
  let v45 : BitVec 32 := Scalar.muli c2_i32_28 v44
  let v52 : BitVec 32 := Scalar.subi arg2 v45
  let c2_i32_35 : BitVec 32 := 2#32
  let v53 : BitVec 1 := Scalar.cmpi .eq v52 c2_i32_35
  let v54 : BitVec 1 := Scalar.andi v51 v53
  let v65 : BitVec 32 := Scalar.extui v54
  let v66 : BitVec 32 := Scalar.subi v65 c0_i32_44
  let c1_i32_45 : BitVec 32 := 1#32
  let v68 : BitVec 32 := Scalar.divsi v66 c1_i32_45
  let v69 : BitVec 32 := Scalar.muli v68 c1_i32_45
  let v70 : BitVec 32 := Scalar.addi c0_i32_44 v69
  let v67 : BitVec 32 := Scalar.addi c0_i32_44 v66
  let c1_i32_47 : BitVec 32 := 1#32
  ⟨v70, v67, c1_i32_47⟩
def k0_mult45 (i : grid0.Coords) : BitVec 32 :=
  let c2_i32_28 : BitVec 32 := 2#32
  let arg2 : BitVec 32 := BitVec.ofNat 32 (i 2).val
  let c1_i32_20 : BitVec 32 := 1#32
  let v26 : BitVec 32 := Scalar.subi arg2 c1_i32_20
  let c0_i32_21 : BitVec 32 := 0#32
  let v27 : BitVec 32 := Scalar.maxsi v26 c0_i32_21
  let c0_i32_22 : BitVec 32 := 0#32
  let v29 : BitVec 1 := Scalar.cmpi .sgt v27 c0_i32_22
  let v30 : BitVec 32 := Scalar.extui v29
  let c0_i32_23 : BitVec 32 := 0#32
  let v31 : BitVec 1 := Scalar.cmpi .slt v27 c0_i32_23
  let v32 : BitVec 32 := Scalar.extui v31
  let v33 : BitVec 32 := Scalar.subi v30 v32
  let c2_i32 : BitVec 32 := 2#32
  let c0_i32_24 : BitVec 32 := 0#32
  let v34 : BitVec 1 := Scalar.cmpi .sgt c2_i32 c0_i32_24
  let v35 : BitVec 32 := Scalar.extui v34
  let c0_i32_25 : BitVec 32 := 0#32
  let v36 : BitVec 1 := Scalar.cmpi .slt c2_i32 c0_i32_25
  let v37 : BitVec 32 := Scalar.extui v36
  let v38 : BitVec 32 := Scalar.subi v35 v37
  let v39 : BitVec 1 := Scalar.cmpi .ne v33 v38
  let v40 : BitVec 32 := Scalar.remsi v27 c2_i32
  let c0_i32_26 : BitVec 32 := 0#32
  let v41 : BitVec 1 := Scalar.cmpi .ne v40 c0_i32_26
  let v42 : BitVec 1 := Scalar.andi v39 v41
  let v28 : BitVec 32 := Scalar.divsi v27 c2_i32
  let c1_i32_27 : BitVec 32 := 1#32
  let v43 : BitVec 32 := Scalar.subi v28 c1_i32_27
  let v44 : BitVec 32 := Scalar.select v42 v43 v28
  let v45 : BitVec 32 := Scalar.muli c2_i32_28 v44
  let c1_i32_104 : BitVec 32 := 1#32
  let v175 : BitVec 32 := Scalar.addi v45 c1_i32_104
  let c1_i32_105 : BitVec 32 := 1#32
  let v176 : BitVec 32 := Scalar.addi v175 c1_i32_105
  let c512_i32 : BitVec 32 := 512#32
  let v177 : BitVec 32 := Scalar.muli v176 c512_i32
  v177
def k0_off43 (i : grid0.Coords) : Fin 2 → Nat :=
  let c2_i32_28 : BitVec 32 := 2#32
  let arg2 : BitVec 32 := BitVec.ofNat 32 (i 2).val
  let c1_i32_20 : BitVec 32 := 1#32
  let v26 : BitVec 32 := Scalar.subi arg2 c1_i32_20
  let c0_i32_21 : BitVec 32 := 0#32
  let v27 : BitVec 32 := Scalar.maxsi v26 c0_i32_21
  let c0_i32_22 : BitVec 32 := 0#32
  let v29 : BitVec 1 := Scalar.cmpi .sgt v27 c0_i32_22
  let v30 : BitVec 32 := Scalar.extui v29
  let c0_i32_23 : BitVec 32 := 0#32
  let v31 : BitVec 1 := Scalar.cmpi .slt v27 c0_i32_23
  let v32 : BitVec 32 := Scalar.extui v31
  let v33 : BitVec 32 := Scalar.subi v30 v32
  let c2_i32 : BitVec 32 := 2#32
  let c0_i32_24 : BitVec 32 := 0#32
  let v34 : BitVec 1 := Scalar.cmpi .sgt c2_i32 c0_i32_24
  let v35 : BitVec 32 := Scalar.extui v34
  let c0_i32_25 : BitVec 32 := 0#32
  let v36 : BitVec 1 := Scalar.cmpi .slt c2_i32 c0_i32_25
  let v37 : BitVec 32 := Scalar.extui v36
  let v38 : BitVec 32 := Scalar.subi v35 v37
  let v39 : BitVec 1 := Scalar.cmpi .ne v33 v38
  let v40 : BitVec 32 := Scalar.remsi v27 c2_i32
  let c0_i32_26 : BitVec 32 := 0#32
  let v41 : BitVec 1 := Scalar.cmpi .ne v40 c0_i32_26
  let v42 : BitVec 1 := Scalar.andi v39 v41
  let v28 : BitVec 32 := Scalar.divsi v27 c2_i32
  let c1_i32_27 : BitVec 32 := 1#32
  let v43 : BitVec 32 := Scalar.subi v28 c1_i32_27
  let v44 : BitVec 32 := Scalar.select v42 v43 v28
  let v45 : BitVec 32 := Scalar.muli c2_i32_28 v44
  let c1_i32_104 : BitVec 32 := 1#32
  let v175 : BitVec 32 := Scalar.addi v45 c1_i32_104
  let c1_i32_105 : BitVec 32 := 1#32
  let v176 : BitVec 32 := Scalar.addi v175 c1_i32_105
  let c512_i32 : BitVec 32 := 512#32
  let v177 : BitVec 32 := Scalar.muli v176 c512_i32
  let v178 : BitVec 32 := v177
  let v179 : Index := Scalar.indexCast v178
  let c0_106 : Index := 0#32
  ![v179.toNat, 0]
def k0_off44 (i : grid0.Coords) : Fin 3 → Nat :=
  let c2_i32_28 : BitVec 32 := 2#32
  let arg2 : BitVec 32 := BitVec.ofNat 32 (i 2).val
  let c1_i32_20 : BitVec 32 := 1#32
  let v26 : BitVec 32 := Scalar.subi arg2 c1_i32_20
  let c0_i32_21 : BitVec 32 := 0#32
  let v27 : BitVec 32 := Scalar.maxsi v26 c0_i32_21
  let c0_i32_22 : BitVec 32 := 0#32
  let v29 : BitVec 1 := Scalar.cmpi .sgt v27 c0_i32_22
  let v30 : BitVec 32 := Scalar.extui v29
  let c0_i32_23 : BitVec 32 := 0#32
  let v31 : BitVec 1 := Scalar.cmpi .slt v27 c0_i32_23
  let v32 : BitVec 32 := Scalar.extui v31
  let v33 : BitVec 32 := Scalar.subi v30 v32
  let c2_i32 : BitVec 32 := 2#32
  let c0_i32_24 : BitVec 32 := 0#32
  let v34 : BitVec 1 := Scalar.cmpi .sgt c2_i32 c0_i32_24
  let v35 : BitVec 32 := Scalar.extui v34
  let c0_i32_25 : BitVec 32 := 0#32
  let v36 : BitVec 1 := Scalar.cmpi .slt c2_i32 c0_i32_25
  let v37 : BitVec 32 := Scalar.extui v36
  let v38 : BitVec 32 := Scalar.subi v35 v37
  let v39 : BitVec 1 := Scalar.cmpi .ne v33 v38
  let v40 : BitVec 32 := Scalar.remsi v27 c2_i32
  let c0_i32_26 : BitVec 32 := 0#32
  let v41 : BitVec 1 := Scalar.cmpi .ne v40 c0_i32_26
  let v42 : BitVec 1 := Scalar.andi v39 v41
  let v28 : BitVec 32 := Scalar.divsi v27 c2_i32
  let c1_i32_27 : BitVec 32 := 1#32
  let v43 : BitVec 32 := Scalar.subi v28 c1_i32_27
  let v44 : BitVec 32 := Scalar.select v42 v43 v28
  let v45 : BitVec 32 := Scalar.muli c2_i32_28 v44
  let c1_i32_104 : BitVec 32 := 1#32
  let v175 : BitVec 32 := Scalar.addi v45 c1_i32_104
  let v250 : Index := Scalar.indexCast v175
  let c0_137 : Index := 0#32
  let c0_138 : Index := 0#32
  ![v250.toNat, 0, 0]
def k0_mult46 (i : grid0.Coords) : BitVec 32 :=
  let c2_i32_28 : BitVec 32 := 2#32
  let arg2 : BitVec 32 := BitVec.ofNat 32 (i 2).val
  let c1_i32_20 : BitVec 32 := 1#32
  let v26 : BitVec 32 := Scalar.subi arg2 c1_i32_20
  let c0_i32_21 : BitVec 32 := 0#32
  let v27 : BitVec 32 := Scalar.maxsi v26 c0_i32_21
  let c0_i32_22 : BitVec 32 := 0#32
  let v29 : BitVec 1 := Scalar.cmpi .sgt v27 c0_i32_22
  let v30 : BitVec 32 := Scalar.extui v29
  let c0_i32_23 : BitVec 32 := 0#32
  let v31 : BitVec 1 := Scalar.cmpi .slt v27 c0_i32_23
  let v32 : BitVec 32 := Scalar.extui v31
  let v33 : BitVec 32 := Scalar.subi v30 v32
  let c2_i32 : BitVec 32 := 2#32
  let c0_i32_24 : BitVec 32 := 0#32
  let v34 : BitVec 1 := Scalar.cmpi .sgt c2_i32 c0_i32_24
  let v35 : BitVec 32 := Scalar.extui v34
  let c0_i32_25 : BitVec 32 := 0#32
  let v36 : BitVec 1 := Scalar.cmpi .slt c2_i32 c0_i32_25
  let v37 : BitVec 32 := Scalar.extui v36
  let v38 : BitVec 32 := Scalar.subi v35 v37
  let v39 : BitVec 1 := Scalar.cmpi .ne v33 v38
  let v40 : BitVec 32 := Scalar.remsi v27 c2_i32
  let c0_i32_26 : BitVec 32 := 0#32
  let v41 : BitVec 1 := Scalar.cmpi .ne v40 c0_i32_26
  let v42 : BitVec 1 := Scalar.andi v39 v41
  let v28 : BitVec 32 := Scalar.divsi v27 c2_i32
  let c1_i32_27 : BitVec 32 := 1#32
  let v43 : BitVec 32 := Scalar.subi v28 c1_i32_27
  let v44 : BitVec 32 := Scalar.select v42 v43 v28
  let v45 : BitVec 32 := Scalar.muli c2_i32_28 v44
  let c1_i32_104 : BitVec 32 := 1#32
  let v175 : BitVec 32 := Scalar.addi v45 c1_i32_104
  let c1_i32_159 : BitVec 32 := 1#32
  let v283 : BitVec 32 := Scalar.addi v175 c1_i32_159
  let c512_i32_160 : BitVec 32 := 512#32
  let v284 : BitVec 32 := Scalar.muli v283 c512_i32_160
  v284
def k0_off45 (i : grid0.Coords) : Fin 2 → Nat :=
  let c2_i32_28 : BitVec 32 := 2#32
  let arg2 : BitVec 32 := BitVec.ofNat 32 (i 2).val
  let c1_i32_20 : BitVec 32 := 1#32
  let v26 : BitVec 32 := Scalar.subi arg2 c1_i32_20
  let c0_i32_21 : BitVec 32 := 0#32
  let v27 : BitVec 32 := Scalar.maxsi v26 c0_i32_21
  let c0_i32_22 : BitVec 32 := 0#32
  let v29 : BitVec 1 := Scalar.cmpi .sgt v27 c0_i32_22
  let v30 : BitVec 32 := Scalar.extui v29
  let c0_i32_23 : BitVec 32 := 0#32
  let v31 : BitVec 1 := Scalar.cmpi .slt v27 c0_i32_23
  let v32 : BitVec 32 := Scalar.extui v31
  let v33 : BitVec 32 := Scalar.subi v30 v32
  let c2_i32 : BitVec 32 := 2#32
  let c0_i32_24 : BitVec 32 := 0#32
  let v34 : BitVec 1 := Scalar.cmpi .sgt c2_i32 c0_i32_24
  let v35 : BitVec 32 := Scalar.extui v34
  let c0_i32_25 : BitVec 32 := 0#32
  let v36 : BitVec 1 := Scalar.cmpi .slt c2_i32 c0_i32_25
  let v37 : BitVec 32 := Scalar.extui v36
  let v38 : BitVec 32 := Scalar.subi v35 v37
  let v39 : BitVec 1 := Scalar.cmpi .ne v33 v38
  let v40 : BitVec 32 := Scalar.remsi v27 c2_i32
  let c0_i32_26 : BitVec 32 := 0#32
  let v41 : BitVec 1 := Scalar.cmpi .ne v40 c0_i32_26
  let v42 : BitVec 1 := Scalar.andi v39 v41
  let v28 : BitVec 32 := Scalar.divsi v27 c2_i32
  let c1_i32_27 : BitVec 32 := 1#32
  let v43 : BitVec 32 := Scalar.subi v28 c1_i32_27
  let v44 : BitVec 32 := Scalar.select v42 v43 v28
  let v45 : BitVec 32 := Scalar.muli c2_i32_28 v44
  let c1_i32_104 : BitVec 32 := 1#32
  let v175 : BitVec 32 := Scalar.addi v45 c1_i32_104
  let c1_i32_159 : BitVec 32 := 1#32
  let v283 : BitVec 32 := Scalar.addi v175 c1_i32_159
  let c512_i32_160 : BitVec 32 := 512#32
  let v284 : BitVec 32 := Scalar.muli v283 c512_i32_160
  let v285 : BitVec 32 := v284
  let v286 : Index := Scalar.indexCast v285
  let c128 : Index := 128#32
  ![v286.toNat, 128]
def k0_mult47 (i : grid0.Coords) : BitVec 32 :=
  let c2_i32_28 : BitVec 32 := 2#32
  let arg2 : BitVec 32 := BitVec.ofNat 32 (i 2).val
  let c1_i32_20 : BitVec 32 := 1#32
  let v26 : BitVec 32 := Scalar.subi arg2 c1_i32_20
  let c0_i32_21 : BitVec 32 := 0#32
  let v27 : BitVec 32 := Scalar.maxsi v26 c0_i32_21
  let c0_i32_22 : BitVec 32 := 0#32
  let v29 : BitVec 1 := Scalar.cmpi .sgt v27 c0_i32_22
  let v30 : BitVec 32 := Scalar.extui v29
  let c0_i32_23 : BitVec 32 := 0#32
  let v31 : BitVec 1 := Scalar.cmpi .slt v27 c0_i32_23
  let v32 : BitVec 32 := Scalar.extui v31
  let v33 : BitVec 32 := Scalar.subi v30 v32
  let c2_i32 : BitVec 32 := 2#32
  let c0_i32_24 : BitVec 32 := 0#32
  let v34 : BitVec 1 := Scalar.cmpi .sgt c2_i32 c0_i32_24
  let v35 : BitVec 32 := Scalar.extui v34
  let c0_i32_25 : BitVec 32 := 0#32
  let v36 : BitVec 1 := Scalar.cmpi .slt c2_i32 c0_i32_25
  let v37 : BitVec 32 := Scalar.extui v36
  let v38 : BitVec 32 := Scalar.subi v35 v37
  let v39 : BitVec 1 := Scalar.cmpi .ne v33 v38
  let v40 : BitVec 32 := Scalar.remsi v27 c2_i32
  let c0_i32_26 : BitVec 32 := 0#32
  let v41 : BitVec 1 := Scalar.cmpi .ne v40 c0_i32_26
  let v42 : BitVec 1 := Scalar.andi v39 v41
  let v28 : BitVec 32 := Scalar.divsi v27 c2_i32
  let c1_i32_27 : BitVec 32 := 1#32
  let v43 : BitVec 32 := Scalar.subi v28 c1_i32_27
  let v44 : BitVec 32 := Scalar.select v42 v43 v28
  let v45 : BitVec 32 := Scalar.muli c2_i32_28 v44
  let c1_i32_104 : BitVec 32 := 1#32
  let v175 : BitVec 32 := Scalar.addi v45 c1_i32_104
  let c1_i32_214 : BitVec 32 := 1#32
  let v390 : BitVec 32 := Scalar.addi v175 c1_i32_214
  let c512_i32_215 : BitVec 32 := 512#32
  let v391 : BitVec 32 := Scalar.muli v390 c512_i32_215
  v391
def k0_off46 (i : grid0.Coords) : Fin 2 → Nat :=
  let c2_i32_28 : BitVec 32 := 2#32
  let arg2 : BitVec 32 := BitVec.ofNat 32 (i 2).val
  let c1_i32_20 : BitVec 32 := 1#32
  let v26 : BitVec 32 := Scalar.subi arg2 c1_i32_20
  let c0_i32_21 : BitVec 32 := 0#32
  let v27 : BitVec 32 := Scalar.maxsi v26 c0_i32_21
  let c0_i32_22 : BitVec 32 := 0#32
  let v29 : BitVec 1 := Scalar.cmpi .sgt v27 c0_i32_22
  let v30 : BitVec 32 := Scalar.extui v29
  let c0_i32_23 : BitVec 32 := 0#32
  let v31 : BitVec 1 := Scalar.cmpi .slt v27 c0_i32_23
  let v32 : BitVec 32 := Scalar.extui v31
  let v33 : BitVec 32 := Scalar.subi v30 v32
  let c2_i32 : BitVec 32 := 2#32
  let c0_i32_24 : BitVec 32 := 0#32
  let v34 : BitVec 1 := Scalar.cmpi .sgt c2_i32 c0_i32_24
  let v35 : BitVec 32 := Scalar.extui v34
  let c0_i32_25 : BitVec 32 := 0#32
  let v36 : BitVec 1 := Scalar.cmpi .slt c2_i32 c0_i32_25
  let v37 : BitVec 32 := Scalar.extui v36
  let v38 : BitVec 32 := Scalar.subi v35 v37
  let v39 : BitVec 1 := Scalar.cmpi .ne v33 v38
  let v40 : BitVec 32 := Scalar.remsi v27 c2_i32
  let c0_i32_26 : BitVec 32 := 0#32
  let v41 : BitVec 1 := Scalar.cmpi .ne v40 c0_i32_26
  let v42 : BitVec 1 := Scalar.andi v39 v41
  let v28 : BitVec 32 := Scalar.divsi v27 c2_i32
  let c1_i32_27 : BitVec 32 := 1#32
  let v43 : BitVec 32 := Scalar.subi v28 c1_i32_27
  let v44 : BitVec 32 := Scalar.select v42 v43 v28
  let v45 : BitVec 32 := Scalar.muli c2_i32_28 v44
  let c1_i32_104 : BitVec 32 := 1#32
  let v175 : BitVec 32 := Scalar.addi v45 c1_i32_104
  let c1_i32_214 : BitVec 32 := 1#32
  let v390 : BitVec 32 := Scalar.addi v175 c1_i32_214
  let c512_i32_215 : BitVec 32 := 512#32
  let v391 : BitVec 32 := Scalar.muli v390 c512_i32_215
  let v392 : BitVec 32 := v391
  let v393 : Index := Scalar.indexCast v392
  let c256_216 : Index := 256#32
  ![v393.toNat, 256]
def k0_off47 (i : grid0.Coords) : Fin 3 → Nat :=
  let c2_i32_28 : BitVec 32 := 2#32
  let arg2 : BitVec 32 := BitVec.ofNat 32 (i 2).val
  let c1_i32_20 : BitVec 32 := 1#32
  let v26 : BitVec 32 := Scalar.subi arg2 c1_i32_20
  let c0_i32_21 : BitVec 32 := 0#32
  let v27 : BitVec 32 := Scalar.maxsi v26 c0_i32_21
  let c0_i32_22 : BitVec 32 := 0#32
  let v29 : BitVec 1 := Scalar.cmpi .sgt v27 c0_i32_22
  let v30 : BitVec 32 := Scalar.extui v29
  let c0_i32_23 : BitVec 32 := 0#32
  let v31 : BitVec 1 := Scalar.cmpi .slt v27 c0_i32_23
  let v32 : BitVec 32 := Scalar.extui v31
  let v33 : BitVec 32 := Scalar.subi v30 v32
  let c2_i32 : BitVec 32 := 2#32
  let c0_i32_24 : BitVec 32 := 0#32
  let v34 : BitVec 1 := Scalar.cmpi .sgt c2_i32 c0_i32_24
  let v35 : BitVec 32 := Scalar.extui v34
  let c0_i32_25 : BitVec 32 := 0#32
  let v36 : BitVec 1 := Scalar.cmpi .slt c2_i32 c0_i32_25
  let v37 : BitVec 32 := Scalar.extui v36
  let v38 : BitVec 32 := Scalar.subi v35 v37
  let v39 : BitVec 1 := Scalar.cmpi .ne v33 v38
  let v40 : BitVec 32 := Scalar.remsi v27 c2_i32
  let c0_i32_26 : BitVec 32 := 0#32
  let v41 : BitVec 1 := Scalar.cmpi .ne v40 c0_i32_26
  let v42 : BitVec 1 := Scalar.andi v39 v41
  let v28 : BitVec 32 := Scalar.divsi v27 c2_i32
  let c1_i32_27 : BitVec 32 := 1#32
  let v43 : BitVec 32 := Scalar.subi v28 c1_i32_27
  let v44 : BitVec 32 := Scalar.select v42 v43 v28
  let v45 : BitVec 32 := Scalar.muli c2_i32_28 v44
  let c1_i32_104 : BitVec 32 := 1#32
  let v175 : BitVec 32 := Scalar.addi v45 c1_i32_104
  let v464 : Index := Scalar.indexCast v175
  let c256_246 : Index := 256#32
  let c0_247 : Index := 0#32
  ![v464.toNat, 256, 0]
def k0_mult48 (i : grid0.Coords) : BitVec 32 :=
  let c2_i32_28 : BitVec 32 := 2#32
  let arg2 : BitVec 32 := BitVec.ofNat 32 (i 2).val
  let c1_i32_20 : BitVec 32 := 1#32
  let v26 : BitVec 32 := Scalar.subi arg2 c1_i32_20
  let c0_i32_21 : BitVec 32 := 0#32
  let v27 : BitVec 32 := Scalar.maxsi v26 c0_i32_21
  let c0_i32_22 : BitVec 32 := 0#32
  let v29 : BitVec 1 := Scalar.cmpi .sgt v27 c0_i32_22
  let v30 : BitVec 32 := Scalar.extui v29
  let c0_i32_23 : BitVec 32 := 0#32
  let v31 : BitVec 1 := Scalar.cmpi .slt v27 c0_i32_23
  let v32 : BitVec 32 := Scalar.extui v31
  let v33 : BitVec 32 := Scalar.subi v30 v32
  let c2_i32 : BitVec 32 := 2#32
  let c0_i32_24 : BitVec 32 := 0#32
  let v34 : BitVec 1 := Scalar.cmpi .sgt c2_i32 c0_i32_24
  let v35 : BitVec 32 := Scalar.extui v34
  let c0_i32_25 : BitVec 32 := 0#32
  let v36 : BitVec 1 := Scalar.cmpi .slt c2_i32 c0_i32_25
  let v37 : BitVec 32 := Scalar.extui v36
  let v38 : BitVec 32 := Scalar.subi v35 v37
  let v39 : BitVec 1 := Scalar.cmpi .ne v33 v38
  let v40 : BitVec 32 := Scalar.remsi v27 c2_i32
  let c0_i32_26 : BitVec 32 := 0#32
  let v41 : BitVec 1 := Scalar.cmpi .ne v40 c0_i32_26
  let v42 : BitVec 1 := Scalar.andi v39 v41
  let v28 : BitVec 32 := Scalar.divsi v27 c2_i32
  let c1_i32_27 : BitVec 32 := 1#32
  let v43 : BitVec 32 := Scalar.subi v28 c1_i32_27
  let v44 : BitVec 32 := Scalar.select v42 v43 v28
  let v45 : BitVec 32 := Scalar.muli c2_i32_28 v44
  let c1_i32_104 : BitVec 32 := 1#32
  let v175 : BitVec 32 := Scalar.addi v45 c1_i32_104
  let c1_i32_268 : BitVec 32 := 1#32
  let v497 : BitVec 32 := Scalar.addi v175 c1_i32_268
  let c512_i32_269 : BitVec 32 := 512#32
  let v498 : BitVec 32 := Scalar.muli v497 c512_i32_269
  v498
def k0_off48 (i : grid0.Coords) : Fin 2 → Nat :=
  let c2_i32_28 : BitVec 32 := 2#32
  let arg2 : BitVec 32 := BitVec.ofNat 32 (i 2).val
  let c1_i32_20 : BitVec 32 := 1#32
  let v26 : BitVec 32 := Scalar.subi arg2 c1_i32_20
  let c0_i32_21 : BitVec 32 := 0#32
  let v27 : BitVec 32 := Scalar.maxsi v26 c0_i32_21
  let c0_i32_22 : BitVec 32 := 0#32
  let v29 : BitVec 1 := Scalar.cmpi .sgt v27 c0_i32_22
  let v30 : BitVec 32 := Scalar.extui v29
  let c0_i32_23 : BitVec 32 := 0#32
  let v31 : BitVec 1 := Scalar.cmpi .slt v27 c0_i32_23
  let v32 : BitVec 32 := Scalar.extui v31
  let v33 : BitVec 32 := Scalar.subi v30 v32
  let c2_i32 : BitVec 32 := 2#32
  let c0_i32_24 : BitVec 32 := 0#32
  let v34 : BitVec 1 := Scalar.cmpi .sgt c2_i32 c0_i32_24
  let v35 : BitVec 32 := Scalar.extui v34
  let c0_i32_25 : BitVec 32 := 0#32
  let v36 : BitVec 1 := Scalar.cmpi .slt c2_i32 c0_i32_25
  let v37 : BitVec 32 := Scalar.extui v36
  let v38 : BitVec 32 := Scalar.subi v35 v37
  let v39 : BitVec 1 := Scalar.cmpi .ne v33 v38
  let v40 : BitVec 32 := Scalar.remsi v27 c2_i32
  let c0_i32_26 : BitVec 32 := 0#32
  let v41 : BitVec 1 := Scalar.cmpi .ne v40 c0_i32_26
  let v42 : BitVec 1 := Scalar.andi v39 v41
  let v28 : BitVec 32 := Scalar.divsi v27 c2_i32
  let c1_i32_27 : BitVec 32 := 1#32
  let v43 : BitVec 32 := Scalar.subi v28 c1_i32_27
  let v44 : BitVec 32 := Scalar.select v42 v43 v28
  let v45 : BitVec 32 := Scalar.muli c2_i32_28 v44
  let c1_i32_104 : BitVec 32 := 1#32
  let v175 : BitVec 32 := Scalar.addi v45 c1_i32_104
  let c1_i32_268 : BitVec 32 := 1#32
  let v497 : BitVec 32 := Scalar.addi v175 c1_i32_268
  let c512_i32_269 : BitVec 32 := 512#32
  let v498 : BitVec 32 := Scalar.muli v497 c512_i32_269
  let v499 : BitVec 32 := v498
  let v500 : Index := Scalar.indexCast v499
  let c384 : Index := 384#32
  ![v500.toNat, 384]
@[reducible] def k0_t11_loop (i : grid0.Coords) : Scf.Loop 32 :=
  let c0_i32_49 : BitVec 32 := 0#32
  let arg2 : BitVec 32 := BitVec.ofNat 32 (i 2).val
  let c0_i32_36 : BitVec 32 := 0#32
  let v55 : BitVec 1 := Scalar.cmpi .sgt arg2 c0_i32_36
  let c2_i32_28 : BitVec 32 := 2#32
  let c1_i32_20 : BitVec 32 := 1#32
  let v26 : BitVec 32 := Scalar.subi arg2 c1_i32_20
  let c0_i32_21 : BitVec 32 := 0#32
  let v27 : BitVec 32 := Scalar.maxsi v26 c0_i32_21
  let c0_i32_22 : BitVec 32 := 0#32
  let v29 : BitVec 1 := Scalar.cmpi .sgt v27 c0_i32_22
  let v30 : BitVec 32 := Scalar.extui v29
  let c0_i32_23 : BitVec 32 := 0#32
  let v31 : BitVec 1 := Scalar.cmpi .slt v27 c0_i32_23
  let v32 : BitVec 32 := Scalar.extui v31
  let v33 : BitVec 32 := Scalar.subi v30 v32
  let c2_i32 : BitVec 32 := 2#32
  let c0_i32_24 : BitVec 32 := 0#32
  let v34 : BitVec 1 := Scalar.cmpi .sgt c2_i32 c0_i32_24
  let v35 : BitVec 32 := Scalar.extui v34
  let c0_i32_25 : BitVec 32 := 0#32
  let v36 : BitVec 1 := Scalar.cmpi .slt c2_i32 c0_i32_25
  let v37 : BitVec 32 := Scalar.extui v36
  let v38 : BitVec 32 := Scalar.subi v35 v37
  let v39 : BitVec 1 := Scalar.cmpi .ne v33 v38
  let v40 : BitVec 32 := Scalar.remsi v27 c2_i32
  let c0_i32_26 : BitVec 32 := 0#32
  let v41 : BitVec 1 := Scalar.cmpi .ne v40 c0_i32_26
  let v42 : BitVec 1 := Scalar.andi v39 v41
  let v28 : BitVec 32 := Scalar.divsi v27 c2_i32
  let c1_i32_27 : BitVec 32 := 1#32
  let v43 : BitVec 32 := Scalar.subi v28 c1_i32_27
  let v44 : BitVec 32 := Scalar.select v42 v43 v28
  let v45 : BitVec 32 := Scalar.muli c2_i32_28 v44
  let v56 : BitVec 32 := Scalar.subi arg2 v45
  let c1_i32_37 : BitVec 32 := 1#32
  let v57 : BitVec 1 := Scalar.cmpi .eq v56 c1_i32_37
  let v58 : BitVec 1 := Scalar.andi v55 v57
  let v71 : BitVec 32 := Scalar.extui v58
  let v72 : BitVec 32 := Scalar.subi v71 c0_i32_49
  let c1_i32_50 : BitVec 32 := 1#32
  let v74 : BitVec 32 := Scalar.divsi v72 c1_i32_50
  let v75 : BitVec 32 := Scalar.muli v74 c1_i32_50
  let v76 : BitVec 32 := Scalar.addi c0_i32_49 v75
  let c1_i32_51 : BitVec 32 := 1#32
  ⟨c0_i32_49, v76, c1_i32_51⟩
def k0_mult49 (i : grid0.Coords) : BitVec 32 :=
  let c2_i32_28 : BitVec 32 := 2#32
  let arg2 : BitVec 32 := BitVec.ofNat 32 (i 2).val
  let c1_i32_20 : BitVec 32 := 1#32
  let v26 : BitVec 32 := Scalar.subi arg2 c1_i32_20
  let c0_i32_21 : BitVec 32 := 0#32
  let v27 : BitVec 32 := Scalar.maxsi v26 c0_i32_21
  let c0_i32_22 : BitVec 32 := 0#32
  let v29 : BitVec 1 := Scalar.cmpi .sgt v27 c0_i32_22
  let v30 : BitVec 32 := Scalar.extui v29
  let c0_i32_23 : BitVec 32 := 0#32
  let v31 : BitVec 1 := Scalar.cmpi .slt v27 c0_i32_23
  let v32 : BitVec 32 := Scalar.extui v31
  let v33 : BitVec 32 := Scalar.subi v30 v32
  let c2_i32 : BitVec 32 := 2#32
  let c0_i32_24 : BitVec 32 := 0#32
  let v34 : BitVec 1 := Scalar.cmpi .sgt c2_i32 c0_i32_24
  let v35 : BitVec 32 := Scalar.extui v34
  let c0_i32_25 : BitVec 32 := 0#32
  let v36 : BitVec 1 := Scalar.cmpi .slt c2_i32 c0_i32_25
  let v37 : BitVec 32 := Scalar.extui v36
  let v38 : BitVec 32 := Scalar.subi v35 v37
  let v39 : BitVec 1 := Scalar.cmpi .ne v33 v38
  let v40 : BitVec 32 := Scalar.remsi v27 c2_i32
  let c0_i32_26 : BitVec 32 := 0#32
  let v41 : BitVec 1 := Scalar.cmpi .ne v40 c0_i32_26
  let v42 : BitVec 1 := Scalar.andi v39 v41
  let v28 : BitVec 32 := Scalar.divsi v27 c2_i32
  let c1_i32_27 : BitVec 32 := 1#32
  let v43 : BitVec 32 := Scalar.subi v28 c1_i32_27
  let v44 : BitVec 32 := Scalar.select v42 v43 v28
  let v45 : BitVec 32 := Scalar.muli c2_i32_28 v44
  let c1_i32_104 : BitVec 32 := 1#32
  let v175 : BitVec 32 := Scalar.addi v45 c1_i32_104
  let c512_i32 : BitVec 32 := 512#32
  let v176 : BitVec 32 := Scalar.muli v175 c512_i32
  v176
def k0_off49 (i : grid0.Coords) : Fin 2 → Nat :=
  let c2_i32_28 : BitVec 32 := 2#32
  let arg2 : BitVec 32 := BitVec.ofNat 32 (i 2).val
  let c1_i32_20 : BitVec 32 := 1#32
  let v26 : BitVec 32 := Scalar.subi arg2 c1_i32_20
  let c0_i32_21 : BitVec 32 := 0#32
  let v27 : BitVec 32 := Scalar.maxsi v26 c0_i32_21
  let c0_i32_22 : BitVec 32 := 0#32
  let v29 : BitVec 1 := Scalar.cmpi .sgt v27 c0_i32_22
  let v30 : BitVec 32 := Scalar.extui v29
  let c0_i32_23 : BitVec 32 := 0#32
  let v31 : BitVec 1 := Scalar.cmpi .slt v27 c0_i32_23
  let v32 : BitVec 32 := Scalar.extui v31
  let v33 : BitVec 32 := Scalar.subi v30 v32
  let c2_i32 : BitVec 32 := 2#32
  let c0_i32_24 : BitVec 32 := 0#32
  let v34 : BitVec 1 := Scalar.cmpi .sgt c2_i32 c0_i32_24
  let v35 : BitVec 32 := Scalar.extui v34
  let c0_i32_25 : BitVec 32 := 0#32
  let v36 : BitVec 1 := Scalar.cmpi .slt c2_i32 c0_i32_25
  let v37 : BitVec 32 := Scalar.extui v36
  let v38 : BitVec 32 := Scalar.subi v35 v37
  let v39 : BitVec 1 := Scalar.cmpi .ne v33 v38
  let v40 : BitVec 32 := Scalar.remsi v27 c2_i32
  let c0_i32_26 : BitVec 32 := 0#32
  let v41 : BitVec 1 := Scalar.cmpi .ne v40 c0_i32_26
  let v42 : BitVec 1 := Scalar.andi v39 v41
  let v28 : BitVec 32 := Scalar.divsi v27 c2_i32
  let c1_i32_27 : BitVec 32 := 1#32
  let v43 : BitVec 32 := Scalar.subi v28 c1_i32_27
  let v44 : BitVec 32 := Scalar.select v42 v43 v28
  let v45 : BitVec 32 := Scalar.muli c2_i32_28 v44
  let c1_i32_104 : BitVec 32 := 1#32
  let v175 : BitVec 32 := Scalar.addi v45 c1_i32_104
  let c512_i32 : BitVec 32 := 512#32
  let v176 : BitVec 32 := Scalar.muli v175 c512_i32
  let v177 : BitVec 32 := v176
  let v178 : Index := Scalar.indexCast v177
  let c0_105 : Index := 0#32
  ![v178.toNat, 0]
def k0_off50 (i : grid0.Coords) : Fin 3 → Nat :=
  let c2_i32_28 : BitVec 32 := 2#32
  let arg2 : BitVec 32 := BitVec.ofNat 32 (i 2).val
  let c1_i32_20 : BitVec 32 := 1#32
  let v26 : BitVec 32 := Scalar.subi arg2 c1_i32_20
  let c0_i32_21 : BitVec 32 := 0#32
  let v27 : BitVec 32 := Scalar.maxsi v26 c0_i32_21
  let c0_i32_22 : BitVec 32 := 0#32
  let v29 : BitVec 1 := Scalar.cmpi .sgt v27 c0_i32_22
  let v30 : BitVec 32 := Scalar.extui v29
  let c0_i32_23 : BitVec 32 := 0#32
  let v31 : BitVec 1 := Scalar.cmpi .slt v27 c0_i32_23
  let v32 : BitVec 32 := Scalar.extui v31
  let v33 : BitVec 32 := Scalar.subi v30 v32
  let c2_i32 : BitVec 32 := 2#32
  let c0_i32_24 : BitVec 32 := 0#32
  let v34 : BitVec 1 := Scalar.cmpi .sgt c2_i32 c0_i32_24
  let v35 : BitVec 32 := Scalar.extui v34
  let c0_i32_25 : BitVec 32 := 0#32
  let v36 : BitVec 1 := Scalar.cmpi .slt c2_i32 c0_i32_25
  let v37 : BitVec 32 := Scalar.extui v36
  let v38 : BitVec 32 := Scalar.subi v35 v37
  let v39 : BitVec 1 := Scalar.cmpi .ne v33 v38
  let v40 : BitVec 32 := Scalar.remsi v27 c2_i32
  let c0_i32_26 : BitVec 32 := 0#32
  let v41 : BitVec 1 := Scalar.cmpi .ne v40 c0_i32_26
  let v42 : BitVec 1 := Scalar.andi v39 v41
  let v28 : BitVec 32 := Scalar.divsi v27 c2_i32
  let c1_i32_27 : BitVec 32 := 1#32
  let v43 : BitVec 32 := Scalar.subi v28 c1_i32_27
  let v44 : BitVec 32 := Scalar.select v42 v43 v28
  let v45 : BitVec 32 := Scalar.muli c2_i32_28 v44
  let v249 : Index := Scalar.indexCast v45
  let c0_136 : Index := 0#32
  let c0_137 : Index := 0#32
  ![v249.toNat, 0, 0]
def k0_mult50 (i : grid0.Coords) : BitVec 32 :=
  let c2_i32_28 : BitVec 32 := 2#32
  let arg2 : BitVec 32 := BitVec.ofNat 32 (i 2).val
  let c1_i32_20 : BitVec 32 := 1#32
  let v26 : BitVec 32 := Scalar.subi arg2 c1_i32_20
  let c0_i32_21 : BitVec 32 := 0#32
  let v27 : BitVec 32 := Scalar.maxsi v26 c0_i32_21
  let c0_i32_22 : BitVec 32 := 0#32
  let v29 : BitVec 1 := Scalar.cmpi .sgt v27 c0_i32_22
  let v30 : BitVec 32 := Scalar.extui v29
  let c0_i32_23 : BitVec 32 := 0#32
  let v31 : BitVec 1 := Scalar.cmpi .slt v27 c0_i32_23
  let v32 : BitVec 32 := Scalar.extui v31
  let v33 : BitVec 32 := Scalar.subi v30 v32
  let c2_i32 : BitVec 32 := 2#32
  let c0_i32_24 : BitVec 32 := 0#32
  let v34 : BitVec 1 := Scalar.cmpi .sgt c2_i32 c0_i32_24
  let v35 : BitVec 32 := Scalar.extui v34
  let c0_i32_25 : BitVec 32 := 0#32
  let v36 : BitVec 1 := Scalar.cmpi .slt c2_i32 c0_i32_25
  let v37 : BitVec 32 := Scalar.extui v36
  let v38 : BitVec 32 := Scalar.subi v35 v37
  let v39 : BitVec 1 := Scalar.cmpi .ne v33 v38
  let v40 : BitVec 32 := Scalar.remsi v27 c2_i32
  let c0_i32_26 : BitVec 32 := 0#32
  let v41 : BitVec 1 := Scalar.cmpi .ne v40 c0_i32_26
  let v42 : BitVec 1 := Scalar.andi v39 v41
  let v28 : BitVec 32 := Scalar.divsi v27 c2_i32
  let c1_i32_27 : BitVec 32 := 1#32
  let v43 : BitVec 32 := Scalar.subi v28 c1_i32_27
  let v44 : BitVec 32 := Scalar.select v42 v43 v28
  let v45 : BitVec 32 := Scalar.muli c2_i32_28 v44
  let c1_i32_158 : BitVec 32 := 1#32
  let v282 : BitVec 32 := Scalar.addi v45 c1_i32_158
  let c512_i32_159 : BitVec 32 := 512#32
  let v283 : BitVec 32 := Scalar.muli v282 c512_i32_159
  v283
def k0_off51 (i : grid0.Coords) : Fin 2 → Nat :=
  let c2_i32_28 : BitVec 32 := 2#32
  let arg2 : BitVec 32 := BitVec.ofNat 32 (i 2).val
  let c1_i32_20 : BitVec 32 := 1#32
  let v26 : BitVec 32 := Scalar.subi arg2 c1_i32_20
  let c0_i32_21 : BitVec 32 := 0#32
  let v27 : BitVec 32 := Scalar.maxsi v26 c0_i32_21
  let c0_i32_22 : BitVec 32 := 0#32
  let v29 : BitVec 1 := Scalar.cmpi .sgt v27 c0_i32_22
  let v30 : BitVec 32 := Scalar.extui v29
  let c0_i32_23 : BitVec 32 := 0#32
  let v31 : BitVec 1 := Scalar.cmpi .slt v27 c0_i32_23
  let v32 : BitVec 32 := Scalar.extui v31
  let v33 : BitVec 32 := Scalar.subi v30 v32
  let c2_i32 : BitVec 32 := 2#32
  let c0_i32_24 : BitVec 32 := 0#32
  let v34 : BitVec 1 := Scalar.cmpi .sgt c2_i32 c0_i32_24
  let v35 : BitVec 32 := Scalar.extui v34
  let c0_i32_25 : BitVec 32 := 0#32
  let v36 : BitVec 1 := Scalar.cmpi .slt c2_i32 c0_i32_25
  let v37 : BitVec 32 := Scalar.extui v36
  let v38 : BitVec 32 := Scalar.subi v35 v37
  let v39 : BitVec 1 := Scalar.cmpi .ne v33 v38
  let v40 : BitVec 32 := Scalar.remsi v27 c2_i32
  let c0_i32_26 : BitVec 32 := 0#32
  let v41 : BitVec 1 := Scalar.cmpi .ne v40 c0_i32_26
  let v42 : BitVec 1 := Scalar.andi v39 v41
  let v28 : BitVec 32 := Scalar.divsi v27 c2_i32
  let c1_i32_27 : BitVec 32 := 1#32
  let v43 : BitVec 32 := Scalar.subi v28 c1_i32_27
  let v44 : BitVec 32 := Scalar.select v42 v43 v28
  let v45 : BitVec 32 := Scalar.muli c2_i32_28 v44
  let c1_i32_158 : BitVec 32 := 1#32
  let v282 : BitVec 32 := Scalar.addi v45 c1_i32_158
  let c512_i32_159 : BitVec 32 := 512#32
  let v283 : BitVec 32 := Scalar.muli v282 c512_i32_159
  let v284 : BitVec 32 := v283
  let v285 : Index := Scalar.indexCast v284
  let c128 : Index := 128#32
  ![v285.toNat, 128]
def k0_mult51 (i : grid0.Coords) : BitVec 32 :=
  let c2_i32_28 : BitVec 32 := 2#32
  let arg2 : BitVec 32 := BitVec.ofNat 32 (i 2).val
  let c1_i32_20 : BitVec 32 := 1#32
  let v26 : BitVec 32 := Scalar.subi arg2 c1_i32_20
  let c0_i32_21 : BitVec 32 := 0#32
  let v27 : BitVec 32 := Scalar.maxsi v26 c0_i32_21
  let c0_i32_22 : BitVec 32 := 0#32
  let v29 : BitVec 1 := Scalar.cmpi .sgt v27 c0_i32_22
  let v30 : BitVec 32 := Scalar.extui v29
  let c0_i32_23 : BitVec 32 := 0#32
  let v31 : BitVec 1 := Scalar.cmpi .slt v27 c0_i32_23
  let v32 : BitVec 32 := Scalar.extui v31
  let v33 : BitVec 32 := Scalar.subi v30 v32
  let c2_i32 : BitVec 32 := 2#32
  let c0_i32_24 : BitVec 32 := 0#32
  let v34 : BitVec 1 := Scalar.cmpi .sgt c2_i32 c0_i32_24
  let v35 : BitVec 32 := Scalar.extui v34
  let c0_i32_25 : BitVec 32 := 0#32
  let v36 : BitVec 1 := Scalar.cmpi .slt c2_i32 c0_i32_25
  let v37 : BitVec 32 := Scalar.extui v36
  let v38 : BitVec 32 := Scalar.subi v35 v37
  let v39 : BitVec 1 := Scalar.cmpi .ne v33 v38
  let v40 : BitVec 32 := Scalar.remsi v27 c2_i32
  let c0_i32_26 : BitVec 32 := 0#32
  let v41 : BitVec 1 := Scalar.cmpi .ne v40 c0_i32_26
  let v42 : BitVec 1 := Scalar.andi v39 v41
  let v28 : BitVec 32 := Scalar.divsi v27 c2_i32
  let c1_i32_27 : BitVec 32 := 1#32
  let v43 : BitVec 32 := Scalar.subi v28 c1_i32_27
  let v44 : BitVec 32 := Scalar.select v42 v43 v28
  let v45 : BitVec 32 := Scalar.muli c2_i32_28 v44
  let c1_i32_213 : BitVec 32 := 1#32
  let v389 : BitVec 32 := Scalar.addi v45 c1_i32_213
  let c512_i32_214 : BitVec 32 := 512#32
  let v390 : BitVec 32 := Scalar.muli v389 c512_i32_214
  v390
def k0_off52 (i : grid0.Coords) : Fin 2 → Nat :=
  let c2_i32_28 : BitVec 32 := 2#32
  let arg2 : BitVec 32 := BitVec.ofNat 32 (i 2).val
  let c1_i32_20 : BitVec 32 := 1#32
  let v26 : BitVec 32 := Scalar.subi arg2 c1_i32_20
  let c0_i32_21 : BitVec 32 := 0#32
  let v27 : BitVec 32 := Scalar.maxsi v26 c0_i32_21
  let c0_i32_22 : BitVec 32 := 0#32
  let v29 : BitVec 1 := Scalar.cmpi .sgt v27 c0_i32_22
  let v30 : BitVec 32 := Scalar.extui v29
  let c0_i32_23 : BitVec 32 := 0#32
  let v31 : BitVec 1 := Scalar.cmpi .slt v27 c0_i32_23
  let v32 : BitVec 32 := Scalar.extui v31
  let v33 : BitVec 32 := Scalar.subi v30 v32
  let c2_i32 : BitVec 32 := 2#32
  let c0_i32_24 : BitVec 32 := 0#32
  let v34 : BitVec 1 := Scalar.cmpi .sgt c2_i32 c0_i32_24
  let v35 : BitVec 32 := Scalar.extui v34
  let c0_i32_25 : BitVec 32 := 0#32
  let v36 : BitVec 1 := Scalar.cmpi .slt c2_i32 c0_i32_25
  let v37 : BitVec 32 := Scalar.extui v36
  let v38 : BitVec 32 := Scalar.subi v35 v37
  let v39 : BitVec 1 := Scalar.cmpi .ne v33 v38
  let v40 : BitVec 32 := Scalar.remsi v27 c2_i32
  let c0_i32_26 : BitVec 32 := 0#32
  let v41 : BitVec 1 := Scalar.cmpi .ne v40 c0_i32_26
  let v42 : BitVec 1 := Scalar.andi v39 v41
  let v28 : BitVec 32 := Scalar.divsi v27 c2_i32
  let c1_i32_27 : BitVec 32 := 1#32
  let v43 : BitVec 32 := Scalar.subi v28 c1_i32_27
  let v44 : BitVec 32 := Scalar.select v42 v43 v28
  let v45 : BitVec 32 := Scalar.muli c2_i32_28 v44
  let c1_i32_213 : BitVec 32 := 1#32
  let v389 : BitVec 32 := Scalar.addi v45 c1_i32_213
  let c512_i32_214 : BitVec 32 := 512#32
  let v390 : BitVec 32 := Scalar.muli v389 c512_i32_214
  let v391 : BitVec 32 := v390
  let v392 : Index := Scalar.indexCast v391
  let c256_215 : Index := 256#32
  ![v392.toNat, 256]
def k0_off53 (i : grid0.Coords) : Fin 3 → Nat :=
  let c2_i32_28 : BitVec 32 := 2#32
  let arg2 : BitVec 32 := BitVec.ofNat 32 (i 2).val
  let c1_i32_20 : BitVec 32 := 1#32
  let v26 : BitVec 32 := Scalar.subi arg2 c1_i32_20
  let c0_i32_21 : BitVec 32 := 0#32
  let v27 : BitVec 32 := Scalar.maxsi v26 c0_i32_21
  let c0_i32_22 : BitVec 32 := 0#32
  let v29 : BitVec 1 := Scalar.cmpi .sgt v27 c0_i32_22
  let v30 : BitVec 32 := Scalar.extui v29
  let c0_i32_23 : BitVec 32 := 0#32
  let v31 : BitVec 1 := Scalar.cmpi .slt v27 c0_i32_23
  let v32 : BitVec 32 := Scalar.extui v31
  let v33 : BitVec 32 := Scalar.subi v30 v32
  let c2_i32 : BitVec 32 := 2#32
  let c0_i32_24 : BitVec 32 := 0#32
  let v34 : BitVec 1 := Scalar.cmpi .sgt c2_i32 c0_i32_24
  let v35 : BitVec 32 := Scalar.extui v34
  let c0_i32_25 : BitVec 32 := 0#32
  let v36 : BitVec 1 := Scalar.cmpi .slt c2_i32 c0_i32_25
  let v37 : BitVec 32 := Scalar.extui v36
  let v38 : BitVec 32 := Scalar.subi v35 v37
  let v39 : BitVec 1 := Scalar.cmpi .ne v33 v38
  let v40 : BitVec 32 := Scalar.remsi v27 c2_i32
  let c0_i32_26 : BitVec 32 := 0#32
  let v41 : BitVec 1 := Scalar.cmpi .ne v40 c0_i32_26
  let v42 : BitVec 1 := Scalar.andi v39 v41
  let v28 : BitVec 32 := Scalar.divsi v27 c2_i32
  let c1_i32_27 : BitVec 32 := 1#32
  let v43 : BitVec 32 := Scalar.subi v28 c1_i32_27
  let v44 : BitVec 32 := Scalar.select v42 v43 v28
  let v45 : BitVec 32 := Scalar.muli c2_i32_28 v44
  let v463 : Index := Scalar.indexCast v45
  let c256_245 : Index := 256#32
  let c0_246 : Index := 0#32
  ![v463.toNat, 256, 0]
def k0_mult52 (i : grid0.Coords) : BitVec 32 :=
  let c2_i32_28 : BitVec 32 := 2#32
  let arg2 : BitVec 32 := BitVec.ofNat 32 (i 2).val
  let c1_i32_20 : BitVec 32 := 1#32
  let v26 : BitVec 32 := Scalar.subi arg2 c1_i32_20
  let c0_i32_21 : BitVec 32 := 0#32
  let v27 : BitVec 32 := Scalar.maxsi v26 c0_i32_21
  let c0_i32_22 : BitVec 32 := 0#32
  let v29 : BitVec 1 := Scalar.cmpi .sgt v27 c0_i32_22
  let v30 : BitVec 32 := Scalar.extui v29
  let c0_i32_23 : BitVec 32 := 0#32
  let v31 : BitVec 1 := Scalar.cmpi .slt v27 c0_i32_23
  let v32 : BitVec 32 := Scalar.extui v31
  let v33 : BitVec 32 := Scalar.subi v30 v32
  let c2_i32 : BitVec 32 := 2#32
  let c0_i32_24 : BitVec 32 := 0#32
  let v34 : BitVec 1 := Scalar.cmpi .sgt c2_i32 c0_i32_24
  let v35 : BitVec 32 := Scalar.extui v34
  let c0_i32_25 : BitVec 32 := 0#32
  let v36 : BitVec 1 := Scalar.cmpi .slt c2_i32 c0_i32_25
  let v37 : BitVec 32 := Scalar.extui v36
  let v38 : BitVec 32 := Scalar.subi v35 v37
  let v39 : BitVec 1 := Scalar.cmpi .ne v33 v38
  let v40 : BitVec 32 := Scalar.remsi v27 c2_i32
  let c0_i32_26 : BitVec 32 := 0#32
  let v41 : BitVec 1 := Scalar.cmpi .ne v40 c0_i32_26
  let v42 : BitVec 1 := Scalar.andi v39 v41
  let v28 : BitVec 32 := Scalar.divsi v27 c2_i32
  let c1_i32_27 : BitVec 32 := 1#32
  let v43 : BitVec 32 := Scalar.subi v28 c1_i32_27
  let v44 : BitVec 32 := Scalar.select v42 v43 v28
  let v45 : BitVec 32 := Scalar.muli c2_i32_28 v44
  let c1_i32_267 : BitVec 32 := 1#32
  let v496 : BitVec 32 := Scalar.addi v45 c1_i32_267
  let c512_i32_268 : BitVec 32 := 512#32
  let v497 : BitVec 32 := Scalar.muli v496 c512_i32_268
  v497
def k0_off54 (i : grid0.Coords) : Fin 2 → Nat :=
  let c2_i32_28 : BitVec 32 := 2#32
  let arg2 : BitVec 32 := BitVec.ofNat 32 (i 2).val
  let c1_i32_20 : BitVec 32 := 1#32
  let v26 : BitVec 32 := Scalar.subi arg2 c1_i32_20
  let c0_i32_21 : BitVec 32 := 0#32
  let v27 : BitVec 32 := Scalar.maxsi v26 c0_i32_21
  let c0_i32_22 : BitVec 32 := 0#32
  let v29 : BitVec 1 := Scalar.cmpi .sgt v27 c0_i32_22
  let v30 : BitVec 32 := Scalar.extui v29
  let c0_i32_23 : BitVec 32 := 0#32
  let v31 : BitVec 1 := Scalar.cmpi .slt v27 c0_i32_23
  let v32 : BitVec 32 := Scalar.extui v31
  let v33 : BitVec 32 := Scalar.subi v30 v32
  let c2_i32 : BitVec 32 := 2#32
  let c0_i32_24 : BitVec 32 := 0#32
  let v34 : BitVec 1 := Scalar.cmpi .sgt c2_i32 c0_i32_24
  let v35 : BitVec 32 := Scalar.extui v34
  let c0_i32_25 : BitVec 32 := 0#32
  let v36 : BitVec 1 := Scalar.cmpi .slt c2_i32 c0_i32_25
  let v37 : BitVec 32 := Scalar.extui v36
  let v38 : BitVec 32 := Scalar.subi v35 v37
  let v39 : BitVec 1 := Scalar.cmpi .ne v33 v38
  let v40 : BitVec 32 := Scalar.remsi v27 c2_i32
  let c0_i32_26 : BitVec 32 := 0#32
  let v41 : BitVec 1 := Scalar.cmpi .ne v40 c0_i32_26
  let v42 : BitVec 1 := Scalar.andi v39 v41
  let v28 : BitVec 32 := Scalar.divsi v27 c2_i32
  let c1_i32_27 : BitVec 32 := 1#32
  let v43 : BitVec 32 := Scalar.subi v28 c1_i32_27
  let v44 : BitVec 32 := Scalar.select v42 v43 v28
  let v45 : BitVec 32 := Scalar.muli c2_i32_28 v44
  let c1_i32_267 : BitVec 32 := 1#32
  let v496 : BitVec 32 := Scalar.addi v45 c1_i32_267
  let c512_i32_268 : BitVec 32 := 512#32
  let v497 : BitVec 32 := Scalar.muli v496 c512_i32_268
  let v498 : BitVec 32 := v497
  let v499 : Index := Scalar.indexCast v498
  let c384 : Index := 384#32
  ![v499.toNat, 384]
@[reducible] def k0_t12_loop (i : grid0.Coords) : Scf.Loop 32 :=
  let c0_i32_49 : BitVec 32 := 0#32
  let arg2 : BitVec 32 := BitVec.ofNat 32 (i 2).val
  let c0_i32_36 : BitVec 32 := 0#32
  let v55 : BitVec 1 := Scalar.cmpi .sgt arg2 c0_i32_36
  let c2_i32_28 : BitVec 32 := 2#32
  let c1_i32_20 : BitVec 32 := 1#32
  let v26 : BitVec 32 := Scalar.subi arg2 c1_i32_20
  let c0_i32_21 : BitVec 32 := 0#32
  let v27 : BitVec 32 := Scalar.maxsi v26 c0_i32_21
  let c0_i32_22 : BitVec 32 := 0#32
  let v29 : BitVec 1 := Scalar.cmpi .sgt v27 c0_i32_22
  let v30 : BitVec 32 := Scalar.extui v29
  let c0_i32_23 : BitVec 32 := 0#32
  let v31 : BitVec 1 := Scalar.cmpi .slt v27 c0_i32_23
  let v32 : BitVec 32 := Scalar.extui v31
  let v33 : BitVec 32 := Scalar.subi v30 v32
  let c2_i32 : BitVec 32 := 2#32
  let c0_i32_24 : BitVec 32 := 0#32
  let v34 : BitVec 1 := Scalar.cmpi .sgt c2_i32 c0_i32_24
  let v35 : BitVec 32 := Scalar.extui v34
  let c0_i32_25 : BitVec 32 := 0#32
  let v36 : BitVec 1 := Scalar.cmpi .slt c2_i32 c0_i32_25
  let v37 : BitVec 32 := Scalar.extui v36
  let v38 : BitVec 32 := Scalar.subi v35 v37
  let v39 : BitVec 1 := Scalar.cmpi .ne v33 v38
  let v40 : BitVec 32 := Scalar.remsi v27 c2_i32
  let c0_i32_26 : BitVec 32 := 0#32
  let v41 : BitVec 1 := Scalar.cmpi .ne v40 c0_i32_26
  let v42 : BitVec 1 := Scalar.andi v39 v41
  let v28 : BitVec 32 := Scalar.divsi v27 c2_i32
  let c1_i32_27 : BitVec 32 := 1#32
  let v43 : BitVec 32 := Scalar.subi v28 c1_i32_27
  let v44 : BitVec 32 := Scalar.select v42 v43 v28
  let v45 : BitVec 32 := Scalar.muli c2_i32_28 v44
  let v56 : BitVec 32 := Scalar.subi arg2 v45
  let c1_i32_37 : BitVec 32 := 1#32
  let v57 : BitVec 1 := Scalar.cmpi .eq v56 c1_i32_37
  let v58 : BitVec 1 := Scalar.andi v55 v57
  let v71 : BitVec 32 := Scalar.extui v58
  let v72 : BitVec 32 := Scalar.subi v71 c0_i32_49
  let c1_i32_50 : BitVec 32 := 1#32
  let v74 : BitVec 32 := Scalar.divsi v72 c1_i32_50
  let v75 : BitVec 32 := Scalar.muli v74 c1_i32_50
  let v76 : BitVec 32 := Scalar.addi c0_i32_49 v75
  let v73 : BitVec 32 := Scalar.addi c0_i32_49 v72
  let c1_i32_52 : BitVec 32 := 1#32
  ⟨v76, v73, c1_i32_52⟩
def k0_mult53 (i : grid0.Coords) : BitVec 32 :=
  let c2_i32_28 : BitVec 32 := 2#32
  let arg2 : BitVec 32 := BitVec.ofNat 32 (i 2).val
  let c1_i32_20 : BitVec 32 := 1#32
  let v26 : BitVec 32 := Scalar.subi arg2 c1_i32_20
  let c0_i32_21 : BitVec 32 := 0#32
  let v27 : BitVec 32 := Scalar.maxsi v26 c0_i32_21
  let c0_i32_22 : BitVec 32 := 0#32
  let v29 : BitVec 1 := Scalar.cmpi .sgt v27 c0_i32_22
  let v30 : BitVec 32 := Scalar.extui v29
  let c0_i32_23 : BitVec 32 := 0#32
  let v31 : BitVec 1 := Scalar.cmpi .slt v27 c0_i32_23
  let v32 : BitVec 32 := Scalar.extui v31
  let v33 : BitVec 32 := Scalar.subi v30 v32
  let c2_i32 : BitVec 32 := 2#32
  let c0_i32_24 : BitVec 32 := 0#32
  let v34 : BitVec 1 := Scalar.cmpi .sgt c2_i32 c0_i32_24
  let v35 : BitVec 32 := Scalar.extui v34
  let c0_i32_25 : BitVec 32 := 0#32
  let v36 : BitVec 1 := Scalar.cmpi .slt c2_i32 c0_i32_25
  let v37 : BitVec 32 := Scalar.extui v36
  let v38 : BitVec 32 := Scalar.subi v35 v37
  let v39 : BitVec 1 := Scalar.cmpi .ne v33 v38
  let v40 : BitVec 32 := Scalar.remsi v27 c2_i32
  let c0_i32_26 : BitVec 32 := 0#32
  let v41 : BitVec 1 := Scalar.cmpi .ne v40 c0_i32_26
  let v42 : BitVec 1 := Scalar.andi v39 v41
  let v28 : BitVec 32 := Scalar.divsi v27 c2_i32
  let c1_i32_27 : BitVec 32 := 1#32
  let v43 : BitVec 32 := Scalar.subi v28 c1_i32_27
  let v44 : BitVec 32 := Scalar.select v42 v43 v28
  let v45 : BitVec 32 := Scalar.muli c2_i32_28 v44
  let c1_i32_104 : BitVec 32 := 1#32
  let v175 : BitVec 32 := Scalar.addi v45 c1_i32_104
  let c512_i32 : BitVec 32 := 512#32
  let v176 : BitVec 32 := Scalar.muli v175 c512_i32
  v176
def k0_off55 (i : grid0.Coords) : Fin 2 → Nat :=
  let c2_i32_28 : BitVec 32 := 2#32
  let arg2 : BitVec 32 := BitVec.ofNat 32 (i 2).val
  let c1_i32_20 : BitVec 32 := 1#32
  let v26 : BitVec 32 := Scalar.subi arg2 c1_i32_20
  let c0_i32_21 : BitVec 32 := 0#32
  let v27 : BitVec 32 := Scalar.maxsi v26 c0_i32_21
  let c0_i32_22 : BitVec 32 := 0#32
  let v29 : BitVec 1 := Scalar.cmpi .sgt v27 c0_i32_22
  let v30 : BitVec 32 := Scalar.extui v29
  let c0_i32_23 : BitVec 32 := 0#32
  let v31 : BitVec 1 := Scalar.cmpi .slt v27 c0_i32_23
  let v32 : BitVec 32 := Scalar.extui v31
  let v33 : BitVec 32 := Scalar.subi v30 v32
  let c2_i32 : BitVec 32 := 2#32
  let c0_i32_24 : BitVec 32 := 0#32
  let v34 : BitVec 1 := Scalar.cmpi .sgt c2_i32 c0_i32_24
  let v35 : BitVec 32 := Scalar.extui v34
  let c0_i32_25 : BitVec 32 := 0#32
  let v36 : BitVec 1 := Scalar.cmpi .slt c2_i32 c0_i32_25
  let v37 : BitVec 32 := Scalar.extui v36
  let v38 : BitVec 32 := Scalar.subi v35 v37
  let v39 : BitVec 1 := Scalar.cmpi .ne v33 v38
  let v40 : BitVec 32 := Scalar.remsi v27 c2_i32
  let c0_i32_26 : BitVec 32 := 0#32
  let v41 : BitVec 1 := Scalar.cmpi .ne v40 c0_i32_26
  let v42 : BitVec 1 := Scalar.andi v39 v41
  let v28 : BitVec 32 := Scalar.divsi v27 c2_i32
  let c1_i32_27 : BitVec 32 := 1#32
  let v43 : BitVec 32 := Scalar.subi v28 c1_i32_27
  let v44 : BitVec 32 := Scalar.select v42 v43 v28
  let v45 : BitVec 32 := Scalar.muli c2_i32_28 v44
  let c1_i32_104 : BitVec 32 := 1#32
  let v175 : BitVec 32 := Scalar.addi v45 c1_i32_104
  let c512_i32 : BitVec 32 := 512#32
  let v176 : BitVec 32 := Scalar.muli v175 c512_i32
  let v177 : BitVec 32 := v176
  let v178 : Index := Scalar.indexCast v177
  let c0_105 : Index := 0#32
  ![v178.toNat, 0]
def k0_off56 (i : grid0.Coords) : Fin 3 → Nat :=
  let c2_i32_28 : BitVec 32 := 2#32
  let arg2 : BitVec 32 := BitVec.ofNat 32 (i 2).val
  let c1_i32_20 : BitVec 32 := 1#32
  let v26 : BitVec 32 := Scalar.subi arg2 c1_i32_20
  let c0_i32_21 : BitVec 32 := 0#32
  let v27 : BitVec 32 := Scalar.maxsi v26 c0_i32_21
  let c0_i32_22 : BitVec 32 := 0#32
  let v29 : BitVec 1 := Scalar.cmpi .sgt v27 c0_i32_22
  let v30 : BitVec 32 := Scalar.extui v29
  let c0_i32_23 : BitVec 32 := 0#32
  let v31 : BitVec 1 := Scalar.cmpi .slt v27 c0_i32_23
  let v32 : BitVec 32 := Scalar.extui v31
  let v33 : BitVec 32 := Scalar.subi v30 v32
  let c2_i32 : BitVec 32 := 2#32
  let c0_i32_24 : BitVec 32 := 0#32
  let v34 : BitVec 1 := Scalar.cmpi .sgt c2_i32 c0_i32_24
  let v35 : BitVec 32 := Scalar.extui v34
  let c0_i32_25 : BitVec 32 := 0#32
  let v36 : BitVec 1 := Scalar.cmpi .slt c2_i32 c0_i32_25
  let v37 : BitVec 32 := Scalar.extui v36
  let v38 : BitVec 32 := Scalar.subi v35 v37
  let v39 : BitVec 1 := Scalar.cmpi .ne v33 v38
  let v40 : BitVec 32 := Scalar.remsi v27 c2_i32
  let c0_i32_26 : BitVec 32 := 0#32
  let v41 : BitVec 1 := Scalar.cmpi .ne v40 c0_i32_26
  let v42 : BitVec 1 := Scalar.andi v39 v41
  let v28 : BitVec 32 := Scalar.divsi v27 c2_i32
  let c1_i32_27 : BitVec 32 := 1#32
  let v43 : BitVec 32 := Scalar.subi v28 c1_i32_27
  let v44 : BitVec 32 := Scalar.select v42 v43 v28
  let v45 : BitVec 32 := Scalar.muli c2_i32_28 v44
  let v249 : Index := Scalar.indexCast v45
  let c0_136 : Index := 0#32
  let c0_137 : Index := 0#32
  ![v249.toNat, 0, 0]
def k0_mult54 (i : grid0.Coords) : BitVec 32 :=
  let c2_i32_28 : BitVec 32 := 2#32
  let arg2 : BitVec 32 := BitVec.ofNat 32 (i 2).val
  let c1_i32_20 : BitVec 32 := 1#32
  let v26 : BitVec 32 := Scalar.subi arg2 c1_i32_20
  let c0_i32_21 : BitVec 32 := 0#32
  let v27 : BitVec 32 := Scalar.maxsi v26 c0_i32_21
  let c0_i32_22 : BitVec 32 := 0#32
  let v29 : BitVec 1 := Scalar.cmpi .sgt v27 c0_i32_22
  let v30 : BitVec 32 := Scalar.extui v29
  let c0_i32_23 : BitVec 32 := 0#32
  let v31 : BitVec 1 := Scalar.cmpi .slt v27 c0_i32_23
  let v32 : BitVec 32 := Scalar.extui v31
  let v33 : BitVec 32 := Scalar.subi v30 v32
  let c2_i32 : BitVec 32 := 2#32
  let c0_i32_24 : BitVec 32 := 0#32
  let v34 : BitVec 1 := Scalar.cmpi .sgt c2_i32 c0_i32_24
  let v35 : BitVec 32 := Scalar.extui v34
  let c0_i32_25 : BitVec 32 := 0#32
  let v36 : BitVec 1 := Scalar.cmpi .slt c2_i32 c0_i32_25
  let v37 : BitVec 32 := Scalar.extui v36
  let v38 : BitVec 32 := Scalar.subi v35 v37
  let v39 : BitVec 1 := Scalar.cmpi .ne v33 v38
  let v40 : BitVec 32 := Scalar.remsi v27 c2_i32
  let c0_i32_26 : BitVec 32 := 0#32
  let v41 : BitVec 1 := Scalar.cmpi .ne v40 c0_i32_26
  let v42 : BitVec 1 := Scalar.andi v39 v41
  let v28 : BitVec 32 := Scalar.divsi v27 c2_i32
  let c1_i32_27 : BitVec 32 := 1#32
  let v43 : BitVec 32 := Scalar.subi v28 c1_i32_27
  let v44 : BitVec 32 := Scalar.select v42 v43 v28
  let v45 : BitVec 32 := Scalar.muli c2_i32_28 v44
  let c1_i32_158 : BitVec 32 := 1#32
  let v282 : BitVec 32 := Scalar.addi v45 c1_i32_158
  let c512_i32_159 : BitVec 32 := 512#32
  let v283 : BitVec 32 := Scalar.muli v282 c512_i32_159
  v283
def k0_off57 (i : grid0.Coords) : Fin 2 → Nat :=
  let c2_i32_28 : BitVec 32 := 2#32
  let arg2 : BitVec 32 := BitVec.ofNat 32 (i 2).val
  let c1_i32_20 : BitVec 32 := 1#32
  let v26 : BitVec 32 := Scalar.subi arg2 c1_i32_20
  let c0_i32_21 : BitVec 32 := 0#32
  let v27 : BitVec 32 := Scalar.maxsi v26 c0_i32_21
  let c0_i32_22 : BitVec 32 := 0#32
  let v29 : BitVec 1 := Scalar.cmpi .sgt v27 c0_i32_22
  let v30 : BitVec 32 := Scalar.extui v29
  let c0_i32_23 : BitVec 32 := 0#32
  let v31 : BitVec 1 := Scalar.cmpi .slt v27 c0_i32_23
  let v32 : BitVec 32 := Scalar.extui v31
  let v33 : BitVec 32 := Scalar.subi v30 v32
  let c2_i32 : BitVec 32 := 2#32
  let c0_i32_24 : BitVec 32 := 0#32
  let v34 : BitVec 1 := Scalar.cmpi .sgt c2_i32 c0_i32_24
  let v35 : BitVec 32 := Scalar.extui v34
  let c0_i32_25 : BitVec 32 := 0#32
  let v36 : BitVec 1 := Scalar.cmpi .slt c2_i32 c0_i32_25
  let v37 : BitVec 32 := Scalar.extui v36
  let v38 : BitVec 32 := Scalar.subi v35 v37
  let v39 : BitVec 1 := Scalar.cmpi .ne v33 v38
  let v40 : BitVec 32 := Scalar.remsi v27 c2_i32
  let c0_i32_26 : BitVec 32 := 0#32
  let v41 : BitVec 1 := Scalar.cmpi .ne v40 c0_i32_26
  let v42 : BitVec 1 := Scalar.andi v39 v41
  let v28 : BitVec 32 := Scalar.divsi v27 c2_i32
  let c1_i32_27 : BitVec 32 := 1#32
  let v43 : BitVec 32 := Scalar.subi v28 c1_i32_27
  let v44 : BitVec 32 := Scalar.select v42 v43 v28
  let v45 : BitVec 32 := Scalar.muli c2_i32_28 v44
  let c1_i32_158 : BitVec 32 := 1#32
  let v282 : BitVec 32 := Scalar.addi v45 c1_i32_158
  let c512_i32_159 : BitVec 32 := 512#32
  let v283 : BitVec 32 := Scalar.muli v282 c512_i32_159
  let v284 : BitVec 32 := v283
  let v285 : Index := Scalar.indexCast v284
  let c128 : Index := 128#32
  ![v285.toNat, 128]
def k0_mult55 (i : grid0.Coords) : BitVec 32 :=
  let c2_i32_28 : BitVec 32 := 2#32
  let arg2 : BitVec 32 := BitVec.ofNat 32 (i 2).val
  let c1_i32_20 : BitVec 32 := 1#32
  let v26 : BitVec 32 := Scalar.subi arg2 c1_i32_20
  let c0_i32_21 : BitVec 32 := 0#32
  let v27 : BitVec 32 := Scalar.maxsi v26 c0_i32_21
  let c0_i32_22 : BitVec 32 := 0#32
  let v29 : BitVec 1 := Scalar.cmpi .sgt v27 c0_i32_22
  let v30 : BitVec 32 := Scalar.extui v29
  let c0_i32_23 : BitVec 32 := 0#32
  let v31 : BitVec 1 := Scalar.cmpi .slt v27 c0_i32_23
  let v32 : BitVec 32 := Scalar.extui v31
  let v33 : BitVec 32 := Scalar.subi v30 v32
  let c2_i32 : BitVec 32 := 2#32
  let c0_i32_24 : BitVec 32 := 0#32
  let v34 : BitVec 1 := Scalar.cmpi .sgt c2_i32 c0_i32_24
  let v35 : BitVec 32 := Scalar.extui v34
  let c0_i32_25 : BitVec 32 := 0#32
  let v36 : BitVec 1 := Scalar.cmpi .slt c2_i32 c0_i32_25
  let v37 : BitVec 32 := Scalar.extui v36
  let v38 : BitVec 32 := Scalar.subi v35 v37
  let v39 : BitVec 1 := Scalar.cmpi .ne v33 v38
  let v40 : BitVec 32 := Scalar.remsi v27 c2_i32
  let c0_i32_26 : BitVec 32 := 0#32
  let v41 : BitVec 1 := Scalar.cmpi .ne v40 c0_i32_26
  let v42 : BitVec 1 := Scalar.andi v39 v41
  let v28 : BitVec 32 := Scalar.divsi v27 c2_i32
  let c1_i32_27 : BitVec 32 := 1#32
  let v43 : BitVec 32 := Scalar.subi v28 c1_i32_27
  let v44 : BitVec 32 := Scalar.select v42 v43 v28
  let v45 : BitVec 32 := Scalar.muli c2_i32_28 v44
  let c1_i32_213 : BitVec 32 := 1#32
  let v389 : BitVec 32 := Scalar.addi v45 c1_i32_213
  let c512_i32_214 : BitVec 32 := 512#32
  let v390 : BitVec 32 := Scalar.muli v389 c512_i32_214
  v390
def k0_off58 (i : grid0.Coords) : Fin 2 → Nat :=
  let c2_i32_28 : BitVec 32 := 2#32
  let arg2 : BitVec 32 := BitVec.ofNat 32 (i 2).val
  let c1_i32_20 : BitVec 32 := 1#32
  let v26 : BitVec 32 := Scalar.subi arg2 c1_i32_20
  let c0_i32_21 : BitVec 32 := 0#32
  let v27 : BitVec 32 := Scalar.maxsi v26 c0_i32_21
  let c0_i32_22 : BitVec 32 := 0#32
  let v29 : BitVec 1 := Scalar.cmpi .sgt v27 c0_i32_22
  let v30 : BitVec 32 := Scalar.extui v29
  let c0_i32_23 : BitVec 32 := 0#32
  let v31 : BitVec 1 := Scalar.cmpi .slt v27 c0_i32_23
  let v32 : BitVec 32 := Scalar.extui v31
  let v33 : BitVec 32 := Scalar.subi v30 v32
  let c2_i32 : BitVec 32 := 2#32
  let c0_i32_24 : BitVec 32 := 0#32
  let v34 : BitVec 1 := Scalar.cmpi .sgt c2_i32 c0_i32_24
  let v35 : BitVec 32 := Scalar.extui v34
  let c0_i32_25 : BitVec 32 := 0#32
  let v36 : BitVec 1 := Scalar.cmpi .slt c2_i32 c0_i32_25
  let v37 : BitVec 32 := Scalar.extui v36
  let v38 : BitVec 32 := Scalar.subi v35 v37
  let v39 : BitVec 1 := Scalar.cmpi .ne v33 v38
  let v40 : BitVec 32 := Scalar.remsi v27 c2_i32
  let c0_i32_26 : BitVec 32 := 0#32
  let v41 : BitVec 1 := Scalar.cmpi .ne v40 c0_i32_26
  let v42 : BitVec 1 := Scalar.andi v39 v41
  let v28 : BitVec 32 := Scalar.divsi v27 c2_i32
  let c1_i32_27 : BitVec 32 := 1#32
  let v43 : BitVec 32 := Scalar.subi v28 c1_i32_27
  let v44 : BitVec 32 := Scalar.select v42 v43 v28
  let v45 : BitVec 32 := Scalar.muli c2_i32_28 v44
  let c1_i32_213 : BitVec 32 := 1#32
  let v389 : BitVec 32 := Scalar.addi v45 c1_i32_213
  let c512_i32_214 : BitVec 32 := 512#32
  let v390 : BitVec 32 := Scalar.muli v389 c512_i32_214
  let v391 : BitVec 32 := v390
  let v392 : Index := Scalar.indexCast v391
  let c256_215 : Index := 256#32
  ![v392.toNat, 256]
def k0_off59 (i : grid0.Coords) : Fin 3 → Nat :=
  let c2_i32_28 : BitVec 32 := 2#32
  let arg2 : BitVec 32 := BitVec.ofNat 32 (i 2).val
  let c1_i32_20 : BitVec 32 := 1#32
  let v26 : BitVec 32 := Scalar.subi arg2 c1_i32_20
  let c0_i32_21 : BitVec 32 := 0#32
  let v27 : BitVec 32 := Scalar.maxsi v26 c0_i32_21
  let c0_i32_22 : BitVec 32 := 0#32
  let v29 : BitVec 1 := Scalar.cmpi .sgt v27 c0_i32_22
  let v30 : BitVec 32 := Scalar.extui v29
  let c0_i32_23 : BitVec 32 := 0#32
  let v31 : BitVec 1 := Scalar.cmpi .slt v27 c0_i32_23
  let v32 : BitVec 32 := Scalar.extui v31
  let v33 : BitVec 32 := Scalar.subi v30 v32
  let c2_i32 : BitVec 32 := 2#32
  let c0_i32_24 : BitVec 32 := 0#32
  let v34 : BitVec 1 := Scalar.cmpi .sgt c2_i32 c0_i32_24
  let v35 : BitVec 32 := Scalar.extui v34
  let c0_i32_25 : BitVec 32 := 0#32
  let v36 : BitVec 1 := Scalar.cmpi .slt c2_i32 c0_i32_25
  let v37 : BitVec 32 := Scalar.extui v36
  let v38 : BitVec 32 := Scalar.subi v35 v37
  let v39 : BitVec 1 := Scalar.cmpi .ne v33 v38
  let v40 : BitVec 32 := Scalar.remsi v27 c2_i32
  let c0_i32_26 : BitVec 32 := 0#32
  let v41 : BitVec 1 := Scalar.cmpi .ne v40 c0_i32_26
  let v42 : BitVec 1 := Scalar.andi v39 v41
  let v28 : BitVec 32 := Scalar.divsi v27 c2_i32
  let c1_i32_27 : BitVec 32 := 1#32
  let v43 : BitVec 32 := Scalar.subi v28 c1_i32_27
  let v44 : BitVec 32 := Scalar.select v42 v43 v28
  let v45 : BitVec 32 := Scalar.muli c2_i32_28 v44
  let v463 : Index := Scalar.indexCast v45
  let c256_245 : Index := 256#32
  let c0_246 : Index := 0#32
  ![v463.toNat, 256, 0]
def k0_mult56 (i : grid0.Coords) : BitVec 32 :=
  let c2_i32_28 : BitVec 32 := 2#32
  let arg2 : BitVec 32 := BitVec.ofNat 32 (i 2).val
  let c1_i32_20 : BitVec 32 := 1#32
  let v26 : BitVec 32 := Scalar.subi arg2 c1_i32_20
  let c0_i32_21 : BitVec 32 := 0#32
  let v27 : BitVec 32 := Scalar.maxsi v26 c0_i32_21
  let c0_i32_22 : BitVec 32 := 0#32
  let v29 : BitVec 1 := Scalar.cmpi .sgt v27 c0_i32_22
  let v30 : BitVec 32 := Scalar.extui v29
  let c0_i32_23 : BitVec 32 := 0#32
  let v31 : BitVec 1 := Scalar.cmpi .slt v27 c0_i32_23
  let v32 : BitVec 32 := Scalar.extui v31
  let v33 : BitVec 32 := Scalar.subi v30 v32
  let c2_i32 : BitVec 32 := 2#32
  let c0_i32_24 : BitVec 32 := 0#32
  let v34 : BitVec 1 := Scalar.cmpi .sgt c2_i32 c0_i32_24
  let v35 : BitVec 32 := Scalar.extui v34
  let c0_i32_25 : BitVec 32 := 0#32
  let v36 : BitVec 1 := Scalar.cmpi .slt c2_i32 c0_i32_25
  let v37 : BitVec 32 := Scalar.extui v36
  let v38 : BitVec 32 := Scalar.subi v35 v37
  let v39 : BitVec 1 := Scalar.cmpi .ne v33 v38
  let v40 : BitVec 32 := Scalar.remsi v27 c2_i32
  let c0_i32_26 : BitVec 32 := 0#32
  let v41 : BitVec 1 := Scalar.cmpi .ne v40 c0_i32_26
  let v42 : BitVec 1 := Scalar.andi v39 v41
  let v28 : BitVec 32 := Scalar.divsi v27 c2_i32
  let c1_i32_27 : BitVec 32 := 1#32
  let v43 : BitVec 32 := Scalar.subi v28 c1_i32_27
  let v44 : BitVec 32 := Scalar.select v42 v43 v28
  let v45 : BitVec 32 := Scalar.muli c2_i32_28 v44
  let c1_i32_267 : BitVec 32 := 1#32
  let v496 : BitVec 32 := Scalar.addi v45 c1_i32_267
  let c512_i32_268 : BitVec 32 := 512#32
  let v497 : BitVec 32 := Scalar.muli v496 c512_i32_268
  v497
def k0_off60 (i : grid0.Coords) : Fin 2 → Nat :=
  let c2_i32_28 : BitVec 32 := 2#32
  let arg2 : BitVec 32 := BitVec.ofNat 32 (i 2).val
  let c1_i32_20 : BitVec 32 := 1#32
  let v26 : BitVec 32 := Scalar.subi arg2 c1_i32_20
  let c0_i32_21 : BitVec 32 := 0#32
  let v27 : BitVec 32 := Scalar.maxsi v26 c0_i32_21
  let c0_i32_22 : BitVec 32 := 0#32
  let v29 : BitVec 1 := Scalar.cmpi .sgt v27 c0_i32_22
  let v30 : BitVec 32 := Scalar.extui v29
  let c0_i32_23 : BitVec 32 := 0#32
  let v31 : BitVec 1 := Scalar.cmpi .slt v27 c0_i32_23
  let v32 : BitVec 32 := Scalar.extui v31
  let v33 : BitVec 32 := Scalar.subi v30 v32
  let c2_i32 : BitVec 32 := 2#32
  let c0_i32_24 : BitVec 32 := 0#32
  let v34 : BitVec 1 := Scalar.cmpi .sgt c2_i32 c0_i32_24
  let v35 : BitVec 32 := Scalar.extui v34
  let c0_i32_25 : BitVec 32 := 0#32
  let v36 : BitVec 1 := Scalar.cmpi .slt c2_i32 c0_i32_25
  let v37 : BitVec 32 := Scalar.extui v36
  let v38 : BitVec 32 := Scalar.subi v35 v37
  let v39 : BitVec 1 := Scalar.cmpi .ne v33 v38
  let v40 : BitVec 32 := Scalar.remsi v27 c2_i32
  let c0_i32_26 : BitVec 32 := 0#32
  let v41 : BitVec 1 := Scalar.cmpi .ne v40 c0_i32_26
  let v42 : BitVec 1 := Scalar.andi v39 v41
  let v28 : BitVec 32 := Scalar.divsi v27 c2_i32
  let c1_i32_27 : BitVec 32 := 1#32
  let v43 : BitVec 32 := Scalar.subi v28 c1_i32_27
  let v44 : BitVec 32 := Scalar.select v42 v43 v28
  let v45 : BitVec 32 := Scalar.muli c2_i32_28 v44
  let c1_i32_267 : BitVec 32 := 1#32
  let v496 : BitVec 32 := Scalar.addi v45 c1_i32_267
  let c512_i32_268 : BitVec 32 := 512#32
  let v497 : BitVec 32 := Scalar.muli v496 c512_i32_268
  let v498 : BitVec 32 := v497
  let v499 : Index := Scalar.indexCast v498
  let c384 : Index := 384#32
  ![v499.toNat, 384]
@[reducible] def k0_t13_loop (i : grid0.Coords) : Scf.Loop 32 :=
  let c0_i32_54 : BitVec 32 := 0#32
  let arg2 : BitVec 32 := BitVec.ofNat 32 (i 2).val
  let c0_i32_36 : BitVec 32 := 0#32
  let v55 : BitVec 1 := Scalar.cmpi .sgt arg2 c0_i32_36
  let c2_i32_28 : BitVec 32 := 2#32
  let c1_i32_20 : BitVec 32 := 1#32
  let v26 : BitVec 32 := Scalar.subi arg2 c1_i32_20
  let c0_i32_21 : BitVec 32 := 0#32
  let v27 : BitVec 32 := Scalar.maxsi v26 c0_i32_21
  let c0_i32_22 : BitVec 32 := 0#32
  let v29 : BitVec 1 := Scalar.cmpi .sgt v27 c0_i32_22
  let v30 : BitVec 32 := Scalar.extui v29
  let c0_i32_23 : BitVec 32 := 0#32
  let v31 : BitVec 1 := Scalar.cmpi .slt v27 c0_i32_23
  let v32 : BitVec 32 := Scalar.extui v31
  let v33 : BitVec 32 := Scalar.subi v30 v32
  let c2_i32 : BitVec 32 := 2#32
  let c0_i32_24 : BitVec 32 := 0#32
  let v34 : BitVec 1 := Scalar.cmpi .sgt c2_i32 c0_i32_24
  let v35 : BitVec 32 := Scalar.extui v34
  let c0_i32_25 : BitVec 32 := 0#32
  let v36 : BitVec 1 := Scalar.cmpi .slt c2_i32 c0_i32_25
  let v37 : BitVec 32 := Scalar.extui v36
  let v38 : BitVec 32 := Scalar.subi v35 v37
  let v39 : BitVec 1 := Scalar.cmpi .ne v33 v38
  let v40 : BitVec 32 := Scalar.remsi v27 c2_i32
  let c0_i32_26 : BitVec 32 := 0#32
  let v41 : BitVec 1 := Scalar.cmpi .ne v40 c0_i32_26
  let v42 : BitVec 1 := Scalar.andi v39 v41
  let v28 : BitVec 32 := Scalar.divsi v27 c2_i32
  let c1_i32_27 : BitVec 32 := 1#32
  let v43 : BitVec 32 := Scalar.subi v28 c1_i32_27
  let v44 : BitVec 32 := Scalar.select v42 v43 v28
  let v45 : BitVec 32 := Scalar.muli c2_i32_28 v44
  let v56 : BitVec 32 := Scalar.subi arg2 v45
  let c1_i32_37 : BitVec 32 := 1#32
  let v57 : BitVec 1 := Scalar.cmpi .eq v56 c1_i32_37
  let v58 : BitVec 1 := Scalar.andi v55 v57
  let v77 : BitVec 32 := Scalar.extui v58
  let v78 : BitVec 32 := Scalar.subi v77 c0_i32_54
  let c1_i32_55 : BitVec 32 := 1#32
  let v80 : BitVec 32 := Scalar.divsi v78 c1_i32_55
  let v81 : BitVec 32 := Scalar.muli v80 c1_i32_55
  let v82 : BitVec 32 := Scalar.addi c0_i32_54 v81
  let c1_i32_56 : BitVec 32 := 1#32
  ⟨c0_i32_54, v82, c1_i32_56⟩
def k0_off61 (i : grid0.Coords) : Fin 3 → Nat :=
  let arg2 : BitVec 32 := BitVec.ofNat 32 (i 2).val
  let v179 : Index := Scalar.indexCast arg2
  let c0_110 : Index := 0#32
  let c0_111 : Index := 0#32
  ![v179.toNat, 0, 0]
def k0_off62 (i : grid0.Coords) : Fin 3 → Nat :=
  let arg2 : BitVec 32 := BitVec.ofNat 32 (i 2).val
  let v253 : Index := Scalar.indexCast arg2
  let c256_165 : Index := 256#32
  let c0_166 : Index := 0#32
  ![v253.toNat, 256, 0]
@[reducible] def k0_t14_loop (i : grid0.Coords) : Scf.Loop 32 :=
  let c0_i32_54 : BitVec 32 := 0#32
  let arg2 : BitVec 32 := BitVec.ofNat 32 (i 2).val
  let c0_i32_36 : BitVec 32 := 0#32
  let v55 : BitVec 1 := Scalar.cmpi .sgt arg2 c0_i32_36
  let c2_i32_28 : BitVec 32 := 2#32
  let c1_i32_20 : BitVec 32 := 1#32
  let v26 : BitVec 32 := Scalar.subi arg2 c1_i32_20
  let c0_i32_21 : BitVec 32 := 0#32
  let v27 : BitVec 32 := Scalar.maxsi v26 c0_i32_21
  let c0_i32_22 : BitVec 32 := 0#32
  let v29 : BitVec 1 := Scalar.cmpi .sgt v27 c0_i32_22
  let v30 : BitVec 32 := Scalar.extui v29
  let c0_i32_23 : BitVec 32 := 0#32
  let v31 : BitVec 1 := Scalar.cmpi .slt v27 c0_i32_23
  let v32 : BitVec 32 := Scalar.extui v31
  let v33 : BitVec 32 := Scalar.subi v30 v32
  let c2_i32 : BitVec 32 := 2#32
  let c0_i32_24 : BitVec 32 := 0#32
  let v34 : BitVec 1 := Scalar.cmpi .sgt c2_i32 c0_i32_24
  let v35 : BitVec 32 := Scalar.extui v34
  let c0_i32_25 : BitVec 32 := 0#32
  let v36 : BitVec 1 := Scalar.cmpi .slt c2_i32 c0_i32_25
  let v37 : BitVec 32 := Scalar.extui v36
  let v38 : BitVec 32 := Scalar.subi v35 v37
  let v39 : BitVec 1 := Scalar.cmpi .ne v33 v38
  let v40 : BitVec 32 := Scalar.remsi v27 c2_i32
  let c0_i32_26 : BitVec 32 := 0#32
  let v41 : BitVec 1 := Scalar.cmpi .ne v40 c0_i32_26
  let v42 : BitVec 1 := Scalar.andi v39 v41
  let v28 : BitVec 32 := Scalar.divsi v27 c2_i32
  let c1_i32_27 : BitVec 32 := 1#32
  let v43 : BitVec 32 := Scalar.subi v28 c1_i32_27
  let v44 : BitVec 32 := Scalar.select v42 v43 v28
  let v45 : BitVec 32 := Scalar.muli c2_i32_28 v44
  let v56 : BitVec 32 := Scalar.subi arg2 v45
  let c1_i32_37 : BitVec 32 := 1#32
  let v57 : BitVec 1 := Scalar.cmpi .eq v56 c1_i32_37
  let v58 : BitVec 1 := Scalar.andi v55 v57
  let v77 : BitVec 32 := Scalar.extui v58
  let v78 : BitVec 32 := Scalar.subi v77 c0_i32_54
  let c1_i32_55 : BitVec 32 := 1#32
  let v80 : BitVec 32 := Scalar.divsi v78 c1_i32_55
  let v81 : BitVec 32 := Scalar.muli v80 c1_i32_55
  let v82 : BitVec 32 := Scalar.addi c0_i32_54 v81
  let v79 : BitVec 32 := Scalar.addi c0_i32_54 v78
  let c1_i32_57 : BitVec 32 := 1#32
  ⟨v82, v79, c1_i32_57⟩
def k0_off63 (i : grid0.Coords) : Fin 3 → Nat :=
  let arg2 : BitVec 32 := BitVec.ofNat 32 (i 2).val
  let v179 : Index := Scalar.indexCast arg2
  let c0_110 : Index := 0#32
  let c0_111 : Index := 0#32
  ![v179.toNat, 0, 0]
def k0_off64 (i : grid0.Coords) : Fin 3 → Nat :=
  let arg2 : BitVec 32 := BitVec.ofNat 32 (i 2).val
  let v253 : Index := Scalar.indexCast arg2
  let c256_165 : Index := 256#32
  let c0_166 : Index := 0#32
  ![v253.toNat, 256, 0]
@[reducible] def k0_t15_loop (i : grid0.Coords) : Scf.Loop 32 :=
  let c0_i32_59 : BitVec 32 := 0#32
  let arg2 : BitVec 32 := BitVec.ofNat 32 (i 2).val
  let c0_i32_36 : BitVec 32 := 0#32
  let v55 : BitVec 1 := Scalar.cmpi .sgt arg2 c0_i32_36
  let c2_i32_28 : BitVec 32 := 2#32
  let c1_i32_20 : BitVec 32 := 1#32
  let v26 : BitVec 32 := Scalar.subi arg2 c1_i32_20
  let c0_i32_21 : BitVec 32 := 0#32
  let v27 : BitVec 32 := Scalar.maxsi v26 c0_i32_21
  let c0_i32_22 : BitVec 32 := 0#32
  let v29 : BitVec 1 := Scalar.cmpi .sgt v27 c0_i32_22
  let v30 : BitVec 32 := Scalar.extui v29
  let c0_i32_23 : BitVec 32 := 0#32
  let v31 : BitVec 1 := Scalar.cmpi .slt v27 c0_i32_23
  let v32 : BitVec 32 := Scalar.extui v31
  let v33 : BitVec 32 := Scalar.subi v30 v32
  let c2_i32 : BitVec 32 := 2#32
  let c0_i32_24 : BitVec 32 := 0#32
  let v34 : BitVec 1 := Scalar.cmpi .sgt c2_i32 c0_i32_24
  let v35 : BitVec 32 := Scalar.extui v34
  let c0_i32_25 : BitVec 32 := 0#32
  let v36 : BitVec 1 := Scalar.cmpi .slt c2_i32 c0_i32_25
  let v37 : BitVec 32 := Scalar.extui v36
  let v38 : BitVec 32 := Scalar.subi v35 v37
  let v39 : BitVec 1 := Scalar.cmpi .ne v33 v38
  let v40 : BitVec 32 := Scalar.remsi v27 c2_i32
  let c0_i32_26 : BitVec 32 := 0#32
  let v41 : BitVec 1 := Scalar.cmpi .ne v40 c0_i32_26
  let v42 : BitVec 1 := Scalar.andi v39 v41
  let v28 : BitVec 32 := Scalar.divsi v27 c2_i32
  let c1_i32_27 : BitVec 32 := 1#32
  let v43 : BitVec 32 := Scalar.subi v28 c1_i32_27
  let v44 : BitVec 32 := Scalar.select v42 v43 v28
  let v45 : BitVec 32 := Scalar.muli c2_i32_28 v44
  let v56 : BitVec 32 := Scalar.subi arg2 v45
  let c1_i32_37 : BitVec 32 := 1#32
  let v57 : BitVec 1 := Scalar.cmpi .eq v56 c1_i32_37
  let v58 : BitVec 1 := Scalar.andi v55 v57
  let v_true : BitVec 1 := 1#1
  let v83 : BitVec 1 := Scalar.xori v58 v_true
  let v84 : BitVec 32 := Scalar.extui v83
  let v85 : BitVec 32 := Scalar.subi v84 c0_i32_59
  let c1_i32_60 : BitVec 32 := 1#32
  let v87 : BitVec 32 := Scalar.divsi v85 c1_i32_60
  let v88 : BitVec 32 := Scalar.muli v87 c1_i32_60
  let v89 : BitVec 32 := Scalar.addi c0_i32_59 v88
  let c1_i32_61 : BitVec 32 := 1#32
  ⟨c0_i32_59, v89, c1_i32_61⟩
def k0_off65 (i : grid0.Coords) : Fin 3 → Nat :=
  let arg2 : BitVec 32 := BitVec.ofNat 32 (i 2).val
  let v179 : Index := Scalar.indexCast arg2
  let c0_110 : Index := 0#32
  let c0_111 : Index := 0#32
  ![v179.toNat, 0, 0]
def k0_off66 (i : grid0.Coords) : Fin 3 → Nat :=
  let arg2 : BitVec 32 := BitVec.ofNat 32 (i 2).val
  let v253 : Index := Scalar.indexCast arg2
  let c256_165 : Index := 256#32
  let c0_166 : Index := 0#32
  ![v253.toNat, 256, 0]
@[reducible] def k0_t16_loop (i : grid0.Coords) : Scf.Loop 32 :=
  let c0_i32_59 : BitVec 32 := 0#32
  let arg2 : BitVec 32 := BitVec.ofNat 32 (i 2).val
  let c0_i32_36 : BitVec 32 := 0#32
  let v55 : BitVec 1 := Scalar.cmpi .sgt arg2 c0_i32_36
  let c2_i32_28 : BitVec 32 := 2#32
  let c1_i32_20 : BitVec 32 := 1#32
  let v26 : BitVec 32 := Scalar.subi arg2 c1_i32_20
  let c0_i32_21 : BitVec 32 := 0#32
  let v27 : BitVec 32 := Scalar.maxsi v26 c0_i32_21
  let c0_i32_22 : BitVec 32 := 0#32
  let v29 : BitVec 1 := Scalar.cmpi .sgt v27 c0_i32_22
  let v30 : BitVec 32 := Scalar.extui v29
  let c0_i32_23 : BitVec 32 := 0#32
  let v31 : BitVec 1 := Scalar.cmpi .slt v27 c0_i32_23
  let v32 : BitVec 32 := Scalar.extui v31
  let v33 : BitVec 32 := Scalar.subi v30 v32
  let c2_i32 : BitVec 32 := 2#32
  let c0_i32_24 : BitVec 32 := 0#32
  let v34 : BitVec 1 := Scalar.cmpi .sgt c2_i32 c0_i32_24
  let v35 : BitVec 32 := Scalar.extui v34
  let c0_i32_25 : BitVec 32 := 0#32
  let v36 : BitVec 1 := Scalar.cmpi .slt c2_i32 c0_i32_25
  let v37 : BitVec 32 := Scalar.extui v36
  let v38 : BitVec 32 := Scalar.subi v35 v37
  let v39 : BitVec 1 := Scalar.cmpi .ne v33 v38
  let v40 : BitVec 32 := Scalar.remsi v27 c2_i32
  let c0_i32_26 : BitVec 32 := 0#32
  let v41 : BitVec 1 := Scalar.cmpi .ne v40 c0_i32_26
  let v42 : BitVec 1 := Scalar.andi v39 v41
  let v28 : BitVec 32 := Scalar.divsi v27 c2_i32
  let c1_i32_27 : BitVec 32 := 1#32
  let v43 : BitVec 32 := Scalar.subi v28 c1_i32_27
  let v44 : BitVec 32 := Scalar.select v42 v43 v28
  let v45 : BitVec 32 := Scalar.muli c2_i32_28 v44
  let v56 : BitVec 32 := Scalar.subi arg2 v45
  let c1_i32_37 : BitVec 32 := 1#32
  let v57 : BitVec 1 := Scalar.cmpi .eq v56 c1_i32_37
  let v58 : BitVec 1 := Scalar.andi v55 v57
  let v_true : BitVec 1 := 1#1
  let v83 : BitVec 1 := Scalar.xori v58 v_true
  let v84 : BitVec 32 := Scalar.extui v83
  let v85 : BitVec 32 := Scalar.subi v84 c0_i32_59
  let c1_i32_60 : BitVec 32 := 1#32
  let v87 : BitVec 32 := Scalar.divsi v85 c1_i32_60
  let v88 : BitVec 32 := Scalar.muli v87 c1_i32_60
  let v89 : BitVec 32 := Scalar.addi c0_i32_59 v88
  let v86 : BitVec 32 := Scalar.addi c0_i32_59 v85
  let c1_i32_62 : BitVec 32 := 1#32
  ⟨v89, v86, c1_i32_62⟩
def k0_off67 (i : grid0.Coords) : Fin 3 → Nat :=
  let arg2 : BitVec 32 := BitVec.ofNat 32 (i 2).val
  let v179 : Index := Scalar.indexCast arg2
  let c0_110 : Index := 0#32
  let c0_111 : Index := 0#32
  ![v179.toNat, 0, 0]
def k0_off68 (i : grid0.Coords) : Fin 3 → Nat :=
  let arg2 : BitVec 32 := BitVec.ofNat 32 (i 2).val
  let v253 : Index := Scalar.indexCast arg2
  let c256_165 : Index := 256#32
  let c0_166 : Index := 0#32
  ![v253.toNat, 256, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S8x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S4x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S16384x2048 : Shape := ⟨2, ![16384, 2048]⟩
abbrev S1x4x128 : Shape := ⟨3, ![1, 4, 128]⟩
abbrev S1x256 : Shape := ⟨2, ![1, 256]⟩
abbrev S4x4096x8x2x128 : Shape := ⟨5, ![4, 4096, 8, 2, 128]⟩
abbrev S4x8x2x4096x128 : Shape := ⟨5, ![4, 8, 2, 4096, 128]⟩
abbrev S4x4096x8x256 : Shape := ⟨4, ![4, 4096, 8, 256]⟩
abbrev S4x8x4096x256 : Shape := ⟨4, ![4, 8, 4096, 256]⟩
abbrev S4x128 : Shape := ⟨2, ![4, 128]⟩
abbrev S1x128 : Shape := ⟨2, ![1, 128]⟩
abbrev S128 : Shape := ⟨1, ![128]⟩
abbrev S_ : Shape := ⟨0, ![]⟩
abbrev S4x8x2x4096x4096 : Shape := ⟨5, ![4, 8, 2, 4096, 4096]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S4x8x2x4096 : Shape := ⟨4, ![4, 8, 2, 4096]⟩
abbrev S4x8x2x4096x1 : Shape := ⟨5, ![4, 8, 2, 4096, 1]⟩
abbrev S4x8x1x4096x4096 : Shape := ⟨5, ![4, 8, 1, 4096, 4096]⟩
abbrev S4x8x4096x4096 : Shape := ⟨4, ![4, 8, 4096, 4096]⟩
abbrev S4x8x4096 : Shape := ⟨3, ![4, 8, 4096]⟩
abbrev S4x8x4096x1 : Shape := ⟨4, ![4, 8, 4096, 1]⟩
abbrev S256 : Shape := ⟨1, ![256]⟩
abbrev S1x1x1x256 : Shape := ⟨4, ![1, 1, 1, 256]⟩

abbrev nBuf : Space → Nat
  | .hbm => 129
  | .vmem => 0
  | .smem => 0
  | _ => 0

abbrev hbmTy0_0 (i : Nat) : BufTy := match i % 128 with
  | 0 => ⟨S16384x2048, .f32⟩
  | 1 => ⟨S16384x2048, .f32⟩
  | 2 => ⟨S16384x2048, .f32⟩
  | 3 => ⟨S1x4x128, .f32⟩
  | 4 => ⟨S1x256, .f32⟩
  | 5 => ⟨S4x4096x8x2x128, .f32⟩
  | 6 => ⟨S4x8x2x4096x128, .f32⟩
  | 7 => ⟨S4x4096x8x2x128, .f32⟩
  | 8 => ⟨S4x8x2x4096x128, .f32⟩
  | 9 => ⟨S4x4096x8x256, .f32⟩
  | 10 => ⟨S4x8x4096x256, .f32⟩
  | 11 => ⟨S4x128, .f32⟩
  | 12 => ⟨S1x128, .f32⟩
  | 13 => ⟨S128, .f32⟩
  | 14 => ⟨S1x128, .f32⟩
  | 15 => ⟨S128, .f32⟩
  | 16 => ⟨S128, .f32⟩
  | 17 => ⟨S_, .f32⟩
  | 18 => ⟨S_, .f32⟩
  | 19 => ⟨S_, .f32⟩
  | 20 => ⟨S1x128, .f32⟩
  | 21 => ⟨S128, .f32⟩
  | 22 => ⟨S1x128, .f32⟩
  | 23 => ⟨S128, .f32⟩
  | 24 => ⟨S128, .f32⟩
  | 25 => ⟨S_, .f32⟩
  | 26 => ⟨S_, .f32⟩
  | 27 => ⟨S_, .f32⟩
  | 28 => ⟨S_, .f32⟩
  | 29 => ⟨S_, .f32⟩
  | 30 => ⟨S_, .f32⟩
  | 31 => ⟨S4x8x2x4096x4096, .f32⟩
  | 32 => ⟨S_, .f32⟩
  | 33 => ⟨S_, .f32⟩
  | 34 => ⟨S4x8x2x4096x4096, .f32⟩
  | 35 => ⟨S4x8x2x4096x4096, .f32⟩
  | 36 => ⟨S4096, .i32⟩
  | 37 => ⟨S4096x1, .i32⟩
  | 38 => ⟨S_, .i32⟩
  | 39 => ⟨S_, .i32⟩
  | 40 => ⟨S4096x1, .i32⟩
  | 41 => ⟨S4096x1, .i32⟩
  | 42 => ⟨S4096x1, .i32⟩
  | 43 => ⟨S_, .i32⟩
  | 44 => ⟨S4096x1, .i32⟩
  | 45 => ⟨S4096x1, .i1⟩
  | 46 => ⟨S4096x1, .i32⟩
  | 47 => ⟨S4096x1, .i32⟩
  | 48 => ⟨S_, .i32⟩
  | 49 => ⟨S4096x1, .i32⟩
  | 50 => ⟨S4096x1, .i1⟩
  | 51 => ⟨S4096x1, .i1⟩
  | 52 => ⟨S_, .i32⟩
  | 53 => ⟨S4096x1, .i32⟩
  | 54 => ⟨S4096x1, .i32⟩
  | 55 => ⟨S4096x1, .i32⟩
  | 56 => ⟨S4096, .i32⟩
  | 57 => ⟨S1x4096, .i32⟩
  | 58 => ⟨S_, .i32⟩
  | 59 => ⟨S_, .i32⟩
  | 60 => ⟨S1x4096, .i32⟩
  | 61 => ⟨S1x4096, .i32⟩
  | 62 => ⟨S1x4096, .i32⟩
  | 63 => ⟨S_, .i32⟩
  | 64 => ⟨S1x4096, .i32⟩
  | 65 => ⟨S1x4096, .i1⟩
  | 66 => ⟨S1x4096, .i32⟩
  | 67 => ⟨S1x4096, .i32⟩
  | 68 => ⟨S_, .i32⟩
  | 69 => ⟨S1x4096, .i32⟩
  | 70 => ⟨S1x4096, .i1⟩
  | 71 => ⟨S1x4096, .i1⟩
  | 72 => ⟨S_, .i32⟩
  | 73 => ⟨S1x4096, .i32⟩
  | 74 => ⟨S1x4096, .i32⟩
  | 75 => ⟨S1x4096, .i32⟩
  | 76 => ⟨S4096x4096, .i32⟩
  | 77 => ⟨S4096x4096, .i32⟩
  | 78 => ⟨S4096x4096, .i1⟩
  | 79 => ⟨S_, .f32⟩
  | 80 => ⟨S_, .f32⟩
  | 81 => ⟨S4x8x2x4096x4096, .i1⟩
  | 82 => ⟨S4x8x2x4096x4096, .f32⟩
  | 83 => ⟨S4x8x2x4096x4096, .f32⟩
  | 84 => ⟨S_, .f32⟩
  | 85 => ⟨S4x8x2x4096, .f32⟩
  | 86 => ⟨S_, .f32⟩
  | 87 => ⟨S4x8x2x4096, .f32⟩
  | 88 => ⟨S4x8x2x4096, .f32⟩
  | 89 => ⟨S4x8x2x4096x1, .f32⟩
  | 90 => ⟨S4x8x2x4096x4096, .f32⟩
  | 91 => ⟨S4x8x2x4096x4096, .f32⟩
  | 92 => ⟨S4x8x2x4096x4096, .f32⟩
  | 93 => ⟨S_, .f32⟩
  | 94 => ⟨S4x8x2x4096, .f32⟩
  | 95 => ⟨S4x8x2x4096x1, .f32⟩
  | 96 => ⟨S4x8x2x4096x4096, .f32⟩
  | 97 => ⟨S4x8x2x4096x4096, .f32⟩
  | 98 => ⟨S4x8x1x4096x4096, .f32⟩
  | 99 => ⟨S4x8x4096x4096, .f32⟩
  | 100 => ⟨S4x8x1x4096x4096, .f32⟩
  | 101 => ⟨S4x8x4096x4096, .f32⟩
  | 102 => ⟨S4x8x4096x4096, .f32⟩
  | 103 => ⟨S4x8x4096x4096, .f32⟩
  | 104 => ⟨S4x8x4096x4096, .f32⟩
  | 105 => ⟨S4x8x4096x256, .f32⟩
  | 106 => ⟨S4x8x4096x256, .f32⟩
  | 107 => ⟨S_, .f32⟩
  | 108 => ⟨S4x8x4096, .f32⟩
  | 109 => ⟨S4x8x4096x1, .f32⟩
  | 110 => ⟨S_, .f32⟩
  | 111 => ⟨S4x8x4096x1, .f32⟩
  | 112 => ⟨S4x8x4096x1, .f32⟩
  | 113 => ⟨S_, .f32⟩
  | 114 => ⟨S4x8x4096x1, .f32⟩
  | 115 => ⟨S4x8x4096x1, .f32⟩
  | 116 => ⟨S4x8x4096x1, .f32⟩
  | 117 => ⟨S4x8x4096x256, .f32⟩
  | 118 => ⟨S4x8x4096x256, .f32⟩
  | 119 => ⟨S256, .f32⟩
  | 120 => ⟨S1x1x1x256, .f32⟩
  | 121 => ⟨S4x8x4096x256, .f32⟩
  | 122 => ⟨S4x8x4096x256, .f32⟩
  | 123 => ⟨S_, .f32⟩
  | 124 => ⟨S4x8x4096x256, .f32⟩
  | 125 => ⟨S4x8x4096x256, .f32⟩
  | 126 => ⟨S4x4096x8x256, .f32⟩
  | 127 => ⟨S16384x2048, .f32⟩
  | _ => ⟨S16384x2048, .f32⟩

abbrev hbmTy0_1 (i : Nat) : BufTy := match i % 128 with
  | 0 => ⟨S16384x2048, .bf16⟩
  | _ => ⟨S16384x2048, .f32⟩

abbrev hbmTy (i : Nat) : BufTy := match i / 128 with
  | 0 => hbmTy0_0 i
  | 1 => hbmTy0_1 i
  | _ => ⟨S16384x2048, .f32⟩

abbrev bufTy : (tb : Table) → Fin (tcTables nBuf tb) → BufTy
  | .hbm, ⟨i, _⟩ => hbmTy i
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_0 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_1 : Ref sig .tc := ⟨.hbm, 29, rfl⟩
abbrev main_v22 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_c : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_call0_v3 : Ref sig .tc := ⟨.hbm, 42, rfl⟩
abbrev main_call0_v4 : Ref sig .tc := ⟨.hbm, 43, rfl⟩
abbrev main_call0_v5 : Ref sig .tc := ⟨.hbm, 44, rfl⟩
abbrev main_call0_v6 : Ref sig .tc := ⟨.hbm, 45, rfl⟩
abbrev main_call0_v7 : Ref sig .tc := ⟨.hbm, 46, rfl⟩
abbrev main_call0_v8 : Ref sig .tc := ⟨.hbm, 47, rfl⟩
abbrev main_call0_c : Ref sig .tc := ⟨.hbm, 48, rfl⟩
abbrev main_call0_v9 : Ref sig .tc := ⟨.hbm, 49, rfl⟩
abbrev main_call0_v10 : Ref sig .tc := ⟨.hbm, 50, rfl⟩
abbrev main_call0_v11 : Ref sig .tc := ⟨.hbm, 51, rfl⟩
abbrev main_call0_c_0 : Ref sig .tc := ⟨.hbm, 52, rfl⟩
abbrev main_call0_v12 : Ref sig .tc := ⟨.hbm, 53, rfl⟩
abbrev main_call0_v13 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_c_3 : Ref sig .tc := ⟨.hbm, 58, rfl⟩
abbrev main_call1_v0 : Ref sig .tc := ⟨.hbm, 59, rfl⟩
abbrev main_call1_v1 : Ref sig .tc := ⟨.hbm, 60, rfl⟩
abbrev main_call1_v2 : Ref sig .tc := ⟨.hbm, 61, rfl⟩
abbrev main_call1_v3 : Ref sig .tc := ⟨.hbm, 62, rfl⟩
abbrev main_call1_v4 : Ref sig .tc := ⟨.hbm, 63, rfl⟩
abbrev main_call1_v5 : Ref sig .tc := ⟨.hbm, 64, rfl⟩
abbrev main_call1_v6 : Ref sig .tc := ⟨.hbm, 65, rfl⟩
abbrev main_call1_v7 : Ref sig .tc := ⟨.hbm, 66, rfl⟩
abbrev main_call1_v8 : Ref sig .tc := ⟨.hbm, 67, rfl⟩
abbrev main_call1_c : Ref sig .tc := ⟨.hbm, 68, rfl⟩
abbrev main_call1_v9 : Ref sig .tc := ⟨.hbm, 69, rfl⟩
abbrev main_call1_v10 : Ref sig .tc := ⟨.hbm, 70, rfl⟩
abbrev main_call1_v11 : Ref sig .tc := ⟨.hbm, 71, rfl⟩
abbrev main_call1_c_0 : Ref sig .tc := ⟨.hbm, 72, rfl⟩
abbrev main_call1_v12 : Ref sig .tc := ⟨.hbm, 73, rfl⟩
abbrev main_call1_v13 : Ref sig .tc := ⟨.hbm, 74, rfl⟩
abbrev main_v32 : Ref sig .tc := ⟨.hbm, 75, rfl⟩
abbrev main_v33 : Ref sig .tc := ⟨.hbm, 76, rfl⟩
abbrev main_v34 : Ref sig .tc := ⟨.hbm, 77, rfl⟩
abbrev main_v35 : Ref sig .tc := ⟨.hbm, 78, rfl⟩
abbrev main_cst_4 : Ref sig .tc := ⟨.hbm, 79, rfl⟩
abbrev main_call2_v0 : Ref sig .tc := ⟨.hbm, 80, rfl⟩
abbrev main_call2_v1 : Ref sig .tc := ⟨.hbm, 81, rfl⟩
abbrev main_call2_v2 : Ref sig .tc := ⟨.hbm, 82, rfl⟩
abbrev main_v36 : Ref sig .tc := ⟨.hbm, 83, rfl⟩
abbrev main_cst_5 : Ref sig .tc := ⟨.hbm, 84, rfl⟩
abbrev main_v37 : Ref sig .tc := ⟨.hbm, 85, rfl⟩
abbrev main_cst_6 : Ref sig .tc := ⟨.hbm, 86, rfl⟩
abbrev main_v38 : Ref sig .tc := ⟨.hbm, 87, rfl⟩
abbrev main_v39 : Ref sig .tc := ⟨.hbm, 88, rfl⟩
abbrev main_v40 : Ref sig .tc := ⟨.hbm, 89, rfl⟩
abbrev main_v41 : Ref sig .tc := ⟨.hbm, 90, rfl⟩
abbrev main_v42 : Ref sig .tc := ⟨.hbm, 91, rfl⟩
abbrev main_v43 : Ref sig .tc := ⟨.hbm, 92, rfl⟩
abbrev main_cst_7 : Ref sig .tc := ⟨.hbm, 93, rfl⟩
abbrev main_v44 : Ref sig .tc := ⟨.hbm, 94, rfl⟩
abbrev main_v45 : Ref sig .tc := ⟨.hbm, 95, rfl⟩
abbrev main_v46 : Ref sig .tc := ⟨.hbm, 96, rfl⟩
abbrev main_v47 : Ref sig .tc := ⟨.hbm, 97, rfl⟩
abbrev main_v48 : Ref sig .tc := ⟨.hbm, 98, rfl⟩
abbrev main_v49 : Ref sig .tc := ⟨.hbm, 99, rfl⟩
abbrev main_v50 : Ref sig .tc := ⟨.hbm, 100, rfl⟩
abbrev main_v51 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_v56 : Ref sig .tc := ⟨.hbm, 106, rfl⟩
abbrev main_cst_8 : Ref sig .tc := ⟨.hbm, 107, rfl⟩
abbrev main_v57 : Ref sig .tc := ⟨.hbm, 108, rfl⟩
abbrev main_v58 : Ref sig .tc := ⟨.hbm, 109, rfl⟩
abbrev main_cst_9 : Ref sig .tc := ⟨.hbm, 110, rfl⟩
abbrev main_v59 : Ref sig .tc := ⟨.hbm, 111, rfl⟩
abbrev main_v60 : Ref sig .tc := ⟨.hbm, 112, rfl⟩
abbrev main_cst_10 : Ref sig .tc := ⟨.hbm, 113, rfl⟩
abbrev main_v61 : Ref sig .tc := ⟨.hbm, 114, rfl⟩
abbrev main_v62 : Ref sig .tc := ⟨.hbm, 115, rfl⟩
abbrev main_v63 : Ref sig .tc := ⟨.hbm, 116, rfl⟩
abbrev main_v64 : Ref sig .tc := ⟨.hbm, 117, rfl⟩
abbrev main_v65 : Ref sig .tc := ⟨.hbm, 118, rfl⟩
abbrev main_v66 : Ref sig .tc := ⟨.hbm, 119, rfl⟩
abbrev main_v67 : Ref sig .tc := ⟨.hbm, 120, rfl⟩
abbrev main_v68 : Ref sig .tc := ⟨.hbm, 121, rfl⟩
abbrev main_v69 : Ref sig .tc := ⟨.hbm, 122, rfl⟩
abbrev main_cst_11 : Ref sig .tc := ⟨.hbm, 123, rfl⟩
abbrev main_v70 : Ref sig .tc := ⟨.hbm, 124, rfl⟩
abbrev main_v71 : Ref sig .tc := ⟨.hbm, 125, rfl⟩
abbrev main_v72 : Ref sig .tc := ⟨.hbm, 126, rfl⟩
abbrev main_v73 : Ref sig .tc := ⟨.hbm, 127, rfl⟩
abbrev main_v74 : Ref sig .tc := ⟨.hbm, 128, rfl⟩

abbrev nD : Nat := 1
abbrev τ : Topo := Topo.v7x

variable {F : FTy → Type} [FloatOps F]
-- ==== Kernel2.lean ====
abbrev S16384x4096 : Shape := ⟨2, ![16384, 4096]⟩
abbrev S1x4096x22016 : Shape := ⟨3, ![1, 4096, 22016]⟩
abbrev S1x11008x4096 : Shape := ⟨3, ![1, 11008, 4096]⟩
abbrev S1x4096x11008 : Shape := ⟨3, ![1, 4096, 11008]⟩
abbrev S4096x11008 : Shape := ⟨2, ![4096, 11008]⟩
abbrev S_ : Shape := ⟨0, ![]⟩
abbrev S4096x11264 : Shape := ⟨2, ![4096, 11264]⟩
abbrev S16384x11264 : Shape := ⟨2, ![16384, 11264]⟩
abbrev S11264x4096 : Shape := ⟨2, ![11264, 4096]⟩
abbrev S1024x4096 : Shape := ⟨2, ![1024, 4096]⟩
abbrev S4096x512 : Shape := ⟨2, ![4096, 512]⟩
abbrev S1x32x4096 : Shape := ⟨3, ![1, 32, 4096]⟩
abbrev S1024x512 : Shape := ⟨2, ![1024, 512]⟩
abbrev S32x4096 : Shape := ⟨2, ![32, 4096]⟩

abbrev nBuf : Space → Nat
  | .hbm => 18
  | .vmem => 12
  | .smem => 0
  | _ => 0

abbrev bufTy : (tb : Table) → Fin (tcTables nBuf tb) → BufTy
  | .hbm, ⟨0, _⟩ => ⟨S16384x4096, .f32⟩
  | .hbm, ⟨1, _⟩ => ⟨S1x4096x22016, .f32⟩
  | .hbm, ⟨2, _⟩ => ⟨S1x11008x4096, .f32⟩
  | .hbm, ⟨3, _⟩ => ⟨S1x4096x11008, .f32⟩
  | .hbm, ⟨4, _⟩ => ⟨S4096x11008, .f32⟩
  | .hbm, ⟨5, _⟩ => ⟨S4096x11008, .bf16⟩
  | .hbm, ⟨6, _⟩ => ⟨S_, .i32⟩
  | .hbm, ⟨7, _⟩ => ⟨S_, .bf16⟩
  | .hbm, ⟨8, _⟩ => ⟨S4096x11264, .bf16⟩
  | .hbm, ⟨9, _⟩ => ⟨S1x4096x11008, .f32⟩
  | .hbm, ⟨10, _⟩ => ⟨S4096x11008, .f32⟩
  | .hbm, ⟨11, _⟩ => ⟨S4096x11008, .bf16⟩
  | .hbm, ⟨12, _⟩ => ⟨S_, .i32⟩
  | .hbm, ⟨13, _⟩ => ⟨S_, .bf16⟩
  | .hbm, ⟨14, _⟩ => ⟨S4096x11264, .bf16⟩
  | .hbm, ⟨15, _⟩ => ⟨S16384x4096, .bf16⟩
  | .hbm, ⟨16, _⟩ => ⟨S16384x11264, .bf16⟩
  | .hbm, ⟨17, _⟩ => ⟨S11264x4096, .bf16⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S4096x512, .bf16⟩
  | .local _ .vmem, ⟨5, _⟩ => ⟨S4096x512, .bf16⟩
  | .local _ .vmem, ⟨6, _⟩ => ⟨S1x32x4096, .f32⟩
  | .local _ .vmem, ⟨7, _⟩ => ⟨S1x32x4096, .f32⟩
  | .local _ .vmem, ⟨8, _⟩ => ⟨S1024x512, .bf16⟩
  | .local _ .vmem, ⟨9, _⟩ => ⟨S1024x512, .bf16⟩
  | .local _ .vmem, ⟨10, _⟩ => ⟨S32x4096, .bf16⟩
  | .local _ .vmem, ⟨11, _⟩ => ⟨S32x4096, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_0 : Ref sig .tc := ⟨.hbm, 12, rfl⟩
abbrev main_call1_v0 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 22], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.maxsi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c22_i32 : BitVec 32 := 22#32
  let v0 : BitVec 32 := Scalar.muli arg0 c22_i32
  let v1 : BitVec 32 := Scalar.addi v0 arg1
  let c343_i32 : BitVec 32 := 343#32
  let v2 : BitVec 32 := Scalar.minsi v1 c343_i32
  let c0_i32 : BitVec 32 := 0#32
  let v3 : BitVec 32 := Scalar.addi c0_i32 v2
  let c0_i32_0 : BitVec 32 := 0#32
  let c0_i32_1 : BitVec 32 := 0#32
  let c0_i32_2 : BitVec 32 := 0#32
  ![c0_i32_0.toNat, v3.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c22_i32 : BitVec 32 := 22#32
  let v0 : BitVec 32 := Scalar.muli arg0 c22_i32
  let v1 : BitVec 32 := Scalar.addi v0 arg1
  let c351_i32 : BitVec 32 := 351#32
  let v2 : BitVec 32 := Scalar.minsi v1 c351_i32
  let c0_i32 : BitVec 32 := 0#32
  let c0_i32_0 : BitVec 32 := 0#32
  ![v2.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x32x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S32x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S16384x4096 : Shape := ⟨2, ![16384, 4096]⟩
abbrev S1x4096x22016 : Shape := ⟨3, ![1, 4096, 22016]⟩
abbrev S1x11008x4096 : Shape := ⟨3, ![1, 11008, 4096]⟩
abbrev S4096x22016 : Shape := ⟨2, ![4096, 22016]⟩
abbrev S16384x22016 : Shape := ⟨2, ![16384, 22016]⟩
abbrev S16384x11008 : Shape := ⟨2, ![16384, 11008]⟩
abbrev S_ : Shape := ⟨0, ![]⟩
abbrev S16384x11264 : Shape := ⟨2, ![16384, 11264]⟩
abbrev S11008x4096 : Shape := ⟨2, ![11008, 4096]⟩
abbrev S11264x4096 : Shape := ⟨2, ![11264, 4096]⟩

abbrev nBuf : Space → Nat
  | .hbm => 26
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S1x4096x22016, .f32⟩
  | .hbm, ⟨2, _⟩ => ⟨S1x11008x4096, .f32⟩
  | .hbm, ⟨3, _⟩ => ⟨S4096x22016, .f32⟩
  | .hbm, ⟨4, _⟩ => ⟨S16384x22016, .f32⟩
  | .hbm, ⟨5, _⟩ => ⟨S16384x11008, .f32⟩
  | .hbm, ⟨6, _⟩ => ⟨S16384x11008, .f32⟩
  | .hbm, ⟨7, _⟩ => ⟨S16384x11008, .f32⟩
  | .hbm, ⟨8, _⟩ => ⟨S16384x11008, .f32⟩
  | .hbm, ⟨9, _⟩ => ⟨S_, .f32⟩
  | .hbm, ⟨10, _⟩ => ⟨S16384x11008, .f32⟩
  | .hbm, ⟨11, _⟩ => ⟨S16384x11008, .f32⟩
  | .hbm, ⟨12, _⟩ => ⟨S_, .f32⟩
  | .hbm, ⟨13, _⟩ => ⟨S16384x11008, .f32⟩
  | .hbm, ⟨14, _⟩ => ⟨S16384x11008, .f32⟩
  | .hbm, ⟨15, _⟩ => ⟨S16384x11008, .f32⟩
  | .hbm, ⟨16, _⟩ => ⟨S16384x11008, .f32⟩
  | .hbm, ⟨17, _⟩ => ⟨S_, .i32⟩
  | .hbm, ⟨18, _⟩ => ⟨S_, .f32⟩
  | .hbm, ⟨19, _⟩ => ⟨S16384x11264, .f32⟩
  | .hbm, ⟨20, _⟩ => ⟨S16384x11264, .bf16⟩
  | .hbm, ⟨21, _⟩ => ⟨S11008x4096, .f32⟩
  | .hbm, ⟨22, _⟩ => ⟨S_, .i32⟩
  | .hbm, ⟨23, _⟩ => ⟨S_, .f32⟩
  | .hbm, ⟨24, _⟩ => ⟨S11264x4096, .f32⟩
  | .hbm, ⟨25, _⟩ => ⟨S11264x4096, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v4 : Ref sig .tc := ⟨.hbm, 15, rfl⟩
abbrev main_v5 : Ref sig .tc := ⟨.hbm, 16, rfl⟩
abbrev main_c : Ref sig .tc := ⟨.hbm, 17, rfl⟩
abbrev main_call1_v0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_c_0 : Ref sig .tc := ⟨.hbm, 22, rfl⟩
abbrev main_call2_v0 : Ref sig .tc := ⟨.hbm, 23, rfl⟩
abbrev main_v9 : Ref sig .tc := ⟨.hbm, 24, rfl⟩
abbrev main_v10 : Ref sig .tc := ⟨.hbm, 25, rfl⟩

abbrev nD : Nat := 1
abbrev τ : Topo := Topo.v7x

variable {F : FTy → Type} [FloatOps F]
-- ==== Kernel3.lean ====
abbrev S16384x11008 : Shape := ⟨2, ![16384, 11008]⟩
abbrev S1x11008x4096 : Shape := ⟨3, ![1, 11008, 4096]⟩
abbrev S16384x4096 : Shape := ⟨2, ![16384, 4096]⟩
abbrev S4x36864 : Shape := ⟨2, ![4, 36864]⟩
abbrev S_ : Shape := ⟨0, ![]⟩
abbrev S16384x11264 : Shape := ⟨2, ![16384, 11264]⟩
abbrev S11008x4096 : Shape := ⟨2, ![11008, 4096]⟩
abbrev S11264x4096 : Shape := ⟨2, ![11264, 4096]⟩
abbrev S36x1x4096 : Shape := ⟨3, ![36, 1, 4096]⟩
abbrev S1024x2816 : Shape := ⟨2, ![1024, 2816]⟩
abbrev S2816x1024 : Shape := ⟨2, ![2816, 1024]⟩
abbrev S1024x1024 : Shape := ⟨2, ![1024, 1024]⟩
abbrev S1x1x1024 : Shape := ⟨3, ![1, 1, 1024]⟩
abbrev S1x1024 : Shape := ⟨2, ![1, 1024]⟩

abbrev nBuf : Space → Nat
  | .hbm => 15
  | .vmem => 11
  | .smem => 0
  | _ => 0

abbrev bufTy : (tb : Table) → Fin (tcTables nBuf tb) → BufTy
  | .hbm, ⟨0, _⟩ => ⟨S16384x11008, .f32⟩
  | .hbm, ⟨1, _⟩ => ⟨S1x11008x4096, .f32⟩
  | .hbm, ⟨2, _⟩ => ⟨S16384x4096, .f32⟩
  | .hbm, ⟨3, _⟩ => ⟨S4x36864, .f32⟩
  | .hbm, ⟨4, _⟩ => ⟨S16384x11008, .bf16⟩
  | .hbm, ⟨5, _⟩ => ⟨S_, .i32⟩
  | .hbm, ⟨6, _⟩ => ⟨S_, .bf16⟩
  | .hbm, ⟨7, _⟩ => ⟨S16384x11264, .bf16⟩
  | .hbm, ⟨8, _⟩ => ⟨S11008x4096, .f32⟩
  | .hbm, ⟨9, _⟩ => ⟨S11008x4096, .bf16⟩
  | .hbm, ⟨10, _⟩ => ⟨S_, .i32⟩
  | .hbm, ⟨11, _⟩ => ⟨S_, .bf16⟩
  | .hbm, ⟨12, _⟩ => ⟨S11264x4096, .bf16⟩
  | .hbm, ⟨13, _⟩ => ⟨S36x1x4096, .f32⟩
  | .hbm, ⟨14, _⟩ => ⟨S16384x4096, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S2816x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1x1024, .f32⟩
  | .local _ .vmem, ⟨7, _⟩ => ⟨S1x1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | _, _ => ⟨S16384x11008, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_call1_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![16, 4, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c9_i32 : BitVec 32 := 9#32
  let v17 : BitVec 32 := Scalar.muli v16 c9_i32
  let c8_i32 : BitVec 32 := 8#32
  let v18 : BitVec 32 := Scalar.addi v17 c8_i32
  let c0_i32_4 : BitVec 32 := 0#32
  let c0_i32_5 : BitVec 32 := 0#32
  ![v18.toNat, c0_i32_4.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference3Ideal.lean ====
abbrev S16384x11008 : Shape := ⟨2, ![16384, 11008]⟩
abbrev S1x11008x4096 : Shape := ⟨3, ![1, 11008, 4096]⟩
abbrev S16384x4096 : Shape := ⟨2, ![16384, 4096]⟩
abbrev S4x36864 : Shape := ⟨2, ![4, 36864]⟩
abbrev S4x4096 : Shape := ⟨2, ![4, 4096]⟩
abbrev S11008x4096 : Shape := ⟨2, ![11008, 4096]⟩
abbrev S4x4096x4096 : Shape := ⟨3, ![4, 4096, 4096]⟩
abbrev S4x1x4096 : Shape := ⟨3, ![4, 1, 4096]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S16384x11008, .f32⟩
  | .hbm, ⟨1, _⟩ => ⟨S1x11008x4096, .f32⟩
  | .hbm, ⟨2, _⟩ => ⟨S16384x4096, .f32⟩
  | .hbm, ⟨3, _⟩ => ⟨S4x36864, .f32⟩
  | .hbm, ⟨4, _⟩ => ⟨S4x4096, .f32⟩
  | .hbm, ⟨5, _⟩ => ⟨S11008x4096, .f32⟩
  | .hbm, ⟨6, _⟩ => ⟨S16384x4096, .f32⟩
  | .hbm, ⟨7, _⟩ => ⟨S4x4096x4096, .f32⟩
  | .hbm, ⟨8, _⟩ => ⟨S4x4096x4096, .f32⟩
  | .hbm, ⟨9, _⟩ => ⟨S4x1x4096, .f32⟩
  | .hbm, ⟨10, _⟩ => ⟨S_, .f32⟩
  | .hbm, ⟨11, _⟩ => ⟨S4x1x4096, .f32⟩
  | .hbm, ⟨12, _⟩ => ⟨S4x1x4096, .f32⟩
  | .hbm, ⟨13, _⟩ => ⟨S4x4096x4096, .f32⟩
  | .hbm, ⟨14, _⟩ => ⟨S4x4096x4096, .f32⟩
  | .hbm, ⟨15, _⟩ => ⟨S4x4096x4096, .f32⟩
  | .hbm, ⟨16, _⟩ => ⟨S16384x4096, .f32⟩
  | _, _ => ⟨S16384x11008, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== Kernel4.lean ====
abbrev S16384x4096 : Shape := ⟨2, ![16384, 4096]⟩
abbrev S1x4096x22016 : Shape := ⟨3, ![1, 4096, 22016]⟩
abbrev S1x11008x4096 : Shape := ⟨3, ![1, 11008, 4096]⟩
abbrev S1024x11008 : Shape := ⟨2, ![1024, 11008]⟩
abbrev S1x4096x11008 : Shape := ⟨3, ![1, 4096, 11008]⟩
abbrev S4096x11008 : Shape := ⟨2, ![4096, 11008]⟩
abbrev S_ : Shape := ⟨0, ![]⟩
abbrev S4096x11264 : Shape := ⟨2, ![4096, 11264]⟩
abbrev S1024x11264 : Shape := ⟨2, ![1024, 11264]⟩
abbrev S16384x11264 : Shape := ⟨2, ![16384, 11264]⟩
abbrev S11264x4096 : Shape := ⟨2, ![11264, 4096]⟩
abbrev S1024x4096 : Shape := ⟨2, ![1024, 4096]⟩
abbrev S4096x512 : Shape := ⟨2, ![4096, 512]⟩
abbrev S1024x512 : Shape := ⟨2, ![1024, 512]⟩
abbrev S1x32x4096 : Shape := ⟨3, ![1, 32, 4096]⟩
abbrev S32x4096 : Shape := ⟨2, ![32, 4096]⟩

abbrev nBuf : Space → Nat
  | .hbm => 23
  | .vmem => 14
  | .smem => 0
  | _ => 0

abbrev bufTy : (tb : Table) → Fin (tcTables nBuf tb) → BufTy
  | .hbm, ⟨0, _⟩ => ⟨S16384x4096, .f32⟩
  | .hbm, ⟨1, _⟩ => ⟨S1x4096x22016, .f32⟩
  | .hbm, ⟨2, _⟩ => ⟨S1x11008x4096, .f32⟩
  | .hbm, ⟨3, _⟩ => ⟨S1024x11008, .f32⟩
  | .hbm, ⟨4, _⟩ => ⟨S1x4096x11008, .f32⟩
  | .hbm, ⟨5, _⟩ => ⟨S4096x11008, .f32⟩
  | .hbm, ⟨6, _⟩ => ⟨S4096x11008, .bf16⟩
  | .hbm, ⟨7, _⟩ => ⟨S_, .i32⟩
  | .hbm, ⟨8, _⟩ => ⟨S_, .bf16⟩
  | .hbm, ⟨9, _⟩ => ⟨S4096x11264, .bf16⟩
  | .hbm, ⟨10, _⟩ => ⟨S1x4096x11008, .f32⟩
  | .hbm, ⟨11, _⟩ => ⟨S4096x11008, .f32⟩
  | .hbm, ⟨12, _⟩ => ⟨S4096x11008, .bf16⟩
  | .hbm, ⟨13, _⟩ => ⟨S_, .i32⟩
  | .hbm, ⟨14, _⟩ => ⟨S_, .bf16⟩
  | .hbm, ⟨15, _⟩ => ⟨S4096x11264, .bf16⟩
  | .hbm, ⟨16, _⟩ => ⟨S1024x11008, .bf16⟩
  | .hbm, ⟨17, _⟩ => ⟨S_, .i32⟩
  | .hbm, ⟨18, _⟩ => ⟨S_, .bf16⟩
  | .hbm, ⟨19, _⟩ => ⟨S1024x11264, .bf16⟩
  | .hbm, ⟨20, _⟩ => ⟨S16384x4096, .bf16⟩
  | .hbm, ⟨21, _⟩ => ⟨S16384x11264, .bf16⟩
  | .hbm, ⟨22, _⟩ => ⟨S11264x4096, .bf16⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S4096x512, .bf16⟩
  | .local _ .vmem, ⟨5, _⟩ => ⟨S4096x512, .bf16⟩
  | .local _ .vmem, ⟨6, _⟩ => ⟨S1024x512, .bf16⟩
  | .local _ .vmem, ⟨7, _⟩ => ⟨S1024x512, .bf16⟩
  | .local _ .vmem, ⟨8, _⟩ => ⟨S1x32x4096, .f32⟩
  | .local _ .vmem, ⟨9, _⟩ => ⟨S1x32x4096, .f32⟩
  | .local _ .vmem, ⟨10, _⟩ => ⟨S1024x512, .bf16⟩
  | .local _ .vmem, ⟨11, _⟩ => ⟨S1024x512, .bf16⟩
  | .local _ .vmem, ⟨12, _⟩ => ⟨S32x4096, .bf16⟩
  | .local _ .vmem, ⟨13, _⟩ => ⟨S32x4096, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_call1_v0 : Ref sig .tc := ⟨.hbm, 14, rfl⟩
abbrev main_v7 : Ref sig .tc := ⟨.hbm, 15, rfl⟩
abbrev main_v8 : Ref sig .tc := ⟨.hbm, 16, rfl⟩
abbrev main_c_1 : Ref sig .tc := ⟨.hbm, 17, rfl⟩
abbrev main_call2_v0 : Ref sig .tc := ⟨.hbm, 18, rfl⟩
abbrev main_v9 : Ref sig .tc := ⟨.hbm, 19, rfl⟩
abbrev main_v10 : Ref sig .tc := ⟨.hbm, 20, rfl⟩
abbrev main_v11_0 : Ref sig .tc := ⟨.hbm, 21, rfl⟩
abbrev main_v11_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 22], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.maxsi arg0 c1_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c21_i32 : BitVec 32 := 21#32
  let v1 : BitVec 32 := Scalar.select v0 arg1 c21_i32
  let c0_i32_0 : BitVec 32 := 0#32
  let c0_i32_1 : BitVec 32 := 0#32
  ![c0_i32_0.toNat, v1.toNat]

def cc0_transform_4 (i : grid0.Coords) : Fin 3 → Nat :=
  let arg0 : BitVec 32 := BitVec.ofNat 32 (i 0).val
  let arg1 : BitVec 32 := BitVec.ofNat 32 (i 1).val
  let c22_i32 : BitVec 32 := 22#32
  let v0 : BitVec 32 := Scalar.muli arg0 c22_i32
  let v1 : BitVec 32 := Scalar.addi v0 arg1
  let c343_i32 : BitVec 32 := 343#32
  let v2 : BitVec 32 := Scalar.minsi v1 c343_i32
  let c0_i32 : BitVec 32 := 0#32
  let v3 : BitVec 32 := Scalar.addi c0_i32 v2
  let c0_i32_0 : BitVec 32 := 0#32
  let c0_i32_1 : BitVec 32 := 0#32
  let c0_i32_2 : BitVec 32 := 0#32
  ![c0_i32_0.toNat, v3.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c22_i32 : BitVec 32 := 22#32
  let v0 : BitVec 32 := Scalar.muli arg0 c22_i32
  let v1 : BitVec 32 := Scalar.addi v0 arg1
  let c351_i32 : BitVec 32 := 351#32
  let v2 : BitVec 32 := Scalar.minsi v1 c351_i32
  let c0_i32 : BitVec 32 := 0#32
  let c0_i32_0 : BitVec 32 := 0#32
  ![v2.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x32x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S32x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference4Ideal.lean ====
abbrev S16384x4096 : Shape := ⟨2, ![16384, 4096]⟩
abbrev S1x4096x22016 : Shape := ⟨3, ![1, 4096, 22016]⟩
abbrev S1x11008x4096 : Shape := ⟨3, ![1, 11008, 4096]⟩
abbrev S1024x11008 : Shape := ⟨2, ![1024, 11008]⟩
abbrev S4096x22016 : Shape := ⟨2, ![4096, 22016]⟩
abbrev S16384x22016 : Shape := ⟨2, ![16384, 22016]⟩
abbrev S16384x11008 : Shape := ⟨2, ![16384, 11008]⟩
abbrev S_ : Shape := ⟨0, ![]⟩
abbrev S15360x11008 : Shape := ⟨2, ![15360, 11008]⟩
abbrev S16384x11264 : Shape := ⟨2, ![16384, 11264]⟩
abbrev S11008x4096 : Shape := ⟨2, ![11008, 4096]⟩
abbrev S11264x4096 : Shape := ⟨2, ![11264, 4096]⟩

abbrev nBuf : Space → Nat
  | .hbm => 29
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S1x4096x22016, .f32⟩
  | .hbm, ⟨2, _⟩ => ⟨S1x11008x4096, .f32⟩
  | .hbm, ⟨3, _⟩ => ⟨S1024x11008, .f32⟩
  | .hbm, ⟨4, _⟩ => ⟨S4096x22016, .f32⟩
  | .hbm, ⟨5, _⟩ => ⟨S16384x22016, .f32⟩
  | .hbm, ⟨6, _⟩ => ⟨S16384x11008, .f32⟩
  | .hbm, ⟨7, _⟩ => ⟨S16384x11008, .f32⟩
  | .hbm, ⟨8, _⟩ => ⟨S16384x11008, .f32⟩
  | .hbm, ⟨9, _⟩ => ⟨S16384x11008, .f32⟩
  | .hbm, ⟨10, _⟩ => ⟨S_, .f32⟩
  | .hbm, ⟨11, _⟩ => ⟨S16384x11008, .f32⟩
  | .hbm, ⟨12, _⟩ => ⟨S16384x11008, .f32⟩
  | .hbm, ⟨13, _⟩ => ⟨S_, .f32⟩
  | .hbm, ⟨14, _⟩ => ⟨S16384x11008, .f32⟩
  | .hbm, ⟨15, _⟩ => ⟨S16384x11008, .f32⟩
  | .hbm, ⟨16, _⟩ => ⟨S16384x11008, .f32⟩
  | .hbm, ⟨17, _⟩ => ⟨S16384x11008, .f32⟩
  | .hbm, ⟨18, _⟩ => ⟨S15360x11008, .f32⟩
  | .hbm, ⟨19, _⟩ => ⟨S16384x11008, .f32⟩
  | .hbm, ⟨20, _⟩ => ⟨S_, .i32⟩
  | .hbm, ⟨21, _⟩ => ⟨S_, .f32⟩
  | .hbm, ⟨22, _⟩ => ⟨S16384x11264, .f32⟩
  | .hbm, ⟨23, _⟩ => ⟨S16384x11264, .bf16⟩
  | .hbm, ⟨24, _⟩ => ⟨S11008x4096, .f32⟩
  | .hbm, ⟨25, _⟩ => ⟨S_, .i32⟩
  | .hbm, ⟨26, _⟩ => ⟨S_, .f32⟩
  | .hbm, ⟨27, _⟩ => ⟨S11264x4096, .f32⟩
  | .hbm, ⟨28, _⟩ => ⟨S11264x4096, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_c : Ref sig .tc := ⟨.hbm, 20, rfl⟩
abbrev main_call1_v0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c_0 : Ref sig .tc := ⟨.hbm, 25, rfl⟩
abbrev main_call2_v0 : Ref sig .tc := ⟨.hbm, 26, rfl⟩
abbrev main_v11 : Ref sig .tc := ⟨.hbm, 27, rfl⟩
abbrev main_v12 : Ref sig .tc := ⟨.hbm, 28, rfl⟩

abbrev nD : Nat := 1
abbrev τ : Topo := Topo.v7x

variable {F : FTy → Type} [FloatOps F]
-- ==== Kernel5.lean ====
abbrev S16384x4096 : Shape := ⟨2, ![16384, 4096]⟩
abbrev S1x4096x22016 : Shape := ⟨3, ![1, 4096, 22016]⟩
abbrev S1024x11264 : Shape := ⟨2, ![1024, 11264]⟩
abbrev S4096x11264 : Shape := ⟨2, ![4096, 11264]⟩
abbrev S1024x4096 : Shape := ⟨2, ![1024, 4096]⟩
abbrev S1x4096x256 : Shape := ⟨3, ![1, 4096, 256]⟩
abbrev S1024x256 : Shape := ⟨2, ![1024, 256]⟩
abbrev S4096x256 : Shape := ⟨2, ![4096, 256]⟩

abbrev nBuf : Space → Nat
  | .hbm => 6
  | .vmem => 11
  | .smem => 0
  | _ => 0

abbrev bufTy : (tb : Table) → Fin (tcTables nBuf tb) → BufTy
  | .hbm, ⟨0, _⟩ => ⟨S16384x4096, .f32⟩
  | .hbm, ⟨1, _⟩ => ⟨S1x4096x22016, .f32⟩
  | .hbm, ⟨2, _⟩ => ⟨S16384x4096, .bf16⟩
  | .hbm, ⟨3, _⟩ => ⟨S1024x11264, .bf16⟩
  | .hbm, ⟨4, _⟩ => ⟨S4096x11264, .bf16⟩
  | .hbm, ⟨5, _⟩ => ⟨S4096x11264, .bf16⟩
  | .local _ .vmem, ⟨0, _⟩ => ⟨S1024x4096, .bf16⟩
  | .local _ .vmem, ⟨1, _⟩ => ⟨S1x4096x256, .f32⟩
  | .local _ .vmem, ⟨2, _⟩ => ⟨S1x4096x256, .f32⟩
  | .local _ .vmem, ⟨3, _⟩ => ⟨S1x4096x256, .f32⟩
  | .local _ .vmem, ⟨4, _⟩ => ⟨S1x4096x256, .f32⟩
  | .local _ .vmem, ⟨5, _⟩ => ⟨S1024x256, .bf16⟩
  | .local _ .vmem, ⟨6, _⟩ => ⟨S1024x256, .bf16⟩
  | .local _ .vmem, ⟨7, _⟩ => ⟨S4096x256, .bf16⟩
  | .local _ .vmem, ⟨8, _⟩ => ⟨S4096x256, .bf16⟩
  | .local _ .vmem, ⟨9, _⟩ => ⟨S4096x256, .bf16⟩
  | .local _ .vmem, ⟨10, _⟩ => ⟨S4096x256, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![44], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c42_i32 : BitVec 32 := 42#32
  let v0 : BitVec 32 := Scalar.minsi arg0 c42_i32
  let c0_i32 : BitVec 32 := 0#32
  let c0_i32_0 : BitVec 32 := 0#32
  let c0_i32_1 : BitVec 32 := 0#32
  ![c0_i32.toNat, c0_i32_0.toNat, v0.toNat]

def cc0_transform_2 (i : grid0.Coords) : Fin 3 → Nat :=
  let arg0 : BitVec 32 := BitVec.ofNat 32 (i 0).val
  let c42_i32 : BitVec 32 := 42#32
  let v0 : BitVec 32 := Scalar.minsi arg0 c42_i32
  let c43_i32 : BitVec 32 := 43#32
  let v1 : BitVec 32 := Scalar.addi c43_i32 v0
  let c0_i32 : BitVec 32 := 0#32
  let c0_i32_0 : BitVec 32 := 0#32
  let c0_i32_1 : BitVec 32 := 0#32
  ![c0_i32.toNat, c0_i32_0.toNat, v1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference5Ideal.lean ====
abbrev S16384x4096 : Shape := ⟨2, ![16384, 4096]⟩
abbrev S1x4096x22016 : Shape := ⟨3, ![1, 4096, 22016]⟩
abbrev S1024x4096 : Shape := ⟨2, ![1024, 4096]⟩
abbrev S4096x22016 : Shape := ⟨2, ![4096, 22016]⟩
abbrev S1024x22016 : Shape := ⟨2, ![1024, 22016]⟩
abbrev S1024x11008 : Shape := ⟨2, ![1024, 11008]⟩
abbrev S_ : Shape := ⟨0, ![]⟩
abbrev S1024x11264 : Shape := ⟨2, ![1024, 11264]⟩
abbrev S1x4096x11008 : Shape := ⟨3, ![1, 4096, 11008]⟩
abbrev S4096x11008 : Shape := ⟨2, ![4096, 11008]⟩
abbrev S4096x11264 : Shape := ⟨2, ![4096, 11264]⟩

abbrev nBuf : Space → Nat
  | .hbm => 33
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S1x4096x22016, .f32⟩
  | .hbm, ⟨2, _⟩ => ⟨S1024x4096, .f32⟩
  | .hbm, ⟨3, _⟩ => ⟨S4096x22016, .f32⟩
  | .hbm, ⟨4, _⟩ => ⟨S1024x22016, .f32⟩
  | .hbm, ⟨5, _⟩ => ⟨S1024x11008, .f32⟩
  | .hbm, ⟨6, _⟩ => ⟨S1024x11008, .f32⟩
  | .hbm, ⟨7, _⟩ => ⟨S1024x11008, .f32⟩
  | .hbm, ⟨8, _⟩ => ⟨S1024x11008, .f32⟩
  | .hbm, ⟨9, _⟩ => ⟨S_, .f32⟩
  | .hbm, ⟨10, _⟩ => ⟨S1024x11008, .f32⟩
  | .hbm, ⟨11, _⟩ => ⟨S1024x11008, .f32⟩
  | .hbm, ⟨12, _⟩ => ⟨S_, .f32⟩
  | .hbm, ⟨13, _⟩ => ⟨S1024x11008, .f32⟩
  | .hbm, ⟨14, _⟩ => ⟨S1024x11008, .f32⟩
  | .hbm, ⟨15, _⟩ => ⟨S1024x11008, .f32⟩
  | .hbm, ⟨16, _⟩ => ⟨S1024x11008, .f32⟩
  | .hbm, ⟨17, _⟩ => ⟨S_, .i32⟩
  | .hbm, ⟨18, _⟩ => ⟨S_, .f32⟩
  | .hbm, ⟨19, _⟩ => ⟨S1024x11264, .f32⟩
  | .hbm, ⟨20, _⟩ => ⟨S1024x11264, .bf16⟩
  | .hbm, ⟨21, _⟩ => ⟨S1x4096x11008, .f32⟩
  | .hbm, ⟨22, _⟩ => ⟨S4096x11008, .f32⟩
  | .hbm, ⟨23, _⟩ => ⟨S_, .i32⟩
  | .hbm, ⟨24, _⟩ => ⟨S_, .f32⟩
  | .hbm, ⟨25, _⟩ => ⟨S4096x11264, .f32⟩
  | .hbm, ⟨26, _⟩ => ⟨S4096x11264, .bf16⟩
  | .hbm, ⟨27, _⟩ => ⟨S1x4096x11008, .f32⟩
  | .hbm, ⟨28, _⟩ => ⟨S4096x11008, .f32⟩
  | .hbm, ⟨29, _⟩ => ⟨S_, .i32⟩
  | .hbm, ⟨30, _⟩ => ⟨S_, .f32⟩
  | .hbm, ⟨31, _⟩ => ⟨S4096x11264, .f32⟩
  | .hbm, ⟨32, _⟩ => ⟨S4096x11264, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v5 : Ref sig .tc := ⟨.hbm, 15, rfl⟩
abbrev main_v6 : Ref sig .tc := ⟨.hbm, 16, rfl⟩
abbrev main_c : Ref sig .tc := ⟨.hbm, 17, rfl⟩
abbrev main_call1_v0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c_0 : Ref sig .tc := ⟨.hbm, 23, rfl⟩
abbrev main_call2_v0 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_c_1 : Ref sig .tc := ⟨.hbm, 29, rfl⟩
abbrev main_call3_v0 : Ref sig .tc := ⟨.hbm, 30, rfl⟩
abbrev main_v15 : Ref sig .tc := ⟨.hbm, 31, rfl⟩
abbrev main_v16 : Ref sig .tc := ⟨.hbm, 32, rfl⟩

abbrev nD : Nat := 1
abbrev τ : Topo := Topo.v7x

variable {F : FTy → Type} [FloatOps F]
-- ==== Proof.Fox.Model.lean ====
module

public import proofs.«01_k».proof.Proof.Gen.KernelIdeal.Skeleton
public import Idealize.ShloMosaic.Lib.Exec
public import Idealize.ShloMosaic.Lib.Tactic
public import Idealize.ShloMosaic.Lib.Pipeline.Kit

/-! What the kernel keeps: for each of the four softmax chains (two heads, two
halves each) the running maximum, the running sum and the running weighted sum of
values after the first `n` blocks of keys, and one score tile ahead. -/

@[expose] public section
noncomputable section
namespace Cert.KernelIdeal.Att
open Cert.KernelIdeal.Gen
open Idealize.ShloMosaic
variable {F : FTy → Type} [FloatOps F] [Named F]

theorem inb2 {a b A B x y : ℕ} (h : a + x ≤ A) (h' : b + y ≤ B) :
    ∀ d : Fin 2, (![a, b] : Fin 2 → ℕ) d + (![x, y] : Fin 2 → ℕ) d ≤ (![A, B] : Fin 2 → ℕ) d :=
  Fin.forall_fin_two.2 ⟨h, h'⟩

theorem inb3 {a b d A B D x y z : ℕ} (h : a + x ≤ A) (h' : b + y ≤ B) (h'' : d + z ≤ D) :
    ∀ e : Fin 3, (![a, b, d] : Fin 3 → ℕ) e + (![x, y, z] : Fin 3 → ℕ) e ≤ (![A, B, D] : Fin 3 → ℕ) e
  | ⟨0, _⟩ => h
  | ⟨1, _⟩ => h'
  | ⟨2, _⟩ => h''

/-- The query columns of chain `c`. -/
abbrev rQ (c : Fin 4) : Rect S512x512 :=
  Rect.unit (s := S512x512) ![0, 128 * c.val] S512x128.size
    (inb2 (by omega) (by have := c.isLt; omega))
/-- The keys of chain `c` in block `n`. -/
abbrev rK (c : Fin 4) (n : ℕ) : Rect S4096x512 :=
  Rect.unit (s := S4096x512) ![512 * (n % 8), 128 * c.val] S512x128.size
    (inb2 (by omega) (by have := c.isLt; omega))
/-- The values of the head of chain `c` in block `n`, transposed. -/
abbrev rV (c : Fin 4) (n : ℕ) : Rect S8x512x512 :=
  Rect.unit (s := S8x512x512) ![n % 8, 256 * (c.val / 2), 0] S1x256x512.size
    (inb3 (by omega) (by have := c.isLt; omega) (by omega))

/-- The part of an array a rectangle names. -/
abbrev blk {S : Shape} {e : EltTy} (X : Vec F S e) (r : Rect S) : Vec F r.shape e := fun x => X (r.idx x)

/-- The chunk (of 64) a position lies in, as the kernel spells the floor division. -/
def chunk (v : IVec S512x512 32) : IVec S512x512 32 :=
  let dv := divsi v (broadcast S512x512 64#32)
  let sg := subi (extui 32 (cmpi .sgt v (broadcast S512x512 0#32)) natLt_1_32)
    (extui 32 (cmpi .slt v (broadcast S512x512 0#32)) natLt_1_32)
  let s64 : BitVec 32 := Scalar.subi (Scalar.extui (Scalar.cmpi .sgt 64#32 0#32))
    (Scalar.extui (Scalar.cmpi .slt 64#32 0#32))
  select (andi (cmpi .ne sg (broadcast S512x512 s64))
    (cmpi .ne (remsi v (broadcast S512x512 64#32)) (broadcast S512x512 0#32)))
    (subi dv (broadcast S512x512 1#32)) dv

/-- The scores of a tile on the diagonal: a key in a later chunk than the query is masked. -/
def sD (k q : Vec F S512x128 .bf16) : FVec F S512x512 .f32 :=
  select (cmpi .sle (chunk (iota .tc S512x512 32 [0] iota_S512x512_d0_w32))
      (chunk (iota .tc S512x512 32 [1] iota_S512x512_d1_w32)))
    (k0_pay274 k q) (broadcast S512x512 (Named.named κ "mask" 0xF149F2CA#32))

/-- A tile of scores as the scratch keeps it. -/
def keepS (s : FVec F S512x512 .f32) : Vec F S1x512x512 .f32 :=
  shapeCast S1x512x512 s shapeCasts_S512x512_S1x512x512
/-- The column maxima of a tile as the scratch keeps them. -/
def keepX (s : FVec F S512x512 .f32) : Vec F S1x1x512 .f32 :=
  shapeCast S1x1x512 (shapeCast S1x512
    (multiReduction .maximumf [0] S512 s 0xFF800000#32 reduces_S512x512_S512 (.inl rfl) rfl)
    shapeCasts_S512_S1x512) shapeCasts_S1x512_S1x1x512

/-- The running maximum after one more tile. -/
def mNew (x m : Vec F S1x1x512 .f32) : Vec F S1x1x512 .f32 := k0_pay285 (k0_pay278 x) (k0_pay280 m)
/-- The running sum after one more tile. -/
def lNew (t : Vec F S1x512x512 .f32) (x m l : Vec F S1x1x512 .f32) : Vec F S1x1x512 .f32 :=
  k0_pay286 (k0_pay277 t) (k0_pay278 x) (k0_pay280 m) (k0_pay281 l)
/-- The running weighted sum of values after one more tile. -/
def aNew (t : Vec F S1x512x512 .f32) (x m : Vec F S1x1x512 .f32) (v : Vec F S1x256x512 .bf16)
    (a : Vec F S1x256x512 .f32) : Vec F S1x256x512 .f32 :=
  k0_pay287 (k0_pay277 t) (k0_pay278 x) (k0_pay279 v) (k0_pay280 m) a

section
variable (Q : Vec F S512x512 .bf16) (K : Vec F S4096x512 .bf16) (V : Vec F S8x512x512 .bf16) (q : ℕ)

/-- The scores of chain `c` against block `n`, for the query block `q`. -/
def tile (c : Fin 4) (n : ℕ) : FVec F S512x512 .f32 :=
  if n = q then sD (blk K (rK c n)) (blk Q (rQ c))
  else k0_pay274 (blk K (rK c n)) (blk Q (rQ c))

/-- The running maximum, sum and weighted sum of chain `c` after the first `n` blocks. -/
def chain (c : Fin 4) : ℕ → Vec F S1x1x512 .f32 × Vec F S1x1x512 .f32 × Vec F S1x256x512 .f32
  | 0 => (broadcast S1x1x512 (Named.named κ "mask" 0xF149F2CA#32),
      broadcast S1x1x512 (Scalar.ofBits .f32 0x00000000#32),
      broadcast S1x256x512 (Scalar.ofBits .f32 0x00000000#32))
  | n + 1 =>
    let p := chain c n
    (mNew (keepX (tile Q K q c n)) p.1,
      lNew (keepS (tile Q K q c n)) (keepX (tile Q K q c n)) p.1 p.2.1,
      aNew (keepS (tile Q K q c n)) (keepX (tile Q K q c n)) p.1 (blk V (rV c n)) p.2.2)
end
end Cert.KernelIdeal.Att
-- ==== Proof.Fox.Mem.lean ====
module

public import proofs.«01_k».proof.Proof.Fox.Model
public import Idealize.ShloMosaic.Lib.WritesUnit

/-! The scratch buffers, slab by slab. -/

@[expose] public section
noncomputable section
namespace Cert.KernelIdeal.Att
open Cert.KernelIdeal.Gen
open Idealize.ShloMosaic Idealize.ShloMosaic.TcCoe
open Idealize.SL Idealize.SL.RA Idealize.SL.BI
open scoped Idealize.SL.BI
variable {F : FTy → Type} [FloatOps F] [Named F]
local notation "𝕄" => MT nD τ sig Unit (Elt F) ℕ (UR sig nD τ) ℕ

/-- The memref `m` of device `c` holds `f`, whole. -/
abbrev held {s : Shape} {e : EltTy} (c : Dev nD) (m : Memref sig .tc .vmem s e) (f : BufTy.Contents (Elt F) m.view.ty) : sProp 𝕄 :=
  m.view.loc (c : Thread nD τ) ↦[m.view.set]{fullShare} f

/-- What a memref holds. -/
abbrev Con {s : Shape} {e : EltTy} (m : Memref sig .tc .vmem s e) := BufTy.Contents (Elt F) m.view.ty

/-- Slot `s` of a score buffer. -/
abbrev r9 (s : Fin 2) : Rect S2x512x512 :=
  Rect.unit (s := S2x512x512) ![s.val, 0, 0] S1x512x512.size (inb3 (by have := s.isLt; omega) (by omega) (by omega))
/-- Row `j` of the buffer of column maxima. -/
abbrev r13 (j : Fin 8) : Rect S8x1x512 :=
  Rect.unit (s := S8x1x512) ![j.val, 0, 0] S1x1x512.size (inb3 (by have := j.isLt; omega) (by omega) (by omega))
/-- Row `c` of the running maxima or sums. -/
abbrev r14 (c : Fin 4) : Rect S4x1x512 :=
  Rect.unit (s := S4x1x512) ![c.val, 0, 0] S1x1x512.size (inb3 (by have := c.isLt; omega) (by omega) (by omega))
/-- Slab `c` of the running weighted sums. -/
abbrev r16 (c : Fin 4) : Rect S4x256x512 :=
  Rect.unit (s := S4x256x512) ![c.val, 0, 0] S1x256x512.size (inb3 (by have := c.isLt; omega) (by omega) (by omega))

/-- The part `r` of what a memref holds. -/
abbrev rd {s : Shape} {e : EltTy} (m : Memref sig .tc .vmem s e) (r : Rect s)
    (f : BufTy.Contents (Elt F) m.view.ty) : Vec F r.shape e :=
  m.view.readAt (Elt F) r.toLoadRect f

/-- Reading the rectangle stored last gives what was stored. -/
theorem rd_hit {s : Shape} {e : EltTy} (m : Memref sig .tc .vmem s e) (f : BufTy.Contents (Elt F) m.view.ty)
    (off size : Fin s.rank → ℕ) (inb inb' : ∀ a, off a + size a ≤ s.size a)
    (w : (Rect.unit off size inb).shape.Idx → Elt F e) (L : List (View.Piece (Elt F) s e)) :
    rd m (Rect.unit off size inb') (m.view.writes (Elt F) f (⟨Rect.unit off size inb, w⟩ :: L)) = w := by
  funext y
  exact View.read_writes_cons_unit_of_mem m.view f inb w L ((Rect.unit off size inb').idx y) y rfl fun a => by
    show off a + 1 * (y a).val = _
    rw [Nat.one_mul]

/-- A store elsewhere does not change what is read. -/
theorem rd_skip {s : Shape} {e : EltTy} (m : Memref sig .tc .vmem s e) (f : BufTy.Contents (Elt F) m.view.ty)
    {off off' size size' : Fin s.rank → ℕ} {inb : ∀ a, off a + size a ≤ s.size a}
    {inb' : ∀ a, off' a + size' a ≤ s.size a}
    (w : (Rect.unit off size inb).shape.Idx → Elt F e) (L : List (View.Piece (Elt F) s e))
    (a : Fin s.rank) (h : off a + size a ≤ off' a ∨ off' a + size' a ≤ off a) :
    rd m (Rect.unit off' size' inb') (m.view.writes (Elt F) f (⟨Rect.unit off size inb, w⟩ :: L))
      = rd m (Rect.unit off' size' inb') (m.view.writes (Elt F) f L) := by
  funext y
  refine View.read_writes_cons_unit_of_not_mem m.view f inb w L ((Rect.unit off' size' inb').idx y) rfl a ?_
  have hy : (y a).val < size' a := (y a).isLt
  have e : ((Rect.unit off' size' inb').idx y a).val = off' a + 1 * (y a).val := rfl
  omega

/-- Reading a buffer filled with one value. -/
theorem rd_fill {s : Shape} {e : EltTy} (m : Memref sig .tc .vmem s e) (f : BufTy.Contents (Elt F) m.view.ty)
    {off : Fin s.rank → ℕ} (hz : off = fun _ => 0) (inb : ∀ a, off a + s.size a ≤ s.size a)
    (w : (Rect.unit off s.size inb).shape.Idx → Elt F e) (r : Rect s) (v : Elt F e) (hw : ∀ x, w x = v) :
    rd m r (m.view.writes (Elt F) f [⟨Rect.unit off s.size inb, w⟩]) = fun _ => v := by
  funext y
  exact (View.read_writes_cons_unit_of_mem m.view f inb w [] (r.idx y) (r.idx y) hz fun a => (Nat.zero_add _).symm).trans (hw _)

/-- Reading the whole of a buffer. -/
theorem rd_all {s : Shape} {e : EltTy} (m : Memref sig .tc .vmem s e) (f : BufTy.Contents (Elt F) m.view.ty)
    {off : Fin s.rank → ℕ} (hz : off = fun _ => 0) (inb : ∀ a, off a + s.size a ≤ s.size a) :
    rd m (Rect.unit off s.size inb) f = m.view.read (Elt F) f := by
  subst hz
  funext y
  refine congrArg (m.view.read (Elt F) f) (funext fun a => Fin.ext ?_)
  show 0 + 1 * (y a).val = _
  omega

/-- Reading at offsets the kernel computes, through their closed form. -/
theorem rd_off {s : Shape} {e : EltTy} (m : Memref sig .tc .vmem s e) (f : BufTy.Contents (Elt F) m.view.ty)
    {off off' size : Fin s.rank → ℕ} {inb : ∀ a, off a + size a ≤ s.size a} {inb' : ∀ a, off' a + size a ≤ s.size a}
    (h : off = off') :
    rd m (Rect.unit off size inb) f = blk (m.view.read (Elt F) f) (Rect.unit off' size inb') := by
  subst h
  rfl

section
variable (Q : Vec F S512x512 .bf16) (K : Vec F S4096x512 .bf16) (V : Vec F S8x512x512 .bf16) (q : ℕ)

/-- Chain `c` holds its state after the first `n` blocks. -/
structure Kept (c : Fin 4) (n : ℕ) (m l : Vec F S1x1x512 .f32) (a : Vec F S1x256x512 .f32) : Prop where
  hm : m = (chain Q K V q c n).1
  hl : l = (chain Q K V q c n).2.1
  ha : a = (chain Q K V q c n).2.2

/-- The tile of block `n` and its column maxima are ready for chain `c`. -/
structure Ahead (c : Fin 4) (n : ℕ) (t : Vec F S1x512x512 .f32) (x : Vec F S1x1x512 .f32) : Prop where
  ht : t = keepS (tile Q K q c n)
  hx : x = keepX (tile Q K q c n)

variable {Q K V q}

/-- One more tile consumed. -/
theorem Kept.next {c : Fin 4} {n : ℕ} {m l : Vec F S1x1x512 .f32} {a : Vec F S1x256x512 .f32}
    {t : Vec F S1x512x512 .f32} {x : Vec F S1x1x512 .f32} {v : Vec F S1x256x512 .bf16}
    {m' l' : Vec F S1x1x512 .f32} {a' : Vec F S1x256x512 .f32}
    {n' : ℕ} (hn : n' = n + 1)
    (h : Kept Q K V q c n m l a) (ha : Ahead Q K q c n t x) (hv : v = blk V (rV c n))
    (hm' : m' = mNew x m) (hl' : l' = lNew t x m l) (ha' : a' = aNew t x m v a) :
    Kept Q K V q c n' m' l' a' := by
  obtain ⟨h1, h2, h3⟩ := h
  obtain ⟨h4, h5⟩ := ha
  subst h1 h2 h3 h4 h5 hv hm' hl' ha' hn
  exact ⟨rfl, rfl, rfl⟩

/-- A tile off the diagonal made ready. -/
theorem Ahead.off {c : Fin 4} {n : ℕ} {k q' : Vec F S512x128 .bf16} {t : Vec F S1x512x512 .f32} {x : Vec F S1x1x512 .f32}
    (hn : n ≠ q) (hk : k = blk K (rK c n)) (hq : q' = blk Q (rQ c))
    (ht : t = keepS (k0_pay274 k q')) (hx : x = keepX (k0_pay274 k q')) : Ahead Q K q c n t x := by
  subst hk hq ht hx
  constructor <;> (unfold tile; rw [if_neg hn])

/-- A tile on the diagonal made ready. -/
theorem Ahead.on {c : Fin 4} {n : ℕ} {k q' : Vec F S512x128 .bf16} {t : Vec F S1x512x512 .f32} {x : Vec F S1x1x512 .f32}
    (hn : n = q) (hk : k = blk K (rK c n)) (hq : q' = blk Q (rQ c))
    (ht : t = keepS (sD k q')) (hx : x = keepX (sD k q')) : Ahead Q K q c n t x := by
  subst hk hq ht hx
  constructor <;> (unfold tile; rw [if_pos hn])
end

section
variable {arg9 arg10 arg11 arg12 : Memref sig .tc .vmem S2x512x512 .f32} {arg13 : Memref sig .tc .vmem S8x1x512 .f32}
  {arg14 arg15 : Memref sig .tc .vmem S4x1x512 .f32} {arg16 : Memref sig .tc .vmem S4x256x512 .f32}
variable (Q : Vec F S512x512 .bf16) (K : Vec F S4096x512 .bf16) (V : Vec F S8x512x512 .bf16) (q : ℕ)
/-- The four running states are those after the first `n` blocks. -/
structure Kept4 (n : ℕ) (f14 : Con (F := F) arg14) (f15 : Con (F := F) arg15) (f16 : Con (F := F) arg16) : Prop where
  h0 : Kept Q K V q 0 n (rd arg14 (r14 0) f14) (rd arg15 (r14 0) f15) (rd arg16 (r16 0) f16)
  h1 : Kept Q K V q 1 n (rd arg14 (r14 1) f14) (rd arg15 (r14 1) f15) (rd arg16 (r16 1) f16)
  h2 : Kept Q K V q 2 n (rd arg14 (r14 2) f14) (rd arg15 (r14 2) f15) (rd arg16 (r16 2) f16)
  h3 : Kept Q K V q 3 n (rd arg14 (r14 3) f14) (rd arg15 (r14 3) f15) (rd arg16 (r16 3) f16)

/-- The four tiles of block `n` are ready, in the even slots. -/
structure Ahead4E (n : ℕ) (f9 : Con (F := F) arg9) (f10 : Con (F := F) arg10) (f11 : Con (F := F) arg11)
    (f12 : Con (F := F) arg12) (f13 : Con (F := F) arg13) : Prop where
  h0 : Ahead Q K q 0 n (rd arg9 (r9 0) f9) (rd arg13 (r13 0) f13)
  h1 : Ahead Q K q 1 n (rd arg10 (r9 0) f10) (rd arg13 (r13 2) f13)
  h2 : Ahead Q K q 2 n (rd arg11 (r9 0) f11) (rd arg13 (r13 4) f13)
  h3 : Ahead Q K q 3 n (rd arg12 (r9 0) f12) (rd arg13 (r13 6) f13)

/-- The four tiles of block `n` are ready, in the odd slots. -/
structure Ahead4O (n : ℕ) (f9 : Con (F := F) arg9) (f10 : Con (F := F) arg10) (f11 : Con (F := F) arg11)
    (f12 : Con (F := F) arg12) (f13 : Con (F := F) arg13) : Prop where
  h0 : Ahead Q K q 0 n (rd arg9 (r9 1) f9) (rd arg13 (r13 1) f13)
  h1 : Ahead Q K q 1 n (rd arg10 (r9 1) f10) (rd arg13 (r13 3) f13)
  h2 : Ahead Q K q 2 n (rd arg11 (r9 1) f11) (rd arg13 (r13 5) f13)
  h3 : Ahead Q K q 3 n (rd arg12 (r9 1) f12) (rd arg13 (r13 7) f13)
end
end Cert.KernelIdeal.Att
-- ==== Proof.Fox.Geo.lean ====
module

public import proofs.«01_k».proof.Proof.Fox.Mem

/-! How often each loop runs and where its blocks lie, by the query block. -/

@[expose] public section
noncomputable section
namespace Cert.KernelIdeal.Att
open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
variable {F : FTy → Type} [FloatOps F] [Named F]
local notation "𝕄" => MT nD τ sig Unit (Elt F) ℕ (UR sig nD τ) ℕ

theorem trips1 (i : grid0.Coords) : (k0_t1_loop i).trips = if (i 2).val = 0 then 1 else 0 := by
  unfold k0_t1_loop Scf.Loop.trips
  generalize i 2 = z
  revert z
  decide

theorem trips2 (i : grid0.Coords) : (k0_t2_loop i).trips = 0 := by
  unfold k0_t2_loop Scf.Loop.trips
  generalize i 2 = z
  revert z
  decide

theorem trips3 (i : grid0.Coords) : (k0_t3_loop i).trips = if (i 2).val = 0 then 0 else 1 := by
  unfold k0_t3_loop Scf.Loop.trips
  generalize i 2 = z
  revert z
  decide

theorem trips4 (i : grid0.Coords) : (k0_t4_loop i).trips = 0 := by
  unfold k0_t4_loop Scf.Loop.trips
  generalize i 2 = z
  revert z
  decide

theorem trips5 (i : grid0.Coords) : (k0_t5_loop i).trips = ((i 2).val - 1) / 2 := by
  unfold k0_t5_loop Scf.Loop.trips
  generalize i 2 = z
  revert z
  decide

theorem trips6 (i : grid0.Coords) : (k0_t6_loop i).trips = 0 := by
  unfold k0_t6_loop Scf.Loop.trips
  generalize i 2 = z
  revert z
  decide

theorem trips7 (i : grid0.Coords) : (k0_t7_loop i).trips = if (i 2).val = 0 then 0 else ((i 2).val + 1) % 2 := by
  unfold k0_t7_loop Scf.Loop.trips
  generalize i 2 = z
  revert z
  decide

theorem trips8 (i : grid0.Coords) : (k0_t8_loop i).trips = 0 := by
  unfold k0_t8_loop Scf.Loop.trips
  generalize i 2 = z
  revert z
  decide

theorem trips9 (i : grid0.Coords) : (k0_t9_loop i).trips = if (i 2).val = 0 then 0 else ((i 2).val + 1) % 2 := by
  unfold k0_t9_loop Scf.Loop.trips
  generalize i 2 = z
  revert z
  decide

theorem trips10 (i : grid0.Coords) : (k0_t10_loop i).trips = 0 := by
  unfold k0_t10_loop Scf.Loop.trips
  generalize i 2 = z
  revert z
  decide

theorem trips11 (i : grid0.Coords) : (k0_t11_loop i).trips = (i 2).val % 2 := by
  unfold k0_t11_loop Scf.Loop.trips
  generalize i 2 = z
  revert z
  decide

theorem trips12 (i : grid0.Coords) : (k0_t12_loop i).trips = 0 := by
  unfold k0_t12_loop Scf.Loop.trips
  generalize i 2 = z
  revert z
  decide

theorem trips13 (i : grid0.Coords) : (k0_t13_loop i).trips = (i 2).val % 2 := by
  unfold k0_t13_loop Scf.Loop.trips
  generalize i 2 = z
  revert z
  decide

theorem trips14 (i : grid0.Coords) : (k0_t14_loop i).trips = 0 := by
  unfold k0_t14_loop Scf.Loop.trips
  generalize i 2 = z
  revert z
  decide

theorem trips15 (i : grid0.Coords) : (k0_t15_loop i).trips = ((i 2).val + 1) % 2 := by
  unfold k0_t15_loop Scf.Loop.trips
  generalize i 2 = z
  revert z
  decide

theorem trips16 (i : grid0.Coords) : (k0_t16_loop i).trips = 0 := by
  unfold k0_t16_loop Scf.Loop.trips
  generalize i 2 = z
  revert z
  decide

theorem off25 (i : grid0.Coords) (h : (i 2).val ≠ 0 ∧ (i 2).val % 2 = 0) : k0_off25 i = ![512 * (((i 2).val - 1) % 8), 128 * (0 : Fin 4).val] := by
  unfold k0_off25
  generalize i 2 = z at h ⊢
  revert z
  decide

theorem off27 (i : grid0.Coords) (h : (i 2).val ≠ 0 ∧ (i 2).val % 2 = 0) : k0_off27 i = ![512 * (((i 2).val - 1) % 8), 128 * (1 : Fin 4).val] := by
  unfold k0_off27
  generalize i 2 = z at h ⊢
  revert z
  decide

theorem off28 (i : grid0.Coords) (h : (i 2).val ≠ 0 ∧ (i 2).val % 2 = 0) : k0_off28 i = ![512 * (((i 2).val - 1) % 8), 128 * (2 : Fin 4).val] := by
  unfold k0_off28
  generalize i 2 = z at h ⊢
  revert z
  decide

theorem off30 (i : grid0.Coords) (h : (i 2).val ≠ 0 ∧ (i 2).val % 2 = 0) : k0_off30 i = ![512 * (((i 2).val - 1) % 8), 128 * (3 : Fin 4).val] := by
  unfold k0_off30
  generalize i 2 = z at h ⊢
  revert z
  decide

theorem off26 (i : grid0.Coords) (h : (i 2).val ≠ 0 ∧ (i 2).val % 2 = 0) : k0_off26 i = ![((i 2).val - 2) % 8, 256 * ((0 : Fin 4).val / 2), 0] := by
  unfold k0_off26
  generalize i 2 = z at h ⊢
  revert z
  decide

theorem off29 (i : grid0.Coords) (h : (i 2).val ≠ 0 ∧ (i 2).val % 2 = 0) : k0_off29 i = ![((i 2).val - 2) % 8, 256 * ((2 : Fin 4).val / 2), 0] := by
  unfold k0_off29
  generalize i 2 = z at h ⊢
  revert z
  decide

theorem off37 (i : grid0.Coords) (h : (i 2).val ≠ 0 ∧ (i 2).val % 2 = 0) : k0_off37 i = ![512 * (((i 2).val) % 8), 128 * (0 : Fin 4).val] := by
  unfold k0_off37
  generalize i 2 = z at h ⊢
  revert z
  decide

theorem off39 (i : grid0.Coords) (h : (i 2).val ≠ 0 ∧ (i 2).val % 2 = 0) : k0_off39 i = ![512 * (((i 2).val) % 8), 128 * (1 : Fin 4).val] := by
  unfold k0_off39
  generalize i 2 = z at h ⊢
  revert z
  decide

theorem off40 (i : grid0.Coords) (h : (i 2).val ≠ 0 ∧ (i 2).val % 2 = 0) : k0_off40 i = ![512 * (((i 2).val) % 8), 128 * (2 : Fin 4).val] := by
  unfold k0_off40
  generalize i 2 = z at h ⊢
  revert z
  decide

theorem off42 (i : grid0.Coords) (h : (i 2).val ≠ 0 ∧ (i 2).val % 2 = 0) : k0_off42 i = ![512 * (((i 2).val) % 8), 128 * (3 : Fin 4).val] := by
  unfold k0_off42
  generalize i 2 = z at h ⊢
  revert z
  decide

theorem off38 (i : grid0.Coords) (h : (i 2).val ≠ 0 ∧ (i 2).val % 2 = 0) : k0_off38 i = ![((i 2).val - 1) % 8, 256 * ((0 : Fin 4).val / 2), 0] := by
  unfold k0_off38
  generalize i 2 = z at h ⊢
  revert z
  decide

theorem off41 (i : grid0.Coords) (h : (i 2).val ≠ 0 ∧ (i 2).val % 2 = 0) : k0_off41 i = ![((i 2).val - 1) % 8, 256 * ((2 : Fin 4).val / 2), 0] := by
  unfold k0_off41
  generalize i 2 = z at h ⊢
  revert z
  decide

theorem off49 (i : grid0.Coords) (h : (i 2).val % 2 = 1) : k0_off49 i = ![512 * (((i 2).val) % 8), 128 * (0 : Fin 4).val] := by
  unfold k0_off49
  generalize i 2 = z at h ⊢
  revert z
  decide

theorem off51 (i : grid0.Coords) (h : (i 2).val % 2 = 1) : k0_off51 i = ![512 * (((i 2).val) % 8), 128 * (1 : Fin 4).val] := by
  unfold k0_off51
  generalize i 2 = z at h ⊢
  revert z
  decide

theorem off52 (i : grid0.Coords) (h : (i 2).val % 2 = 1) : k0_off52 i = ![512 * (((i 2).val) % 8), 128 * (2 : Fin 4).val] := by
  unfold k0_off52
  generalize i 2 = z at h ⊢
  revert z
  decide

theorem off54 (i : grid0.Coords) (h : (i 2).val % 2 = 1) : k0_off54 i = ![512 * (((i 2).val) % 8), 128 * (3 : Fin 4).val] := by
  unfold k0_off54
  generalize i 2 = z at h ⊢
  revert z
  decide

theorem off50 (i : grid0.Coords) (h : (i 2).val % 2 = 1) : k0_off50 i = ![((i 2).val - 1) % 8, 256 * ((0 : Fin 4).val / 2), 0] := by
  unfold k0_off50
  generalize i 2 = z at h ⊢
  revert z
  decide

theorem off53 (i : grid0.Coords) (h : (i 2).val % 2 = 1) : k0_off53 i = ![((i 2).val - 1) % 8, 256 * ((2 : Fin 4).val / 2), 0] := by
  unfold k0_off53
  generalize i 2 = z at h ⊢
  revert z
  decide

theorem off61 (i : grid0.Coords) (h : (i 2).val = (i 2).val) : k0_off61 i = ![(i 2).val % 8, 256 * ((0 : Fin 4).val / 2), 0] := by
  unfold k0_off61
  generalize i 2 = z at h ⊢
  revert z
  decide

theorem off62 (i : grid0.Coords) (h : (i 2).val = (i 2).val) : k0_off62 i = ![(i 2).val % 8, 256 * ((2 : Fin 4).val / 2), 0] := by
  unfold k0_off62
  generalize i 2 = z at h ⊢
  revert z
  decide

theorem off65 (i : grid0.Coords) (h : (i 2).val = (i 2).val) : k0_off65 i = ![(i 2).val % 8, 256 * ((0 : Fin 4).val / 2), 0] := by
  unfold k0_off65
  generalize i 2 = z at h ⊢
  revert z
  decide

theorem off66 (i : grid0.Coords) (h : (i 2).val = (i 2).val) : k0_off66 i = ![(i 2).val % 8, 256 * ((2 : Fin 4).val / 2), 0] := by
  unfold k0_off66
  generalize i 2 = z at h ⊢
  revert z
  decide

theorem trip5_lt (i : grid0.Coords) (k : Fin (k0_t5_loop i).trips) : 2 * k.val + 2 < (i 2).val ∧ k.val < 3 := by
  have h := k.isLt
  have h5 := trips5 i
  have h8 : (i 2).val < 8 := (i 2).isLt
  omega

theorem off1 (i : grid0.Coords) (k : Fin (k0_t5_loop i).trips) :
    k0_off1 i k = ![512 * ((2 * k.val + 1) % 8), 128 * (0 : Fin 4).val] := by
  have hk := trip5_lt i k
  unfold k0_off1
  generalize k.val = n at hk ⊢
  obtain rfl | rfl | rfl : n = 0 ∨ n = 1 ∨ n = 2 := by omega
  all_goals decide

theorem off3 (i : grid0.Coords) (k : Fin (k0_t5_loop i).trips) :
    k0_off3 i k = ![512 * ((2 * k.val + 1) % 8), 128 * (1 : Fin 4).val] := by
  have hk := trip5_lt i k
  unfold k0_off3
  generalize k.val = n at hk ⊢
  obtain rfl | rfl | rfl : n = 0 ∨ n = 1 ∨ n = 2 := by omega
  all_goals decide

theorem off4 (i : grid0.Coords) (k : Fin (k0_t5_loop i).trips) :
    k0_off4 i k = ![512 * ((2 * k.val + 1) % 8), 128 * (2 : Fin 4).val] := by
  have hk := trip5_lt i k
  unfold k0_off4
  generalize k.val = n at hk ⊢
  obtain rfl | rfl | rfl : n = 0 ∨ n = 1 ∨ n = 2 := by omega
  all_goals decide

theorem off6 (i : grid0.Coords) (k : Fin (k0_t5_loop i).trips) :
    k0_off6 i k = ![512 * ((2 * k.val + 1) % 8), 128 * (3 : Fin 4).val] := by
  have hk := trip5_lt i k
  unfold k0_off6
  generalize k.val = n at hk ⊢
  obtain rfl | rfl | rfl : n = 0 ∨ n = 1 ∨ n = 2 := by omega
  all_goals decide

theorem off7 (i : grid0.Coords) (k : Fin (k0_t5_loop i).trips) :
    k0_off7 i k = ![512 * ((2 * k.val + 2) % 8), 128 * (0 : Fin 4).val] := by
  have hk := trip5_lt i k
  unfold k0_off7
  generalize k.val = n at hk ⊢
  obtain rfl | rfl | rfl : n = 0 ∨ n = 1 ∨ n = 2 := by omega
  all_goals decide

theorem off9 (i : grid0.Coords) (k : Fin (k0_t5_loop i).trips) :
    k0_off9 i k = ![512 * ((2 * k.val + 2) % 8), 128 * (1 : Fin 4).val] := by
  have hk := trip5_lt i k
  unfold k0_off9
  generalize k.val = n at hk ⊢
  obtain rfl | rfl | rfl : n = 0 ∨ n = 1 ∨ n = 2 := by omega
  all_goals decide

theorem off10 (i : grid0.Coords) (k : Fin (k0_t5_loop i).trips) :
    k0_off10 i k = ![512 * ((2 * k.val + 2) % 8), 128 * (2 : Fin 4).val] := by
  have hk := trip5_lt i k
  unfold k0_off10
  generalize k.val = n at hk ⊢
  obtain rfl | rfl | rfl : n = 0 ∨ n = 1 ∨ n = 2 := by omega
  all_goals decide

theorem off12 (i : grid0.Coords) (k : Fin (k0_t5_loop i).trips) :
    k0_off12 i k = ![512 * ((2 * k.val + 2) % 8), 128 * (3 : Fin 4).val] := by
  have hk := trip5_lt i k
  unfold k0_off12
  generalize k.val = n at hk ⊢
  obtain rfl | rfl | rfl : n = 0 ∨ n = 1 ∨ n = 2 := by omega
  all_goals decide

theorem off2 (i : grid0.Coords) (k : Fin (k0_t5_loop i).trips) :
    k0_off2 i k = ![(2 * k.val + 0) % 8, 256 * ((0 : Fin 4).val / 2), 0] := by
  have hk := trip5_lt i k
  unfold k0_off2
  generalize k.val = n at hk ⊢
  obtain rfl | rfl | rfl : n = 0 ∨ n = 1 ∨ n = 2 := by omega
  all_goals decide

theorem off5 (i : grid0.Coords) (k : Fin (k0_t5_loop i).trips) :
    k0_off5 i k = ![(2 * k.val + 0) % 8, 256 * ((2 : Fin 4).val / 2), 0] := by
  have hk := trip5_lt i k
  unfold k0_off5
  generalize k.val = n at hk ⊢
  obtain rfl | rfl | rfl : n = 0 ∨ n = 1 ∨ n = 2 := by omega
  all_goals decide

theorem off8 (i : grid0.Coords) (k : Fin (k0_t5_loop i).trips) :
    k0_off8 i k = ![(2 * k.val + 1) % 8, 256 * ((0 : Fin 4).val / 2), 0] := by
  have hk := trip5_lt i k
  unfold k0_off8
  generalize k.val = n at hk ⊢
  obtain rfl | rfl | rfl : n = 0 ∨ n = 1 ∨ n = 2 := by omega
  all_goals decide

theorem off11 (i : grid0.Coords) (k : Fin (k0_t5_loop i).trips) :
    k0_off11 i k = ![(2 * k.val + 1) % 8, 256 * ((2 : Fin 4).val / 2), 0] := by
  have hk := trip5_lt i k
  unfold k0_off11
  generalize k.val = n at hk ⊢
  obtain rfl | rfl | rfl : n = 0 ∨ n = 1 ∨ n = 2 := by omega
  all_goals decide

end Cert.KernelIdeal.Att
-- ==== Proof.Fox.RegFirst.lean ====
module

public import proofs.«01_k».proof.Proof.Fox.Geo

/-! The first tile. -/

@[expose] public section
noncomputable section
namespace Cert.KernelIdeal.Att
open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
variable {F : FTy → Type} [FloatOps F] [Named F]
local notation "𝕄" => MT nD τ sig Unit (Elt F) ℕ (UR sig nD τ) ℕ

section
variable (c : Dev nD) (i : grid0.Coords)
  (arg3 : Memref sig .tc .vmem S512x512 .bf16) (harg3 : arg3.IsWhole)
  (arg4 : Memref sig .tc .vmem S4096x512 .bf16) (harg4 : arg4.IsWhole)
  (arg5 : Memref sig .tc .vmem S8x512x512 .bf16) (harg5 : arg5.IsWhole)
  (arg6 : Memref sig .tc .vmem S4x128 .f32) (harg6 : arg6.IsWhole)
  (arg7 : Memref sig .tc .vmem S1x256 .f32) (harg7 : arg7.IsWhole)
  (arg8 : Memref sig .tc .vmem S512x512 .bf16) (harg8 : arg8.IsWhole)
  (arg9 : Memref sig .tc .vmem S2x512x512 .f32) (harg9 : arg9.IsWhole)
  (arg10 : Memref sig .tc .vmem S2x512x512 .f32) (harg10 : arg10.IsWhole)
  (arg11 : Memref sig .tc .vmem S2x512x512 .f32) (harg11 : arg11.IsWhole)
  (arg12 : Memref sig .tc .vmem S2x512x512 .f32) (harg12 : arg12.IsWhole)
  (arg13 : Memref sig .tc .vmem S8x1x512 .f32) (harg13 : arg13.IsWhole)
  (arg14 : Memref sig .tc .vmem S4x1x512 .f32) (harg14 : arg14.IsWhole)
  (arg15 : Memref sig .tc .vmem S4x1x512 .f32) (harg15 : arg15.IsWhole)
  (arg16 : Memref sig .tc .vmem S4x256x512 .f32) (harg16 : arg16.IsWhole)
variable (f3 : Con (F := F) arg3) (f4 : Con (F := F) arg4) (f5 : Con (F := F) arg5)

theorem reg1 (f9 : Con (F := F) arg9) (f10 : Con (F := F) arg10) (f11 : Con (F := F) arg11) (f12 : Con (F := F) arg12) (f13 : Con (F := F) arg13) (f14 : Con (F := F) arg14) (f15 : Con (F := F) arg15) (f16 : Con (F := F) arg16)  (k : Fin (k0_t1_loop i).trips)
    (h : Kept4 (arg3.view.read (Elt F) f3) (arg4.view.read (Elt F) f4) (arg5.view.read (Elt F) f5) (i 2).val (0) f14 f15 f16) :
    iprop(held c arg3 f3 ∗ held c arg4 f4 ∗ held c arg5 f5 ∗ held c arg9 f9 ∗ held c arg10 f10 ∗ held c arg11 f11 ∗ held c arg12 f12 ∗ held c arg13 f13 ∗ held c arg14 f14 ∗ held c arg15 f15 ∗ held c arg16 f16) ⊢ wp frame (wpE (defs₀ (F := F)) Variants.none (c : Thread nD τ) none) Set.univ
    (k0_t1_body (F := F) i arg3 harg3 arg4 harg4 arg5 harg5 arg6 harg6 arg7 harg7 arg8 harg8 arg9 harg9 arg10 harg10 arg11 harg11 arg12 harg12 arg13 harg13 arg14 harg14 arg15 harg15 arg16 harg16  k PUnit.unit)
    (fun _ => iprop(held c arg3 f3 ∗ held c arg4 f4 ∗ held c arg5 f5 ∗ ∃ g9 g10 g11 g12 g13 g14 g15 g16, held c arg9 g9 ∗ held c arg10 g10 ∗ held c arg11 g11 ∗ held c arg12 g12 ∗ held c arg13 g13 ∗ held c arg14 g14 ∗ held c arg15 g15 ∗ held c arg16 g16 ∗ ⌜Kept4 (arg3.view.read (Elt F) f3) (arg4.view.read (Elt F) f4) (arg5.view.read (Elt F) f5) (i 2).val (0) g14 g15 g16 ∧ Ahead4E (arg3.view.read (Elt F) f3) (arg4.view.read (Elt F) f4) (i 2).val (0) g9 g10 g11 g12 g13⌝)) := by
  unfold k0_t1_body
  iintro ⟨H3, H4, H5, H9, H10, H11, H12, H13, H14, H15, H16⟩
  sl_exec
  sl_step
  isplitl [H3]; · iexact H3
  isplitl [H4]; · iexact H4
  isplitl [H5]; · iexact H5
  iexists _, _, _, _, _, _, _, _
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  ipureintro
  have hk := lt_of_lt_of_eq k.isLt (trips1 i)
  have hq : (i 2).val = 0 := by
    have h8 : (i 2).val < 8 := (i 2).isLt
    (try split at hk) <;> omega
  refine ⟨h, ⟨?_, ?_, ?_, ?_⟩⟩
  · exact Ahead.on hq.symm rfl rfl (rd_hit _ _ _ _ _ _ _ _) ((rd_skip _ _ _ _ (0 : Fin 3) (by decide)).trans ((rd_skip _ _ _ _ (0 : Fin 3) (by decide)).trans ((rd_skip _ _ _ _ (0 : Fin 3) (by decide)).trans (rd_hit _ _ _ _ _ _ _ _))))
  · exact Ahead.on hq.symm rfl rfl (rd_hit _ _ _ _ _ _ _ _) ((rd_skip _ _ _ _ (0 : Fin 3) (by decide)).trans ((rd_skip _ _ _ _ (0 : Fin 3) (by decide)).trans (rd_hit _ _ _ _ _ _ _ _)))
  · exact Ahead.on hq.symm rfl rfl (rd_hit _ _ _ _ _ _ _ _) ((rd_skip _ _ _ _ (0 : Fin 3) (by decide)).trans (rd_hit _ _ _ _ _ _ _ _))
  · exact Ahead.on hq.symm rfl rfl (rd_hit _ _ _ _ _ _ _ _) (rd_hit _ _ _ _ _ _ _ _)

theorem reg3 (f9 : Con (F := F) arg9) (f10 : Con (F := F) arg10) (f11 : Con (F := F) arg11) (f12 : Con (F := F) arg12) (f13 : Con (F := F) arg13) (f14 : Con (F := F) arg14) (f15 : Con (F := F) arg15) (f16 : Con (F := F) arg16)  (k : Fin (k0_t3_loop i).trips)
    (h : Kept4 (arg3.view.read (Elt F) f3) (arg4.view.read (Elt F) f4) (arg5.view.read (Elt F) f5) (i 2).val (0) f14 f15 f16) :
    iprop(held c arg3 f3 ∗ held c arg4 f4 ∗ held c arg5 f5 ∗ held c arg9 f9 ∗ held c arg10 f10 ∗ held c arg11 f11 ∗ held c arg12 f12 ∗ held c arg13 f13 ∗ held c arg14 f14 ∗ held c arg15 f15 ∗ held c arg16 f16) ⊢ wp frame (wpE (defs₀ (F := F)) Variants.none (c : Thread nD τ) none) Set.univ
    (k0_t3_body (F := F) i arg3 harg3 arg4 harg4 arg5 harg5 arg6 harg6 arg7 harg7 arg8 harg8 arg9 harg9 arg10 harg10 arg11 harg11 arg12 harg12 arg13 harg13 arg14 harg14 arg15 harg15 arg16 harg16  k PUnit.unit)
    (fun _ => iprop(held c arg3 f3 ∗ held c arg4 f4 ∗ held c arg5 f5 ∗ ∃ g9 g10 g11 g12 g13 g14 g15 g16, held c arg9 g9 ∗ held c arg10 g10 ∗ held c arg11 g11 ∗ held c arg12 g12 ∗ held c arg13 g13 ∗ held c arg14 g14 ∗ held c arg15 g15 ∗ held c arg16 g16 ∗ ⌜Kept4 (arg3.view.read (Elt F) f3) (arg4.view.read (Elt F) f4) (arg5.view.read (Elt F) f5) (i 2).val (0) g14 g15 g16 ∧ Ahead4E (arg3.view.read (Elt F) f3) (arg4.view.read (Elt F) f4) (i 2).val (0) g9 g10 g11 g12 g13⌝)) := by
  unfold k0_t3_body
  iintro ⟨H3, H4, H5, H9, H10, H11, H12, H13, H14, H15, H16⟩
  sl_exec
  sl_step
  isplitl [H3]; · iexact H3
  isplitl [H4]; · iexact H4
  isplitl [H5]; · iexact H5
  iexists _, _, _, _, _, _, _, _
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  ipureintro
  have hk := lt_of_lt_of_eq k.isLt (trips3 i)
  have hq : (i 2).val ≠ 0 := by
    have h8 : (i 2).val < 8 := (i 2).isLt
    (try split at hk) <;> omega
  refine ⟨h, ⟨?_, ?_, ?_, ?_⟩⟩
  · exact Ahead.off (Ne.symm hq) rfl rfl (rd_hit _ _ _ _ _ _ _ _) ((rd_skip _ _ _ _ (0 : Fin 3) (by decide)).trans ((rd_skip _ _ _ _ (0 : Fin 3) (by decide)).trans ((rd_skip _ _ _ _ (0 : Fin 3) (by decide)).trans (rd_hit _ _ _ _ _ _ _ _))))
  · exact Ahead.off (Ne.symm hq) rfl rfl (rd_hit _ _ _ _ _ _ _ _) ((rd_skip _ _ _ _ (0 : Fin 3) (by decide)).trans ((rd_skip _ _ _ _ (0 : Fin 3) (by decide)).trans (rd_hit _ _ _ _ _ _ _ _)))
  · exact Ahead.off (Ne.symm hq) rfl rfl (rd_hit _ _ _ _ _ _ _ _) ((rd_skip _ _ _ _ (0 : Fin 3) (by decide)).trans (rd_hit _ _ _ _ _ _ _ _))
  · exact Ahead.off (Ne.symm hq) rfl rfl (rd_hit _ _ _ _ _ _ _ _) (rd_hit _ _ _ _ _ _ _ _)

end
end Cert.KernelIdeal.Att
-- ==== Proof.Fox.RegTwo.lean ====
module

public import proofs.«01_k».proof.Proof.Fox.Geo

/-! Two tiles in a trip. -/

@[expose] public section
noncomputable section
namespace Cert.KernelIdeal.Att
open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
variable {F : FTy → Type} [FloatOps F] [Named F]
local notation "𝕄" => MT nD τ sig Unit (Elt F) ℕ (UR sig nD τ) ℕ

section
variable (c : Dev nD) (i : grid0.Coords)
  (arg3 : Memref sig .tc .vmem S512x512 .bf16) (harg3 : arg3.IsWhole)
  (arg4 : Memref sig .tc .vmem S4096x512 .bf16) (harg4 : arg4.IsWhole)
  (arg5 : Memref sig .tc .vmem S8x512x512 .bf16) (harg5 : arg5.IsWhole)
  (arg6 : Memref sig .tc .vmem S4x128 .f32) (harg6 : arg6.IsWhole)
  (arg7 : Memref sig .tc .vmem S1x256 .f32) (harg7 : arg7.IsWhole)
  (arg8 : Memref sig .tc .vmem S512x512 .bf16) (harg8 : arg8.IsWhole)
  (arg9 : Memref sig .tc .vmem S2x512x512 .f32) (harg9 : arg9.IsWhole)
  (arg10 : Memref sig .tc .vmem S2x512x512 .f32) (harg10 : arg10.IsWhole)
  (arg11 : Memref sig .tc .vmem S2x512x512 .f32) (harg11 : arg11.IsWhole)
  (arg12 : Memref sig .tc .vmem S2x512x512 .f32) (harg12 : arg12.IsWhole)
  (arg13 : Memref sig .tc .vmem S8x1x512 .f32) (harg13 : arg13.IsWhole)
  (arg14 : Memref sig .tc .vmem S4x1x512 .f32) (harg14 : arg14.IsWhole)
  (arg15 : Memref sig .tc .vmem S4x1x512 .f32) (harg15 : arg15.IsWhole)
  (arg16 : Memref sig .tc .vmem S4x256x512 .f32) (harg16 : arg16.IsWhole)
variable (f3 : Con (F := F) arg3) (f4 : Con (F := F) arg4) (f5 : Con (F := F) arg5)

/-- The weighted sum of chain 0 after the second block of a round. -/
theorem two_a0 (t : Vec F S1x512x512 .f32) (x m : Vec F S1x1x512 .f32) (v : Vec F S1x256x512 .bf16) (a : Vec F S1x256x512 .f32) :
    k0_pay132 (k0_pay123 v) (k0_pay125 a) (k0_pay127 x m) (k0_pay128 t x m) = aNew t x m v a := rfl

/-- The weighted sum of chain 1 after the second block of a round. -/
theorem two_a1 (t : Vec F S1x512x512 .f32) (x m : Vec F S1x1x512 .f32) (v : Vec F S1x256x512 .bf16) (a : Vec F S1x256x512 .f32) :
    k0_pay143 (k0_pay140 t x v m a) = aNew t x m v a := rfl

/-- The weighted sum of chain 2 after the second block of a round. -/
theorem two_a2 (t : Vec F S1x512x512 .f32) (x m : Vec F S1x1x512 .f32) (v : Vec F S1x256x512 .bf16) (a : Vec F S1x256x512 .f32) :
    k0_pay156 (k0_pay147 t) (k0_pay148 x) (k0_pay149 v) (k0_pay150 m) a = aNew t x m v a := rfl

/-- The weighted sum of chain 3 after the second block of a round. -/
theorem two_a3 (t : Vec F S1x512x512 .f32) (x m : Vec F S1x1x512 .f32) (v : Vec F S1x256x512 .bf16) (a : Vec F S1x256x512 .f32) :
    k0_pay799 (k0_pay162 v) (k0_pay164 a) (k0_pay166 x m) (k0_pay167 t x m) = aNew t x m v a := rfl

set_option maxHeartbeats 1000000 in
theorem reg5 (f9 : Con (F := F) arg9) (f10 : Con (F := F) arg10) (f11 : Con (F := F) arg11) (f12 : Con (F := F) arg12) (f13 : Con (F := F) arg13) (f14 : Con (F := F) arg14) (f15 : Con (F := F) arg15) (f16 : Con (F := F) arg16) (arg2 : BitVec 32) (k : Fin (k0_t5_loop i).trips)
    (h : Kept4 (arg3.view.read (Elt F) f3) (arg4.view.read (Elt F) f4) (arg5.view.read (Elt F) f5) (i 2).val (2 * k.val) f14 f15 f16 ∧ Ahead4E (arg3.view.read (Elt F) f3) (arg4.view.read (Elt F) f4) (i 2).val (2 * k.val) f9 f10 f11 f12 f13) :
    iprop(held c arg3 f3 ∗ held c arg4 f4 ∗ held c arg5 f5 ∗ held c arg9 f9 ∗ held c arg10 f10 ∗ held c arg11 f11 ∗ held c arg12 f12 ∗ held c arg13 f13 ∗ held c arg14 f14 ∗ held c arg15 f15 ∗ held c arg16 f16) ⊢ wp frame (wpE (defs₀ (F := F)) Variants.none (c : Thread nD τ) none) Set.univ
    (k0_t5_body (F := F) i arg3 harg3 arg4 harg4 arg5 harg5 arg6 harg6 arg7 harg7 arg8 harg8 arg9 harg9 arg10 harg10 arg11 harg11 arg12 harg12 arg13 harg13 arg14 harg14 arg15 harg15 arg16 harg16 arg2 k PUnit.unit)
    (fun _ => iprop(held c arg3 f3 ∗ held c arg4 f4 ∗ held c arg5 f5 ∗ ∃ g9 g10 g11 g12 g13 g14 g15 g16, held c arg9 g9 ∗ held c arg10 g10 ∗ held c arg11 g11 ∗ held c arg12 g12 ∗ held c arg13 g13 ∗ held c arg14 g14 ∗ held c arg15 g15 ∗ held c arg16 g16 ∗ ⌜Kept4 (arg3.view.read (Elt F) f3) (arg4.view.read (Elt F) f4) (arg5.view.read (Elt F) f5) (i 2).val (2 * k.val + 1 + 1) g14 g15 g16 ∧ Ahead4E (arg3.view.read (Elt F) f3) (arg4.view.read (Elt F) f4) (i 2).val (2 * k.val + 1 + 1) g9 g10 g11 g12 g13⌝)) := by
  unfold k0_t5_body
  iintro ⟨H3, H4, H5, H9, H10, H11, H12, H13, H14, H15, H16⟩
  sl_exec
  sl_step
  isplitl [H3]; · iexact H3
  isplitl [H4]; · iexact H4
  isplitl [H5]; · iexact H5
  iexists _, _, _, _, _, _, _, _
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  ipureintro
  obtain ⟨⟨k0, k1, k2, k3⟩, ⟨a0, a1, a2, a3⟩⟩ := h
  have hk := trip5_lt i k
  refine ⟨⟨?_, ?_, ?_, ?_⟩, ⟨?_, ?_, ?_, ?_⟩⟩
  · apply Kept.next (n := 2 * k.val + 1)
    case hn => rfl
    case ha' => exact ((rd_skip _ _ _ _ (0 : Fin 3) (by decide)).trans ((rd_skip _ _ _ _ (0 : Fin 3) (by decide)).trans ((rd_skip _ _ _ _ (0 : Fin 3) (by decide)).trans ((rd_hit _ _ _ _ _ _ _ _).trans (two_a0 _ _ _ _ _)))))
    case hl' => exact ((rd_skip _ _ _ _ (0 : Fin 3) (by decide)).trans ((rd_skip _ _ _ _ (0 : Fin 3) (by decide)).trans ((rd_skip _ _ _ _ (0 : Fin 3) (by decide)).trans (rd_hit _ _ _ _ _ _ _ _))))
    case hm' => exact ((rd_skip _ _ _ _ (0 : Fin 3) (by decide)).trans ((rd_skip _ _ _ _ (0 : Fin 3) (by decide)).trans ((rd_skip _ _ _ _ (0 : Fin 3) (by decide)).trans (rd_hit _ _ _ _ _ _ _ _))))
    case hv => exact rd_off arg5 f5 (off8 i k)
    case h => exact Kept.next rfl k0 a0 (rd_off arg5 f5 (off2 i k)) ((rd_skip _ _ _ _ (0 : Fin 3) (by decide)).trans ((rd_skip _ _ _ _ (0 : Fin 3) (by decide)).trans ((rd_skip _ _ _ _ (0 : Fin 3) (by decide)).trans (rd_hit _ _ _ _ _ _ _ _)))) ((rd_skip _ _ _ _ (0 : Fin 3) (by decide)).trans ((rd_skip _ _ _ _ (0 : Fin 3) (by decide)).trans ((rd_skip _ _ _ _ (0 : Fin 3) (by decide)).trans (rd_hit _ _ _ _ _ _ _ _)))) ((rd_skip _ _ _ _ (0 : Fin 3) (by decide)).trans ((rd_skip _ _ _ _ (0 : Fin 3) (by decide)).trans ((rd_skip _ _ _ _ (0 : Fin 3) (by decide)).trans (rd_hit _ _ _ _ _ _ _ _))))
    case ha => exact Ahead.off (by omega) (rd_off arg4 f4 (off1 i k)) rfl ((rd_skip _ _ _ _ (0 : Fin 3) (by decide)).trans (rd_hit _ _ _ _ _ _ _ _)) ((rd_skip _ _ _ _ (0 : Fin 3) (by decide)).trans ((rd_skip _ _ _ _ (0 : Fin 3) (by decide)).trans ((rd_skip _ _ _ _ (0 : Fin 3) (by decide)).trans ((rd_skip _ _ _ _ (0 : Fin 3) (by decide)).trans (rd_hit _ _ _ _ _ _ _ _)))))
  · apply Kept.next (n := 2 * k.val + 1)
    case hn => rfl
    case ha' => exact ((rd_skip _ _ _ _ (0 : Fin 3) (by decide)).trans ((rd_skip _ _ _ _ (0 : Fin 3) (by decide)).trans ((rd_hit _ _ _ _ _ _ _ _).trans (two_a1 _ _ _ _ _))))
    case hl' => exact ((rd_skip _ _ _ _ (0 : Fin 3) (by decide)).trans ((rd_skip _ _ _ _ (0 : Fin 3) (by decide)).trans (rd_hit _ _ _ _ _ _ _ _)))
    case hm' => exact ((rd_skip _ _ _ _ (0 : Fin 3) (by decide)).trans ((rd_skip _ _ _ _ (0 : Fin 3) (by decide)).trans (rd_hit _ _ _ _ _ _ _ _)))
    case hv => exact rd_off arg5 f5 (off8 i k)
    case h => exact Kept.next rfl k1 a1 (rd_off arg5 f5 (off2 i k)) ((rd_skip _ _ _ _ (0 : Fin 3) (by decide)).trans ((rd_skip _ _ _ _ (0 : Fin 3) (by decide)).trans ((rd_skip _ _ _ _ (0 : Fin 3) (by decide)).trans (rd_hit _ _ _ _ _ _ _ _)))) ((rd_skip _ _ _ _ (0 : Fin 3) (by decide)).trans ((rd_skip _ _ _ _ (0 : Fin 3) (by decide)).trans ((rd_skip _ _ _ _ (0 : Fin 3) (by decide)).trans (rd_hit _ _ _ _ _ _ _ _)))) ((rd_skip _ _ _ _ (0 : Fin 3) (by decide)).trans ((rd_skip _ _ _ _ (0 : Fin 3) (by decide)).trans ((rd_skip _ _ _ _ (0 : Fin 3) (by decide)).trans (rd_hit _ _ _ _ _ _ _ _))))
    case ha => exact Ahead.off (by omega) (rd_off arg4 f4 (off3 i k)) rfl ((rd_skip _ _ _ _ (0 : Fin 3) (by decide)).trans (rd_hit _ _ _ _ _ _ _ _)) ((rd_skip _ _ _ _ (0 : Fin 3) (by decide)).trans ((rd_skip _ _ _ _ (0 : Fin 3) (by decide)).trans ((rd_skip _ _ _ _ (0 : Fin 3) (by decide)).trans ((rd_skip _ _ _ _ (0 : Fin 3) (by decide)).trans (rd_hit _ _ _ _ _ _ _ _)))))
  · apply Kept.next (n := 2 * k.val + 1)
    case hn => rfl
    case ha' => exact ((rd_skip _ _ _ _ (0 : Fin 3) (by decide)).trans ((rd_hit _ _ _ _ _ _ _ _).trans (two_a2 _ _ _ _ _)))
    case hl' => exact ((rd_skip _ _ _ _ (0 : Fin 3) (by decide)).trans (rd_hit _ _ _ _ _ _ _ _))
    case hm' => exact ((rd_skip _ _ _ _ (0 : Fin 3) (by decide)).trans (rd_hit _ _ _ _ _ _ _ _))
    case hv => exact rd_off arg5 f5 (off11 i k)
    case h => exact Kept.next rfl k2 a2 (rd_off arg5 f5 (off5 i k)) ((rd_skip _ _ _ _ (0 : Fin 3) (by decide)).trans ((rd_skip _ _ _ _ (0 : Fin 3) (by decide)).trans ((rd_skip _ _ _ _ (0 : Fin 3) (by decide)).trans (rd_hit _ _ _ _ _ _ _ _)))) ((rd_skip _ _ _ _ (0 : Fin 3) (by decide)).trans ((rd_skip _ _ _ _ (0 : Fin 3) (by decide)).trans ((rd_skip _ _ _ _ (0 : Fin 3) (by decide)).trans (rd_hit _ _ _ _ _ _ _ _)))) ((rd_skip _ _ _ _ (0 : Fin 3) (by decide)).trans ((rd_skip _ _ _ _ (0 : Fin 3) (by decide)).trans ((rd_skip _ _ _ _ (0 : Fin 3) (by decide)).trans (rd_hit _ _ _ _ _ _ _ _))))
    case ha => exact Ahead.off (by omega) (rd_off arg4 f4 (off4 i k)) rfl ((rd_skip _ _ _ _ (0 : Fin 3) (by decide)).trans (rd_hit _ _ _ _ _ _ _ _)) ((rd_skip _ _ _ _ (0 : Fin 3) (by decide)).trans ((rd_skip _ _ _ _ (0 : Fin 3) (by decide)).trans ((rd_skip _ _ _ _ (0 : Fin 3) (by decide)).trans ((rd_skip _ _ _ _ (0 : Fin 3) (by decide)).trans (rd_hit _ _ _ _ _ _ _ _)))))
  · apply Kept.next (n := 2 * k.val + 1)
    case hn => rfl
    case ha' => exact ((rd_hit _ _ _ _ _ _ _ _).trans (two_a3 _ _ _ _ _))
    case hl' => exact (rd_hit _ _ _ _ _ _ _ _)
    case hm' => exact (rd_hit _ _ _ _ _ _ _ _)
    case hv => exact rd_off arg5 f5 (off11 i k)
    case h => exact Kept.next rfl k3 a3 (rd_off arg5 f5 (off5 i k)) ((rd_skip _ _ _ _ (0 : Fin 3) (by decide)).trans ((rd_skip _ _ _ _ (0 : Fin 3) (by decide)).trans ((rd_skip _ _ _ _ (0 : Fin 3) (by decide)).trans (rd_hit _ _ _ _ _ _ _ _)))) ((rd_skip _ _ _ _ (0 : Fin 3) (by decide)).trans ((rd_skip _ _ _ _ (0 : Fin 3) (by decide)).trans ((rd_skip _ _ _ _ (0 : Fin 3) (by decide)).trans (rd_hit _ _ _ _ _ _ _ _)))) ((rd_skip _ _ _ _ (0 : Fin 3) (by decide)).trans ((rd_skip _ _ _ _ (0 : Fin 3) (by decide)).trans ((rd_skip _ _ _ _ (0 : Fin 3) (by decide)).trans (rd_hit _ _ _ _ _ _ _ _))))
    case ha => exact Ahead.off (by omega) (rd_off arg4 f4 (off6 i k)) rfl ((rd_skip _ _ _ _ (0 : Fin 3) (by decide)).trans (rd_hit _ _ _ _ _ _ _ _)) ((rd_skip _ _ _ _ (0 : Fin 3) (by decide)).trans ((rd_skip _ _ _ _ (0 : Fin 3) (by decide)).trans ((rd_skip _ _ _ _ (0 : Fin 3) (by decide)).trans ((rd_skip _ _ _ _ (0 : Fin 3) (by decide)).trans (rd_hit _ _ _ _ _ _ _ _)))))
  · exact Ahead.off (by omega) (rd_off arg4 f4 (off7 i k)) rfl (rd_hit _ _ _ _ _ _ _ _) ((rd_skip _ _ _ _ (0 : Fin 3) (by decide)).trans ((rd_skip _ _ _ _ (0 : Fin 3) (by decide)).trans ((rd_skip _ _ _ _ (0 : Fin 3) (by decide)).trans (rd_hit _ _ _ _ _ _ _ _))))
  · exact Ahead.off (by omega) (rd_off arg4 f4 (off9 i k)) rfl (rd_hit _ _ _ _ _ _ _ _) ((rd_skip _ _ _ _ (0 : Fin 3) (by decide)).trans ((rd_skip _ _ _ _ (0 : Fin 3) (by decide)).trans (rd_hit _ _ _ _ _ _ _ _)))
  · exact Ahead.off (by omega) (rd_off arg4 f4 (off10 i k)) rfl (rd_hit _ _ _ _ _ _ _ _) ((rd_skip _ _ _ _ (0 : Fin 3) (by decide)).trans (rd_hit _ _ _ _ _ _ _ _))
  · exact Ahead.off (by omega) (rd_off arg4 f4 (off12 i k)) rfl (rd_hit _ _ _ _ _ _ _ _) (rd_hit _ _ _ _ _ _ _ _)

end
end Cert.KernelIdeal.Att
-- ==== Proof.Fox.RegOne.lean ====
module

public import proofs.«01_k».proof.Proof.Fox.Geo

/-! One tile in a trip. -/

@[expose] public section
noncomputable section
namespace Cert.KernelIdeal.Att
open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
variable {F : FTy → Type} [FloatOps F] [Named F]
local notation "𝕄" => MT nD τ sig Unit (Elt F) ℕ (UR sig nD τ) ℕ

section
variable (c : Dev nD) (i : grid0.Coords)
  (arg3 : Memref sig .tc .vmem S512x512 .bf16) (harg3 : arg3.IsWhole)
  (arg4 : Memref sig .tc .vmem S4096x512 .bf16) (harg4 : arg4.IsWhole)
  (arg5 : Memref sig .tc .vmem S8x512x512 .bf16) (harg5 : arg5.IsWhole)
  (arg6 : Memref sig .tc .vmem S4x128 .f32) (harg6 : arg6.IsWhole)
  (arg7 : Memref sig .tc .vmem S1x256 .f32) (harg7 : arg7.IsWhole)
  (arg8 : Memref sig .tc .vmem S512x512 .bf16) (harg8 : arg8.IsWhole)
  (arg9 : Memref sig .tc .vmem S2x512x512 .f32) (harg9 : arg9.IsWhole)
  (arg10 : Memref sig .tc .vmem S2x512x512 .f32) (harg10 : arg10.IsWhole)
  (arg11 : Memref sig .tc .vmem S2x512x512 .f32) (harg11 : arg11.IsWhole)
  (arg12 : Memref sig .tc .vmem S2x512x512 .f32) (harg12 : arg12.IsWhole)
  (arg13 : Memref sig .tc .vmem S8x1x512 .f32) (harg13 : arg13.IsWhole)
  (arg14 : Memref sig .tc .vmem S4x1x512 .f32) (harg14 : arg14.IsWhole)
  (arg15 : Memref sig .tc .vmem S4x1x512 .f32) (harg15 : arg15.IsWhole)
  (arg16 : Memref sig .tc .vmem S4x256x512 .f32) (harg16 : arg16.IsWhole)
variable (f3 : Con (F := F) arg3) (f4 : Con (F := F) arg4) (f5 : Con (F := F) arg5)

theorem reg7 (f9 : Con (F := F) arg9) (f10 : Con (F := F) arg10) (f11 : Con (F := F) arg11) (f12 : Con (F := F) arg12) (f13 : Con (F := F) arg13) (f14 : Con (F := F) arg14) (f15 : Con (F := F) arg15) (f16 : Con (F := F) arg16) (arg2 v45 : BitVec 32) (v54 v58 : BitVec 1) (c0 v60 c1 : BitVec 32) (k : Fin (k0_t7_loop i).trips)
    (h : Kept4 (arg3.view.read (Elt F) f3) (arg4.view.read (Elt F) f4) (arg5.view.read (Elt F) f5) (i 2).val ((i 2).val - 2) f14 f15 f16 ∧ Ahead4E (arg3.view.read (Elt F) f3) (arg4.view.read (Elt F) f4) (i 2).val ((i 2).val - 2) f9 f10 f11 f12 f13) :
    iprop(held c arg3 f3 ∗ held c arg4 f4 ∗ held c arg5 f5 ∗ held c arg9 f9 ∗ held c arg10 f10 ∗ held c arg11 f11 ∗ held c arg12 f12 ∗ held c arg13 f13 ∗ held c arg14 f14 ∗ held c arg15 f15 ∗ held c arg16 f16) ⊢ wp frame (wpE (defs₀ (F := F)) Variants.none (c : Thread nD τ) none) Set.univ
    (k0_t7_body (F := F) i arg3 harg3 arg4 harg4 arg5 harg5 arg6 harg6 arg7 harg7 arg8 harg8 arg9 harg9 arg10 harg10 arg11 harg11 arg12 harg12 arg13 harg13 arg14 harg14 arg15 harg15 arg16 harg16 arg2 v45 v54 v58 c0 v60 c1 k PUnit.unit)
    (fun _ => iprop(held c arg3 f3 ∗ held c arg4 f4 ∗ held c arg5 f5 ∗ ∃ g9 g10 g11 g12 g13 g14 g15 g16, held c arg9 g9 ∗ held c arg10 g10 ∗ held c arg11 g11 ∗ held c arg12 g12 ∗ held c arg13 g13 ∗ held c arg14 g14 ∗ held c arg15 g15 ∗ held c arg16 g16 ∗ ⌜Kept4 (arg3.view.read (Elt F) f3) (arg4.view.read (Elt F) f4) (arg5.view.read (Elt F) f5) (i 2).val ((i 2).val - 1) g14 g15 g16 ∧ Ahead4O (arg3.view.read (Elt F) f3) (arg4.view.read (Elt F) f4) (i 2).val ((i 2).val - 1) g9 g10 g11 g12 g13⌝)) := by
  unfold k0_t7_body
  iintro ⟨H3, H4, H5, H9, H10, H11, H12, H13, H14, H15, H16⟩
  sl_exec
  sl_step
  isplitl [H3]; · iexact H3
  isplitl [H4]; · iexact H4
  isplitl [H5]; · iexact H5
  iexists _, _, _, _, _, _, _, _
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  ipureintro
  obtain ⟨⟨k0, k1, k2, k3⟩, ⟨a0, a1, a2, a3⟩⟩ := h
  have hk := lt_of_lt_of_eq k.isLt (trips7 i)
  have hq : (i 2).val ≠ 0 ∧ (i 2).val % 2 = 0 := by
    have h8 : (i 2).val < 8 := (i 2).isLt
    (try split at hk) <;> omega
  have e : (i 2).val - 1 = (i 2).val - 2 + 1 := by omega
  refine ⟨⟨?_, ?_, ?_, ?_⟩, ⟨?_, ?_, ?_, ?_⟩⟩
  · exact Kept.next e k0 a0 (rd_off arg5 f5 (off26 i hq)) ((rd_skip _ _ _ _ (0 : Fin 3) (by decide)).trans ((rd_skip _ _ _ _ (0 : Fin 3) (by decide)).trans ((rd_skip _ _ _ _ (0 : Fin 3) (by decide)).trans (rd_hit _ _ _ _ _ _ _ _)))) ((rd_skip _ _ _ _ (0 : Fin 3) (by decide)).trans ((rd_skip _ _ _ _ (0 : Fin 3) (by decide)).trans ((rd_skip _ _ _ _ (0 : Fin 3) (by decide)).trans (rd_hit _ _ _ _ _ _ _ _)))) ((rd_skip _ _ _ _ (0 : Fin 3) (by decide)).trans ((rd_skip _ _ _ _ (0 : Fin 3) (by decide)).trans ((rd_skip _ _ _ _ (0 : Fin 3) (by decide)).trans (rd_hit _ _ _ _ _ _ _ _))))
  · exact Kept.next e k1 a1 (rd_off arg5 f5 (off26 i hq)) ((rd_skip _ _ _ _ (0 : Fin 3) (by decide)).trans ((rd_skip _ _ _ _ (0 : Fin 3) (by decide)).trans (rd_hit _ _ _ _ _ _ _ _))) ((rd_skip _ _ _ _ (0 : Fin 3) (by decide)).trans ((rd_skip _ _ _ _ (0 : Fin 3) (by decide)).trans (rd_hit _ _ _ _ _ _ _ _))) ((rd_skip _ _ _ _ (0 : Fin 3) (by decide)).trans ((rd_skip _ _ _ _ (0 : Fin 3) (by decide)).trans (rd_hit _ _ _ _ _ _ _ _)))
  · exact Kept.next e k2 a2 (rd_off arg5 f5 (off29 i hq)) ((rd_skip _ _ _ _ (0 : Fin 3) (by decide)).trans (rd_hit _ _ _ _ _ _ _ _)) ((rd_skip _ _ _ _ (0 : Fin 3) (by decide)).trans (rd_hit _ _ _ _ _ _ _ _)) ((rd_skip _ _ _ _ (0 : Fin 3) (by decide)).trans (rd_hit _ _ _ _ _ _ _ _))
  · exact Kept.next e k3 a3 (rd_off arg5 f5 (off29 i hq)) (rd_hit _ _ _ _ _ _ _ _) (rd_hit _ _ _ _ _ _ _ _) (rd_hit _ _ _ _ _ _ _ _)
  · exact Ahead.off (by omega) (rd_off arg4 f4 (off25 i hq)) rfl (rd_hit _ _ _ _ _ _ _ _) ((rd_skip _ _ _ _ (0 : Fin 3) (by decide)).trans ((rd_skip _ _ _ _ (0 : Fin 3) (by decide)).trans ((rd_skip _ _ _ _ (0 : Fin 3) (by decide)).trans (rd_hit _ _ _ _ _ _ _ _))))
  · exact Ahead.off (by omega) (rd_off arg4 f4 (off27 i hq)) rfl (rd_hit _ _ _ _ _ _ _ _) ((rd_skip _ _ _ _ (0 : Fin 3) (by decide)).trans ((rd_skip _ _ _ _ (0 : Fin 3) (by decide)).trans (rd_hit _ _ _ _ _ _ _ _)))
  · exact Ahead.off (by omega) (rd_off arg4 f4 (off28 i hq)) rfl (rd_hit _ _ _ _ _ _ _ _) ((rd_skip _ _ _ _ (0 : Fin 3) (by decide)).trans (rd_hit _ _ _ _ _ _ _ _))
  · exact Ahead.off (by omega) (rd_off arg4 f4 (off30 i hq)) rfl (rd_hit _ _ _ _ _ _ _ _) (rd_hit _ _ _ _ _ _ _ _)

theorem reg9 (f9 : Con (F := F) arg9) (f10 : Con (F := F) arg10) (f11 : Con (F := F) arg11) (f12 : Con (F := F) arg12) (f13 : Con (F := F) arg13) (f14 : Con (F := F) arg14) (f15 : Con (F := F) arg15) (f16 : Con (F := F) arg16) (arg2 v45 : BitVec 32) (v54 v58 : BitVec 1) (c0 v60 c1 : BitVec 32) (k : Fin (k0_t9_loop i).trips)
    (h : Kept4 (arg3.view.read (Elt F) f3) (arg4.view.read (Elt F) f4) (arg5.view.read (Elt F) f5) (i 2).val ((i 2).val - 1) f14 f15 f16 ∧ Ahead4O (arg3.view.read (Elt F) f3) (arg4.view.read (Elt F) f4) (i 2).val ((i 2).val - 1) f9 f10 f11 f12 f13) :
    iprop(held c arg3 f3 ∗ held c arg4 f4 ∗ held c arg5 f5 ∗ held c arg9 f9 ∗ held c arg10 f10 ∗ held c arg11 f11 ∗ held c arg12 f12 ∗ held c arg13 f13 ∗ held c arg14 f14 ∗ held c arg15 f15 ∗ held c arg16 f16) ⊢ wp frame (wpE (defs₀ (F := F)) Variants.none (c : Thread nD τ) none) Set.univ
    (k0_t9_body (F := F) i arg3 harg3 arg4 harg4 arg5 harg5 arg6 harg6 arg7 harg7 arg8 harg8 arg9 harg9 arg10 harg10 arg11 harg11 arg12 harg12 arg13 harg13 arg14 harg14 arg15 harg15 arg16 harg16 arg2 v45 v54 v58 c0 v60 c1 k PUnit.unit)
    (fun _ => iprop(held c arg3 f3 ∗ held c arg4 f4 ∗ held c arg5 f5 ∗ ∃ g9 g10 g11 g12 g13 g14 g15 g16, held c arg9 g9 ∗ held c arg10 g10 ∗ held c arg11 g11 ∗ held c arg12 g12 ∗ held c arg13 g13 ∗ held c arg14 g14 ∗ held c arg15 g15 ∗ held c arg16 g16 ∗ ⌜Kept4 (arg3.view.read (Elt F) f3) (arg4.view.read (Elt F) f4) (arg5.view.read (Elt F) f5) (i 2).val ((i 2).val) g14 g15 g16 ∧ Ahead4E (arg3.view.read (Elt F) f3) (arg4.view.read (Elt F) f4) (i 2).val ((i 2).val) g9 g10 g11 g12 g13⌝)) := by
  unfold k0_t9_body
  iintro ⟨H3, H4, H5, H9, H10, H11, H12, H13, H14, H15, H16⟩
  sl_exec
  sl_step
  isplitl [H3]; · iexact H3
  isplitl [H4]; · iexact H4
  isplitl [H5]; · iexact H5
  iexists _, _, _, _, _, _, _, _
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  ipureintro
  obtain ⟨⟨k0, k1, k2, k3⟩, ⟨a0, a1, a2, a3⟩⟩ := h
  have hk := lt_of_lt_of_eq k.isLt (trips9 i)
  have hq : (i 2).val ≠ 0 ∧ (i 2).val % 2 = 0 := by
    have h8 : (i 2).val < 8 := (i 2).isLt
    (try split at hk) <;> omega
  have e : (i 2).val = (i 2).val - 1 + 1 := by omega
  refine ⟨⟨?_, ?_, ?_, ?_⟩, ⟨?_, ?_, ?_, ?_⟩⟩
  · exact Kept.next e k0 a0 (rd_off arg5 f5 (off38 i hq)) ((rd_skip _ _ _ _ (0 : Fin 3) (by decide)).trans ((rd_skip _ _ _ _ (0 : Fin 3) (by decide)).trans ((rd_skip _ _ _ _ (0 : Fin 3) (by decide)).trans (rd_hit _ _ _ _ _ _ _ _)))) ((rd_skip _ _ _ _ (0 : Fin 3) (by decide)).trans ((rd_skip _ _ _ _ (0 : Fin 3) (by decide)).trans ((rd_skip _ _ _ _ (0 : Fin 3) (by decide)).trans (rd_hit _ _ _ _ _ _ _ _)))) ((rd_skip _ _ _ _ (0 : Fin 3) (by decide)).trans ((rd_skip _ _ _ _ (0 : Fin 3) (by decide)).trans ((rd_skip _ _ _ _ (0 : Fin 3) (by decide)).trans (rd_hit _ _ _ _ _ _ _ _))))
  · exact Kept.next e k1 a1 (rd_off arg5 f5 (off38 i hq)) ((rd_skip _ _ _ _ (0 : Fin 3) (by decide)).trans ((rd_skip _ _ _ _ (0 : Fin 3) (by decide)).trans (rd_hit _ _ _ _ _ _ _ _))) ((rd_skip _ _ _ _ (0 : Fin 3) (by decide)).trans ((rd_skip _ _ _ _ (0 : Fin 3) (by decide)).trans (rd_hit _ _ _ _ _ _ _ _))) ((rd_skip _ _ _ _ (0 : Fin 3) (by decide)).trans ((rd_skip _ _ _ _ (0 : Fin 3) (by decide)).trans (rd_hit _ _ _ _ _ _ _ _)))
  · exact Kept.next e k2 a2 (rd_off arg5 f5 (off41 i hq)) ((rd_skip _ _ _ _ (0 : Fin 3) (by decide)).trans (rd_hit _ _ _ _ _ _ _ _)) ((rd_skip _ _ _ _ (0 : Fin 3) (by decide)).trans (rd_hit _ _ _ _ _ _ _ _)) ((rd_skip _ _ _ _ (0 : Fin 3) (by decide)).trans (rd_hit _ _ _ _ _ _ _ _))
  · exact Kept.next e k3 a3 (rd_off arg5 f5 (off41 i hq)) (rd_hit _ _ _ _ _ _ _ _) (rd_hit _ _ _ _ _ _ _ _) (rd_hit _ _ _ _ _ _ _ _)
  · exact Ahead.on rfl (rd_off arg4 f4 (off37 i hq)) rfl (rd_hit _ _ _ _ _ _ _ _) ((rd_skip _ _ _ _ (0 : Fin 3) (by decide)).trans ((rd_skip _ _ _ _ (0 : Fin 3) (by decide)).trans ((rd_skip _ _ _ _ (0 : Fin 3) (by decide)).trans (rd_hit _ _ _ _ _ _ _ _))))
  · exact Ahead.on rfl (rd_off arg4 f4 (off39 i hq)) rfl (rd_hit _ _ _ _ _ _ _ _) ((rd_skip _ _ _ _ (0 : Fin 3) (by decide)).trans ((rd_skip _ _ _ _ (0 : Fin 3) (by decide)).trans (rd_hit _ _ _ _ _ _ _ _)))
  · exact Ahead.on rfl (rd_off arg4 f4 (off40 i hq)) rfl (rd_hit _ _ _ _ _ _ _ _) ((rd_skip _ _ _ _ (0 : Fin 3) (by decide)).trans (rd_hit _ _ _ _ _ _ _ _))
  · exact Ahead.on rfl (rd_off arg4 f4 (off42 i hq)) rfl (rd_hit _ _ _ _ _ _ _ _) (rd_hit _ _ _ _ _ _ _ _)

theorem reg11 (f9 : Con (F := F) arg9) (f10 : Con (F := F) arg10) (f11 : Con (F := F) arg11) (f12 : Con (F := F) arg12) (f13 : Con (F := F) arg13) (f14 : Con (F := F) arg14) (f15 : Con (F := F) arg15) (f16 : Con (F := F) arg16) (arg2 v45 : BitVec 32) (v54 v58 : BitVec 1) (c0 v60 c1 : BitVec 32) (k : Fin (k0_t11_loop i).trips)
    (h : Kept4 (arg3.view.read (Elt F) f3) (arg4.view.read (Elt F) f4) (arg5.view.read (Elt F) f5) (i 2).val ((i 2).val - 1) f14 f15 f16 ∧ Ahead4E (arg3.view.read (Elt F) f3) (arg4.view.read (Elt F) f4) (i 2).val ((i 2).val - 1) f9 f10 f11 f12 f13) :
    iprop(held c arg3 f3 ∗ held c arg4 f4 ∗ held c arg5 f5 ∗ held c arg9 f9 ∗ held c arg10 f10 ∗ held c arg11 f11 ∗ held c arg12 f12 ∗ held c arg13 f13 ∗ held c arg14 f14 ∗ held c arg15 f15 ∗ held c arg16 f16) ⊢ wp frame (wpE (defs₀ (F := F)) Variants.none (c : Thread nD τ) none) Set.univ
    (k0_t11_body (F := F) i arg3 harg3 arg4 harg4 arg5 harg5 arg6 harg6 arg7 harg7 arg8 harg8 arg9 harg9 arg10 harg10 arg11 harg11 arg12 harg12 arg13 harg13 arg14 harg14 arg15 harg15 arg16 harg16 arg2 v45 v54 v58 c0 v60 c1 k PUnit.unit)
    (fun _ => iprop(held c arg3 f3 ∗ held c arg4 f4 ∗ held c arg5 f5 ∗ ∃ g9 g10 g11 g12 g13 g14 g15 g16, held c arg9 g9 ∗ held c arg10 g10 ∗ held c arg11 g11 ∗ held c arg12 g12 ∗ held c arg13 g13 ∗ held c arg14 g14 ∗ held c arg15 g15 ∗ held c arg16 g16 ∗ ⌜Kept4 (arg3.view.read (Elt F) f3) (arg4.view.read (Elt F) f4) (arg5.view.read (Elt F) f5) (i 2).val ((i 2).val) g14 g15 g16 ∧ Ahead4O (arg3.view.read (Elt F) f3) (arg4.view.read (Elt F) f4) (i 2).val ((i 2).val) g9 g10 g11 g12 g13⌝)) := by
  unfold k0_t11_body
  iintro ⟨H3, H4, H5, H9, H10, H11, H12, H13, H14, H15, H16⟩
  sl_exec
  sl_step
  isplitl [H3]; · iexact H3
  isplitl [H4]; · iexact H4
  isplitl [H5]; · iexact H5
  iexists _, _, _, _, _, _, _, _
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  ipureintro
  obtain ⟨⟨k0, k1, k2, k3⟩, ⟨a0, a1, a2, a3⟩⟩ := h
  have hk := lt_of_lt_of_eq k.isLt (trips11 i)
  have hq : (i 2).val % 2 = 1 := by
    have h8 : (i 2).val < 8 := (i 2).isLt
    (try split at hk) <;> omega
  have e : (i 2).val = (i 2).val - 1 + 1 := by omega
  refine ⟨⟨?_, ?_, ?_, ?_⟩, ⟨?_, ?_, ?_, ?_⟩⟩
  · exact Kept.next e k0 a0 (rd_off arg5 f5 (off50 i hq)) ((rd_skip _ _ _ _ (0 : Fin 3) (by decide)).trans ((rd_skip _ _ _ _ (0 : Fin 3) (by decide)).trans ((rd_skip _ _ _ _ (0 : Fin 3) (by decide)).trans (rd_hit _ _ _ _ _ _ _ _)))) ((rd_skip _ _ _ _ (0 : Fin 3) (by decide)).trans ((rd_skip _ _ _ _ (0 : Fin 3) (by decide)).trans ((rd_skip _ _ _ _ (0 : Fin 3) (by decide)).trans (rd_hit _ _ _ _ _ _ _ _)))) ((rd_skip _ _ _ _ (0 : Fin 3) (by decide)).trans ((rd_skip _ _ _ _ (0 : Fin 3) (by decide)).trans ((rd_skip _ _ _ _ (0 : Fin 3) (by decide)).trans (rd_hit _ _ _ _ _ _ _ _))))
  · exact Kept.next e k1 a1 (rd_off arg5 f5 (off50 i hq)) ((rd_skip _ _ _ _ (0 : Fin 3) (by decide)).trans ((rd_skip _ _ _ _ (0 : Fin 3) (by decide)).trans (rd_hit _ _ _ _ _ _ _ _))) ((rd_skip _ _ _ _ (0 : Fin 3) (by decide)).trans ((rd_skip _ _ _ _ (0 : Fin 3) (by decide)).trans (rd_hit _ _ _ _ _ _ _ _))) ((rd_skip _ _ _ _ (0 : Fin 3) (by decide)).trans ((rd_skip _ _ _ _ (0 : Fin 3) (by decide)).trans (rd_hit _ _ _ _ _ _ _ _)))
  · exact Kept.next e k2 a2 (rd_off arg5 f5 (off53 i hq)) ((rd_skip _ _ _ _ (0 : Fin 3) (by decide)).trans (rd_hit _ _ _ _ _ _ _ _)) ((rd_skip _ _ _ _ (0 : Fin 3) (by decide)).trans (rd_hit _ _ _ _ _ _ _ _)) ((rd_skip _ _ _ _ (0 : Fin 3) (by decide)).trans (rd_hit _ _ _ _ _ _ _ _))
  · exact Kept.next e k3 a3 (rd_off arg5 f5 (off53 i hq)) (rd_hit _ _ _ _ _ _ _ _) (rd_hit _ _ _ _ _ _ _ _) (rd_hit _ _ _ _ _ _ _ _)
  · exact Ahead.on rfl (rd_off arg4 f4 (off49 i hq)) rfl (rd_hit _ _ _ _ _ _ _ _) ((rd_skip _ _ _ _ (0 : Fin 3) (by decide)).trans ((rd_skip _ _ _ _ (0 : Fin 3) (by decide)).trans ((rd_skip _ _ _ _ (0 : Fin 3) (by decide)).trans (rd_hit _ _ _ _ _ _ _ _))))
  · exact Ahead.on rfl (rd_off arg4 f4 (off51 i hq)) rfl (rd_hit _ _ _ _ _ _ _ _) ((rd_skip _ _ _ _ (0 : Fin 3) (by decide)).trans ((rd_skip _ _ _ _ (0 : Fin 3) (by decide)).trans (rd_hit _ _ _ _ _ _ _ _)))
  · exact Ahead.on rfl (rd_off arg4 f4 (off52 i hq)) rfl (rd_hit _ _ _ _ _ _ _ _) ((rd_skip _ _ _ _ (0 : Fin 3) (by decide)).trans (rd_hit _ _ _ _ _ _ _ _))
  · exact Ahead.on rfl (rd_off arg4 f4 (off54 i hq)) rfl (rd_hit _ _ _ _ _ _ _ _) (rd_hit _ _ _ _ _ _ _ _)

end
end Cert.KernelIdeal.Att
-- ==== Proof.Fox.RegLast.lean ====
module

public import proofs.«01_k».proof.Proof.Fox.Geo

/-! The tile on the diagonal. -/

@[expose] public section
noncomputable section
namespace Cert.KernelIdeal.Att
open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
variable {F : FTy → Type} [FloatOps F] [Named F]
local notation "𝕄" => MT nD τ sig Unit (Elt F) ℕ (UR sig nD τ) ℕ

section
variable (c : Dev nD) (i : grid0.Coords)
  (arg3 : Memref sig .tc .vmem S512x512 .bf16) (harg3 : arg3.IsWhole)
  (arg4 : Memref sig .tc .vmem S4096x512 .bf16) (harg4 : arg4.IsWhole)
  (arg5 : Memref sig .tc .vmem S8x512x512 .bf16) (harg5 : arg5.IsWhole)
  (arg6 : Memref sig .tc .vmem S4x128 .f32) (harg6 : arg6.IsWhole)
  (arg7 : Memref sig .tc .vmem S1x256 .f32) (harg7 : arg7.IsWhole)
  (arg8 : Memref sig .tc .vmem S512x512 .bf16) (harg8 : arg8.IsWhole)
  (arg9 : Memref sig .tc .vmem S2x512x512 .f32) (harg9 : arg9.IsWhole)
  (arg10 : Memref sig .tc .vmem S2x512x512 .f32) (harg10 : arg10.IsWhole)
  (arg11 : Memref sig .tc .vmem S2x512x512 .f32) (harg11 : arg11.IsWhole)
  (arg12 : Memref sig .tc .vmem S2x512x512 .f32) (harg12 : arg12.IsWhole)
  (arg13 : Memref sig .tc .vmem S8x1x512 .f32) (harg13 : arg13.IsWhole)
  (arg14 : Memref sig .tc .vmem S4x1x512 .f32) (harg14 : arg14.IsWhole)
  (arg15 : Memref sig .tc .vmem S4x1x512 .f32) (harg15 : arg15.IsWhole)
  (arg16 : Memref sig .tc .vmem S4x256x512 .f32) (harg16 : arg16.IsWhole)
variable (f3 : Con (F := F) arg3) (f4 : Con (F := F) arg4) (f5 : Con (F := F) arg5)

theorem reg13 (f9 : Con (F := F) arg9) (f10 : Con (F := F) arg10) (f11 : Con (F := F) arg11) (f12 : Con (F := F) arg12) (f13 : Con (F := F) arg13) (f14 : Con (F := F) arg14) (f15 : Con (F := F) arg15) (f16 : Con (F := F) arg16) (arg2 v45 : BitVec 32) (v54 v58 : BitVec 1) (c0 v60 c1 : BitVec 32) (k : Fin (k0_t13_loop i).trips)
    (h : Kept4 (arg3.view.read (Elt F) f3) (arg4.view.read (Elt F) f4) (arg5.view.read (Elt F) f5) (i 2).val ((i 2).val) f14 f15 f16 ∧ Ahead4O (arg3.view.read (Elt F) f3) (arg4.view.read (Elt F) f4) (i 2).val ((i 2).val) f9 f10 f11 f12 f13) :
    iprop(held c arg3 f3 ∗ held c arg4 f4 ∗ held c arg5 f5 ∗ held c arg9 f9 ∗ held c arg10 f10 ∗ held c arg11 f11 ∗ held c arg12 f12 ∗ held c arg13 f13 ∗ held c arg14 f14 ∗ held c arg15 f15 ∗ held c arg16 f16) ⊢ wp frame (wpE (defs₀ (F := F)) Variants.none (c : Thread nD τ) none) Set.univ
    (k0_t13_body (F := F) i arg3 harg3 arg4 harg4 arg5 harg5 arg6 harg6 arg7 harg7 arg8 harg8 arg9 harg9 arg10 harg10 arg11 harg11 arg12 harg12 arg13 harg13 arg14 harg14 arg15 harg15 arg16 harg16 arg2 v45 v54 v58 c0 v60 c1 k PUnit.unit)
    (fun _ => iprop(held c arg3 f3 ∗ held c arg4 f4 ∗ held c arg5 f5 ∗ ∃ g9 g10 g11 g12 g13 g14 g15 g16, held c arg9 g9 ∗ held c arg10 g10 ∗ held c arg11 g11 ∗ held c arg12 g12 ∗ held c arg13 g13 ∗ held c arg14 g14 ∗ held c arg15 g15 ∗ held c arg16 g16 ∗ ⌜Kept4 (arg3.view.read (Elt F) f3) (arg4.view.read (Elt F) f4) (arg5.view.read (Elt F) f5) (i 2).val ((i 2).val + 1) g14 g15 g16⌝)) := by
  unfold k0_t13_body
  iintro ⟨H3, H4, H5, H9, H10, H11, H12, H13, H14, H15, H16⟩
  sl_exec
  sl_step
  isplitl [H3]; · iexact H3
  isplitl [H4]; · iexact H4
  isplitl [H5]; · iexact H5
  iexists _, _, _, _, _, _, _, _
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  ipureintro
  obtain ⟨⟨k0, k1, k2, k3⟩, ⟨a0, a1, a2, a3⟩⟩ := h
  refine ⟨?_, ?_, ?_, ?_⟩
  · exact Kept.next rfl k0 a0 (rd_off arg5 f5 (off61 i rfl)) ((rd_skip _ _ _ _ (0 : Fin 3) (by decide)).trans ((rd_skip _ _ _ _ (0 : Fin 3) (by decide)).trans ((rd_skip _ _ _ _ (0 : Fin 3) (by decide)).trans (rd_hit _ _ _ _ _ _ _ _)))) ((rd_skip _ _ _ _ (0 : Fin 3) (by decide)).trans ((rd_skip _ _ _ _ (0 : Fin 3) (by decide)).trans ((rd_skip _ _ _ _ (0 : Fin 3) (by decide)).trans (rd_hit _ _ _ _ _ _ _ _)))) ((rd_skip _ _ _ _ (0 : Fin 3) (by decide)).trans ((rd_skip _ _ _ _ (0 : Fin 3) (by decide)).trans ((rd_skip _ _ _ _ (0 : Fin 3) (by decide)).trans (rd_hit _ _ _ _ _ _ _ _))))
  · exact Kept.next rfl k1 a1 (rd_off arg5 f5 (off61 i rfl)) ((rd_skip _ _ _ _ (0 : Fin 3) (by decide)).trans ((rd_skip _ _ _ _ (0 : Fin 3) (by decide)).trans (rd_hit _ _ _ _ _ _ _ _))) ((rd_skip _ _ _ _ (0 : Fin 3) (by decide)).trans ((rd_skip _ _ _ _ (0 : Fin 3) (by decide)).trans (rd_hit _ _ _ _ _ _ _ _))) ((rd_skip _ _ _ _ (0 : Fin 3) (by decide)).trans ((rd_skip _ _ _ _ (0 : Fin 3) (by decide)).trans (rd_hit _ _ _ _ _ _ _ _)))
  · exact Kept.next rfl k2 a2 (rd_off arg5 f5 (off62 i rfl)) ((rd_skip _ _ _ _ (0 : Fin 3) (by decide)).trans (rd_hit _ _ _ _ _ _ _ _)) ((rd_skip _ _ _ _ (0 : Fin 3) (by decide)).trans (rd_hit _ _ _ _ _ _ _ _)) ((rd_skip _ _ _ _ (0 : Fin 3) (by decide)).trans (rd_hit _ _ _ _ _ _ _ _))
  · exact Kept.next rfl k3 a3 (rd_off arg5 f5 (off62 i rfl)) (rd_hit _ _ _ _ _ _ _ _) (rd_hit _ _ _ _ _ _ _ _) (rd_hit _ _ _ _ _ _ _ _)

theorem reg15 (f9 : Con (F := F) arg9) (f10 : Con (F := F) arg10) (f11 : Con (F := F) arg11) (f12 : Con (F := F) arg12) (f13 : Con (F := F) arg13) (f14 : Con (F := F) arg14) (f15 : Con (F := F) arg15) (f16 : Con (F := F) arg16) (arg2 v45 : BitVec 32) (v54 v58 : BitVec 1) (c0 v60 c1 : BitVec 32) (k : Fin (k0_t15_loop i).trips)
    (h : Kept4 (arg3.view.read (Elt F) f3) (arg4.view.read (Elt F) f4) (arg5.view.read (Elt F) f5) (i 2).val ((i 2).val) f14 f15 f16 ∧ Ahead4E (arg3.view.read (Elt F) f3) (arg4.view.read (Elt F) f4) (i 2).val ((i 2).val) f9 f10 f11 f12 f13) :
    iprop(held c arg3 f3 ∗ held c arg4 f4 ∗ held c arg5 f5 ∗ held c arg9 f9 ∗ held c arg10 f10 ∗ held c arg11 f11 ∗ held c arg12 f12 ∗ held c arg13 f13 ∗ held c arg14 f14 ∗ held c arg15 f15 ∗ held c arg16 f16) ⊢ wp frame (wpE (defs₀ (F := F)) Variants.none (c : Thread nD τ) none) Set.univ
    (k0_t15_body (F := F) i arg3 harg3 arg4 harg4 arg5 harg5 arg6 harg6 arg7 harg7 arg8 harg8 arg9 harg9 arg10 harg10 arg11 harg11 arg12 harg12 arg13 harg13 arg14 harg14 arg15 harg15 arg16 harg16 arg2 v45 v54 v58 c0 v60 c1 k PUnit.unit)
    (fun _ => iprop(held c arg3 f3 ∗ held c arg4 f4 ∗ held c arg5 f5 ∗ ∃ g9 g10 g11 g12 g13 g14 g15 g16, held c arg9 g9 ∗ held c arg10 g10 ∗ held c arg11 g11 ∗ held c arg12 g12 ∗ held c arg13 g13 ∗ held c arg14 g14 ∗ held c arg15 g15 ∗ held c arg16 g16 ∗ ⌜Kept4 (arg3.view.read (Elt F) f3) (arg4.view.read (Elt F) f4) (arg5.view.read (Elt F) f5) (i 2).val ((i 2).val + 1) g14 g15 g16⌝)) := by
  unfold k0_t15_body
  iintro ⟨H3, H4, H5, H9, H10, H11, H12, H13, H14, H15, H16⟩
  sl_exec
  sl_step
  isplitl [H3]; · iexact H3
  isplitl [H4]; · iexact H4
  isplitl [H5]; · iexact H5
  iexists _, _, _, _, _, _, _, _
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  ipureintro
  obtain ⟨⟨k0, k1, k2, k3⟩, ⟨a0, a1, a2, a3⟩⟩ := h
  refine ⟨?_, ?_, ?_, ?_⟩
  · exact Kept.next rfl k0 a0 (rd_off arg5 f5 (off65 i rfl)) ((rd_skip _ _ _ _ (0 : Fin 3) (by decide)).trans ((rd_skip _ _ _ _ (0 : Fin 3) (by decide)).trans ((rd_skip _ _ _ _ (0 : Fin 3) (by decide)).trans (rd_hit _ _ _ _ _ _ _ _)))) ((rd_skip _ _ _ _ (0 : Fin 3) (by decide)).trans ((rd_skip _ _ _ _ (0 : Fin 3) (by decide)).trans ((rd_skip _ _ _ _ (0 : Fin 3) (by decide)).trans (rd_hit _ _ _ _ _ _ _ _)))) ((rd_skip _ _ _ _ (0 : Fin 3) (by decide)).trans ((rd_skip _ _ _ _ (0 : Fin 3) (by decide)).trans ((rd_skip _ _ _ _ (0 : Fin 3) (by decide)).trans (rd_hit _ _ _ _ _ _ _ _))))
  · exact Kept.next rfl k1 a1 (rd_off arg5 f5 (off65 i rfl)) ((rd_skip _ _ _ _ (0 : Fin 3) (by decide)).trans ((rd_skip _ _ _ _ (0 : Fin 3) (by decide)).trans (rd_hit _ _ _ _ _ _ _ _))) ((rd_skip _ _ _ _ (0 : Fin 3) (by decide)).trans ((rd_skip _ _ _ _ (0 : Fin 3) (by decide)).trans (rd_hit _ _ _ _ _ _ _ _))) ((rd_skip _ _ _ _ (0 : Fin 3) (by decide)).trans ((rd_skip _ _ _ _ (0 : Fin 3) (by decide)).trans (rd_hit _ _ _ _ _ _ _ _)))
  · exact Kept.next rfl k2 a2 (rd_off arg5 f5 (off66 i rfl)) ((rd_skip _ _ _ _ (0 : Fin 3) (by decide)).trans (rd_hit _ _ _ _ _ _ _ _)) ((rd_skip _ _ _ _ (0 : Fin 3) (by decide)).trans (rd_hit _ _ _ _ _ _ _ _)) ((rd_skip _ _ _ _ (0 : Fin 3) (by decide)).trans (rd_hit _ _ _ _ _ _ _ _))
  · exact Kept.next rfl k3 a3 (rd_off arg5 f5 (off66 i rfl)) (rd_hit _ _ _ _ _ _ _ _) (rd_hit _ _ _ _ _ _ _ _) (rd_hit _ _ _ _ _ _ _ _)

end
end Cert.KernelIdeal.Att
-- ==== Proof.Fox.Body.lean ====
module

public import proofs.«01_k».proof.Proof.Fox.RegFirst
public import proofs.«01_k».proof.Proof.Fox.RegTwo
public import proofs.«01_k».proof.Proof.Fox.RegOne
public import proofs.«01_k».proof.Proof.Fox.RegLast
public import Idealize.ShloMosaic.Lib.Pipeline.FrameBody

/-! The body at one grid point: what it leaves in the output block. -/

@[expose] public section
noncomputable section
namespace Cert.KernelIdeal.Att
open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
variable {F : FTy → Type} [FloatOps F] [Named F]
local notation "𝕄" => MT nD τ sig Unit (Elt F) ℕ (UR sig nD τ) ℕ

/-- What the body stores, from the parameters and the four chains' sums. -/
def outP (lam : Vec F S4x128 .f32) (g : Vec F S1x256 .f32) (a0 : Vec F S1x256x512 .f32) (l0 : Vec F S1x1x512 .f32)
    (a1 : Vec F S1x256x512 .f32) (l1 : Vec F S1x1x512 .f32) (a2 : Vec F S1x256x512 .f32) (l2 : Vec F S1x1x512 .f32)
    (a3 : Vec F S1x256x512 .f32) (l3 : Vec F S1x1x512 .f32) : Vec F S512x512 .bf16 :=
  View.canon (Val := Elt F) (e := .bf16)
    [⟨Rect.unit (s := S512x512) ![0, 256] S512x256.size inb_S512x512_S512x256_0_256,
        k0_pay1 (k0_pay843 (k0_pay839 lam) a2 l2 a3 l3) g⟩,
      ⟨Rect.unit (s := S512x512) ![0, 0] S512x256.size inb_S512x512_S512x256_0_0,
        k0_pay842 (k0_pay840 lam a0 l0 a1 l1) (k0_pay841 lam a0 l0 a1 l1) g⟩]

/-- What the body stores for one query block, from the four chains over all the keys it may see. -/
def outB (i : grid0.Coords) (Q : Vec F S512x512 .bf16) (K : Vec F S4096x512 .bf16) (V : Vec F S8x512x512 .bf16)
    (lam : Vec F S4x128 .f32) (g : Vec F S1x256 .f32) : Vec F S512x512 .bf16 :=
  let s := fun c => chain Q K V (i 2).val c ((i 2).val + 1)
  outP lam g (s 0).2.2 (s 0).2.1 (s 1).2.2 (s 1).2.1 (s 2).2.2 (s 2).2.1 (s 3).2.2 (s 3).2.1

/-- The two stores cover the block. -/
theorem cover8 (p0 p1 : Vec F S512x256 .bf16) (y : S512x512.Idx) :
    ∃ pc ∈ ([⟨Rect.unit (s := S512x512) ![0, 256] S512x256.size inb_S512x512_S512x256_0_256, p0⟩,
      ⟨Rect.unit (s := S512x512) ![0, 0] S512x256.size inb_S512x512_S512x256_0_0, p1⟩] :
        List (View.Piece (Elt F) S512x512 .bf16)), y ∈ pc.1.set :=
  View.cover_of_tiled [⟨Rect.unit (s := S512x512) ![0, 256] S512x256.size inb_S512x512_S512x256_0_256, p0⟩,
      ⟨Rect.unit (s := S512x512) ![0, 0] S512x256.size inb_S512x512_S512x256_0_0, p1⟩] S512x256.size (by rfl) y

section
variable (c : Dev nD) (i : grid0.Coords)
  (arg3 : Memref sig .tc .vmem S512x512 .bf16) (harg3 : arg3.IsWhole)
  (arg4 : Memref sig .tc .vmem S4096x512 .bf16) (harg4 : arg4.IsWhole)
  (arg5 : Memref sig .tc .vmem S8x512x512 .bf16) (harg5 : arg5.IsWhole)
  (arg6 : Memref sig .tc .vmem S4x128 .f32) (harg6 : arg6.IsWhole)
  (arg7 : Memref sig .tc .vmem S1x256 .f32) (harg7 : arg7.IsWhole)
  (arg8 : Memref sig .tc .vmem S512x512 .bf16) (harg8 : arg8.IsWhole)
  (arg9 : Memref sig .tc .vmem S2x512x512 .f32) (harg9 : arg9.IsWhole)
  (arg10 : Memref sig .tc .vmem S2x512x512 .f32) (harg10 : arg10.IsWhole)
  (arg11 : Memref sig .tc .vmem S2x512x512 .f32) (harg11 : arg11.IsWhole)
  (arg12 : Memref sig .tc .vmem S2x512x512 .f32) (harg12 : arg12.IsWhole)
  (arg13 : Memref sig .tc .vmem S8x1x512 .f32) (harg13 : arg13.IsWhole)
  (arg14 : Memref sig .tc .vmem S4x1x512 .f32) (harg14 : arg14.IsWhole)
  (arg15 : Memref sig .tc .vmem S4x1x512 .f32) (harg15 : arg15.IsWhole)
  (arg16 : Memref sig .tc .vmem S4x256x512 .f32) (harg16 : arg16.IsWhole)
variable (f3 : Con (F := F) arg3) (f4 : Con (F := F) arg4) (f5 : Con (F := F) arg5)
/-- What the buffers hold before trip `k` of loop 1. -/
def Ph1 (k : ℕ) (f9 : Con (F := F) arg9) (f10 : Con (F := F) arg10) (f11 : Con (F := F) arg11) (f12 : Con (F := F) arg12) (f13 : Con (F := F) arg13) (f14 : Con (F := F) arg14) (f15 : Con (F := F) arg15) (f16 : Con (F := F) arg16) : Prop :=
  Kept4 (arg3.view.read (Elt F) f3) (arg4.view.read (Elt F) f4) (arg5.view.read (Elt F) f5) (i 2).val (0) f14 f15 f16 ∧ (k ≠ 0 → Kept4 (arg3.view.read (Elt F) f3) (arg4.view.read (Elt F) f4) (arg5.view.read (Elt F) f5) (i 2).val (0) f14 f15 f16 ∧ Ahead4E (arg3.view.read (Elt F) f3) (arg4.view.read (Elt F) f4) (i 2).val (0) f9 f10 f11 f12 f13)

/-- What the buffers hold before trip `k` of loop 3. -/
def Ph3 (k : ℕ) (f9 : Con (F := F) arg9) (f10 : Con (F := F) arg10) (f11 : Con (F := F) arg11) (f12 : Con (F := F) arg12) (f13 : Con (F := F) arg13) (f14 : Con (F := F) arg14) (f15 : Con (F := F) arg15) (f16 : Con (F := F) arg16) : Prop :=
  Kept4 (arg3.view.read (Elt F) f3) (arg4.view.read (Elt F) f4) (arg5.view.read (Elt F) f5) (i 2).val (0) f14 f15 f16 ∧ ((i 2).val = 0 ∨ k ≠ 0 → Kept4 (arg3.view.read (Elt F) f3) (arg4.view.read (Elt F) f4) (arg5.view.read (Elt F) f5) (i 2).val (0) f14 f15 f16 ∧ Ahead4E (arg3.view.read (Elt F) f3) (arg4.view.read (Elt F) f4) (i 2).val (0) f9 f10 f11 f12 f13)

/-- What the buffers hold before trip `k` of loop 5. -/
def Ph5 (k : ℕ) (f9 : Con (F := F) arg9) (f10 : Con (F := F) arg10) (f11 : Con (F := F) arg11) (f12 : Con (F := F) arg12) (f13 : Con (F := F) arg13) (f14 : Con (F := F) arg14) (f15 : Con (F := F) arg15) (f16 : Con (F := F) arg16) : Prop :=
  Kept4 (arg3.view.read (Elt F) f3) (arg4.view.read (Elt F) f4) (arg5.view.read (Elt F) f5) (i 2).val (2 * k) f14 f15 f16 ∧ Ahead4E (arg3.view.read (Elt F) f3) (arg4.view.read (Elt F) f4) (i 2).val (2 * k) f9 f10 f11 f12 f13

/-- What the buffers hold before trip `k` of loop 7. -/
def Ph7 (k : ℕ) (f9 : Con (F := F) arg9) (f10 : Con (F := F) arg10) (f11 : Con (F := F) arg11) (f12 : Con (F := F) arg12) (f13 : Con (F := F) arg13) (f14 : Con (F := F) arg14) (f15 : Con (F := F) arg15) (f16 : Con (F := F) arg16) : Prop :=
  (k = 0 → Kept4 (arg3.view.read (Elt F) f3) (arg4.view.read (Elt F) f4) (arg5.view.read (Elt F) f5) (i 2).val (2 * (((i 2).val - 1) / 2)) f14 f15 f16 ∧ Ahead4E (arg3.view.read (Elt F) f3) (arg4.view.read (Elt F) f4) (i 2).val (2 * (((i 2).val - 1) / 2)) f9 f10 f11 f12 f13) ∧ (k ≠ 0 → Kept4 (arg3.view.read (Elt F) f3) (arg4.view.read (Elt F) f4) (arg5.view.read (Elt F) f5) (i 2).val ((i 2).val - 1) f14 f15 f16 ∧ Ahead4O (arg3.view.read (Elt F) f3) (arg4.view.read (Elt F) f4) (i 2).val ((i 2).val - 1) f9 f10 f11 f12 f13)

/-- What the buffers hold before trip `k` of loop 9. -/
def Ph9 (k : ℕ) (f9 : Con (F := F) arg9) (f10 : Con (F := F) arg10) (f11 : Con (F := F) arg11) (f12 : Con (F := F) arg12) (f13 : Con (F := F) arg13) (f14 : Con (F := F) arg14) (f15 : Con (F := F) arg15) (f16 : Con (F := F) arg16) : Prop :=
  (k = 0 → if (i 2).val ≠ 0 ∧ (i 2).val % 2 = 0 then Kept4 (arg3.view.read (Elt F) f3) (arg4.view.read (Elt F) f4) (arg5.view.read (Elt F) f5) (i 2).val ((i 2).val - 1) f14 f15 f16 ∧ Ahead4O (arg3.view.read (Elt F) f3) (arg4.view.read (Elt F) f4) (i 2).val ((i 2).val - 1) f9 f10 f11 f12 f13 else Kept4 (arg3.view.read (Elt F) f3) (arg4.view.read (Elt F) f4) (arg5.view.read (Elt F) f5) (i 2).val (2 * (((i 2).val - 1) / 2)) f14 f15 f16 ∧ Ahead4E (arg3.view.read (Elt F) f3) (arg4.view.read (Elt F) f4) (i 2).val (2 * (((i 2).val - 1) / 2)) f9 f10 f11 f12 f13) ∧ (k ≠ 0 → Kept4 (arg3.view.read (Elt F) f3) (arg4.view.read (Elt F) f4) (arg5.view.read (Elt F) f5) (i 2).val ((i 2).val) f14 f15 f16 ∧ Ahead4E (arg3.view.read (Elt F) f3) (arg4.view.read (Elt F) f4) (i 2).val ((i 2).val) f9 f10 f11 f12 f13)

/-- What the buffers hold before trip `k` of loop 11. -/
def Ph11 (k : ℕ) (f9 : Con (F := F) arg9) (f10 : Con (F := F) arg10) (f11 : Con (F := F) arg11) (f12 : Con (F := F) arg12) (f13 : Con (F := F) arg13) (f14 : Con (F := F) arg14) (f15 : Con (F := F) arg15) (f16 : Con (F := F) arg16) : Prop :=
  (k = 0 → if (i 2).val % 2 = 1 then Kept4 (arg3.view.read (Elt F) f3) (arg4.view.read (Elt F) f4) (arg5.view.read (Elt F) f5) (i 2).val ((i 2).val - 1) f14 f15 f16 ∧ Ahead4E (arg3.view.read (Elt F) f3) (arg4.view.read (Elt F) f4) (i 2).val ((i 2).val - 1) f9 f10 f11 f12 f13 else Kept4 (arg3.view.read (Elt F) f3) (arg4.view.read (Elt F) f4) (arg5.view.read (Elt F) f5) (i 2).val ((i 2).val) f14 f15 f16 ∧ Ahead4E (arg3.view.read (Elt F) f3) (arg4.view.read (Elt F) f4) (i 2).val ((i 2).val) f9 f10 f11 f12 f13) ∧ (k ≠ 0 → Kept4 (arg3.view.read (Elt F) f3) (arg4.view.read (Elt F) f4) (arg5.view.read (Elt F) f5) (i 2).val ((i 2).val) f14 f15 f16 ∧ Ahead4O (arg3.view.read (Elt F) f3) (arg4.view.read (Elt F) f4) (i 2).val ((i 2).val) f9 f10 f11 f12 f13)

/-- What the buffers hold before trip `k` of loop 13. -/
def Ph13 (k : ℕ) (f9 : Con (F := F) arg9) (f10 : Con (F := F) arg10) (f11 : Con (F := F) arg11) (f12 : Con (F := F) arg12) (f13 : Con (F := F) arg13) (f14 : Con (F := F) arg14) (f15 : Con (F := F) arg15) (f16 : Con (F := F) arg16) : Prop :=
  (k = 0 → if (i 2).val % 2 = 1 then Kept4 (arg3.view.read (Elt F) f3) (arg4.view.read (Elt F) f4) (arg5.view.read (Elt F) f5) (i 2).val ((i 2).val) f14 f15 f16 ∧ Ahead4O (arg3.view.read (Elt F) f3) (arg4.view.read (Elt F) f4) (i 2).val ((i 2).val) f9 f10 f11 f12 f13 else Kept4 (arg3.view.read (Elt F) f3) (arg4.view.read (Elt F) f4) (arg5.view.read (Elt F) f5) (i 2).val ((i 2).val) f14 f15 f16 ∧ Ahead4E (arg3.view.read (Elt F) f3) (arg4.view.read (Elt F) f4) (i 2).val ((i 2).val) f9 f10 f11 f12 f13) ∧ (k ≠ 0 → Kept4 (arg3.view.read (Elt F) f3) (arg4.view.read (Elt F) f4) (arg5.view.read (Elt F) f5) (i 2).val ((i 2).val + 1) f14 f15 f16)

/-- What the buffers hold before trip `k` of loop 15. -/
def Ph15 (k : ℕ) (f9 : Con (F := F) arg9) (f10 : Con (F := F) arg10) (f11 : Con (F := F) arg11) (f12 : Con (F := F) arg12) (f13 : Con (F := F) arg13) (f14 : Con (F := F) arg14) (f15 : Con (F := F) arg15) (f16 : Con (F := F) arg16) : Prop :=
  (k = 0 → if (i 2).val % 2 = 1 then Kept4 (arg3.view.read (Elt F) f3) (arg4.view.read (Elt F) f4) (arg5.view.read (Elt F) f5) (i 2).val ((i 2).val + 1) f14 f15 f16 else Kept4 (arg3.view.read (Elt F) f3) (arg4.view.read (Elt F) f4) (arg5.view.read (Elt F) f5) (i 2).val ((i 2).val) f14 f15 f16 ∧ Ahead4E (arg3.view.read (Elt F) f3) (arg4.view.read (Elt F) f4) (i 2).val ((i 2).val) f9 f10 f11 f12 f13) ∧ (k ≠ 0 → Kept4 (arg3.view.read (Elt F) f3) (arg4.view.read (Elt F) f4) (arg5.view.read (Elt F) f5) (i 2).val ((i 2).val + 1) f14 f15 f16)

/-- The staged inputs as they are, the scratch at contents of which `P` holds. -/
def Inv (P : Con (F := F) arg9 → Con (F := F) arg10 → Con (F := F) arg11 → Con (F := F) arg12 → Con (F := F) arg13 → Con (F := F) arg14 → Con (F := F) arg15 → Con (F := F) arg16 → Prop) : sProp 𝕄 :=
  iprop(held c arg3 f3 ∗ held c arg4 f4 ∗ held c arg5 f5 ∗ ∃ f9 f10 f11 f12 f13 f14 f15 f16, held c arg9 f9 ∗ held c arg10 f10 ∗ held c arg11 f11 ∗ held c arg12 f12 ∗ held c arg13 f13 ∗ held c arg14 f14 ∗ held c arg15 f15 ∗ held c arg16 f16 ∗ ⌜P f9 f10 f11 f12 f13 f14 f15 f16⌝)

theorem inv_of {A : Con (F := F) arg9 → Con (F := F) arg10 → Con (F := F) arg11 → Con (F := F) arg12 → Con (F := F) arg13 → Con (F := F) arg14 → Con (F := F) arg15 → Con (F := F) arg16 → Prop} (P : Con (F := F) arg9 → Con (F := F) arg10 → Con (F := F) arg11 → Con (F := F) arg12 → Con (F := F) arg13 → Con (F := F) arg14 → Con (F := F) arg15 → Con (F := F) arg16 → Prop)
    (h : ∀ f9 f10 f11 f12 f13 f14 f15 f16, A f9 f10 f11 f12 f13 f14 f15 f16 → P f9 f10 f11 f12 f13 f14 f15 f16) :
    iprop(held c arg3 f3 ∗ held c arg4 f4 ∗ held c arg5 f5 ∗ ∃ f9 f10 f11 f12 f13 f14 f15 f16, held c arg9 f9 ∗ held c arg10 f10 ∗ held c arg11 f11 ∗ held c arg12 f12 ∗ held c arg13 f13 ∗ held c arg14 f14 ∗ held c arg15 f15 ∗ held c arg16 f16 ∗ ⌜A f9 f10 f11 f12 f13 f14 f15 f16⌝) ⊢ Inv c arg3 arg4 arg5 arg9 arg10 arg11 arg12 arg13 arg14 arg15 arg16 f3 f4 f5 P := by
  unfold Inv
  iintro ⟨H3, H4, H5, %f9, %f10, %f11, %f12, %f13, %f14, %f15, %f16, H9, H10, H11, H12, H13, H14, H15, H16, %hA⟩
  isplitl [H3]; · iexact H3
  isplitl [H4]; · iexact H4
  isplitl [H5]; · iexact H5
  iexists f9, f10, f11, f12, f13, f14, f15, f16
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  ipureintro
  exact h _ _ _ _ _ _ _ _ hA

theorem to3 (f9 : Con (F := F) arg9) (f10 : Con (F := F) arg10) (f11 : Con (F := F) arg11) (f12 : Con (F := F) arg12) (f13 : Con (F := F) arg13) (f14 : Con (F := F) arg14) (f15 : Con (F := F) arg15) (f16 : Con (F := F) arg16) (h : Ph1 i arg3 arg4 arg5 arg9 arg10 arg11 arg12 arg13 arg14 arg15 arg16 f3 f4 f5 (k0_t1_loop i).trips f9 f10 f11 f12 f13 f14 f15 f16) : Ph3 i arg3 arg4 arg5 arg9 arg10 arg11 arg12 arg13 arg14 arg15 arg16 f3 f4 f5 0 f9 f10 f11 f12 f13 f14 f15 f16 := by
  have h8 : (i 2).val < 8 := (i 2).isLt
  rw [trips1] at h
  unfold Ph1 at h
  unfold Ph3
  refine ⟨h.1, fun h0 => h.2 ?_⟩
  rcases h0 with h0 | h0
  · rw [if_pos h0]; decide
  · exact absurd rfl h0

theorem to5 (f9 : Con (F := F) arg9) (f10 : Con (F := F) arg10) (f11 : Con (F := F) arg11) (f12 : Con (F := F) arg12) (f13 : Con (F := F) arg13) (f14 : Con (F := F) arg14) (f15 : Con (F := F) arg15) (f16 : Con (F := F) arg16) (h : Ph3 i arg3 arg4 arg5 arg9 arg10 arg11 arg12 arg13 arg14 arg15 arg16 f3 f4 f5 (k0_t3_loop i).trips f9 f10 f11 f12 f13 f14 f15 f16) : Ph5 i arg3 arg4 arg5 arg9 arg10 arg11 arg12 arg13 arg14 arg15 arg16 f3 f4 f5 0 f9 f10 f11 f12 f13 f14 f15 f16 := by
  have h8 : (i 2).val < 8 := (i 2).isLt
  rw [trips3] at h
  unfold Ph3 at h
  unfold Ph5
  refine h.2 ?_
  by_cases h0 : (i 2).val = 0
  · exact Or.inl h0
  · rw [if_neg h0]; exact Or.inr (by decide)

theorem to7 (f9 : Con (F := F) arg9) (f10 : Con (F := F) arg10) (f11 : Con (F := F) arg11) (f12 : Con (F := F) arg12) (f13 : Con (F := F) arg13) (f14 : Con (F := F) arg14) (f15 : Con (F := F) arg15) (f16 : Con (F := F) arg16) (h : Ph5 i arg3 arg4 arg5 arg9 arg10 arg11 arg12 arg13 arg14 arg15 arg16 f3 f4 f5 (k0_t5_loop i).trips f9 f10 f11 f12 f13 f14 f15 f16) : Ph7 i arg3 arg4 arg5 arg9 arg10 arg11 arg12 arg13 arg14 arg15 arg16 f3 f4 f5 0 f9 f10 f11 f12 f13 f14 f15 f16 := by
  have h8 : (i 2).val < 8 := (i 2).isLt
  rw [trips5] at h
  unfold Ph5 at h
  unfold Ph7
  exact ⟨fun _ => h, fun h0 => absurd rfl h0⟩

theorem to9 (f9 : Con (F := F) arg9) (f10 : Con (F := F) arg10) (f11 : Con (F := F) arg11) (f12 : Con (F := F) arg12) (f13 : Con (F := F) arg13) (f14 : Con (F := F) arg14) (f15 : Con (F := F) arg15) (f16 : Con (F := F) arg16) (h : Ph7 i arg3 arg4 arg5 arg9 arg10 arg11 arg12 arg13 arg14 arg15 arg16 f3 f4 f5 (k0_t7_loop i).trips f9 f10 f11 f12 f13 f14 f15 f16) : Ph9 i arg3 arg4 arg5 arg9 arg10 arg11 arg12 arg13 arg14 arg15 arg16 f3 f4 f5 0 f9 f10 f11 f12 f13 f14 f15 f16 := by
  have h8 : (i 2).val < 8 := (i 2).isLt
  rw [trips7] at h
  unfold Ph7 at h
  unfold Ph9
  refine ⟨fun _ => ?_, fun h0 => absurd rfl h0⟩
  split
  · exact h.2 (by rw [if_neg (by omega)]; omega)
  · refine h.1 ?_
    split <;> omega

theorem to11 (f9 : Con (F := F) arg9) (f10 : Con (F := F) arg10) (f11 : Con (F := F) arg11) (f12 : Con (F := F) arg12) (f13 : Con (F := F) arg13) (f14 : Con (F := F) arg14) (f15 : Con (F := F) arg15) (f16 : Con (F := F) arg16) (h : Ph9 i arg3 arg4 arg5 arg9 arg10 arg11 arg12 arg13 arg14 arg15 arg16 f3 f4 f5 (k0_t9_loop i).trips f9 f10 f11 f12 f13 f14 f15 f16) : Ph11 i arg3 arg4 arg5 arg9 arg10 arg11 arg12 arg13 arg14 arg15 arg16 f3 f4 f5 0 f9 f10 f11 f12 f13 f14 f15 f16 := by
  have h8 : (i 2).val < 8 := (i 2).isLt
  rw [trips9] at h
  unfold Ph9 at h
  unfold Ph11
  refine ⟨fun _ => ?_, fun h0 => absurd rfl h0⟩
  by_cases ho : (i 2).val % 2 = 1
  · rw [if_pos ho]
    have := h.1 (by rw [if_neg (by omega)]; omega)
    rw [if_neg (by omega), show 2 * (((i 2).val - 1) / 2) = (i 2).val - 1 by omega] at this
    exact this
  · rw [if_neg ho]
    by_cases h0 : (i 2).val = 0
    · have := h.1 (by rw [if_pos h0])
      rw [if_neg (by omega), show 2 * (((i 2).val - 1) / 2) = (i 2).val by omega] at this
      exact this
    · exact h.2 (by rw [if_neg h0]; omega)

theorem to13 (f9 : Con (F := F) arg9) (f10 : Con (F := F) arg10) (f11 : Con (F := F) arg11) (f12 : Con (F := F) arg12) (f13 : Con (F := F) arg13) (f14 : Con (F := F) arg14) (f15 : Con (F := F) arg15) (f16 : Con (F := F) arg16) (h : Ph11 i arg3 arg4 arg5 arg9 arg10 arg11 arg12 arg13 arg14 arg15 arg16 f3 f4 f5 (k0_t11_loop i).trips f9 f10 f11 f12 f13 f14 f15 f16) : Ph13 i arg3 arg4 arg5 arg9 arg10 arg11 arg12 arg13 arg14 arg15 arg16 f3 f4 f5 0 f9 f10 f11 f12 f13 f14 f15 f16 := by
  have h8 : (i 2).val < 8 := (i 2).isLt
  rw [trips11] at h
  unfold Ph11 at h
  unfold Ph13
  refine ⟨fun _ => ?_, fun h0 => absurd rfl h0⟩
  by_cases ho : (i 2).val % 2 = 1
  · rw [if_pos ho]; exact h.2 (by omega)
  · rw [if_neg ho]
    have := h.1 (by omega)
    rw [if_neg ho] at this
    exact this

theorem to15 (f9 : Con (F := F) arg9) (f10 : Con (F := F) arg10) (f11 : Con (F := F) arg11) (f12 : Con (F := F) arg12) (f13 : Con (F := F) arg13) (f14 : Con (F := F) arg14) (f15 : Con (F := F) arg15) (f16 : Con (F := F) arg16) (h : Ph13 i arg3 arg4 arg5 arg9 arg10 arg11 arg12 arg13 arg14 arg15 arg16 f3 f4 f5 (k0_t13_loop i).trips f9 f10 f11 f12 f13 f14 f15 f16) : Ph15 i arg3 arg4 arg5 arg9 arg10 arg11 arg12 arg13 arg14 arg15 arg16 f3 f4 f5 0 f9 f10 f11 f12 f13 f14 f15 f16 := by
  have h8 : (i 2).val < 8 := (i 2).isLt
  rw [trips13] at h
  unfold Ph13 at h
  unfold Ph15
  refine ⟨fun _ => ?_, fun h0 => absurd rfl h0⟩
  by_cases ho : (i 2).val % 2 = 1
  · rw [if_pos ho]; exact h.2 (by omega)
  · rw [if_neg ho]
    have := h.1 (by omega)
    rw [if_neg ho] at this
    exact this

theorem done15 (f9 : Con (F := F) arg9) (f10 : Con (F := F) arg10) (f11 : Con (F := F) arg11) (f12 : Con (F := F) arg12) (f13 : Con (F := F) arg13) (f14 : Con (F := F) arg14) (f15 : Con (F := F) arg15) (f16 : Con (F := F) arg16) (h : Ph15 i arg3 arg4 arg5 arg9 arg10 arg11 arg12 arg13 arg14 arg15 arg16 f3 f4 f5 (k0_t15_loop i).trips f9 f10 f11 f12 f13 f14 f15 f16) :
    Kept4 (arg3.view.read (Elt F) f3) (arg4.view.read (Elt F) f4) (arg5.view.read (Elt F) f5) (i 2).val ((i 2).val + 1) f14 f15 f16 := by
  rw [trips15] at h
  by_cases ho : (i 2).val % 2 = 1
  · have := h.1 (by omega)
    rw [if_pos ho] at this
    exact this
  · exact h.2 (by omega)

/-- The scratch as it is filled at first. -/
theorem init4 (f14 : Con (F := F) arg14) (f15 : Con (F := F) arg15) (f16 : Con (F := F) arg16) :
    Kept4 (arg3.view.read (Elt F) f3) (arg4.view.read (Elt F) f4) (arg5.view.read (Elt F) f5) (i 2).val 0
      (arg14.view.writes (Elt F) f14 [⟨Rect.unit (s := S4x1x512) ![0, 0, 0] S4x1x512.size inb_S4x1x512_S4x1x512_0_0_0, k0_pay776⟩])
      (arg15.view.writes (Elt F) f15 [⟨Rect.unit (s := S4x1x512) ![0, 0, 0] S4x1x512.size inb_S4x1x512_S4x1x512_0_0_0, k0_pay777⟩])
      (arg16.view.writes (Elt F) f16 [⟨Rect.unit (s := S4x256x512) ![0, 0, 0] S4x256x512.size inb_S4x256x512_S4x256x512_0_0_0, k0_pay778⟩]) := by
  have hz : (![0, 0, 0] : Fin 3 → ℕ) = fun _ => 0 := by decide
  constructor <;> exact ⟨rd_fill _ _ hz _ _ _ _ fun _ => rfl, rd_fill _ _ hz _ _ _ _ fun _ => rfl, rd_fill _ _ hz _ _ _ _ fun _ => rfl⟩

theorem step1 (k : Fin (k0_t1_loop i).trips) (a : Unit) :
    Inv c arg3 arg4 arg5 arg9 arg10 arg11 arg12 arg13 arg14 arg15 arg16 f3 f4 f5 (Ph1 i arg3 arg4 arg5 arg9 arg10 arg11 arg12 arg13 arg14 arg15 arg16 f3 f4 f5 k.val) ⊢ wp frame (wpE (defs₀ (F := F)) Variants.none (c : Thread nD τ) none) Set.univ
    (k0_t1_body (F := F) i arg3 harg3 arg4 harg4 arg5 harg5 arg6 harg6 arg7 harg7 arg8 harg8 arg9 harg9 arg10 harg10 arg11 harg11 arg12 harg12 arg13 harg13 arg14 harg14 arg15 harg15 arg16 harg16  k a)
    (fun _ => Inv c arg3 arg4 arg5 arg9 arg10 arg11 arg12 arg13 arg14 arg15 arg16 f3 f4 f5 (Ph1 i arg3 arg4 arg5 arg9 arg10 arg11 arg12 arg13 arg14 arg15 arg16 f3 f4 f5 (k.val + 1))) := by
  unfold Inv
  iintro ⟨H3, H4, H5, %f9, %f10, %f11, %f12, %f13, %f14, %f15, %f16, H9, H10, H11, H12, H13, H14, H15, H16, %h⟩
  have hk := lt_of_lt_of_eq k.isLt (trips1 i)
  have h8 : (i 2).val < 8 := (i 2).isLt
  have hz : k.val = 0 := by
    (try split at hk) <;> omega
  have hr := reg1 c i arg3 harg3 arg4 harg4 arg5 harg5 arg6 harg6 arg7 harg7 arg8 harg8 arg9 harg9 arg10 harg10 arg11 harg11 arg12 harg12 arg13 harg13 arg14 harg14 arg15 harg15 arg16 harg16 f3 f4 f5 f9 f10 f11 f12 f13 f14 f15 f16  k (h.1)
  iapply (hr.trans (wp_mono _ _ _ fun _ => inv_of c arg3 arg4 arg5 arg9 arg10 arg11 arg12 arg13 arg14 arg15 arg16 f3 f4 f5 (Ph1 i arg3 arg4 arg5 arg9 arg10 arg11 arg12 arg13 arg14 arg15 arg16 f3 f4 f5 (k.val + 1)) fun f9 f10 f11 f12 f13 f14 f15 f16 hg => ⟨hg.1, fun _ => hg⟩))
  isplitl [H3]; · iexact H3
  isplitl [H4]; · iexact H4
  isplitl [H5]; · iexact H5
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

theorem step3 (k : Fin (k0_t3_loop i).trips) (a : Unit) :
    Inv c arg3 arg4 arg5 arg9 arg10 arg11 arg12 arg13 arg14 arg15 arg16 f3 f4 f5 (Ph3 i arg3 arg4 arg5 arg9 arg10 arg11 arg12 arg13 arg14 arg15 arg16 f3 f4 f5 k.val) ⊢ wp frame (wpE (defs₀ (F := F)) Variants.none (c : Thread nD τ) none) Set.univ
    (k0_t3_body (F := F) i arg3 harg3 arg4 harg4 arg5 harg5 arg6 harg6 arg7 harg7 arg8 harg8 arg9 harg9 arg10 harg10 arg11 harg11 arg12 harg12 arg13 harg13 arg14 harg14 arg15 harg15 arg16 harg16  k a)
    (fun _ => Inv c arg3 arg4 arg5 arg9 arg10 arg11 arg12 arg13 arg14 arg15 arg16 f3 f4 f5 (Ph3 i arg3 arg4 arg5 arg9 arg10 arg11 arg12 arg13 arg14 arg15 arg16 f3 f4 f5 (k.val + 1))) := by
  unfold Inv
  iintro ⟨H3, H4, H5, %f9, %f10, %f11, %f12, %f13, %f14, %f15, %f16, H9, H10, H11, H12, H13, H14, H15, H16, %h⟩
  have hk := lt_of_lt_of_eq k.isLt (trips3 i)
  have h8 : (i 2).val < 8 := (i 2).isLt
  have hz : k.val = 0 := by
    (try split at hk) <;> omega
  have hr := reg3 c i arg3 harg3 arg4 harg4 arg5 harg5 arg6 harg6 arg7 harg7 arg8 harg8 arg9 harg9 arg10 harg10 arg11 harg11 arg12 harg12 arg13 harg13 arg14 harg14 arg15 harg15 arg16 harg16 f3 f4 f5 f9 f10 f11 f12 f13 f14 f15 f16  k (h.1)
  iapply (hr.trans (wp_mono _ _ _ fun _ => inv_of c arg3 arg4 arg5 arg9 arg10 arg11 arg12 arg13 arg14 arg15 arg16 f3 f4 f5 (Ph3 i arg3 arg4 arg5 arg9 arg10 arg11 arg12 arg13 arg14 arg15 arg16 f3 f4 f5 (k.val + 1)) fun f9 f10 f11 f12 f13 f14 f15 f16 hg => ⟨hg.1, fun _ => hg⟩))
  isplitl [H3]; · iexact H3
  isplitl [H4]; · iexact H4
  isplitl [H5]; · iexact H5
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

theorem step5 (arg2 : BitVec 32) (k : Fin (k0_t5_loop i).trips) (a : Unit) :
    Inv c arg3 arg4 arg5 arg9 arg10 arg11 arg12 arg13 arg14 arg15 arg16 f3 f4 f5 (Ph5 i arg3 arg4 arg5 arg9 arg10 arg11 arg12 arg13 arg14 arg15 arg16 f3 f4 f5 k.val) ⊢ wp frame (wpE (defs₀ (F := F)) Variants.none (c : Thread nD τ) none) Set.univ
    (k0_t5_body (F := F) i arg3 harg3 arg4 harg4 arg5 harg5 arg6 harg6 arg7 harg7 arg8 harg8 arg9 harg9 arg10 harg10 arg11 harg11 arg12 harg12 arg13 harg13 arg14 harg14 arg15 harg15 arg16 harg16 arg2 k a)
    (fun _ => Inv c arg3 arg4 arg5 arg9 arg10 arg11 arg12 arg13 arg14 arg15 arg16 f3 f4 f5 (Ph5 i arg3 arg4 arg5 arg9 arg10 arg11 arg12 arg13 arg14 arg15 arg16 f3 f4 f5 (k.val + 1))) := by
  unfold Inv
  iintro ⟨H3, H4, H5, %f9, %f10, %f11, %f12, %f13, %f14, %f15, %f16, H9, H10, H11, H12, H13, H14, H15, H16, %h⟩
  have hk := lt_of_lt_of_eq k.isLt (trips5 i)
  have h8 : (i 2).val < 8 := (i 2).isLt
  have hr := reg5 c i arg3 harg3 arg4 harg4 arg5 harg5 arg6 harg6 arg7 harg7 arg8 harg8 arg9 harg9 arg10 harg10 arg11 harg11 arg12 harg12 arg13 harg13 arg14 harg14 arg15 harg15 arg16 harg16 f3 f4 f5 f9 f10 f11 f12 f13 f14 f15 f16 arg2 k (h)
  iapply (hr.trans (wp_mono _ _ _ fun _ => inv_of c arg3 arg4 arg5 arg9 arg10 arg11 arg12 arg13 arg14 arg15 arg16 f3 f4 f5 (Ph5 i arg3 arg4 arg5 arg9 arg10 arg11 arg12 arg13 arg14 arg15 arg16 f3 f4 f5 (k.val + 1)) fun f9 f10 f11 f12 f13 f14 f15 f16 hg => hg))
  isplitl [H3]; · iexact H3
  isplitl [H4]; · iexact H4
  isplitl [H5]; · iexact H5
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

theorem step7 (arg2 v45 : BitVec 32) (v54 v58 : BitVec 1) (c0 v60 c1 : BitVec 32) (k : Fin (k0_t7_loop i).trips) (a : Unit) :
    Inv c arg3 arg4 arg5 arg9 arg10 arg11 arg12 arg13 arg14 arg15 arg16 f3 f4 f5 (Ph7 i arg3 arg4 arg5 arg9 arg10 arg11 arg12 arg13 arg14 arg15 arg16 f3 f4 f5 k.val) ⊢ wp frame (wpE (defs₀ (F := F)) Variants.none (c : Thread nD τ) none) Set.univ
    (k0_t7_body (F := F) i arg3 harg3 arg4 harg4 arg5 harg5 arg6 harg6 arg7 harg7 arg8 harg8 arg9 harg9 arg10 harg10 arg11 harg11 arg12 harg12 arg13 harg13 arg14 harg14 arg15 harg15 arg16 harg16 arg2 v45 v54 v58 c0 v60 c1 k a)
    (fun _ => Inv c arg3 arg4 arg5 arg9 arg10 arg11 arg12 arg13 arg14 arg15 arg16 f3 f4 f5 (Ph7 i arg3 arg4 arg5 arg9 arg10 arg11 arg12 arg13 arg14 arg15 arg16 f3 f4 f5 (k.val + 1))) := by
  unfold Inv
  iintro ⟨H3, H4, H5, %f9, %f10, %f11, %f12, %f13, %f14, %f15, %f16, H9, H10, H11, H12, H13, H14, H15, H16, %h⟩
  have hk := lt_of_lt_of_eq k.isLt (trips7 i)
  have h8 : (i 2).val < 8 := (i 2).isLt
  have hz : k.val = 0 := by
    (try split at hk) <;> omega
  have hr := reg7 c i arg3 harg3 arg4 harg4 arg5 harg5 arg6 harg6 arg7 harg7 arg8 harg8 arg9 harg9 arg10 harg10 arg11 harg11 arg12 harg12 arg13 harg13 arg14 harg14 arg15 harg15 arg16 harg16 f3 f4 f5 f9 f10 f11 f12 f13 f14 f15 f16 arg2 v45 v54 v58 c0 v60 c1 k (by
    have := h.1 hz
    have hq : (i 2).val ≠ 0 ∧ (i 2).val % 2 = 0 := by split at hk <;> omega
    rw [show 2 * (((i 2).val - 1) / 2) = (i 2).val - 2 by omega] at this
    exact this)
  iapply (hr.trans (wp_mono _ _ _ fun _ => inv_of c arg3 arg4 arg5 arg9 arg10 arg11 arg12 arg13 arg14 arg15 arg16 f3 f4 f5 (Ph7 i arg3 arg4 arg5 arg9 arg10 arg11 arg12 arg13 arg14 arg15 arg16 f3 f4 f5 (k.val + 1)) fun f9 f10 f11 f12 f13 f14 f15 f16 hg => ⟨fun h0 => absurd h0 (Nat.succ_ne_zero _), fun _ => hg⟩))
  isplitl [H3]; · iexact H3
  isplitl [H4]; · iexact H4
  isplitl [H5]; · iexact H5
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

theorem step9 (arg2 v45 : BitVec 32) (v54 v58 : BitVec 1) (c0 v60 c1 : BitVec 32) (k : Fin (k0_t9_loop i).trips) (a : Unit) :
    Inv c arg3 arg4 arg5 arg9 arg10 arg11 arg12 arg13 arg14 arg15 arg16 f3 f4 f5 (Ph9 i arg3 arg4 arg5 arg9 arg10 arg11 arg12 arg13 arg14 arg15 arg16 f3 f4 f5 k.val) ⊢ wp frame (wpE (defs₀ (F := F)) Variants.none (c : Thread nD τ) none) Set.univ
    (k0_t9_body (F := F) i arg3 harg3 arg4 harg4 arg5 harg5 arg6 harg6 arg7 harg7 arg8 harg8 arg9 harg9 arg10 harg10 arg11 harg11 arg12 harg12 arg13 harg13 arg14 harg14 arg15 harg15 arg16 harg16 arg2 v45 v54 v58 c0 v60 c1 k a)
    (fun _ => Inv c arg3 arg4 arg5 arg9 arg10 arg11 arg12 arg13 arg14 arg15 arg16 f3 f4 f5 (Ph9 i arg3 arg4 arg5 arg9 arg10 arg11 arg12 arg13 arg14 arg15 arg16 f3 f4 f5 (k.val + 1))) := by
  unfold Inv
  iintro ⟨H3, H4, H5, %f9, %f10, %f11, %f12, %f13, %f14, %f15, %f16, H9, H10, H11, H12, H13, H14, H15, H16, %h⟩
  have hk := lt_of_lt_of_eq k.isLt (trips9 i)
  have h8 : (i 2).val < 8 := (i 2).isLt
  have hz : k.val = 0 := by
    (try split at hk) <;> omega
  have hr := reg9 c i arg3 harg3 arg4 harg4 arg5 harg5 arg6 harg6 arg7 harg7 arg8 harg8 arg9 harg9 arg10 harg10 arg11 harg11 arg12 harg12 arg13 harg13 arg14 harg14 arg15 harg15 arg16 harg16 f3 f4 f5 f9 f10 f11 f12 f13 f14 f15 f16 arg2 v45 v54 v58 c0 v60 c1 k (by
    have := h.1 hz
    have hq : (i 2).val ≠ 0 ∧ (i 2).val % 2 = 0 := by split at hk <;> omega
    rw [if_pos hq] at this
    exact this)
  iapply (hr.trans (wp_mono _ _ _ fun _ => inv_of c arg3 arg4 arg5 arg9 arg10 arg11 arg12 arg13 arg14 arg15 arg16 f3 f4 f5 (Ph9 i arg3 arg4 arg5 arg9 arg10 arg11 arg12 arg13 arg14 arg15 arg16 f3 f4 f5 (k.val + 1)) fun f9 f10 f11 f12 f13 f14 f15 f16 hg => ⟨fun h0 => absurd h0 (Nat.succ_ne_zero _), fun _ => hg⟩))
  isplitl [H3]; · iexact H3
  isplitl [H4]; · iexact H4
  isplitl [H5]; · iexact H5
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

theorem step11 (arg2 v45 : BitVec 32) (v54 v58 : BitVec 1) (c0 v60 c1 : BitVec 32) (k : Fin (k0_t11_loop i).trips) (a : Unit) :
    Inv c arg3 arg4 arg5 arg9 arg10 arg11 arg12 arg13 arg14 arg15 arg16 f3 f4 f5 (Ph11 i arg3 arg4 arg5 arg9 arg10 arg11 arg12 arg13 arg14 arg15 arg16 f3 f4 f5 k.val) ⊢ wp frame (wpE (defs₀ (F := F)) Variants.none (c : Thread nD τ) none) Set.univ
    (k0_t11_body (F := F) i arg3 harg3 arg4 harg4 arg5 harg5 arg6 harg6 arg7 harg7 arg8 harg8 arg9 harg9 arg10 harg10 arg11 harg11 arg12 harg12 arg13 harg13 arg14 harg14 arg15 harg15 arg16 harg16 arg2 v45 v54 v58 c0 v60 c1 k a)
    (fun _ => Inv c arg3 arg4 arg5 arg9 arg10 arg11 arg12 arg13 arg14 arg15 arg16 f3 f4 f5 (Ph11 i arg3 arg4 arg5 arg9 arg10 arg11 arg12 arg13 arg14 arg15 arg16 f3 f4 f5 (k.val + 1))) := by
  unfold Inv
  iintro ⟨H3, H4, H5, %f9, %f10, %f11, %f12, %f13, %f14, %f15, %f16, H9, H10, H11, H12, H13, H14, H15, H16, %h⟩
  have hk := lt_of_lt_of_eq k.isLt (trips11 i)
  have h8 : (i 2).val < 8 := (i 2).isLt
  have hz : k.val = 0 := by
    (try split at hk) <;> omega
  have hr := reg11 c i arg3 harg3 arg4 harg4 arg5 harg5 arg6 harg6 arg7 harg7 arg8 harg8 arg9 harg9 arg10 harg10 arg11 harg11 arg12 harg12 arg13 harg13 arg14 harg14 arg15 harg15 arg16 harg16 f3 f4 f5 f9 f10 f11 f12 f13 f14 f15 f16 arg2 v45 v54 v58 c0 v60 c1 k (by
    have := h.1 hz
    rw [if_pos (by omega)] at this
    exact this)
  iapply (hr.trans (wp_mono _ _ _ fun _ => inv_of c arg3 arg4 arg5 arg9 arg10 arg11 arg12 arg13 arg14 arg15 arg16 f3 f4 f5 (Ph11 i arg3 arg4 arg5 arg9 arg10 arg11 arg12 arg13 arg14 arg15 arg16 f3 f4 f5 (k.val + 1)) fun f9 f10 f11 f12 f13 f14 f15 f16 hg => ⟨fun h0 => absurd h0 (Nat.succ_ne_zero _), fun _ => hg⟩))
  isplitl [H3]; · iexact H3
  isplitl [H4]; · iexact H4
  isplitl [H5]; · iexact H5
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

theorem step13 (arg2 v45 : BitVec 32) (v54 v58 : BitVec 1) (c0 v60 c1 : BitVec 32) (k : Fin (k0_t13_loop i).trips) (a : Unit) :
    Inv c arg3 arg4 arg5 arg9 arg10 arg11 arg12 arg13 arg14 arg15 arg16 f3 f4 f5 (Ph13 i arg3 arg4 arg5 arg9 arg10 arg11 arg12 arg13 arg14 arg15 arg16 f3 f4 f5 k.val) ⊢ wp frame (wpE (defs₀ (F := F)) Variants.none (c : Thread nD τ) none) Set.univ
    (k0_t13_body (F := F) i arg3 harg3 arg4 harg4 arg5 harg5 arg6 harg6 arg7 harg7 arg8 harg8 arg9 harg9 arg10 harg10 arg11 harg11 arg12 harg12 arg13 harg13 arg14 harg14 arg15 harg15 arg16 harg16 arg2 v45 v54 v58 c0 v60 c1 k a)
    (fun _ => Inv c arg3 arg4 arg5 arg9 arg10 arg11 arg12 arg13 arg14 arg15 arg16 f3 f4 f5 (Ph13 i arg3 arg4 arg5 arg9 arg10 arg11 arg12 arg13 arg14 arg15 arg16 f3 f4 f5 (k.val + 1))) := by
  unfold Inv
  iintro ⟨H3, H4, H5, %f9, %f10, %f11, %f12, %f13, %f14, %f15, %f16, H9, H10, H11, H12, H13, H14, H15, H16, %h⟩
  have hk := lt_of_lt_of_eq k.isLt (trips13 i)
  have h8 : (i 2).val < 8 := (i 2).isLt
  have hz : k.val = 0 := by
    (try split at hk) <;> omega
  have hr := reg13 c i arg3 harg3 arg4 harg4 arg5 harg5 arg6 harg6 arg7 harg7 arg8 harg8 arg9 harg9 arg10 harg10 arg11 harg11 arg12 harg12 arg13 harg13 arg14 harg14 arg15 harg15 arg16 harg16 f3 f4 f5 f9 f10 f11 f12 f13 f14 f15 f16 arg2 v45 v54 v58 c0 v60 c1 k (by
    have := h.1 hz
    rw [if_pos (by omega)] at this
    exact this)
  iapply (hr.trans (wp_mono _ _ _ fun _ => inv_of c arg3 arg4 arg5 arg9 arg10 arg11 arg12 arg13 arg14 arg15 arg16 f3 f4 f5 (Ph13 i arg3 arg4 arg5 arg9 arg10 arg11 arg12 arg13 arg14 arg15 arg16 f3 f4 f5 (k.val + 1)) fun f9 f10 f11 f12 f13 f14 f15 f16 hg => ⟨fun h0 => absurd h0 (Nat.succ_ne_zero _), fun _ => hg⟩))
  isplitl [H3]; · iexact H3
  isplitl [H4]; · iexact H4
  isplitl [H5]; · iexact H5
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

theorem step15 (arg2 v45 : BitVec 32) (v54 v58 : BitVec 1) (c0 v60 c1 : BitVec 32) (k : Fin (k0_t15_loop i).trips) (a : Unit) :
    Inv c arg3 arg4 arg5 arg9 arg10 arg11 arg12 arg13 arg14 arg15 arg16 f3 f4 f5 (Ph15 i arg3 arg4 arg5 arg9 arg10 arg11 arg12 arg13 arg14 arg15 arg16 f3 f4 f5 k.val) ⊢ wp frame (wpE (defs₀ (F := F)) Variants.none (c : Thread nD τ) none) Set.univ
    (k0_t15_body (F := F) i arg3 harg3 arg4 harg4 arg5 harg5 arg6 harg6 arg7 harg7 arg8 harg8 arg9 harg9 arg10 harg10 arg11 harg11 arg12 harg12 arg13 harg13 arg14 harg14 arg15 harg15 arg16 harg16 arg2 v45 v54 v58 c0 v60 c1 k a)
    (fun _ => Inv c arg3 arg4 arg5 arg9 arg10 arg11 arg12 arg13 arg14 arg15 arg16 f3 f4 f5 (Ph15 i arg3 arg4 arg5 arg9 arg10 arg11 arg12 arg13 arg14 arg15 arg16 f3 f4 f5 (k.val + 1))) := by
  unfold Inv
  iintro ⟨H3, H4, H5, %f9, %f10, %f11, %f12, %f13, %f14, %f15, %f16, H9, H10, H11, H12, H13, H14, H15, H16, %h⟩
  have hk := lt_of_lt_of_eq k.isLt (trips15 i)
  have h8 : (i 2).val < 8 := (i 2).isLt
  have hz : k.val = 0 := by
    (try split at hk) <;> omega
  have hr := reg15 c i arg3 harg3 arg4 harg4 arg5 harg5 arg6 harg6 arg7 harg7 arg8 harg8 arg9 harg9 arg10 harg10 arg11 harg11 arg12 harg12 arg13 harg13 arg14 harg14 arg15 harg15 arg16 harg16 f3 f4 f5 f9 f10 f11 f12 f13 f14 f15 f16 arg2 v45 v54 v58 c0 v60 c1 k (by
    have := h.1 hz
    rw [if_neg (by omega)] at this
    exact this)
  iapply (hr.trans (wp_mono _ _ _ fun _ => inv_of c arg3 arg4 arg5 arg9 arg10 arg11 arg12 arg13 arg14 arg15 arg16 f3 f4 f5 (Ph15 i arg3 arg4 arg5 arg9 arg10 arg11 arg12 arg13 arg14 arg15 arg16 f3 f4 f5 (k.val + 1)) fun f9 f10 f11 f12 f13 f14 f15 f16 hg => ⟨fun h0 => absurd h0 (Nat.succ_ne_zero _), fun _ => hg⟩))
  isplitl [H3]; · iexact H3
  isplitl [H4]; · iexact H4
  isplitl [H5]; · iexact H5
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

end
end Cert.KernelIdeal.Att
-- ==== Proof.Fox.Run.lean ====
module

public import proofs.«01_k».proof.Proof.Fox.Body

/-! The body run from its first statement to its last. -/

@[expose] public section
noncomputable section
namespace Cert.KernelIdeal.Att
open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
variable {F : FTy → Type} [FloatOps F] [Named F]
local notation "𝕄" => MT nD τ sig Unit (Elt F) ℕ (UR sig nD τ) ℕ

section
variable (c : Dev nD) (i : grid0.Coords)
  (arg3 : Memref sig .tc .vmem S512x512 .bf16) (harg3 : arg3.IsWhole)
  (arg4 : Memref sig .tc .vmem S4096x512 .bf16) (harg4 : arg4.IsWhole)
  (arg5 : Memref sig .tc .vmem S8x512x512 .bf16) (harg5 : arg5.IsWhole)
  (arg6 : Memref sig .tc .vmem S4x128 .f32) (harg6 : arg6.IsWhole)
  (arg7 : Memref sig .tc .vmem S1x256 .f32) (harg7 : arg7.IsWhole)
  (arg8 : Memref sig .tc .vmem S512x512 .bf16) (harg8 : arg8.IsWhole)
  (arg9 : Memref sig .tc .vmem S2x512x512 .f32) (harg9 : arg9.IsWhole)
  (arg10 : Memref sig .tc .vmem S2x512x512 .f32) (harg10 : arg10.IsWhole)
  (arg11 : Memref sig .tc .vmem S2x512x512 .f32) (harg11 : arg11.IsWhole)
  (arg12 : Memref sig .tc .vmem S2x512x512 .f32) (harg12 : arg12.IsWhole)
  (arg13 : Memref sig .tc .vmem S8x1x512 .f32) (harg13 : arg13.IsWhole)
  (arg14 : Memref sig .tc .vmem S4x1x512 .f32) (harg14 : arg14.IsWhole)
  (arg15 : Memref sig .tc .vmem S4x1x512 .f32) (harg15 : arg15.IsWhole)
  (arg16 : Memref sig .tc .vmem S4x256x512 .f32) (harg16 : arg16.IsWhole)

set_option maxHeartbeats 800000 in
theorem body_run (x3 : Vec F S512x512 .bf16) (x4 : Vec F S4096x512 .bf16) (x5 : Vec F S8x512x512 .bf16)
    (x6 : Vec F S4x128 .f32) (x7 : Vec F S1x256 .f32) (K : PUnit → sProp 𝕄) :
    iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
        ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (outB i x3 x4 x5 x6 x7) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
      ⊢ wp frame (wpE (defs₀ (F := F)) Variants.none (c : Thread nD τ) none) Set.univ
          (cc0_diff_attention (F := F) i arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_diff_attention_eq_skeleton]; unfold cc0_diff_attention_skel
  unfold owns
  iintro ⟨⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, Hk⟩
  subst hf3 hf4 hf5 hf6 hf7
  sl_exec
  sl_for (fun k _ => Inv c arg3 arg4 arg5 arg9 arg10 arg11 arg12 arg13 arg14 arg15 arg16 f3 f4 f5 (Ph1 i arg3 arg4 arg5 arg9 arg10 arg11 arg12 arg13 arg14 arg15 arg16 f3 f4 f5 k)) $$ [H3 H4 H5 H9 H10 H11 H12 H13 H14 H15 H16]
  case region => exact fun k a => step1 c i arg3 harg3 arg4 harg4 arg5 harg5 arg6 harg6 arg7 harg7 arg8 harg8 arg9 harg9 arg10 harg10 arg11 harg11 arg12 harg12 arg13 harg13 arg14 harg14 arg15 harg15 arg16 harg16 f3 f4 f5 k a
  · unfold Inv
    isplitl [H3]; · iexact H3
    isplitl [H4]; · iexact H4
    isplitl [H5]; · iexact H5
    iexists _, _, _, _, _, _, _, _
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    ipureintro
    unfold Ph1; exact ⟨init4 i arg3 arg4 arg5 arg14 arg15 arg16 f3 f4 f5 _ _ _, fun h => absurd rfl h⟩
  iintro %_ HI
  unfold Inv
  icases HI with ⟨H3, H4, H5, %g9, %g10, %g11, %g12, %g13, %g14, %g15, %g16, H9, H10, H11, H12, H13, H14, H15, H16, %h1⟩
  sl_exec
  sl_for0 (trips2 i)
  sl_exec
  sl_for (fun k _ => Inv c arg3 arg4 arg5 arg9 arg10 arg11 arg12 arg13 arg14 arg15 arg16 f3 f4 f5 (Ph3 i arg3 arg4 arg5 arg9 arg10 arg11 arg12 arg13 arg14 arg15 arg16 f3 f4 f5 k)) $$ [H3 H4 H5 H9 H10 H11 H12 H13 H14 H15 H16]
  case region => exact fun k a => step3 c i arg3 harg3 arg4 harg4 arg5 harg5 arg6 harg6 arg7 harg7 arg8 harg8 arg9 harg9 arg10 harg10 arg11 harg11 arg12 harg12 arg13 harg13 arg14 harg14 arg15 harg15 arg16 harg16 f3 f4 f5 k a
  · unfold Inv
    isplitl [H3]; · iexact H3
    isplitl [H4]; · iexact H4
    isplitl [H5]; · iexact H5
    iexists _, _, _, _, _, _, _, _
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    ipureintro
    exact to3 i arg3 arg4 arg5 arg9 arg10 arg11 arg12 arg13 arg14 arg15 arg16 f3 f4 f5 _ _ _ _ _ _ _ _ h1
  iintro %_ HI
  unfold Inv
  icases HI with ⟨H3, H4, H5, %g9, %g10, %g11, %g12, %g13, %g14, %g15, %g16, H9, H10, H11, H12, H13, H14, H15, H16, %h3⟩
  sl_exec
  sl_for0 (trips4 i)
  sl_exec
  sl_for (fun k _ => Inv c arg3 arg4 arg5 arg9 arg10 arg11 arg12 arg13 arg14 arg15 arg16 f3 f4 f5 (Ph5 i arg3 arg4 arg5 arg9 arg10 arg11 arg12 arg13 arg14 arg15 arg16 f3 f4 f5 k)) $$ [H3 H4 H5 H9 H10 H11 H12 H13 H14 H15 H16]
  case region => exact fun k a => step5 c i arg3 harg3 arg4 harg4 arg5 harg5 arg6 harg6 arg7 harg7 arg8 harg8 arg9 harg9 arg10 harg10 arg11 harg11 arg12 harg12 arg13 harg13 arg14 harg14 arg15 harg15 arg16 harg16 f3 f4 f5 0#32 k a
  · unfold Inv
    isplitl [H3]; · iexact H3
    isplitl [H4]; · iexact H4
    isplitl [H5]; · iexact H5
    iexists _, _, _, _, _, _, _, _
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    ipureintro
    exact to5 i arg3 arg4 arg5 arg9 arg10 arg11 arg12 arg13 arg14 arg15 arg16 f3 f4 f5 _ _ _ _ _ _ _ _ h3
  iintro %_ HI
  unfold Inv
  icases HI with ⟨H3, H4, H5, %g9, %g10, %g11, %g12, %g13, %g14, %g15, %g16, H9, H10, H11, H12, H13, H14, H15, H16, %h5⟩
  sl_exec
  sl_for0 (trips6 i)
  sl_exec
  sl_for (fun k _ => Inv c arg3 arg4 arg5 arg9 arg10 arg11 arg12 arg13 arg14 arg15 arg16 f3 f4 f5 (Ph7 i arg3 arg4 arg5 arg9 arg10 arg11 arg12 arg13 arg14 arg15 arg16 f3 f4 f5 k)) $$ [H3 H4 H5 H9 H10 H11 H12 H13 H14 H15 H16]
  case region => exact fun k a => step7 c i arg3 harg3 arg4 harg4 arg5 harg5 arg6 harg6 arg7 harg7 arg8 harg8 arg9 harg9 arg10 harg10 arg11 harg11 arg12 harg12 arg13 harg13 arg14 harg14 arg15 harg15 arg16 harg16 f3 f4 f5 _ _ _ _ _ _ _ k a
  · unfold Inv
    isplitl [H3]; · iexact H3
    isplitl [H4]; · iexact H4
    isplitl [H5]; · iexact H5
    iexists _, _, _, _, _, _, _, _
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    ipureintro
    exact to7 i arg3 arg4 arg5 arg9 arg10 arg11 arg12 arg13 arg14 arg15 arg16 f3 f4 f5 _ _ _ _ _ _ _ _ h5
  iintro %_ HI
  unfold Inv
  icases HI with ⟨H3, H4, H5, %g9, %g10, %g11, %g12, %g13, %g14, %g15, %g16, H9, H10, H11, H12, H13, H14, H15, H16, %h7⟩
  sl_exec
  sl_for0 (trips8 i)
  sl_exec
  sl_for (fun k _ => Inv c arg3 arg4 arg5 arg9 arg10 arg11 arg12 arg13 arg14 arg15 arg16 f3 f4 f5 (Ph9 i arg3 arg4 arg5 arg9 arg10 arg11 arg12 arg13 arg14 arg15 arg16 f3 f4 f5 k)) $$ [H3 H4 H5 H9 H10 H11 H12 H13 H14 H15 H16]
  case region => exact fun k a => step9 c i arg3 harg3 arg4 harg4 arg5 harg5 arg6 harg6 arg7 harg7 arg8 harg8 arg9 harg9 arg10 harg10 arg11 harg11 arg12 harg12 arg13 harg13 arg14 harg14 arg15 harg15 arg16 harg16 f3 f4 f5 _ _ _ _ _ _ _ k a
  · unfold Inv
    isplitl [H3]; · iexact H3
    isplitl [H4]; · iexact H4
    isplitl [H5]; · iexact H5
    iexists _, _, _, _, _, _, _, _
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    ipureintro
    exact to9 i arg3 arg4 arg5 arg9 arg10 arg11 arg12 arg13 arg14 arg15 arg16 f3 f4 f5 _ _ _ _ _ _ _ _ h7
  iintro %_ HI
  unfold Inv
  icases HI with ⟨H3, H4, H5, %g9, %g10, %g11, %g12, %g13, %g14, %g15, %g16, H9, H10, H11, H12, H13, H14, H15, H16, %h9⟩
  sl_exec
  sl_for0 (trips10 i)
  sl_exec
  sl_for (fun k _ => Inv c arg3 arg4 arg5 arg9 arg10 arg11 arg12 arg13 arg14 arg15 arg16 f3 f4 f5 (Ph11 i arg3 arg4 arg5 arg9 arg10 arg11 arg12 arg13 arg14 arg15 arg16 f3 f4 f5 k)) $$ [H3 H4 H5 H9 H10 H11 H12 H13 H14 H15 H16]
  case region => exact fun k a => step11 c i arg3 harg3 arg4 harg4 arg5 harg5 arg6 harg6 arg7 harg7 arg8 harg8 arg9 harg9 arg10 harg10 arg11 harg11 arg12 harg12 arg13 harg13 arg14 harg14 arg15 harg15 arg16 harg16 f3 f4 f5 _ _ _ _ _ _ _ k a
  · unfold Inv
    isplitl [H3]; · iexact H3
    isplitl [H4]; · iexact H4
    isplitl [H5]; · iexact H5
    iexists _, _, _, _, _, _, _, _
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    ipureintro
    exact to11 i arg3 arg4 arg5 arg9 arg10 arg11 arg12 arg13 arg14 arg15 arg16 f3 f4 f5 _ _ _ _ _ _ _ _ h9
  iintro %_ HI
  unfold Inv
  icases HI with ⟨H3, H4, H5, %g9, %g10, %g11, %g12, %g13, %g14, %g15, %g16, H9, H10, H11, H12, H13, H14, H15, H16, %h11⟩
  sl_exec
  sl_for0 (trips12 i)
  sl_exec
  sl_for (fun k _ => Inv c arg3 arg4 arg5 arg9 arg10 arg11 arg12 arg13 arg14 arg15 arg16 f3 f4 f5 (Ph13 i arg3 arg4 arg5 arg9 arg10 arg11 arg12 arg13 arg14 arg15 arg16 f3 f4 f5 k)) $$ [H3 H4 H5 H9 H10 H11 H12 H13 H14 H15 H16]
  case region => exact fun k a => step13 c i arg3 harg3 arg4 harg4 arg5 harg5 arg6 harg6 arg7 harg7 arg8 harg8 arg9 harg9 arg10 harg10 arg11 harg11 arg12 harg12 arg13 harg13 arg14 harg14 arg15 harg15 arg16 harg16 f3 f4 f5 _ _ _ _ _ _ _ k a
  · unfold Inv
    isplitl [H3]; · iexact H3
    isplitl [H4]; · iexact H4
    isplitl [H5]; · iexact H5
    iexists _, _, _, _, _, _, _, _
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    ipureintro
    exact to13 i arg3 arg4 arg5 arg9 arg10 arg11 arg12 arg13 arg14 arg15 arg16 f3 f4 f5 _ _ _ _ _ _ _ _ h11
  iintro %_ HI
  unfold Inv
  icases HI with ⟨H3, H4, H5, %g9, %g10, %g11, %g12, %g13, %g14, %g15, %g16, H9, H10, H11, H12, H13, H14, H15, H16, %h13⟩
  sl_exec
  sl_for0 (trips14 i)
  sl_exec
  sl_for (fun k _ => Inv c arg3 arg4 arg5 arg9 arg10 arg11 arg12 arg13 arg14 arg15 arg16 f3 f4 f5 (Ph15 i arg3 arg4 arg5 arg9 arg10 arg11 arg12 arg13 arg14 arg15 arg16 f3 f4 f5 k)) $$ [H3 H4 H5 H9 H10 H11 H12 H13 H14 H15 H16]
  case region => exact fun k a => step15 c i arg3 harg3 arg4 harg4 arg5 harg5 arg6 harg6 arg7 harg7 arg8 harg8 arg9 harg9 arg10 harg10 arg11 harg11 arg12 harg12 arg13 harg13 arg14 harg14 arg15 harg15 arg16 harg16 f3 f4 f5 _ _ _ _ _ _ _ k a
  · unfold Inv
    isplitl [H3]; · iexact H3
    isplitl [H4]; · iexact H4
    isplitl [H5]; · iexact H5
    iexists _, _, _, _, _, _, _, _
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    ipureintro
    exact to15 i arg3 arg4 arg5 arg9 arg10 arg11 arg12 arg13 arg14 arg15 arg16 f3 f4 f5 _ _ _ _ _ _ _ _ h13
  iintro %_ HI
  unfold Inv
  icases HI with ⟨H3, H4, H5, %g9, %g10, %g11, %g12, %g13, %g14, %g15, %g16, H9, H10, H11, H12, H13, H14, H15, H16, %h15⟩
  sl_exec
  sl_for0 (trips16 i)
  sl_exec
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    obtain ⟨k0, k1, k2, k3⟩ := done15 i arg3 arg4 arg5 arg9 arg10 arg11 arg12 arg13 arg14 arg15 arg16 f3 f4 f5 _ _ _ _ _ _ _ _ h15
    have hz : (![0, 0] : Fin 2 → ℕ) = fun _ => 0 := by decide
    have e6 := rd_all arg6 f6 hz inb_S4x128_S4x128_0_0
    have e7 := rd_all arg7 f7 hz inb_S1x256_S1x256_0_0
    unfold outB
    dsimp only
    rw [← k0.ha, ← k0.hl, ← k1.ha, ← k1.hl, ← k2.ha, ← k2.hl, ← k3.ha, ← k3.hl, ← e6, ← e7]
    exact View.read_writes_eq_canon _ _ _ (cover8 _ _)
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  iexists _, _; isplitr; swap; · iexact H16
  ipureintro; rfl
end
end Cert.KernelIdeal.Att
-- ==== Proof.Fox.Frame.lean ====
/-
  The launch around the body: what each window's buffer holds at each grid point, the run of the whole program, and the
  statement that it ends with its arguments unchanged and every semaphore at zero.
-/
module

public import proofs.«01_k».proof.Proof.Fox.Run
public import proofs.«01_k».proof.Proof.Gen.KernelIdeal.Frame
public import Idealize.ShloMosaic.Lib.Claim

@[expose] public section

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What the body leaves in the output block at grid point `t`. -/
def outAt (c : Dev nD) (t : Fin cfg0.N) : Vec F S512x512 .bf16 :=
  outB (grid0.coords t) (iblk m c 0 t) (iblk m c 1 t) (iblk m c 2 t) (iblk m c 3 t) (iblk m c 4 t)

/-- The launch's data: the arrays as the host left them, each input's block in its buffer, the body's result in the
    output's, the scratch at anything between two points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ _ := Pipeline.ΦA spec0 c
  q := Pipeline.shareOf spec0
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- Between two points: each scratch buffer at some contents, and the generator's register. -/
theorem rest_eq (c : Dev nD) : (Pipeline.ΦA (Val := Elt F) spec0 c : sProp 𝕄)
    = iprop(((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ (∃ d, owns (c : Thread nD τ) (Memref.whole cc0_scratch7) fullShare d)) ∗ (∃ r, prngReg c r)) := by
  rw [Pipeline.ΦA, scopedRest0_eq]; simp only [owns_whole]; try rfl

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3, after0_4, after0_5, rest_eq]
  iintro ⟨⟨⟨S0, S1, S2, S3, S4, S5, S6, S7⟩, Hp⟩, Ho, ⟨%d0, H0⟩, ⟨%d1, H1⟩, ⟨%d2, H2⟩, ⟨%d3, H3⟩, ⟨%d4, H4⟩, ⟨%d5, H5⟩⟩
  iapply (body_run c (grid0.coords t) _ _ _ _ _ _ _ _ _ _ _ _ _ _ _ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  iintro ⟨H0, H1, H2, H3, H4, H5, S0, S1, S2, S3, S4, S5, S6, S7⟩
  isplitl [S0 S1 S2 S3 S4 S5 S6 S7 Hp]
  · isplitl [S0 S1 S2 S3 S4 S5 S6 S7]
    · isplitl [S0]; · iexact S0
      isplitl [S1]; · iexact S1
      isplitl [S2]; · iexact S2
      isplitl [S3]; · iexact S3
      isplitl [S4]; · iexact S4
      isplitl [S5]; · iexact S5
      isplitl [S6]; · iexact S6
      iexact S7
    iexact Hp
  isplitl [Ho]; · iexact Ho
  isplitl [H0]; · iexact H0
  isplitl [H1]; · iexact H1
  isplitl [H2]; · iexact H2
  isplitl [H3]; · iexact H3
  isplitl [H4]; · iexact H4
  iexact H5

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The run: the arrays end at what the launch's data say, and the counters at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged and every counter at zero. -/
theorem unchanged : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.KernelIdeal.Att

end
-- ==== Proof.Val.Scal.lean ====
module

public import Idealize.ShloMosaic.Lib.Pointwise
public import Idealize.ShloMosaic.Lib.IdealHost

/-! The softmax of one query, as real numbers: a running maximum, sum and weighted
sum that are rescaled block by block keep the plain sums of the exponentials, and a
softmax under any real maximum is their quotient. -/

@[expose] public section
noncomputable section
namespace Cert.Softmax
open Idealize.ShloMosaic

theorem sum_coe {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem neg_inf : Ideal.ofBits .f32 0xFF800000#32 = ⊥ := by simp [Ideal.ofBits, Ideal.ieee]
theorem two_f32 : Ideal.ofBits .f32 0x40000000#32 = ((2 : ℝ) : EReal) := by
  simp [Ideal.ofBits, Ideal.ieee, -EReal.coe_mul]; norm_num
theorem n128_f32 : Ideal.ofBits .f32 0x43000000#32 = ((128 : ℝ) : EReal) := by
  simp [Ideal.ofBits, Ideal.ieee, -EReal.coe_mul]; norm_num

theorem rsqrt128 : Ideal.rsqrt (Ideal.ofBits .f32 0x43000000#32) = (((Real.sqrt 128)⁻¹ : ℝ) : EReal) := by
  rw [n128_f32, Ideal.rsqrt_coe, if_neg (by norm_num), if_neg (by norm_num)]

theorem scale_eq : Ideal.div (Ideal.rsqrt (Ideal.ofBits .f32 0x43000000#32)) (Ideal.log (Ideal.ofBits .f32 0x40000000#32))
    = (((Real.sqrt 128)⁻¹ / Real.log 2 : ℝ) : EReal) := by
  rw [rsqrt128, two_f32, Ideal.log_coe, if_neg (by norm_num),
    Ideal.div_coe (Real.log_pos (by norm_num)).ne', ← EReal.coe_mul, mul_one_div]

/-- The largest of scores of which none is `+∞` and one is real is real. -/
theorem fold_real {ι : Type} [Fintype ι] (s : ι → EReal) (h : ∀ j, s j ≠ ⊤) (h' : ∃ j, s j ≠ ⊥) :
    ∃ X : ℝ, Finset.fold max (⊥ : EReal) s Finset.univ = X := by
  have h1 : Finset.fold max (⊥ : EReal) s Finset.univ < ⊤ :=
    Finset.fold_max_lt _ |>.2 ⟨bot_lt_top, fun j _ => lt_top_iff_ne_top.2 (h j)⟩
  have h2 : (⊥ : EReal) < Finset.fold max (⊥ : EReal) s Finset.univ := by
    obtain ⟨j, hj⟩ := h'
    exact Finset.lt_fold_max _ |>.2 (.inr ⟨j, Finset.mem_univ _, bot_lt_iff_ne_bot.2 hj⟩)
  exact ⟨_, (EReal.coe_toReal h1.ne h2.ne').symm⟩

/-- `s` is a score of weight `W` on the scale of base two: `-∞` weighs nothing. -/
def Rep (W : ℝ) (s : EReal) : Prop := (s = ⊥ ∧ W = 0) ∨ ∃ σ : ℝ, s = σ ∧ W = Real.rpow 2 σ

/-- The same on the scale of the base of the natural logarithm. -/
def RepE (W : ℝ) (s : EReal) : Prop := (s = ⊥ ∧ W = 0) ∨ ∃ σ : ℝ, s = σ ∧ W = Real.exp σ

theorem Rep.ne_top {W : ℝ} {s : EReal} (h : Rep W s) : s ≠ ⊤ := by
  obtain ⟨rfl, _⟩ | ⟨σ, rfl, _⟩ := h
  · exact bot_ne_top
  · exact EReal.coe_ne_top σ

theorem RepE.ne_top {W : ℝ} {s : EReal} (h : RepE W s) : s ≠ ⊤ := by
  obtain ⟨rfl, _⟩ | ⟨σ, rfl, _⟩ := h
  · exact bot_ne_top
  · exact EReal.coe_ne_top σ

theorem Rep.exp2 {W : ℝ} {s : EReal} (h : Rep W s) (M : ℝ) :
    Ideal.exp2 (s - M) = ((W * Real.rpow 2 (-M) : ℝ) : EReal) := by
  obtain ⟨rfl, rfl⟩ | ⟨σ, rfl, rfl⟩ := h
  · rw [EReal.bot_sub, Ideal.exp2_bot, zero_mul, EReal.coe_zero]
  · rw [← EReal.coe_sub, Ideal.exp2_coe]
    congr 1
    rw [sub_eq_add_neg]
    exact Real.rpow_add (by norm_num) σ (-M)

theorem RepE.exp {W : ℝ} {s : EReal} (h : RepE W s) (M : ℝ) :
    Ideal.exp (s - M) = ((W * Real.exp (-M) : ℝ) : EReal) := by
  obtain ⟨rfl, rfl⟩ | ⟨σ, rfl, rfl⟩ := h
  · rw [EReal.bot_sub, Ideal.exp_bot, zero_mul, EReal.coe_zero]
  · rw [← EReal.coe_sub, Ideal.exp_coe, sub_eq_add_neg, Real.exp_add]

/-- A running pair: either nothing was seen, or `l` is the sum `L` rescaled by the maximum `m`. -/
def Inv (L : ℝ) (m l : EReal) : Prop :=
  (m = ⊥ ∧ l = 0 ∧ L = 0) ∨ ∃ M : ℝ, m = M ∧ l = ((L * Real.rpow 2 (-M) : ℝ) : EReal)

theorem Inv.start : Inv 0 ⊥ 0 := .inl ⟨rfl, rfl, rfl⟩

theorem Inv.step {L : ℝ} {m l : EReal} (h : Inv L m l) (X S : ℝ) {T : EReal}
    (hT : ∀ M : ℝ, max m (X : EReal) = M → T = ((S * Real.rpow 2 (-M) : ℝ) : EReal)) :
    Inv (L + S) (max m X) (Ideal.exp2 (m - max m X) * l + T) := by
  obtain ⟨rfl, rfl, rfl⟩ | ⟨M, rfl, rfl⟩ := h
  · rw [max_eq_right (bot_le : (⊥ : EReal) ≤ X)] at hT ⊢
    refine .inr ⟨X, rfl, ?_⟩
    rw [hT X rfl, mul_zero, zero_add, zero_add]
  · have e : max (M : EReal) (X : EReal) = ((max M X : ℝ) : EReal) := by
      rcases le_total M X with h | h
      · rw [max_eq_right h, max_eq_right (EReal.coe_le_coe_iff.2 h)]
      · rw [max_eq_left h, max_eq_left (EReal.coe_le_coe_iff.2 h)]
    refine .inr ⟨max M X, e, ?_⟩
    rw [hT _ e, e, ← EReal.coe_sub, Ideal.exp2_coe, ← EReal.coe_mul, ← EReal.coe_add]
    congr 1
    have : Real.rpow 2 (M - max M X) * Real.rpow 2 (-M) = Real.rpow 2 (-max M X) := by
      refine (Real.rpow_add (by norm_num) _ _).symm.trans ?_
      congr 1; ring
    linear_combination L * this

/-- The maximum of a block and the running one, where something was seen. -/
theorem Inv.div {L A : ℝ} {m l a : EReal} (hl : Inv L m l) (ha : Inv A m a) (hL : L ≠ 0) :
    Ideal.div a l = ((A / L : ℝ) : EReal) := by
  obtain ⟨_, _, h⟩ | ⟨M, rfl, rfl⟩ := hl
  · exact absurd h hL
  obtain ⟨h, _⟩ | ⟨M', h, rfl⟩ := ha
  · exact absurd h (EReal.coe_ne_bot M)
  cases EReal.coe_injective h
  have hp : Real.rpow 2 (-M) ≠ 0 := (Real.rpow_pos_of_pos (by norm_num) _).ne'
  rw [Ideal.div_coe (mul_ne_zero hL hp), ← EReal.coe_mul]
  congr 1
  field_simp

/-- One block: its largest score is real, so the running maximum and sum go on. -/
theorem Inv.block {ι : Type} [Fintype ι] {L A : ℝ} {m l a : EReal} (hl : Inv L m l) (ha : Inv A m a)
    (s : ι → EReal) (W ν : ι → ℝ) (hs : ∀ j, Rep (W j) (s j)) (h' : ∃ j, s j ≠ ⊥) :
    Inv (L + ∑ j, W j) (max m (Finset.fold max ⊥ s Finset.univ))
        (Ideal.exp2 (m - max m (Finset.fold max ⊥ s Finset.univ)) * l
          + ∑ j, Ideal.exp2 (s j - max m (Finset.fold max ⊥ s Finset.univ)))
      ∧ Inv (A + ∑ j, W j * ν j) (max m (Finset.fold max ⊥ s Finset.univ))
        (Ideal.exp2 (m - max m (Finset.fold max ⊥ s Finset.univ)) * a
          + ∑ j, (ν j : EReal) * Ideal.exp2 (s j - max m (Finset.fold max ⊥ s Finset.univ))) := by
  obtain ⟨X, hX⟩ := fold_real s (fun j => (hs j).ne_top) h'
  rw [hX]
  constructor
  · refine hl.step X _ fun M hM => ?_
    rw [hM, Finset.sum_mul, ← sum_coe]
    exact Finset.sum_congr rfl fun j _ => (hs j).exp2 M
  · refine ha.step X _ fun M hM => ?_
    rw [hM, Finset.sum_mul, ← sum_coe]
    refine Finset.sum_congr rfl fun j _ => ?_
    rw [(hs j).exp2 M, ← EReal.coe_mul]
    congr 1; ring

theorem fold_real_on {ι : Type} (S : Finset ι) (s : ι → EReal) (h : ∀ j, s j ≠ ⊤) (h' : ∃ j ∈ S, s j ≠ ⊥) :
    ∃ X : ℝ, Finset.fold max (⊥ : EReal) s S = X := by
  have h1 : Finset.fold max (⊥ : EReal) s S < ⊤ :=
    Finset.fold_max_lt _ |>.2 ⟨bot_lt_top, fun j _ => lt_top_iff_ne_top.2 (h j)⟩
  have h2 : (⊥ : EReal) < Finset.fold max (⊥ : EReal) s S := by
    obtain ⟨j, hj, hb⟩ := h'
    exact Finset.lt_fold_max _ |>.2 (.inr ⟨j, hj, bot_lt_iff_ne_bot.2 hb⟩)
  exact ⟨_, (EReal.coe_toReal h1.ne h2.ne').symm⟩

/-- A softmax under any real maximum: the quotient of the weights. -/
theorem softmax {ι : Type} [Fintype ι] (z : ι → EReal) (W : ι → ℝ) (hz : ∀ j, RepE (W j) (z j))
    (T : EReal) (hT : ∃ X : ℝ, T = X) (hL : ∑ j, W j ≠ 0) (j : ι) :
    Ideal.div (Ideal.exp (z j - T)) (0 + ∑ k, Ideal.exp (z k - T)) = ((W j / ∑ k, W k : ℝ) : EReal) := by
  obtain ⟨X, rfl⟩ := hT
  rw [zero_add, (hz j).exp X,
    Finset.sum_congr rfl fun k _ => (hz k).exp X, sum_coe, ← Finset.sum_mul,
    Ideal.div_coe (mul_ne_zero hL (Real.exp_pos _).ne'), ← EReal.coe_mul]
  congr 1
  have := (Real.exp_pos (-X)).ne'
  field_simp

/-- The factor of the second map, from the four rows of the parameter. -/
def lamE (l : Fin 4 → Fin 128 → EReal) : EReal :=
  Ideal.exp (∑ e, l 0 e * l 1 e) - Ideal.exp (∑ e, l 2 e * l 3 e) + Ideal.ofBits .f32 0x3E4CCCCD#32

/-- The normed, scaled element `d` of a head's row `Y`. -/
def normE (Y : Fin 256 → EReal) (g : EReal) (d : Fin 256) : EReal :=
  Y d * Ideal.rsqrt (Ideal.div (∑ d', Y d' * Y d') (Ideal.ofBits .f32 0x43800000#32) + Ideal.ofBits .f32 0x358637BD#32)
    * g * Ideal.ofBits .f32 0x3F4CCCCD#32

/-- The product of query `t` with key `s` in map `p` of head `h`. -/
def dotR (q k : ℕ → ℕ → ℝ) (b h p t s : ℕ) : ℝ :=
  ∑ e : Fin 128, q (4096 * b + t) (256 * h + 128 * p + e.val) * k (4096 * b + s) (256 * h + 128 * p + e.val)

/-- The weight of key `s` for query `t`: nothing where the key lies in a later chunk. -/
def wR (q k : ℕ → ℕ → ℝ) (b h p t s : ℕ) : ℝ :=
  if s / 64 ≤ t / 64 then Real.exp (dotR q k b h p t s * (Real.sqrt 128)⁻¹) else 0

/-- The mean of the values under the weights of one map. -/
def attR (q k v : ℕ → ℕ → ℝ) (b h p t d : ℕ) : ℝ :=
  (∑ s ∈ Finset.range 4096, wR q k b h p t s * v (4096 * b + s) (256 * h + d)) / ∑ s ∈ Finset.range 4096, wR q k b h p t s

/-- The difference of the two maps' means. -/
def meanR (q k v : ℕ → ℕ → ℝ) (L : EReal) (b h t : ℕ) (d : Fin 256) : EReal :=
  (attR q k v b h 0 t d.val : EReal) - L * (attR q k v b h 1 t d.val : EReal)

/-- The layer's result at one element. -/
def outE (q k v : ℕ → ℕ → ℝ) (l : Fin 4 → Fin 128 → EReal) (g : Fin 256 → EReal) (row col : ℕ) : EReal :=
  normE (meanR q k v (lamE l) (row / 4096) (col / 256) (row % 4096)) (g ⟨col % 256, Nat.mod_lt _ (by norm_num)⟩)
    ⟨col % 256, Nat.mod_lt _ (by norm_num)⟩

theorem wR_nonneg (q k : ℕ → ℕ → ℝ) (b h p t s : ℕ) : 0 ≤ wR q k b h p t s := by
  unfold wR; split
  · exact (Real.exp_pos _).le
  · exact le_rfl

theorem wR_sum_pos (q k : ℕ → ℕ → ℝ) (b h p t : ℕ) : 0 < ∑ s ∈ Finset.range 4096, wR q k b h p t s := by
  refine Finset.sum_pos' (fun s _ => wR_nonneg q k b h p t s) ⟨0, Finset.mem_range.2 (by norm_num), ?_⟩
  unfold wR
  rw [if_pos (by omega)]
  exact Real.exp_pos _

/-- The difference of the weights, applied to the values, is the difference of the means. -/
theorem mean_of_weights (w0 w1 ν : Fin 4096 → ℝ) (D0 D1 L : ℝ) :
    ∑ s, (((w0 s / D0 : ℝ) : EReal) - (L : EReal) * ((w1 s / D1 : ℝ) : EReal)) * (ν s : EReal)
      = (((∑ s, w0 s * ν s) / D0 : ℝ) : EReal) - (L : EReal) * (((∑ s, w1 s * ν s) / D1 : ℝ) : EReal) := by
  rw [← EReal.coe_mul, ← EReal.coe_sub, Finset.sum_div, Finset.sum_div, Finset.mul_sum, ← Finset.sum_sub_distrib, ← sum_coe]
  refine Finset.sum_congr rfl fun s _ => ?_
  rw [← EReal.coe_mul, ← EReal.coe_sub, ← EReal.coe_mul]
  congr 1; ring

/-- The factor is real where the parameter is. -/
theorem lamE_real (l : Fin 4 → Fin 128 → EReal) (h : ∀ a e, ∃ r : ℝ, l a e = r) : ∃ L : ℝ, lamE l = L := by
  choose f hf using h
  have hb : ∃ z : ℝ, Ideal.ofBits .f32 0x3E4CCCCD#32 = z := by
    refine ⟨_, (EReal.coe_toReal ?_ ?_).symm⟩ <;> simp [Ideal.ofBits, Ideal.ieee, -EReal.coe_mul]
  obtain ⟨z, hz⟩ := hb
  refine ⟨Real.exp (∑ e, f 0 e * f 1 e) - Real.exp (∑ e, f 2 e * f 3 e) + z, ?_⟩
  unfold lamE
  simp only [hf, ← EReal.coe_mul, sum_coe, Ideal.exp_coe, hz]
  rw [← EReal.coe_sub, ← EReal.coe_add]

/-- Every bit that a conjunction over an array starts from and meets is set, if its result is. -/
theorem all_of_foldl {α : Type} (f : α → BitVec 1) (l : List α) (b : BitVec 1)
    (h : l.foldl (fun r n => IntOp.andi r (f n)) b = 1#1) : b = 1#1 ∧ ∀ n ∈ l, f n = 1#1 := by
  induction l generalizing b with
  | nil => exact ⟨h, fun _ hn => absurd hn (List.not_mem_nil)⟩
  | cons a l ih =>
    obtain ⟨h1, h2⟩ := ih _ h
    have : b = 1#1 ∧ f a = 1#1 :=
      (by decide : ∀ b x : BitVec 1, IntOp.andi b x = 1#1 → b = 1#1 ∧ x = 1#1) b (f a) h1
    exact ⟨this.1, fun n hn => (List.mem_cons.1 hn).elim (fun e => e ▸ this.2) (h2 n)⟩

theorem all_of_reduce {s t u : Shape} {axes : List (Fin s.rank)} (x : s.Idx → BitVec 1) (v : u.Idx → BitVec 1)
    (h : s.ReducesTo axes t) (hu : 0 < u.numel) (j : t.Idx) (hj : Host.reduce IntOp.andi x v h hu j = 1#1)
    (i : s.Idx) (hi : h.drop i = j) : x i = 1#1 := by
  have := (all_of_foldl (fun n => x (s.rowMajor.symm n)) _ _ hj).2 (s.rowMajor i)
    (List.mem_filter.2 ⟨List.mem_finRange _, by simpa using hi⟩)
  simpa using this

/-- An element whose absolute value is below `+∞` is real. -/
theorem real_of_finite (x : EReal) (h : Ideal.cmp .olt (max x (-x)) (Ideal.ofBits .f32 0x7F800000#32) = 1#1) :
    ∃ r : ℝ, x = r := by
  have ht : Ideal.ofBits .f32 0x7F800000#32 = ⊤ := by simp [Ideal.ofBits, Ideal.ieee]
  rw [ht] at h
  induction x with
  | bot => exact absurd h (by simp [Ideal.cmp])
  | top => exact absurd h (by simp [Ideal.cmp])
  | coe r => exact ⟨r, rfl⟩
end Cert.Softmax
-- ==== Proof.Val.Block.lean ====
module

public import proofs.«01_k».proof.Proof.Fox.Body
public import proofs.«01_k».proof.Proof.Val.Scal
public import Idealize.ShloMosaic.Lib.Pipeline.ValueKit

/-! What one block of keys does to a chain, read at one query of the extended reals. -/

@[expose] public section
set_option maxRecDepth 16384
noncomputable section
namespace Cert.KernelIdeal.Att
open Cert.KernelIdeal Cert.KernelIdeal.Gen Cert.Softmax
open Idealize.ShloMosaic

theorem mask_bot : (Named.named (F := Ideal) κ "mask" (φ := .f32) 0xF149F2CA#32 : EReal) = ⊥ := rfl

theorem mNew_at (x m : FVec Ideal S1x1x512 .f32) (r : Fin 512) :
    (mNew (F := Ideal) x m (ix3 0 0 r) : EReal) = max (m (ix3 0 0 r) : EReal) (x (ix3 0 0 r)) := by
  pointwise [mNew, k0_pay285, k0_pay278, k0_pay280, k0_pay282]

theorem lNew_at (t : FVec Ideal S1x512x512 .f32) (x m l : FVec Ideal S1x1x512 .f32) (r : Fin 512) :
    (lNew (F := Ideal) t x m l (ix3 0 0 r) : EReal)
      = Ideal.exp2 ((m (ix3 0 0 r) : EReal) - max (m (ix3 0 0 r) : EReal) (x (ix3 0 0 r))) * (l (ix3 0 0 r) : EReal)
        + ∑ j : Fin 512, Ideal.exp2 ((t (ix3 0 j r) : EReal) - max (m (ix3 0 0 r) : EReal) (x (ix3 0 0 r))) := by
  pointwise [lNew, k0_pay286, k0_pay277, k0_pay278, k0_pay280, k0_pay281, k0_pay282, k0_pay283, k0_pay284]
  rfl

theorem aNew_at (t : FVec Ideal S1x512x512 .f32) (x m : FVec Ideal S1x1x512 .f32) (v : FVec Ideal S1x256x512 .bf16)
    (a : FVec Ideal S1x256x512 .f32) (d : Fin 256) (r : Fin 512) :
    (aNew (F := Ideal) t x m v a (ix3 0 d r) : EReal)
      = Ideal.exp2 ((m (ix3 0 0 r) : EReal) - max (m (ix3 0 0 r) : EReal) (x (ix3 0 0 r))) * (a (ix3 0 d r) : EReal)
        + ∑ j : Fin 512, (v (ix3 0 d j) : EReal)
            * Ideal.exp2 ((t (ix3 0 j r) : EReal) - max (m (ix3 0 0 r) : EReal) (x (ix3 0 0 r))) := by
  pointwise [aNew, k0_pay287, k0_pay277, k0_pay278, k0_pay279, k0_pay280, k0_pay282, k0_pay283, k0_pay284]
  rfl

theorem keepS_at (s : FVec Ideal S512x512 .f32) (j r : Fin 512) :
    (keepS (F := Ideal) s (ix3 0 j r) : EReal) = s (ix2 j r) := by
  pointwise [keepS]

theorem keepX_at (s : FVec Ideal S512x512 .f32) (r : Fin 512) :
    (keepX (F := Ideal) s (ix3 0 0 r) : EReal)
      = Finset.fold max (⊥ : EReal) (fun j : Fin 512 => (s (ix2 j r) : EReal)) Finset.univ := by
  rw [← neg_inf]
  pointwise [keepX]

theorem score_at (k q : FVec Ideal S512x128 .bf16) (j r : Fin 512) :
    (k0_pay274 (F := Ideal) k q (ix2 j r) : EReal)
      = ∑ e : Fin 128, (k (ix2 j e) : EReal) * (q (ix2 r e) : EReal) := by
  pointwise [k0_pay274]

theorem chunk_at (v : IVec S512x512 32) (i : S512x512.Idx) (x : Fin 512) (h : v i = BitVec.ofNat 32 x.val) :
    chunk v i = BitVec.ofNat 32 (x.val / 64) := by
  have e : chunk v i = chunk (fun _ => v i) (ix2 0 0) := rfl
  rw [e, h]
  clear e h
  revert x
  decide +kernel

theorem sle_chunk : ∀ a b : Fin 8, IntOp.cmpi .sle (BitVec.ofNat 32 a.val) (BitVec.ofNat 32 b.val) = 1#1 ↔ a.val ≤ b.val := by
  decide +kernel

theorem sD_at (k q : FVec Ideal S512x128 .bf16) (j r : Fin 512) :
    (sD (F := Ideal) k q (ix2 j r) : EReal)
      = if j.val / 64 ≤ r.val / 64 then (k0_pay274 (F := Ideal) k q (ix2 j r) : EReal) else ⊥ := by
  have hj := chunk_at (iota .tc S512x512 32 [0] iota_S512x512_d0_w32) (ix2 j r) j (by simp [iota])
  have hr := chunk_at (iota .tc S512x512 32 [1] iota_S512x512_d1_w32) (ix2 j r) r (by simp [iota])
  have hs := sle_chunk ⟨j.val / 64, by have := j.isLt; omega⟩ ⟨r.val / 64, by have := r.isLt; omega⟩
  unfold sD
  show (if IntOp.cmpi .sle (chunk _ (ix2 j r)) (chunk _ (ix2 j r)) = 1#1 then (k0_pay274 (F := Ideal) k q (ix2 j r) : EReal)
    else (Named.named (F := Ideal) κ "mask" (φ := .f32) 0xF149F2CA#32 : EReal)) = _
  rw [hj, hr, mask_bot]
  by_cases h : j.val / 64 ≤ r.val / 64
  · rw [if_pos h, if_pos (hs.2 h)]
  · rw [if_neg h, if_neg fun h' => h (hs.1 h')]

section
variable (Q : FVec Ideal S512x512 .bf16) (K : FVec Ideal S4096x512 .bf16) (V : FVec Ideal S8x512x512 .bf16)
  (qf kf vf : ℕ → ℕ → ℝ) (q : ℕ)

/-- The product of a query of the block with a key. -/
def dotp (c : Fin 4) (r s : ℕ) : ℝ := ∑ e : Fin 128, qf r (128 * c.val + e.val) * kf s (128 * c.val + e.val)

/-- The weight of key `s` for query `r` of query block `q`: nothing where the key lies in a later chunk. -/
def wt (c : Fin 4) (r s : ℕ) : ℝ :=
  if s / 64 ≤ (512 * q + r) / 64 then Real.exp (dotp qf kf c r s * (Real.sqrt 128)⁻¹) else 0

variable (hQ : ∀ i : S512x512.Idx, (Q i : EReal)
    = ((qf (i 0).val (i 1).val * ((Real.sqrt 128)⁻¹ / Real.log 2) : ℝ) : EReal))
  (hK : ∀ i : S4096x512.Idx, (K i : EReal) = ((kf (i 0).val (i 1).val : ℝ) : EReal))
  (hV : ∀ i : S8x512x512.Idx, (V i : EReal) = ((vf (512 * (i 0).val + (i 2).val) (i 1).val : ℝ) : EReal))

include hQ hK in
theorem score_real (c : Fin 4) (n : ℕ) (hn : n < 8) (j r : Fin 512) :
    (k0_pay274 (F := Ideal) (blk K (rK c n)) (blk Q (rQ c)) (ix2 j r) : EReal)
      = ((dotp qf kf c r.val (512 * n + j.val) * ((Real.sqrt 128)⁻¹ / Real.log 2) : ℝ) : EReal) := by
  rw [score_at, dotp, Finset.sum_mul, ← sum_coe]
  refine Finset.sum_congr rfl fun e _ => ?_
  have h1 : (blk (F := Ideal) (e := .bf16) K (rK c n) (ix2 j e) : EReal) = ((kf (512 * n + j.val) (128 * c.val + e.val) : ℝ) : EReal) := by
    refine (hK _).trans ?_
    rw [Rect.idx_unit_val, Rect.idx_unit_val]
    show ((kf (512 * (n % 8) + j.val) (128 * c.val + e.val) : ℝ) : EReal) = _
    rw [Nat.mod_eq_of_lt hn]
  have h2 : (blk (F := Ideal) (e := .bf16) Q (rQ c) (ix2 r e) : EReal)
      = ((qf r.val (128 * c.val + e.val) * ((Real.sqrt 128)⁻¹ / Real.log 2) : ℝ) : EReal) := by
    refine (hQ _).trans ?_
    rw [Rect.idx_unit_val, Rect.idx_unit_val]
    show ((qf (0 + r.val) (128 * c.val + e.val) * _ : ℝ) : EReal) = _
    rw [Nat.zero_add]
  rw [h1, h2, ← EReal.coe_mul]
  congr 1; ring

include hQ hK in
theorem tile_rep (c : Fin 4) (n : ℕ) (hn : n ≤ q) (hq : q < 8) (j r : Fin 512) :
    Rep (wt qf kf q c r.val (512 * n + j.val)) (tile (F := Ideal) Q K q c n (ix2 j r) : EReal) := by
  have hs := score_real Q K qf kf hQ hK c n (by omega) j r
  have hw : Real.exp (dotp qf kf c r.val (512 * n + j.val) * (Real.sqrt 128)⁻¹)
      = Real.rpow 2 (dotp qf kf c r.val (512 * n + j.val) * ((Real.sqrt 128)⁻¹ / Real.log 2)) := by
    refine Eq.trans ?_ (Real.rpow_def_of_pos (by norm_num) _).symm
    congr 1
    have := (Real.log_pos (by norm_num : (1 : ℝ) < 2)).ne'
    field_simp
  unfold tile wt
  by_cases h : n = q
  · rw [if_pos h, sD_at, hs]
    have e : (512 * n + j.val) / 64 ≤ (512 * q + r.val) / 64 ↔ j.val / 64 ≤ r.val / 64 := by omega
    by_cases h' : j.val / 64 ≤ r.val / 64
    · rw [if_pos h', if_pos (e.2 h')]; exact .inr ⟨_, rfl, hw⟩
    · rw [if_neg h', if_neg fun h'' => h' (e.1 h'')]; exact .inl ⟨rfl, rfl⟩
  · have := j.isLt
    rw [if_neg h, if_pos (by omega), hs]; exact .inr ⟨_, rfl, hw⟩

include hQ hK in
theorem tile_seen (c : Fin 4) (n : ℕ) (hn : n ≤ q) (hq : q < 8) (r : Fin 512) :
    ∃ j : Fin 512, (tile (F := Ideal) Q K q c n (ix2 j r) : EReal) ≠ ⊥ := by
  refine ⟨0, ?_⟩
  obtain ⟨_, h⟩ | ⟨σ, h, _⟩ := tile_rep Q K qf kf q hQ hK c n hn hq 0 r
  · unfold wt at h
    rw [if_pos (by show (512 * n + 0) / 64 ≤ _; omega)] at h
    exact absurd h (Real.exp_pos _).ne'
  · rw [h]; exact EReal.coe_ne_bot σ

theorem range_block (f : ℕ → ℝ) (n : ℕ) :
    ∑ s ∈ Finset.range (512 * (n + 1)), f s = ∑ s ∈ Finset.range (512 * n), f s + ∑ j : Fin 512, f (512 * n + j.val) := by
  rw [Nat.mul_succ, Finset.sum_range_add, Finset.sum_range (n := 512)]

include hQ hK hV in
/-- After `n` blocks a chain keeps the sums over the keys of these blocks. -/
theorem chain_inv (c : Fin 4) (r : Fin 512) (hq : q < 8) : ∀ n : ℕ, n ≤ q + 1 →
    Softmax.Inv (∑ s ∈ Finset.range (512 * n), wt qf kf q c r.val s)
        ((chain (F := Ideal) Q K V q c n).1 (ix3 0 0 r)) ((chain (F := Ideal) Q K V q c n).2.1 (ix3 0 0 r))
      ∧ ∀ d : Fin 256, Softmax.Inv (∑ s ∈ Finset.range (512 * n), wt qf kf q c r.val s * vf s (256 * (c.val / 2) + d.val))
        ((chain (F := Ideal) Q K V q c n).1 (ix3 0 0 r)) ((chain (F := Ideal) Q K V q c n).2.2 (ix3 0 d r))
  | 0, _ => by
    have hz : (Scalar.ofBits (F := Ideal) .f32 0x00000000#32 : EReal) = 0 := Ideal.ofBits_zero_f32
    constructor
    · refine .inl ⟨mask_bot, hz, ?_⟩
      rw [Nat.mul_zero, Finset.range_zero, Finset.sum_empty]
    · intro d
      refine .inl ⟨mask_bot, hz, ?_⟩
      rw [Nat.mul_zero, Finset.range_zero, Finset.sum_empty]
  | n + 1, hn => by
    obtain ⟨hl, ha⟩ := chain_inv c r hq n (by omega)
    have B : ∀ d : Fin 256, _ := fun d => Softmax.Inv.block hl (ha d) (fun j : Fin 512 => (tile (F := Ideal) Q K q c n (ix2 j r) : EReal))
      (fun j => wt qf kf q c r.val (512 * n + j.val)) (fun j => vf (512 * n + j.val) (256 * (c.val / 2) + d.val))
      (fun j => tile_rep Q K qf kf q hQ hK c n (by omega) hq j r) (tile_seen Q K qf kf q hQ hK c n (by omega) hq r)
    have em : ((chain (F := Ideal) Q K V q c (n + 1)).1 (ix3 0 0 r) : EReal) = _ :=
      (mNew_at _ _ r).trans (congrArg (max _) (keepX_at _ r))
    have el : ((chain (F := Ideal) Q K V q c (n + 1)).2.1 (ix3 0 0 r) : EReal) = _ := lNew_at _ _ _ _ r
    simp only [keepX_at, keepS_at] at el
    constructor
    · rw [em, el, range_block]
      exact (B 0).1
    · intro d
      have ea : ((chain (F := Ideal) Q K V q c (n + 1)).2.2 (ix3 0 d r) : EReal) = _ := aNew_at _ _ _ _ _ d r
      simp only [keepX_at, keepS_at] at ea
      have ev : ∀ j : Fin 512, (blk (F := Ideal) (e := .bf16) V (rV c n) (ix3 0 d j) : EReal)
          = ((vf (512 * n + j.val) (256 * (c.val / 2) + d.val) : ℝ) : EReal) := fun j => by
        refine (hV _).trans ?_
        rw [Rect.idx_unit_val, Rect.idx_unit_val, Rect.idx_unit_val]
        show ((vf (512 * (n % 8 + 0) + (0 + j.val)) (256 * (c.val / 2) + d.val) : ℝ) : EReal) = _
        rw [Nat.add_zero, Nat.zero_add, Nat.mod_eq_of_lt (by omega)]
      simp only [ev] at ea
      rw [em, ea, range_block]
      exact (B d).2

/-- The sum of the weights of a query. -/
def den (c : Fin 4) (r : ℕ) : ℝ := ∑ s ∈ Finset.range 4096, wt qf kf q c r s
/-- The weighted sum of the values of a query. -/
def num (c : Fin 4) (r d : ℕ) : ℝ := ∑ s ∈ Finset.range 4096, wt qf kf q c r s * vf s (256 * (c.val / 2) + d)

theorem wt_nonneg (c : Fin 4) (r s : ℕ) : 0 ≤ wt qf kf q c r s := by
  unfold wt; split
  · exact (Real.exp_pos _).le
  · exact le_rfl

theorem den_pos (c : Fin 4) (r : ℕ) : 0 < den qf kf q c r := by
  refine Finset.sum_pos' (fun s _ => wt_nonneg qf kf q c r s) ⟨0, Finset.mem_range.2 (by norm_num), ?_⟩
  unfold wt
  rw [if_pos (by omega)]
  exact Real.exp_pos _

/-- Keys past the query block weigh nothing. -/
theorem range_all (f : ℕ → ℝ) (q : ℕ) (hq : q < 8) (hf : ∀ s, 512 * (q + 1) ≤ s → f s = 0) :
    ∑ s ∈ Finset.range (512 * (q + 1)), f s = ∑ s ∈ Finset.range 4096, f s :=
  Finset.sum_subset (fun s hs => Finset.mem_range.2 (by have := Finset.mem_range.1 hs; omega))
    fun s _ hs => hf s (by by_contra h; exact hs (Finset.mem_range.2 (by omega)))

include hQ hK hV in
/-- What a chain divides at the end: the softmax-weighted mean of the values. -/
theorem chain_div (c : Fin 4) (r : Fin 512) (d : Fin 256) (hq : q < 8) :
    Ideal.div ((chain (F := Ideal) Q K V q c (q + 1)).2.2 (ix3 0 d r)) ((chain (F := Ideal) Q K V q c (q + 1)).2.1 (ix3 0 0 r))
      = ((num qf kf vf q c r.val d.val / den qf kf q c r.val : ℝ) : EReal) := by
  obtain ⟨hl, ha⟩ := chain_inv Q K V qf kf vf q hQ hK hV c r hq (q + 1) le_rfl
  have hw : ∀ s, 512 * (q + 1) ≤ s → wt qf kf q c r.val s = 0 := fun s hs => by
    unfold wt; have := r.isLt; exact if_neg (by omega)
  rw [range_all _ q hq hw] at hl
  have ha := ha d
  rw [range_all _ q hq fun s hs => by rw [hw s hs, zero_mul]] at ha
  exact hl.div ha (den_pos qf kf q c r.val).ne'
end
end Cert.KernelIdeal.Att
-- ==== Proof.Val.Out.lean ====
module

public import proofs.«01_k».proof.Proof.Val.Block

/-! What the body stores for one query block, read at one element of the extended reals. -/

@[expose] public section
set_option maxRecDepth 16384
noncomputable section
namespace Cert.KernelIdeal.Att
open Cert.KernelIdeal Cert.KernelIdeal.Gen Cert.Softmax
open Idealize.ShloMosaic

theorem lam_at (lam : FVec Ideal S4x128 .f32) :
    (k0_pay839 (F := Ideal) lam (ix2 0 0) : EReal) = lamE fun a e => (lam (ix2 a e) : EReal) := by
  unfold lamE
  pointwise [k0_pay839]

/-- The difference of the two maps' means at one element. -/
def diffE (L : EReal) (a0 : FVec Ideal S1x256x512 .f32) (l0 : FVec Ideal S1x1x512 .f32)
    (a1 : FVec Ideal S1x256x512 .f32) (l1 : FVec Ideal S1x1x512 .f32) (r : Fin 512) (d : Fin 256) : EReal :=
  Ideal.div (a0 (ix3 0 d r)) (l0 (ix3 0 0 r)) - L * Ideal.div (a1 (ix3 0 d r)) (l1 (ix3 0 0 r))

theorem pay840_at (lam : FVec Ideal S4x128 .f32) (a0 : FVec Ideal S1x256x512 .f32) (l0 : FVec Ideal S1x1x512 .f32)
    (a1 : FVec Ideal S1x256x512 .f32) (l1 : FVec Ideal S1x1x512 .f32) (r : Fin 512) (d : Fin 256) :
    (k0_pay840 (F := Ideal) lam a0 l0 a1 l1 (ix2 d r) : EReal)
      = diffE (k0_pay839 (F := Ideal) lam (ix2 0 0)) a0 l0 a1 l1 r d := by
  unfold diffE
  pointwise [k0_pay840]
  try rfl

theorem left_at (lam : FVec Ideal S4x128 .f32) (g : FVec Ideal S1x256 .f32) (a0 : FVec Ideal S1x256x512 .f32)
    (l0 : FVec Ideal S1x1x512 .f32) (a1 : FVec Ideal S1x256x512 .f32) (l1 : FVec Ideal S1x1x512 .f32)
    (r : Fin 512) (d : Fin 256) :
    (k0_pay842 (F := Ideal) (k0_pay840 lam a0 l0 a1 l1) (k0_pay841 lam a0 l0 a1 l1) g (ix2 r d) : EReal)
      = normE (diffE (k0_pay839 (F := Ideal) lam (ix2 0 0)) a0 l0 a1 l1 r) (g (ix2 0 d)) d := by
  unfold normE
  simp only [← pay840_at]
  pointwise [k0_pay842, k0_pay841]
  try rfl

theorem right_at (lam : FVec Ideal S4x128 .f32) (g : FVec Ideal S1x256 .f32) (a0 : FVec Ideal S1x256x512 .f32)
    (l0 : FVec Ideal S1x1x512 .f32) (a1 : FVec Ideal S1x256x512 .f32) (l1 : FVec Ideal S1x1x512 .f32)
    (r : Fin 512) (d : Fin 256) :
    (k0_pay1 (F := Ideal) (k0_pay843 (k0_pay839 lam) a0 l0 a1 l1) g (ix2 r d) : EReal)
      = normE (diffE (k0_pay839 (F := Ideal) lam (ix2 0 0)) a0 l0 a1 l1 r) (g (ix2 0 d)) d := by
  unfold normE diffE
  pointwise [k0_pay1, k0_pay843]
  try rfl

section
variable (Q : FVec Ideal S512x512 .bf16) (K : FVec Ideal S4096x512 .bf16) (V : FVec Ideal S8x512x512 .bf16)
  (lam : FVec Ideal S4x128 .f32) (g : FVec Ideal S1x256 .f32)
  (qf kf vf : ℕ → ℕ → ℝ) (i : grid0.Coords)

/-- The head of a column of the block: its first and its second map. -/
def mapOf (x : ℕ) (b : Fin 2) : Fin 4 := ⟨(2 * (x / 256) + b.val) % 4, Nat.mod_lt _ (by norm_num)⟩

theorem mapOf_eq (x u : ℕ) (b : Fin 2) (c : Fin 4) (h : x / 256 = u) (hc : c.val = (2 * u + b.val) % 4) : c = mapOf x b :=
  Fin.ext (by rw [hc, ← h]; rfl)

/-- The difference of the two maps' means, in real numbers but for the factor. -/
def meanE (L : EReal) (q r x : ℕ) (d : Fin 256) : EReal :=
  ((num qf kf vf q (mapOf x 0) r d.val / den qf kf q (mapOf x 0) r : ℝ) : EReal)
    - L * ((num qf kf vf q (mapOf x 1) r d.val / den qf kf q (mapOf x 1) r : ℝ) : EReal)

variable (hQ : ∀ i : S512x512.Idx, (Q i : EReal)
    = ((qf (i 0).val (i 1).val * ((Real.sqrt 128)⁻¹ / Real.log 2) : ℝ) : EReal))
  (hK : ∀ i : S4096x512.Idx, (K i : EReal) = ((kf (i 0).val (i 1).val : ℝ) : EReal))
  (hV : ∀ i : S8x512x512.Idx, (V i : EReal) = ((vf (512 * (i 0).val + (i 2).val) (i 1).val : ℝ) : EReal))

include hQ hK hV in
theorem diff_chain (L : EReal) (c0 c1 : Fin 4) (r : Fin 512) (x : ℕ) (h0 : c0 = mapOf x 0) (h1 : c1 = mapOf x 1) :
    diffE L (chain (F := Ideal) Q K V (i 2).val c0 ((i 2).val + 1)).2.2 (chain (F := Ideal) Q K V (i 2).val c0 ((i 2).val + 1)).2.1
        (chain (F := Ideal) Q K V (i 2).val c1 ((i 2).val + 1)).2.2 (chain (F := Ideal) Q K V (i 2).val c1 ((i 2).val + 1)).2.1 r
      = meanE qf kf vf L (i 2).val r.val x := by
  funext d
  unfold diffE meanE
  rw [chain_div Q K V qf kf vf (i 2).val hQ hK hV c0 r d (i 2).isLt,
    chain_div Q K V qf kf vf (i 2).val hQ hK hV c1 r d (i 2).isLt, h0, h1]

include hQ hK hV in
/-- The body's block at an element: the normed difference of the two maps' means. -/
theorem outB_at (y : S512x512.Idx) :
    (outB (F := Ideal) i Q K V lam g y : EReal)
      = normE (meanE qf kf vf (lamE fun a e => (lam (ix2 a e) : EReal)) (i 2).val (y 0).val (y 1).val)
          (g (ix2 0 ⟨(y 1).val % 256, Nat.mod_lt _ (by norm_num)⟩)) ⟨(y 1).val % 256, Nat.mod_lt _ (by norm_num)⟩ := by
  unfold outB outP
  have D := @diff_chain Q K V qf kf vf i hQ hK hV
  rw [← lam_at lam]
  canon_tiles x h
  · obtain ⟨r, d, rfl⟩ : ∃ (r : Fin 512) (d : Fin 256), x = ix2 r d :=
      ⟨x 0, x 1, by funext a; match a with | 0 => rfl | 1 => rfl⟩
    have e0 : (y 0).val = r.val := h0
    have e1 : (y 1).val = 256 + d.val := h1
    have eL : (y 1).val / 256 = 1 := by have := d.isLt; omega
    have ed : (⟨(y 1).val % 256, Nat.mod_lt _ (by norm_num)⟩ : Fin 256) = d := Fin.ext (by show (y 1).val % 256 = d.val; have := d.isLt; omega)
    rw [ed, e0]
    refine (right_at lam g _ _ _ _ r d).trans ?_
    rw [D _ 2 3 r (y 1).val (mapOf_eq _ _ 0 _ eL rfl) (mapOf_eq _ _ 1 _ eL rfl)]
  · obtain ⟨r, d, rfl⟩ : ∃ (r : Fin 512) (d : Fin 256), x = ix2 r d :=
      ⟨x 0, x 1, by funext a; match a with | 0 => rfl | 1 => rfl⟩
    have e0 : (y 0).val = r.val := h0
    have e1 : (y 1).val = d.val := h1
    have eL : (y 1).val / 256 = 0 := by have := d.isLt; omega
    have ed : (⟨(y 1).val % 256, Nat.mod_lt _ (by norm_num)⟩ : Fin 256) = d := Fin.ext (by show (y 1).val % 256 = d.val; have := d.isLt; omega)
    rw [ed, e0]
    refine (left_at lam g _ _ _ _ r d).trans ?_
    rw [D _ 0 1 r (y 1).val (mapOf_eq _ _ 0 _ eL rfl) (mapOf_eq _ _ 1 _ eL rfl)]
end
end Cert.KernelIdeal.Att
-- ==== Proof.Val.Kern.lean ====
module

public import proofs.«01_k».proof.Proof.Val.Out
public import proofs.«01_k».proof.Proof.Fox.Frame
public import Idealize.ShloMosaic.Lib.Claim

/-! The kernel's output array, at one element, over its arguments. -/

@[expose] public section
set_option maxRecDepth 16384
noncomputable section
namespace Cert.KernelIdeal.Att
open Cert.KernelIdeal Cert.KernelIdeal.Gen Cert.Softmax
open Idealize.ShloMosaic Idealize.ShloMosaic.TcCoe Idealize.SL.Sem Idealize.ShloMosaic.StableHlo

variable (m : (ℓ : Loc nD τ sig) → Buf (Elt Ideal) ℓ) (c : Dev nD)

theorem idx_val : ∀ t : Fin cfg0.N, win0_0.index t = ![t.val / 32 * 8 + t.val % 8, t.val / 8 % 4]
    ∧ win0_1.index t = ![t.val / 32, 4 + t.val / 8 % 4] ∧ win0_2.index t = ![t.val / 32, t.val / 8 % 4, 0]
    ∧ win0_3.index t = ![0, 0] ∧ win0_4.index t = ![0, 0]
    ∧ win0_5.index t = ![t.val / 32 * 8 + t.val % 8, t.val / 8 % 4] ∧ (grid0.coords t 2).val = t.val % 8 ∧ t.val < 128 :=
  (by decide +kernel : ∀ t : Fin grid0.N, _)

theorem qk_at (r : Fin 16384) (x : Fin 4096) :
    (V m c main_v6 (ix2 r x) : EReal) = if h : x.val < 2048 then
        @HMul.hMul EReal EReal EReal _ (m ((c : Thread nD τ).loc main_arg0) (ix2 r ⟨x.val, h⟩)) (Ideal.div (Ideal.rsqrt (Ideal.ofBits .f32 0x43000000#32)) (Ideal.log (Ideal.ofBits .f32 0x40000000#32)))
      else (m ((c : Thread nD τ).loc main_arg1) (ix2 r ⟨x.val - 2048, by have := x.isLt; omega⟩) : EReal) := by
  entry_read
  pointwise

theorem vt_at (n : Fin 32) (d : Fin 2048) (j : Fin 512) :
    (V m c main_v9 (ix3 n d j) : EReal) = m ((c : Thread nD τ).loc main_arg2) (ix2 ⟨n.val * 512 + j.val, by have := n.isLt; have := j.isLt; omega⟩ d) := by
  entry_read
  pointwise

theorem lp_at (a : Fin 4) (e : Fin 128) :
    (V m c main_v10 (ix2 a e) : EReal) = m ((c : Thread nD τ).loc main_arg3) (ix3 0 a e) := by
  entry_read
  pointwise

theorem gn_at (d : Fin 256) :
    (V m c main_v12 (ix2 0 d) : EReal) = m ((c : Thread nD τ).loc main_arg4) (ix2 0 d) := by
  entry_read
  pointwise

theorem blk0 (t : Fin cfg0.N) (y : S512x512.Idx) (r : Fin 16384) (x : Fin 4096)
    (e0 : r.val = 512 * (t.val / 32 * 8 + t.val % 8) + (y 0).val) (e1 : x.val = 512 * (t.val / 8 % 4) + (y 1).val) :
    (iblk m c 0 t y : EReal) = V m c main_v6 (ix2 r x) := by
  blk_ext [iblk, idx_val t]

theorem blk1 (t : Fin cfg0.N) (y : S4096x512.Idx) (r : Fin 16384) (x : Fin 4096)
    (e0 : r.val = 4096 * (t.val / 32) + (y 0).val) (e1 : x.val = 512 * (4 + t.val / 8 % 4) + (y 1).val) :
    (iblk m c 1 t y : EReal) = V m c main_v6 (ix2 r x) := by
  blk_ext [iblk, idx_val t]

theorem blk2 (t : Fin cfg0.N) (y : S8x512x512.Idx) (n : Fin 32) (d : Fin 2048) (j : Fin 512)
    (e0 : n.val = 8 * (t.val / 32) + (y 0).val) (e1 : d.val = 512 * (t.val / 8 % 4) + (y 1).val) (e2 : j.val = (y 2).val) :
    (iblk m c 2 t y : EReal) = V m c main_v9 (ix3 n d j) := by
  blk_ext [iblk, idx_val t]

theorem blk3 (t : Fin cfg0.N) (y : S4x128.Idx) (a : Fin 4) (e : Fin 128)
    (e0 : a.val = (y 0).val) (e1 : e.val = (y 1).val) :
    (iblk m c 3 t y : EReal) = V m c main_v10 (ix2 a e) := by
  blk_ext [iblk, idx_val t]

theorem blk4 (t : Fin cfg0.N) (y : S1x256.Idx) (a : Fin 1) (e : Fin 256)
    (e0 : a.val = (y 0).val) (e1 : e.val = (y 1).val) :
    (iblk m c 4 t y : EReal) = V m c main_v12 (ix2 a e) := by
  blk_ext [iblk, idx_val t]

end Cert.KernelIdeal.Att
-- ==== Proof.Val.KernVal.lean ====
module

public import proofs.«01_k».proof.Proof.Val.Kern

/-! The kernel's output array is the layer's result, when its arguments are real. -/

@[expose] public section
set_option maxRecDepth 16384
noncomputable section
namespace Cert.KernelIdeal.Att
open Cert.KernelIdeal Cert.KernelIdeal.Gen Cert.Softmax
open Idealize.ShloMosaic Idealize.ShloMosaic.TcCoe Idealize.SL.Sem Idealize.ShloMosaic.StableHlo

section Local
variable (qf kf vf : ℕ → ℕ → ℝ) (b w u : ℕ)

/-- A block's weight is the layer's weight. -/
theorem wt_eq (p : Fin 2) (r x s : ℕ) (hx : x < 512) :
    wt (fun r e => qf (512 * (b * 8 + w) + r) (512 * u + e)) (fun s e => kf (4096 * b + s) (512 * u + e)) w (mapOf x p) r s
      = wR qf kf b (2 * u + x / 256) p.val (512 * w + r) s := by
  have hm : (mapOf x p).val = 2 * (x / 256) + p.val := by
    have := p.isLt; show (2 * (x / 256) + p.val) % 4 = _; omega
  have hd : dotp (fun r e => qf (512 * (b * 8 + w) + r) (512 * u + e)) (fun s e => kf (4096 * b + s) (512 * u + e)) (mapOf x p) r s
      = dotR qf kf b (2 * u + x / 256) p.val (512 * w + r) s := by
    unfold dotp dotR
    refine Finset.sum_congr rfl fun e _ => ?_
    beta_reduce
    rw [hm, show 512 * (b * 8 + w) + r = 4096 * b + (512 * w + r) by omega,
      show 512 * u + (128 * (2 * (x / 256) + p.val) + e.val) = 256 * (2 * u + x / 256) + 128 * p.val + e.val by omega]
  unfold wt wR
  rw [hd]

/-- A block's mean is the layer's mean. -/
theorem att_eq (p : Fin 2) (r x d : ℕ) (hx : x < 512) :
    num (fun r e => qf (512 * (b * 8 + w) + r) (512 * u + e)) (fun s e => kf (4096 * b + s) (512 * u + e))
        (fun s d => vf (4096 * b + s) (512 * u + d)) w (mapOf x p) r d
      / den (fun r e => qf (512 * (b * 8 + w) + r) (512 * u + e)) (fun s e => kf (4096 * b + s) (512 * u + e)) w (mapOf x p) r
      = attR qf kf vf b (2 * u + x / 256) p.val (512 * w + r) d := by
  have hm : (mapOf x p).val / 2 = x / 256 := by
    have := p.isLt; show (2 * (x / 256) + p.val) % 4 / 2 = _; omega
  unfold num den attR
  congr 1
  · refine Finset.sum_congr rfl fun s _ => ?_
    beta_reduce
    rw [wt_eq qf kf b w u p r x s hx, hm, show 512 * u + (256 * (x / 256) + d) = 256 * (2 * u + x / 256) + d by omega]
  · exact Finset.sum_congr rfl fun s _ => wt_eq qf kf b w u p r x s hx

theorem mean_eq (L : EReal) (r x : ℕ) (hr : r < 512) (hx : x < 512) (hw : w < 8) :
    meanE (fun r e => qf (512 * (b * 8 + w) + r) (512 * u + e)) (fun s e => kf (4096 * b + s) (512 * u + e))
        (fun s d => vf (4096 * b + s) (512 * u + d)) L w r x
      = meanR qf kf vf L ((512 * (b * 8 + w) + r) / 4096) ((512 * u + x) / 256) ((512 * (b * 8 + w) + r) % 4096) := by
  rw [show (512 * (b * 8 + w) + r) / 4096 = b by omega, show (512 * (b * 8 + w) + r) % 4096 = 512 * w + r by omega,
    show (512 * u + x) / 256 = 2 * u + x / 256 by omega]
  funext d
  unfold meanE meanR
  rw [att_eq qf kf vf b w u 0 r x d.val hx, att_eq qf kf vf b w u 1 r x d.val hx]
  rfl
end Local

variable (m : (ℓ : Loc nD τ sig) → Buf (Elt Ideal) ℓ) (c : Dev nD) (qf kf vf : ℕ → ℕ → ℝ)
  (hq : ∀ i : S16384x2048.Idx, (m ((c : Thread nD τ).loc main_arg0) i : EReal) = ((qf (i 0).val (i 1).val : ℝ) : EReal))
  (hk : ∀ i : S16384x2048.Idx, (m ((c : Thread nD τ).loc main_arg1) i : EReal) = ((kf (i 0).val (i 1).val : ℝ) : EReal))
  (hv : ∀ i : S16384x2048.Idx, (m ((c : Thread nD τ).loc main_arg2) i : EReal) = ((vf (i 0).val (i 1).val : ℝ) : EReal))

include hq in
theorem q_real (t : Fin cfg0.N) (i : S512x512.Idx) :
    (iblk m c 0 t i : EReal) = ((qf (512 * (t.val / 32 * 8 + t.val % 8) + (i 0).val) (512 * (t.val / 8 % 4) + (i 1).val)
      * ((Real.sqrt 128)⁻¹ / Real.log 2) : ℝ) : EReal) := by
  have ht := (idx_val t).2.2.2.2.2.2.2
  have h0 : (i 0).val < 512 := (i 0).isLt
  have h1 : (i 1).val < 512 := (i 1).isLt
  rw [blk0 m c t i ⟨512 * (t.val / 32 * 8 + t.val % 8) + (i 0).val, by omega⟩ ⟨512 * (t.val / 8 % 4) + (i 1).val, by omega⟩ rfl rfl,
    qk_at, dif_pos (show 512 * (t.val / 8 % 4) + (i 1).val < 2048 by omega), scale_eq, hq, EReal.coe_mul]
  rfl

include hk in
theorem k_real (t : Fin cfg0.N) (i : S4096x512.Idx) :
    (iblk m c 1 t i : EReal) = ((kf (4096 * (t.val / 32) + (i 0).val) (512 * (t.val / 8 % 4) + (i 1).val) : ℝ) : EReal) := by
  have ht := (idx_val t).2.2.2.2.2.2.2
  have h0 : (i 0).val < 4096 := (i 0).isLt
  have h1 : (i 1).val < 512 := (i 1).isLt
  rw [blk1 m c t i ⟨4096 * (t.val / 32) + (i 0).val, by omega⟩ ⟨512 * (4 + t.val / 8 % 4) + (i 1).val, by omega⟩ rfl rfl,
    qk_at, dif_neg (show ¬ 512 * (4 + t.val / 8 % 4) + (i 1).val < 2048 by omega), hk]
  exact congrArg (fun n => ((kf (4096 * (t.val / 32) + (i 0).val) n : ℝ) : EReal))
    (show 512 * (4 + t.val / 8 % 4) + (i 1).val - 2048 = 512 * (t.val / 8 % 4) + (i 1).val by omega)

include hv in
theorem v_real (t : Fin cfg0.N) (i : S8x512x512.Idx) :
    (iblk m c 2 t i : EReal) = ((vf (4096 * (t.val / 32) + (512 * (i 0).val + (i 2).val)) (512 * (t.val / 8 % 4) + (i 1).val) : ℝ) : EReal) := by
  have ht := (idx_val t).2.2.2.2.2.2.2
  have h0 : (i 0).val < 8 := (i 0).isLt
  have h1 : (i 1).val < 512 := (i 1).isLt
  have h2 : (i 2).val < 512 := (i 2).isLt
  rw [blk2 m c t i ⟨8 * (t.val / 32) + (i 0).val, by omega⟩ ⟨512 * (t.val / 8 % 4) + (i 1).val, by omega⟩ ⟨(i 2).val, by omega⟩ rfl rfl rfl,
    vt_at, hv]
  exact congrArg (fun n => ((vf n (512 * (t.val / 8 % 4) + (i 1).val) : ℝ) : EReal))
    (show (8 * (t.val / 32) + (i 0).val) * 512 + (i 2).val = 4096 * (t.val / 32) + (512 * (i 0).val + (i 2).val) by omega)

include hq hk hv in
theorem out_point (t : Fin cfg0.N) (y : S512x512.Idx) :
    (outAt m c t y : EReal) = outE qf kf vf (fun a e => (m ((c : Thread nD τ).loc main_arg3) (ix3 0 a e) : EReal))
      (fun d => (m ((c : Thread nD τ).loc main_arg4) (ix2 0 d) : EReal))
      (512 * (t.val / 32 * 8 + t.val % 8) + (y 0).val) (512 * (t.val / 8 % 4) + (y 1).val) := by
  have h0 : (y 0).val < 512 := (y 0).isLt
  have h1 : (y 1).val < 512 := (y 1).isLt
  unfold outAt
  rw [outB_at _ _ _ _ _ (fun r e => qf (512 * (t.val / 32 * 8 + t.val % 8) + r) (512 * (t.val / 8 % 4) + e))
    (fun s e => kf (4096 * (t.val / 32) + s) (512 * (t.val / 8 % 4) + e))
    (fun s d => vf (4096 * (t.val / 32) + s) (512 * (t.val / 8 % 4) + d)) _
    (q_real m c qf hq t) (k_real m c kf hk t) (v_real m c vf hv t) y]
  have hl : (fun (a : Fin 4) (e : Fin 128) => (iblk m c 3 t (ix2 a e) : EReal))
      = fun a e => (m ((c : Thread nD τ).loc main_arg3) (ix3 0 a e) : EReal) := by
    funext a e
    rw [blk3 m c t (ix2 a e) a e rfl rfl, lp_at]
  have hm : (512 * (t.val / 8 % 4) + (y 1).val) % 256 = (y 1).val % 256 := by omega
  rw [(idx_val t).2.2.2.2.2.2.1, mean_eq qf kf vf (t.val / 32) (t.val % 8) (t.val / 8 % 4) _ _ _ h0 h1 (by omega), hl,
    blk4 m c t (ix2 0 ⟨(y 1).val % 256, Nat.mod_lt _ (by norm_num)⟩) 0 ⟨(y 1).val % 256, Nat.mod_lt _ (by norm_num)⟩ rfl rfl, gn_at]
  unfold outE
  simp only [hm]

include hq hk hv in
/-- The kernel's array after the run. -/
theorem final : (dats m 0 c).arrAt 5 cfg0.N = fun y : S16384x2048.Idx =>
    outE qf kf vf (fun a e => (m ((c : Thread nD τ).loc main_arg3) (ix3 0 a e) : EReal))
      (fun d => (m ((c : Thread nD τ).loc main_arg4) (ix2 0 d) : EReal)) (y 0).val (y 1).val := by
  refine (dats m 0 c).arrAt_eq_of_covers 5 _ (by decide +kernel) fun t _ y => ?_
  blk_simp
  rw [after0_5]
  refine (out_point m c qf kf vf hq hk hv t y).trans ?_
  have h := (idx_val t).2.2.2.2.2.1
  have e0 : win0_5.index t 0 = t.val / 32 * 8 + t.val % 8 := congrFun h 0
  have e1 : win0_5.index t 1 = t.val / 8 % 4 := congrFun h 1
  rw [e0, e1, Nat.mul_comm 512, Nat.mul_comm 512]

end Cert.KernelIdeal.Att
-- ==== Proof.Val.RefDef.lean ====
module

public import proofs.«01_k».proof.Proof.Gen.ReferenceIdeal.Run
public import proofs.«01_k».proof.Proof.Val.Scal

/-! The reference's result, stage by stage, read at one element of the extended reals. -/

@[expose] public section
set_option maxRecDepth 16384
noncomputable section
namespace Cert.ReferenceIdeal.Att
open Cert.ReferenceIdeal Cert.ReferenceIdeal.Gen Cert.Softmax
open Idealize.ShloMosaic Idealize.ShloMosaic.TcCoe Idealize.SL.Sem Idealize.ShloMosaic.StableHlo

section
variable {F : FTy → Type} [FloatOps F]
/-- The chunk of each query. -/
def chunkT : IVec S4096x1 32 :=
  select (andi (cmpi .ne (signi (broadcastInDim S4096x1 ![0] bcast_S4096_S4096x1_0 (iotaInDim S4096 32 0))) (broadcastInDim S4096x1 ![] bcast_S_S4096x1 (signi (id (constantI S_ 32 64#32))))) (cmpi .ne (Host.remsi (broadcastInDim S4096x1 ![0] bcast_S4096_S4096x1_0 (iotaInDim S4096 32 0)) (broadcastInDim S4096x1 ![] bcast_S_S4096x1 (id (constantI S_ 32 64#32)))) (broadcastInDim S4096x1 ![] bcast_S_S4096x1 (constantI S_ 32 0#32)))) (subi (Host.divsi (broadcastInDim S4096x1 ![0] bcast_S4096_S4096x1_0 (iotaInDim S4096 32 0)) (broadcastInDim S4096x1 ![] bcast_S_S4096x1 (id (constantI S_ 32 64#32)))) (broadcastInDim S4096x1 ![] bcast_S_S4096x1 (constantI S_ 32 1#32))) (Host.divsi (broadcastInDim S4096x1 ![0] bcast_S4096_S4096x1_0 (iotaInDim S4096 32 0)) (broadcastInDim S4096x1 ![] bcast_S_S4096x1 (id (constantI S_ 32 64#32))))

/-- The chunk of each key. -/
def chunkS : IVec S1x4096 32 :=
  select (andi (cmpi .ne (signi (broadcastInDim S1x4096 ![1] bcast_S4096_S1x4096_1 (iotaInDim S4096 32 0))) (broadcastInDim S1x4096 ![] bcast_S_S1x4096 (signi (id (constantI S_ 32 64#32))))) (cmpi .ne (Host.remsi (broadcastInDim S1x4096 ![1] bcast_S4096_S1x4096_1 (iotaInDim S4096 32 0)) (broadcastInDim S1x4096 ![] bcast_S_S1x4096 (id (constantI S_ 32 64#32)))) (broadcastInDim S1x4096 ![] bcast_S_S1x4096 (constantI S_ 32 0#32)))) (subi (Host.divsi (broadcastInDim S1x4096 ![1] bcast_S4096_S1x4096_1 (iotaInDim S4096 32 0)) (broadcastInDim S1x4096 ![] bcast_S_S1x4096 (id (constantI S_ 32 64#32)))) (broadcastInDim S1x4096 ![] bcast_S_S1x4096 (constantI S_ 32 1#32))) (Host.divsi (broadcastInDim S1x4096 ![1] bcast_S4096_S1x4096_1 (iotaInDim S4096 32 0)) (broadcastInDim S1x4096 ![] bcast_S_S1x4096 (id (constantI S_ 32 64#32))))

/-- Which keys a query may see. -/
def seen : IVec S4096x4096 1 :=
  cmpi .sle (broadcastInDim S4096x4096 ![0, 1] bcast_S1x4096_S4096x4096_0_1 (chunkS)) (broadcastInDim S4096x4096 ![0, 1] bcast_S4096x1_S4096x4096_0_1 (chunkT))

/-- The masked scores. -/
def logit (q : FVec F S16384x2048 .f32) (k : FVec F S16384x2048 .f32) : FVec F S4x8x2x4096x4096 .f32 :=
  select (broadcastInDim S4x8x2x4096x4096 ![3, 4] bcast_S4096x4096_S4x8x2x4096x4096_3_4 (seen)) (mulf (Host.dotGeneral dot_S4x8x2x4096x128_S4x8x2x4096x128_S4x8x2x4096x4096_4_4_3_3_012_012 none (transpose S4x8x2x4096x128 [0, 2, 3, 1, 4] (shapeCast _ q shapeCasts_S16384x2048_S4x4096x8x2x128) transposes_S4x4096x8x2x128_S4x8x2x4096x128_0_2_3_1_4) (transpose S4x8x2x4096x128 [0, 2, 3, 1, 4] (shapeCast _ k shapeCasts_S16384x2048_S4x4096x8x2x128) transposes_S4x4096x8x2x128_S4x8x2x4096x128_0_2_3_1_4)) (broadcastInDim S4x8x2x4096x4096 ![] bcast_S_S4x8x2x4096x4096 (Host.rsqrt (constant S_ .f32 0x43000000#32)))) (broadcastInDim S4x8x2x4096x4096 ![] bcast_S_S4x8x2x4096x4096 (id (constant S_ .f32 0xFF800000#32)))

/-- The largest score of each query. -/
def top (q : FVec F S16384x2048 .f32) (k : FVec F S16384x2048 .f32) : FVec F S4x8x2x4096 .f32 :=
  maximumf (broadcastInDim S4x8x2x4096 ![] bcast_S_S4x8x2x4096 (constant S_ .f32 0xFF800000#32)) (Host.reduce FloatOps.maximumf (logit (F := F) q k) (constant S_ .f32 0xFF800000#32) reducesTo_S4x8x2x4096x4096_S4x8x2x4096_d4 h_S_)

/-- The exponentials. -/
def expo (q : FVec F S16384x2048 .f32) (k : FVec F S16384x2048 .f32) : FVec F S4x8x2x4096x4096 .f32 :=
  Host.exp (subf (logit (F := F) q k) (broadcastInDim S4x8x2x4096x4096 ![0, 1, 2, 3, 4] bcast_S4x8x2x4096x1_S4x8x2x4096x4096_0_1_2_3_4 (broadcastInDim S4x8x2x4096x1 ![0, 1, 2, 3] bcast_S4x8x2x4096_S4x8x2x4096x1_0_1_2_3 (top (F := F) q k))))

/-- The softmax. -/
def prob (q : FVec F S16384x2048 .f32) (k : FVec F S16384x2048 .f32) : FVec F S4x8x2x4096x4096 .f32 :=
  Host.divf (expo (F := F) q k) (broadcastInDim S4x8x2x4096x4096 ![0, 1, 2, 3, 4] bcast_S4x8x2x4096x1_S4x8x2x4096x4096_0_1_2_3_4 (broadcastInDim S4x8x2x4096x1 ![0, 1, 2, 3] bcast_S4x8x2x4096_S4x8x2x4096x1_0_1_2_3 (Host.reduceAdd (expo (F := F) q k) (constant S_ .f32 0x00000000#32) reducesTo_S4x8x2x4096x4096_S4x8x2x4096_d4 h_S_)))

/-- The factor of the second map. -/
def factor (l : FVec F S1x4x128 .f32) : FVec F S_ .f32 :=
  addf (subf (Host.exp (Host.reduceAdd (mulf (shapeCast _ (extractStridedSlice S1x128 ![0, 0] (shapeCast _ l shapeCasts_S1x4x128_S4x128) slices_S4x128_S1x128_0_0) shapeCasts_S1x128_S128) (shapeCast _ (extractStridedSlice S1x128 ![1, 0] (shapeCast _ l shapeCasts_S1x4x128_S4x128) slices_S4x128_S1x128_1_0) shapeCasts_S1x128_S128)) (constant S_ .f32 0x00000000#32) reducesTo_S128_S_d0 h_S_)) (Host.exp (Host.reduceAdd (mulf (shapeCast _ (extractStridedSlice S1x128 ![2, 0] (shapeCast _ l shapeCasts_S1x4x128_S4x128) slices_S4x128_S1x128_2_0) shapeCasts_S1x128_S128) (shapeCast _ (extractStridedSlice S1x128 ![3, 0] (shapeCast _ l shapeCasts_S1x4x128_S4x128) slices_S4x128_S1x128_3_0) shapeCasts_S1x128_S128)) (constant S_ .f32 0x00000000#32) reducesTo_S128_S_d0 h_S_))) (constant S_ .f32 0x3E4CCCCD#32)

/-- The difference of the two maps. -/
def attn (q : FVec F S16384x2048 .f32) (k : FVec F S16384x2048 .f32) (l : FVec F S1x4x128 .f32) : FVec F S4x8x4096x4096 .f32 :=
  subf (shapeCast _ (extractStridedSlice S4x8x1x4096x4096 ![0, 0, 0, 0, 0] (prob (F := F) q k) slices_S4x8x2x4096x4096_S4x8x1x4096x4096_0_0_0_0_0) shapeCasts_S4x8x1x4096x4096_S4x8x4096x4096) (mulf (broadcastInDim S4x8x4096x4096 ![] bcast_S_S4x8x4096x4096 (factor (F := F) l)) (shapeCast _ (extractStridedSlice S4x8x1x4096x4096 ![0, 0, 1, 0, 0] (prob (F := F) q k) slices_S4x8x2x4096x4096_S4x8x1x4096x4096_0_0_1_0_0) shapeCasts_S4x8x1x4096x4096_S4x8x4096x4096))

/-- The difference of the maps applied to the values. -/
def mean (q : FVec F S16384x2048 .f32) (k : FVec F S16384x2048 .f32) (v : FVec F S16384x2048 .f32) (l : FVec F S1x4x128 .f32) : FVec F S4x8x4096x256 .f32 :=
  Host.dotGeneral dot_S4x8x4096x4096_S4x8x4096x256_S4x8x4096x256_3_2_2_3_01_01 none (attn (F := F) q k l) (transpose S4x8x4096x256 [0, 2, 1, 3] (shapeCast _ v shapeCasts_S16384x2048_S4x4096x8x256) transposes_S4x4096x8x256_S4x8x4096x256_0_2_1_3)

/-- The result, from the five arguments. -/
def result (q : FVec F S16384x2048 .f32) (k : FVec F S16384x2048 .f32) (v : FVec F S16384x2048 .f32) (l : FVec F S1x4x128 .f32) (g : FVec F S1x256 .f32) : FVec F S16384x2048 .bf16 :=
  truncf .bf16 (shapeCast _ (transpose S4x4096x8x256 [0, 2, 1, 3] (mulf (mulf (mulf (mean (F := F) q k v l) (broadcastInDim S4x8x4096x256 ![0, 1, 2, 3] bcast_S4x8x4096x1_S4x8x4096x256_0_1_2_3 (Host.rsqrt (addf (Host.divf (broadcastInDim S4x8x4096x1 ![0, 1, 2] bcast_S4x8x4096_S4x8x4096x1_0_1_2 (Host.reduceAdd (mulf (mean (F := F) q k v l) (mean (F := F) q k v l)) (constant S_ .f32 0x00000000#32) reducesTo_S4x8x4096x256_S4x8x4096_d3 h_S_)) (broadcastInDim S4x8x4096x1 ![] bcast_S_S4x8x4096x1 (constant S_ .f32 0x43800000#32))) (broadcastInDim S4x8x4096x1 ![] bcast_S_S4x8x4096x1 (constant S_ .f32 0x358637BD#32)))))) (broadcastInDim S4x8x4096x256 ![0, 1, 2, 3] bcast_S1x1x1x256_S4x8x4096x256_0_1_2_3 (broadcastInDim S1x1x1x256 ![3] bcast_S256_S1x1x1x256_3 (shapeCast _ g shapeCasts_S1x256_S256)))) (broadcastInDim S4x8x4096x256 ![] bcast_S_S4x8x4096x256 (constant S_ .f32 0x3F4CCCCD#32))) transposes_S4x8x4096x256_S4x4096x8x256_0_2_1_3) shapeCasts_S4x4096x8x256_S16384x2048) bitsLt_bf16_f32

end

theorem result_eq (m : (ℓ : Loc nD τ sig) → Buf (Elt Ideal) ℓ) (c : Dev nD) :
    Value.res_main_v74 m c = result (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := by
  unfold Value.res_main_v74 result mean attn factor prob expo top logit seen chunkS chunkT
  rfl
end Cert.ReferenceIdeal.Att
-- ==== Proof.Val.Ref.lean ====
module

public import proofs.«01_k».proof.Proof.Val.RefDef

/-! The reference's stages read at one element: its softmax is the quotient of the weights. -/

@[expose] public section
set_option maxRecDepth 16384
noncomputable section
namespace Cert.ReferenceIdeal.Att
open Cert.ReferenceIdeal Cert.ReferenceIdeal.Gen Cert.Softmax
open Idealize.ShloMosaic

theorem chunkT_at : ∀ t : Fin 4096, chunkT (ix2 t 0) = BitVec.ofNat 32 (t.val / 64) := by
  decide +kernel

theorem chunkS_at : ∀ s : Fin 4096, chunkS (ix2 0 s) = BitVec.ofNat 32 (s.val / 64) := by
  decide +kernel

theorem sle_chunk : ∀ a b : Fin 64, IntOp.cmpi .sle (BitVec.ofNat 32 a.val) (BitVec.ofNat 32 b.val) = 1#1 ↔ a.val ≤ b.val := by
  decide +kernel

theorem seen_at (t s : Fin 4096) : seen (ix2 t s) = 1#1 ↔ s.val / 64 ≤ t.val / 64 := by
  have hs := sle_chunk ⟨s.val / 64, by have := s.isLt; omega⟩ ⟨t.val / 64, by have := t.isLt; omega⟩
  have e : seen (ix2 t s) = IntOp.cmpi .sle (chunkS (ix2 0 s)) (chunkT (ix2 t 0)) := by
    pointwise [seen]
  rw [e, chunkS_at, chunkT_at]
  exact hs

section
variable (q k v : FVec Ideal S16384x2048 .f32) (l : FVec Ideal S1x4x128 .f32) (g : FVec Ideal S1x256 .f32)
  (qf kf vf : ℕ → ℕ → ℝ)

theorem logit_at (b : Fin 4) (h : Fin 8) (p : Fin 2) (t s : Fin 4096) :
    (logit (F := Ideal) q k (ix5 b h p t s) : EReal)
      = if seen (ix2 t s) = 1#1 then
          (∑ e : Fin 128, (q (ix2 ⟨b.val * 4096 + t.val, by have := b.isLt; have := t.isLt; omega⟩ ⟨h.val * 256 + p.val * 128 + e.val, by have := h.isLt; have := p.isLt; have := e.isLt; omega⟩) : EReal)
            * (k (ix2 ⟨b.val * 4096 + s.val, by have := b.isLt; have := s.isLt; omega⟩ ⟨h.val * 256 + p.val * 128 + e.val, by have := h.isLt; have := p.isLt; have := e.isLt; omega⟩) : EReal))
            * Ideal.rsqrt (Ideal.ofBits .f32 0x43000000#32)
        else Ideal.ofBits .f32 0xFF800000#32 := by
  pointwise [logit]
  rfl

theorem expo_at (b : Fin 4) (h : Fin 8) (p : Fin 2) (t s : Fin 4096) :
    (expo (F := Ideal) q k (ix5 b h p t s) : EReal)
      = Ideal.exp ((logit (F := Ideal) q k (ix5 b h p t s) : EReal) - (top (F := Ideal) q k (ix4 b h p t) : EReal)) := by
  pointwise [expo]

theorem prob_at (b : Fin 4) (h : Fin 8) (p : Fin 2) (t s : Fin 4096) :
    (prob (F := Ideal) q k (ix5 b h p t s) : EReal)
      = Ideal.div (expo (F := Ideal) q k (ix5 b h p t s) : EReal)
          (0 + ∑ j : Fin 4096, (expo (F := Ideal) q k (ix5 b h p t j) : EReal)) := by
  pointwise [prob]

theorem factor_at : (factor (F := Ideal) l ix0 : EReal) = lamE (fun a e => (l (ix3 0 a e) : EReal)) := by
  unfold lamE
  pointwise [factor]

theorem half0 (Z : FVec Ideal S4x8x2x4096x4096 .f32) (b : Fin 4) (h : Fin 8) (t s : Fin 4096) :
    (extractStridedSlice S4x8x1x4096x4096 ![0, 0, 0, 0, 0] Z slices_S4x8x2x4096x4096_S4x8x1x4096x4096_0_0_0_0_0 (ix5 b h 0 t s) : EReal)
      = Z (ix5 b h 0 t s) := by
  pointwise

theorem half1 (Z : FVec Ideal S4x8x2x4096x4096 .f32) (b : Fin 4) (h : Fin 8) (t s : Fin 4096) :
    (extractStridedSlice S4x8x1x4096x4096 ![0, 0, 1, 0, 0] Z slices_S4x8x2x4096x4096_S4x8x1x4096x4096_0_0_1_0_0 (ix5 b h 0 t s) : EReal)
      = Z (ix5 b h 1 t s) := by
  pointwise

theorem flat (Z : FVec Ideal S4x8x1x4096x4096 .f32) (b : Fin 4) (h : Fin 8) (t s : Fin 4096) :
    (shapeCast S4x8x4096x4096 Z shapeCasts_S4x8x1x4096x4096_S4x8x4096x4096 (ix4 b h t s) : EReal) = Z (ix5 b h 0 t s) := by
  pointwise

theorem scal (f : FVec Ideal S_ .f32) (b : Fin 4) (h : Fin 8) (t s : Fin 4096) :
    (broadcastInDim S4x8x4096x4096 ![] bcast_S_S4x8x4096x4096 f (ix4 b h t s) : EReal) = f ix0 := by
  pointwise

theorem sub_mul_at {S : Shape} (A B C : FVec Ideal S .f32) (i : S.Idx) (x y z : EReal) (hA : (A i : EReal) = x) (hB : (B i : EReal) = y)
    (hC : (C i : EReal) = z) : (subf A (mulf B C) i : EReal) = x - y * z := by
  rw [← hA, ← hB, ← hC]
  rfl

theorem attn_at (b : Fin 4) (h : Fin 8) (t s : Fin 4096) :
    (attn (F := Ideal) q k l (ix4 b h t s) : EReal)
      = (prob (F := Ideal) q k (ix5 b h 0 t s) : EReal) - (factor (F := Ideal) l ix0 : EReal) * (prob (F := Ideal) q k (ix5 b h 1 t s) : EReal) := by
  exact sub_mul_at _ _ _ _ _ _ _ ((flat _ b h t s).trans (half0 _ b h t s)) (scal _ b h t s)
    ((flat _ b h t s).trans (half1 _ b h t s))

theorem mean_at (b : Fin 4) (h : Fin 8) (t : Fin 4096) (d : Fin 256) :
    (mean (F := Ideal) q k v l (ix4 b h t d) : EReal)
      = ∑ s : Fin 4096, (attn (F := Ideal) q k l (ix4 b h t s) : EReal)
          * (v (ix2 ⟨b.val * 4096 + s.val, by have := b.isLt; have := s.isLt; omega⟩ ⟨h.val * 256 + d.val, by have := h.isLt; have := d.isLt; omega⟩) : EReal) := by
  pointwise [mean]

theorem rows (Z : FVec Ideal S4x8x4096x256 .f32) (r : Fin 16384) (x : Fin 2048) :
    (truncf .bf16 (shapeCast S16384x2048 (transpose S4x4096x8x256 [0, 2, 1, 3] Z transposes_S4x8x4096x256_S4x4096x8x256_0_2_1_3)
        shapeCasts_S4x4096x8x256_S16384x2048) bitsLt_bf16_f32 (ix2 r x) : EReal)
      = Z (ix4 ⟨r.val / 4096, by have := r.isLt; omega⟩ ⟨x.val / 256, by have := x.isLt; omega⟩ ⟨r.val % 4096, by omega⟩ ⟨x.val % 256, by omega⟩) := by
  pointwise

theorem norm_at (Y : FVec Ideal S4x8x4096x256 .f32) (b : Fin 4) (h : Fin 8) (t : Fin 4096) (d : Fin 256) :
    ((mulf (mulf (mulf Y (broadcastInDim S4x8x4096x256 ![0, 1, 2, 3] bcast_S4x8x4096x1_S4x8x4096x256_0_1_2_3 (Host.rsqrt (addf (Host.divf (broadcastInDim S4x8x4096x1 ![0, 1, 2] bcast_S4x8x4096_S4x8x4096x1_0_1_2 (Host.reduceAdd (mulf Y Y) (constant S_ .f32 0x00000000#32) reducesTo_S4x8x4096x256_S4x8x4096_d3 h_S_)) (broadcastInDim S4x8x4096x1 ![] bcast_S_S4x8x4096x1 (constant S_ .f32 0x43800000#32))) (broadcastInDim S4x8x4096x1 ![] bcast_S_S4x8x4096x1 (constant S_ .f32 0x358637BD#32)))))) (broadcastInDim S4x8x4096x256 ![0, 1, 2, 3] bcast_S1x1x1x256_S4x8x4096x256_0_1_2_3 (broadcastInDim S1x1x1x256 ![3] bcast_S256_S1x1x1x256_3 (shapeCast _ g shapeCasts_S1x256_S256)))) (broadcastInDim S4x8x4096x256 ![] bcast_S_S4x8x4096x256 (constant S_ .f32 0x3F4CCCCD#32)) : FVec Ideal S4x8x4096x256 .f32) (ix4 b h t d) : EReal)
      = normE (fun d' => (Y (ix4 b h t d') : EReal)) (g (ix2 0 d)) d := by
  unfold normE
  pointwise

theorem result_at (r : Fin 16384) (x : Fin 2048) :
    (result (F := Ideal) q k v l g (ix2 r x) : EReal)
      = normE (fun d' => (mean (F := Ideal) q k v l (ix4 ⟨r.val / 4096, by have := r.isLt; omega⟩ ⟨x.val / 256, by have := x.isLt; omega⟩ ⟨r.val % 4096, by omega⟩ d') : EReal))
          (g (ix2 0 ⟨x.val % 256, by omega⟩)) ⟨x.val % 256, by omega⟩ := by
  exact (rows _ r x).trans (norm_at g (mean (F := Ideal) q k v l) _ _ _ _)

theorem ix5_of (i : S4x8x2x4096x4096.Idx) :
    ∃ (b : Fin 4) (h : Fin 8) (p : Fin 2) (t s : Fin 4096), i = ix5 b h p t s :=
  ⟨i 0, i 1, i 2, i 3, i 4, by funext a; match a with | 0 => rfl | 1 => rfl | 2 => rfl | 3 => rfl | 4 => rfl⟩

theorem reduce_max_real {S T U : Shape} {axes : List (Fin S.rank)} (Z : FVec Ideal S .f32) (init : FVec Ideal U .f32)
    (h : S.ReducesTo axes T) (hu : 0 < U.numel) (j : T.Idx) (hi : (init (Shape.Idx.first hu) : EReal) = ⊥)
    (hT : ∀ i, (Z i : EReal) ≠ ⊤) (i : S.Idx) (hd : h.drop i = j) (hB : (Z i : EReal) ≠ ⊥) :
    ∃ X : ℝ, (Host.reduce (FloatOps.maximumf (F := Ideal) (φ := .f32)) Z init h hu j : EReal) = X := by
  obtain ⟨X, hX⟩ := fold_real_on (Finset.univ.filter fun i => h.drop i = j) (fun i => (Z i : EReal)) hT
    ⟨i, Finset.mem_filter.2 ⟨Finset.mem_univ _, hd⟩, hB⟩
  refine ⟨X, (Host.reduce_eq_fold (max : EReal → EReal → EReal) Z _ _ _ _).trans ?_⟩
  rw [hi]
  exact hX

theorem drop_last (b : Fin 4) (h : Fin 8) (p : Fin 2) (t s : Fin 4096) :
    reducesTo_S4x8x2x4096x4096_S4x8x2x4096_d4.drop (ix5 b h p t s) = ix4 b h p t := by
  funext a
  match a with
  | 0 => rfl
  | 1 => rfl
  | 2 => rfl
  | 3 => rfl

theorem max_bot_real {S : Shape} (A B : FVec Ideal S .f32) (i : S.Idx) (hA : (A i : EReal) = ⊥) (hB : ∃ X : ℝ, (B i : EReal) = X) :
    ∃ X : ℝ, (maximumf A B i : EReal) = X := by
  obtain ⟨X, hX⟩ := hB
  refine ⟨X, ?_⟩
  show max (A i : EReal) (B i : EReal) = X
  rw [hA, hX]
  exact max_eq_right bot_le

theorem top_real (b : Fin 4) (h : Fin 8) (p : Fin 2) (t : Fin 4096)
    (hT : ∀ i, (logit (F := Ideal) q k i : EReal) ≠ ⊤) (hB : (logit (F := Ideal) q k (ix5 b h p t 0) : EReal) ≠ ⊥) :
    ∃ X : ℝ, (top (F := Ideal) q k (ix4 b h p t) : EReal) = X := by
  unfold top
  exact max_bot_real _ _ _ neg_inf (reduce_max_real _ _ _ _ _ neg_inf hT (ix5 b h p t 0) (drop_last b h p t 0) hB)

variable (hq : ∀ i : S16384x2048.Idx, (q i : EReal) = ((qf (i 0).val (i 1).val : ℝ) : EReal))
  (hk : ∀ i : S16384x2048.Idx, (k i : EReal) = ((kf (i 0).val (i 1).val : ℝ) : EReal))
  (hv : ∀ i : S16384x2048.Idx, (v i : EReal) = ((vf (i 0).val (i 1).val : ℝ) : EReal))

include hq hk in
theorem logit_rep (b : Fin 4) (h : Fin 8) (p : Fin 2) (t s : Fin 4096) :
    RepE (wR qf kf b.val h.val p.val t.val s.val) (logit (F := Ideal) q k (ix5 b h p t s) : EReal) := by
  rw [logit_at, neg_inf, rsqrt128]
  unfold wR
  by_cases hs : s.val / 64 ≤ t.val / 64
  · rw [if_pos hs, if_pos ((seen_at t s).2 hs)]
    refine .inr ⟨_, ?_, rfl⟩
    unfold dotR
    rw [EReal.coe_mul, ← sum_coe]
    congr 1
    refine Finset.sum_congr rfl fun e _ => ?_
    rw [hq, hk, EReal.coe_mul]
    have e1 : b.val * 4096 + t.val = 4096 * b.val + t.val := by omega
    have e2 : b.val * 4096 + s.val = 4096 * b.val + s.val := by omega
    have e3 : h.val * 256 + p.val * 128 + e.val = 256 * h.val + 128 * p.val + e.val := by omega
    rw [← e1, ← e2, ← e3]
    rfl
  · rw [if_neg hs, if_neg fun h' => hs ((seen_at t s).1 h')]
    exact .inl ⟨rfl, rfl⟩

include hq hk in
theorem prob_real (b : Fin 4) (h : Fin 8) (p : Fin 2) (t s : Fin 4096) :
    (prob (F := Ideal) q k (ix5 b h p t s) : EReal)
      = ((wR qf kf b.val h.val p.val t.val s.val / ∑ j ∈ Finset.range 4096, wR qf kf b.val h.val p.val t.val j : ℝ) : EReal) := by
  have hT : ∀ i, (logit (F := Ideal) q k i : EReal) ≠ ⊤ := fun i => by
    obtain ⟨b, h, p, t, s, rfl⟩ := ix5_of i
    exact (logit_rep q k qf kf hq hk b h p t s).ne_top
  have hB : (logit (F := Ideal) q k (ix5 b h p t 0) : EReal) ≠ ⊥ := by
    obtain ⟨_, h0⟩ | ⟨σ, h0, _⟩ := logit_rep q k qf kf hq hk b h p t 0
    · unfold wR at h0
      rw [if_pos (by show 0 / 64 ≤ _; omega)] at h0
      exact absurd h0 (Real.exp_pos _).ne'
    · rw [h0]; exact EReal.coe_ne_bot σ
  have eS := Finset.sum_range (n := 4096) (fun j => wR qf kf b.val h.val p.val t.val j)
  rw [prob_at, eS]
  simp only [expo_at]
  exact softmax (fun j : Fin 4096 => (logit (F := Ideal) q k (ix5 b h p t j) : EReal)) (fun j => wR qf kf b.val h.val p.val t.val j.val)
    (fun j => logit_rep q k qf kf hq hk b h p t j) _ (top_real q k b h p t hT hB)
    (by rw [← eS]; exact (wR_sum_pos qf kf b.val h.val p.val t.val).ne') s

include hq hk hv in
theorem mean_real (hl : ∀ a e, ∃ r : ℝ, (l (ix3 0 a e) : EReal) = r) (b : Fin 4) (h : Fin 8) (t : Fin 4096) (d : Fin 256) :
    (mean (F := Ideal) q k v l (ix4 b h t d) : EReal)
      = meanR qf kf vf (lamE fun a e => (l (ix3 0 a e) : EReal)) b.val h.val t.val d := by
  obtain ⟨L, hL⟩ := lamE_real (fun a e => (l (ix3 0 a e) : EReal)) hl
  have e4 : ∀ s : Fin 4096, b.val * 4096 + s.val = 4096 * b.val + s.val := fun s => by omega
  have e5 : h.val * 256 + d.val = 256 * h.val + d.val := by omega
  have hv' : ∀ s : Fin 4096, (v (ix2 ⟨b.val * 4096 + s.val, by have := b.isLt; have := s.isLt; omega⟩ ⟨h.val * 256 + d.val, by have := h.isLt; have := d.isLt; omega⟩) : EReal)
      = ((vf (4096 * b.val + s.val) (256 * h.val + d.val) : ℝ) : EReal) := fun s => by
    rw [hv, ← e4, ← e5]
    rfl
  rw [mean_at]
  simp only [attn_at, factor_at, hL, hv', prob_real q k qf kf hq hk]
  unfold meanR attR
  rw [Finset.sum_range (n := 4096) (fun s => wR qf kf b.val h.val 0 t.val s * _), Finset.sum_range (n := 4096) (fun s => wR qf kf b.val h.val 1 t.val s * _)]
  exact mean_of_weights (fun s : Fin 4096 => wR qf kf b.val h.val 0 t.val s.val) (fun s => wR qf kf b.val h.val 1 t.val s.val)
    (fun s => vf (4096 * b.val + s.val) (256 * h.val + d.val)) _ _ L

include hq hk hv in
/-- The reference's result at an element. -/
theorem result_real (hl : ∀ a e, ∃ r : ℝ, (l (ix3 0 a e) : EReal) = r) (y : S16384x2048.Idx) :
    (result (F := Ideal) q k v l g y : EReal)
      = outE qf kf vf (fun a e => (l (ix3 0 a e) : EReal)) (fun d => (g (ix2 0 d) : EReal)) (y 0).val (y 1).val := by
  obtain ⟨r, x, rfl⟩ : ∃ (r : Fin 16384) (x : Fin 2048), y = ix2 r x :=
    ⟨y 0, y 1, by funext a; match a with | 0 => rfl | 1 => rfl⟩
  rw [result_at]
  simp only [mean_real q k v l qf kf vf hq hk hv hl]
  rfl
end
end Cert.ReferenceIdeal.Att
-- ==== Proof.Val.Real.lean ====
module

public import proofs.«01_k».proof.Defs
public import proofs.«01_k».proof.Proof.Gen.Pre_finite
public import proofs.«01_k».proof.Proof.Val.Scal

/-! The precondition, read: the arguments the claim restricts hold real numbers. -/

@[expose] public section
noncomputable section
namespace Cert.Softmax
open Idealize.ShloMosaic

theorem and_split (a b : BitVec 1) (h : a &&& b = 1#1) : a = 1#1 ∧ b = 1#1 := by
  revert h; revert a b; decide

/-- An array of two axes over natural numbers: its element, as a real number. -/
def realAt (x : Cert.Pre_finite.S16384x2048.Idx → EReal) (r e : ℕ) : ℝ :=
  if h : r < 16384 ∧ e < 2048 then (x (ix2 ⟨r, h.1⟩ ⟨e, h.2⟩)).toReal else 0

theorem realAt_eq (x : Cert.Pre_finite.S16384x2048.Idx → EReal) (hx : ∀ i, ∃ r : ℝ, x i = r)
    (i : Cert.Pre_finite.S16384x2048.Idx) : x i = ((realAt x (i 0).val (i 1).val : ℝ) : EReal) := by
  obtain ⟨r, e, rfl⟩ : ∃ (r : Fin 16384) (e : Fin 2048), i = ix2 r e :=
    ⟨i 0, i 1, by funext a; match a with | 0 => rfl | 1 => rfl⟩
  obtain ⟨z, hz⟩ := hx (ix2 r e)
  have : realAt x r.val e.val = z := by
    unfold realAt
    rw [dif_pos ⟨r.isLt, e.isLt⟩]
    show (x (ix2 r e)).toReal = z
    rw [hz, EReal.toReal_coe]
  rw [hz]
  exact congrArg _ this.symm

theorem real_of_pre (x0 x1 x2 : FVec Ideal Cert.Pre_finite.S16384x2048 .f32) (x3 : FVec Ideal Cert.Pre_finite.S1x4x128 .f32)
    (x4 : FVec Ideal Cert.Pre_finite.S1x256 .f32) (h : Cert.Pre_finite.fn (F := Ideal) x0 x1 x2 x3 x4 = fun _ => 1#1) :
    (∀ i, ∃ r : ℝ, (x0 i : EReal) = r) ∧ (∀ i, ∃ r : ℝ, (x1 i : EReal) = r) ∧ (∀ i, ∃ r : ℝ, (x2 i : EReal) = r)
      ∧ ∀ i, ∃ r : ℝ, (x3 i : EReal) = r := by
  have j : Cert.Pre_finite.S_.Idx := fun a => a.elim0
  have hj := congrFun h j
  unfold Cert.Pre_finite.fn Cert.Pre_finite.fn_part1 at hj
  obtain ⟨hj, h3⟩ := and_split _ _ hj
  obtain ⟨hj, h2⟩ := and_split _ _ hj
  obtain ⟨h0, h1⟩ := and_split _ _ hj
  have one : ∀ a b : Cert.Pre_finite.S_.Idx, a = b := fun a b => funext fun k => k.elim0
  exact ⟨fun i => real_of_finite _ (all_of_reduce _ _ _ _ j h0 i (one _ _)), fun i => real_of_finite _ (all_of_reduce _ _ _ _ j h1 i (one _ _)),
    fun i => real_of_finite _ (all_of_reduce _ _ _ _ j h2 i (one _ _)), fun i => real_of_finite _ (all_of_reduce _ _ _ _ j h3 i (one _ _))⟩

end Cert.Softmax
-- ==== Proof.Ffn.Silu.lean ====
module

public import Idealize.ShloMosaic.PureOps.Ideal
public import Idealize.ShloMosaic.Lib.Claim
public import Idealize.ShloMosaic.Lib.Pointwise

/-! The gate of the feed-forward part, on extended reals: the hyperbolic tangent's form and the quotient's form agree. -/

@[expose] public section
noncomputable section
namespace Cert.Ffn
open Idealize.ShloMosaic

theorem half_f32 : Ideal.ofBits .f32 0x3F000000#32 = ((1 / 2 : ℝ) : EReal) := by
  simp [Ideal.ofBits, Ideal.ieee, ← EReal.coe_mul]
  norm_num

theorem one_f32 : Ideal.ofBits .f32 0x3F800000#32 = ((1 : ℝ) : EReal) := by
  simp [Ideal.ofBits, Ideal.ieee, ← EReal.coe_mul]
  norm_num

/-- The logistic function through the tangent of half the argument. -/
theorem half_tanh (r : ℝ) : 1 / 2 * Real.tanh (1 / 2 * r) + 1 / 2 = 1 * (1 / (1 + Real.exp (-r))) := by
  have h1 := Real.exp_pos (1 / 2 * r)
  have h2 := Real.exp_pos (-(1 / 2 * r))
  have h : Real.exp (-r) = Real.exp (-(1 / 2 * r)) * Real.exp (-(1 / 2 * r)) := by rw [← Real.exp_add]; ring_nf
  have e : Real.exp (1 / 2 * r) * Real.exp (-(1 / 2 * r)) = 1 := by rw [← Real.exp_add]; simp
  have h3 : 0 < 1 + Real.exp (-(1 / 2 * r)) * Real.exp (-(1 / 2 * r)) := by positivity
  rw [Real.tanh_eq_sinh_div_cosh, Real.sinh_eq, Real.cosh_eq, h]
  generalize Real.exp (1 / 2 * r) = a at *
  generalize Real.exp (-(1 / 2 * r)) = b at *
  have h4 : a + b ≠ 0 := (add_pos h1 h2).ne'
  field_simp
  nlinarith [e]

/-- The gate: `x` times the logistic function of `x`, written with the quotient. -/
def silu (x : EReal) : EReal := x * Ideal.div (Ideal.ofBits .f32 0x3F800000#32) (Ideal.ofBits .f32 0x3F800000#32 + Ideal.exp (-x))

/-- Both forms of the gate. -/
theorem silu_eq (x : EReal) :
    x * (Ideal.ofBits .f32 0x3F000000#32 * Ideal.tanh (Ideal.ofBits .f32 0x3F000000#32 * x) + Ideal.ofBits .f32 0x3F000000#32)
      = silu x := by
  unfold silu
  rw [half_f32, one_f32]
  induction x with
  | bot =>
    rw [EReal.coe_mul_bot_of_pos (by norm_num)]
    show (⊥ : EReal) * (((1 / 2 : ℝ) : EReal) * ((-1 : ℝ) : EReal) + ((1 / 2 : ℝ) : EReal)) = ⊥ * Ideal.div ((1 : ℝ) : EReal) (((1 : ℝ) : EReal) + Ideal.exp ⊤)
    rw [← EReal.coe_mul, ← EReal.coe_add]
    rw [show Ideal.exp ⊤ = ⊤ from rfl, EReal.coe_add_top]
    norm_num [Ideal.div]
  | top =>
    rw [EReal.coe_mul_top_of_pos (by norm_num)]
    show (⊤ : EReal) * (((1 / 2 : ℝ) : EReal) * ((1 : ℝ) : EReal) + ((1 / 2 : ℝ) : EReal)) = ⊤ * Ideal.div ((1 : ℝ) : EReal) (((1 : ℝ) : EReal) + Ideal.exp ⊥)
    rw [← EReal.coe_mul, ← EReal.coe_add]
    rw [show Ideal.exp ⊥ = 0 from rfl, add_zero]
    norm_num [Ideal.div]
  | coe r =>
    congr 1
    rw [← EReal.coe_mul]
    show ((1 / 2 : ℝ) : EReal) * ((Real.tanh (1 / 2 * r) : ℝ) : EReal) + ((1 / 2 : ℝ) : EReal)
      = Ideal.div ((1 : ℝ) : EReal) (((1 : ℝ) : EReal) + ((Real.exp (-r) : ℝ) : EReal))
    rw [← EReal.coe_add, Ideal.div_coe (by positivity), ← EReal.coe_mul, ← EReal.coe_mul, ← EReal.coe_add, half_tanh]

theorem silu_zero_mul : silu 0 * 0 = 0 := mul_zero _

end Cert.Ffn
-- ==== Proof.Ffn.In.lean ====
module

public import proofs.«01_k».proof.Proof.Ffn.Silu
public import proofs.«01_k».proof.Proof.Gen.Kernel2Ideal.Value
public import Idealize.ShloMosaic.Lib.Pipeline.ValueKit

/-! What the feed-forward part's first call leaves in its two arrays, over its arguments. -/

@[expose] public section
set_option maxRecDepth 16384
open scoped BigOperators
noncomputable section
namespace Cert.Kernel2Ideal.In
open Cert.Kernel2Ideal Cert.Kernel2Ideal.Gen
open Idealize.ShloMosaic Idealize.ShloMosaic.TcCoe Idealize.SL.Sem Idealize.ShloMosaic.StableHlo

variable (m : (ℓ : Loc nD τ sig) → Buf (Elt Ideal) ℓ) (c : Dev nD)

theorem idx_val : ∀ t : Fin cfg0.N, win0_0.index t = ![t.val / 22, 0]
    ∧ win0_1.index t = ![0, t.val % 22] ∧ win0_2.index t = ![0, t.val % 22]
    ∧ win0_3.index t = ![0, min t.val 343, 0] ∧ win0_4.index t = ![t.val / 22, t.val % 22]
    ∧ win0_5.index t = ![t.val, 0] ∧ t.val < 352 :=
  (by decide +kernel : ∀ t : Fin grid0.N, _)

theorem pad_at (w : FVec Ideal S4096x11008 .bf16) (e : Fin 4096) (x : Fin 11264) :
    (pad S4096x11264 ![0, 0] ![0, 256] ![0, 0] w (sitofp .bf16 (constantI S_ 32 0#32) : FVec Ideal S_ .bf16) pads_S4096x11008_S4096x11264_000_02560 h_S_ (ix2 e x) : EReal)
      = if h : x.val < 11008 then (w (ix2 e ⟨x.val, h⟩) : EReal) else (0 : EReal) := by
  pointwise
  rw [show (FloatOps.sitofp .bf16 (0#32 : BitVec 32) : Ideal .bf16) = (0 : EReal) from by
    show (((0#32 : BitVec 32).toInt : ℝ) : EReal) = 0
    simp]

theorem h_at (r : Fin 16384) (e : Fin 4096) :
    (V m c main_v8 (ix2 r e) : EReal) = m ((c : Thread nD τ).loc main_arg0) (ix2 r e) := by
  simp only [V, hostOps0, hostOps0_1, hostOps0_2, hostOps0_3, hostOps0_4, List.flatten_cons, List.flatten_nil, List.append_nil, List.cons_append, List.nil_append]
  entry_read
  pointwise

theorem wg_at (e : Fin 4096) (x : Fin 11264) :
    (V m c main_v3 (ix2 e x) : EReal) = if h : x.val < 11008 then (m ((c : Thread nD τ).loc main_arg1) (ix3 0 e ⟨x.val, by omega⟩) : EReal) else (0 : EReal) := by
  simp only [V, hostOps0, hostOps0_1, hostOps0_2, hostOps0_3, hostOps0_4, List.flatten_cons, List.flatten_nil, List.append_nil, List.cons_append, List.nil_append]
  entry_read
  pointwise
  exact pad_at _ e x

theorem wu_at (e : Fin 4096) (x : Fin 11264) :
    (V m c main_v7 (ix2 e x) : EReal) = if h : x.val < 11008 then (m ((c : Thread nD τ).loc main_arg1) (ix3 0 e ⟨11008 + x.val, by omega⟩) : EReal) else (0 : EReal) := by
  simp only [V, hostOps0, hostOps0_1, hostOps0_2, hostOps0_3, hostOps0_4, List.flatten_cons, List.flatten_nil, List.append_nil, List.cons_append, List.nil_append]
  entry_read
  pointwise
  exact pad_at _ e x

theorem pay1_at (h : Vec Ideal S1024x4096 .bf16) (wg wu : Vec Ideal S4096x512 .bf16) (r : Fin 1024) (x : Fin 512) :
    (k0_pay1 h wg wu (ix2 r x) : EReal) = Cert.Ffn.silu (∑ e : Fin 4096, @HMul.hMul EReal EReal EReal _ (h (ix2 r e)) (wg (ix2 e x))) * (∑ e : Fin 4096, @HMul.hMul EReal EReal EReal _ (h (ix2 r e)) (wu (ix2 e x))) := by
  pointwise [k0_pay1]
  exact congrArg (· * _) (Cert.Ffn.silu_eq _)

theorem cond_val : ∀ t : Fin cfg0.N,
    Scalar.cmpi .slt (Scalar.addi (Scalar.muli (BitVec.ofNat 32 (grid0.coords t 0).val) 22#32) (BitVec.ofNat 32 (grid0.coords t 1).val)) 344#32
      = if t.val < 344 then 1#1 else 0#1 :=
  (by decide +kernel : ∀ t : Fin grid0.N, _)

theorem pay2_at (t : Fin cfg0.N) (w : Vec Ideal S1x32x4096 .f32) (r : Fin 32) (x : Fin 4096) :
    (k0_pay2 (grid0.coords t) w (ix2 r x) : EReal) = if t.val < 344 then (w (ix3 0 r x) : EReal) else (0 : EReal) := by
  pointwise [k0_pay2]
  rw [cond_val t]
  by_cases h : t.val < 344
  · rw [if_pos h, if_pos h]; rfl
  · rw [if_neg h, if_neg h]; rfl

theorem blk0 (t : Fin cfg0.N) (y : S1024x4096.Idx) (r : Fin 16384) (e : Fin 4096)
    (e0 : r.val = t.val / 22 * 1024 + (y 0).val) (e1 : e.val = (y 1).val) :
    (iblk m c 0 t y : EReal) = V m c main_v8 (ix2 r e) := by
  blk_ext [iblk, idx_val t]

theorem blk1 (t : Fin cfg0.N) (y : S4096x512.Idx) (e : Fin 4096) (x : Fin 11264)
    (e0 : e.val = (y 0).val) (e1 : x.val = t.val % 22 * 512 + (y 1).val) :
    (iblk m c 1 t y : EReal) = V m c main_v3 (ix2 e x) := by
  blk_ext [iblk, idx_val t]

theorem blk2 (t : Fin cfg0.N) (y : S4096x512.Idx) (e : Fin 4096) (x : Fin 11264)
    (e0 : e.val = (y 0).val) (e1 : x.val = t.val % 22 * 512 + (y 1).val) :
    (iblk m c 2 t y : EReal) = V m c main_v7 (ix2 e x) := by
  blk_ext [iblk, idx_val t]

theorem blk3 (t : Fin cfg0.N) (y : S1x32x4096.Idx) (r : Fin 11008) (x : Fin 4096)
    (e0 : r.val = min t.val 343 * 32 + (y 1).val) (e1 : x.val = (y 2).val) :
    (iblk m c 3 t y : EReal) = m ((c : Thread nD τ).loc main_arg2) (ix3 0 r x) := by
  rw [← V_main_arg2 m c]
  blk_ext [iblk, idx_val t]

/-- The value at row `r`, column `x` of the first result: the reference's plain formula, and nothing in the padded columns. -/
def outA (h : S16384x4096.Idx → EReal) (w : S1x4096x22016.Idx → EReal) (r : Fin 16384) (x : Fin 11264) : EReal :=
  if hx : x.val < 11008 then
    Cert.Ffn.silu (∑ e : Fin 4096, h (ix2 r e) * w (ix3 0 e ⟨x.val, by omega⟩)) * (∑ e : Fin 4096, h (ix2 r e) * w (ix3 0 e ⟨11008 + x.val, by omega⟩))
  else 0

theorem point4 (t : Fin cfg0.N) (p : Fin 1024) (q : Fin 512) (r : Fin 16384) (x : Fin 11264)
    (hr : r.val = t.val / 22 * 1024 + p.val) (hx : x.val = t.val % 22 * 512 + q.val) :
    (k0_pay1 (iblk m c 0 t) (iblk m c 1 t) (iblk m c 2 t) (ix2 p q) : EReal)
      = outA (m ((c : Thread nD τ).loc main_arg0)) (m ((c : Thread nD τ).loc main_arg1)) r x := by
  rw [pay1_at]
  have hg : ∀ e : Fin 4096, @HMul.hMul EReal EReal EReal _ (iblk m c 0 t (ix2 p e)) (iblk m c 1 t (ix2 e q))
      = @HMul.hMul EReal EReal EReal _ (m ((c : Thread nD τ).loc main_arg0) (ix2 r e)) (if h : x.val < 11008 then (m ((c : Thread nD τ).loc main_arg1) (ix3 0 e ⟨x.val, by omega⟩) : EReal) else (0 : EReal)) := fun e => by
    rw [blk0 m c t (ix2 p e) r e hr rfl, blk1 m c t (ix2 e q) e x rfl hx, h_at, wg_at]
  have hu : ∀ e : Fin 4096, @HMul.hMul EReal EReal EReal _ (iblk m c 0 t (ix2 p e)) (iblk m c 2 t (ix2 e q))
      = @HMul.hMul EReal EReal EReal _ (m ((c : Thread nD τ).loc main_arg0) (ix2 r e)) (if h : x.val < 11008 then (m ((c : Thread nD τ).loc main_arg1) (ix3 0 e ⟨11008 + x.val, by omega⟩) : EReal) else (0 : EReal)) := fun e => by
    rw [blk0 m c t (ix2 p e) r e hr rfl, blk2 m c t (ix2 e q) e x rfl hx, h_at, wu_at]
  refine (congrArg₂ (fun a b => Cert.Ffn.silu a * b) (Finset.sum_congr rfl fun e _ => hg e) (Finset.sum_congr rfl fun e _ => hu e)).trans ?_
  unfold outA
  by_cases h : x.val < 11008
  · simp only [dif_pos h]
  · simp only [dif_neg h, mul_zero, Finset.sum_const_zero]

theorem final4 : (dats m 0 c).arrAt 4 cfg0.N = fun y : S16384x11264.Idx => outA (m ((c : Thread nD τ).loc main_arg0)) (m ((c : Thread nD τ).loc main_arg1)) (y 0) (y 1) := by
  refine (dats m 0 c).arrAt_eq_of_covers 4 _ (by decide +kernel) fun t _ y => ?_
  blk_simp
  rw [after0_4]
  frame_out
  obtain ⟨p, q, rfl⟩ : ∃ (p : Fin 1024) (q : Fin 512), y = ix2 p q := ⟨y 0, y 1, by funext a; match a with | 0 => rfl | 1 => rfl⟩
  have h := (idx_val t).2.2.2.2.1
  have e0 : win0_4.index t 0 = t.val / 22 := congrFun h 0
  have e1 : win0_4.index t 1 = t.val % 22 := congrFun h 1
  refine point4 m c t p q _ _ ?_ ?_
  · blk_simp
    rw [e0]
  · blk_simp
    rw [e1]

/-- The value at row `r`, column `x` of the second result: the weight's own rows, then nothing. -/
def outW (w : S1x11008x4096.Idx → EReal) (r : Fin 11264) (x : Fin 4096) : EReal :=
  if hr : r.val < 11008 then w (ix3 0 ⟨r.val, hr⟩ x) else 0

theorem point5 (t : Fin cfg0.N) (p : Fin 32) (x : Fin 4096) (r : Fin 11264) (x' : Fin 4096) (hr : r.val = t.val * 32 + p.val) (hx : x'.val = x.val) :
    (k0_pay2 (grid0.coords t) (iblk m c 3 t) (ix2 p x) : EReal) = outW (m ((c : Thread nD τ).loc main_arg2)) r x' := by
  rw [pay2_at]
  unfold outW
  have := p.isLt
  by_cases h : t.val < 344
  · have h' : r.val < 11008 := by omega
    rw [if_pos h, dif_pos h', blk3 m c t (ix3 0 p x) ⟨r.val, h'⟩ x' (by show r.val = min t.val 343 * 32 + p.val; omega) hx]
  · rw [if_neg h, dif_neg (by omega)]

theorem final5 : (dats m 0 c).arrAt 5 cfg0.N = fun y : S11264x4096.Idx => outW (m ((c : Thread nD τ).loc main_arg2)) (y 0) (y 1) := by
  refine (dats m 0 c).arrAt_eq_of_covers 5 _ (by decide +kernel) fun t _ y => ?_
  blk_simp
  rw [after0_5]
  frame_out
  obtain ⟨p, q, rfl⟩ : ∃ (p : Fin 32) (q : Fin 4096), y = ix2 p q := ⟨y 0, y 1, by funext a; match a with | 0 => rfl | 1 => rfl⟩
  have h := (idx_val t).2.2.2.2.2.1
  have e0 : win0_5.index t 0 = t.val := congrFun h 0
  have e1 : win0_5.index t 1 = 0 := congrFun h 1
  refine point5 m c t p q _ _ ?_ ?_
  · blk_simp
    rw [e0]
  · blk_simp
    rw [e1, Nat.zero_mul, Nat.zero_add]

end Cert.Kernel2Ideal.In
-- ==== Proof.Ffn.InRef.lean ====
module

public import proofs.«01_k».proof.Proof.Ffn.In
public import proofs.«01_k».proof.Proof.Gen.Reference2Ideal.Run

/-! The reference's two results of the feed-forward part's first call, index by index. -/

@[expose] public section
set_option maxRecDepth 16384
noncomputable section
namespace Cert.Reference2Ideal.In
open Cert.Reference2Ideal Cert.Reference2Ideal.Gen
open Idealize.ShloMosaic Idealize.ShloMosaic.TcCoe Idealize.SL.Sem Idealize.ShloMosaic.StableHlo

theorem zero_i : (FloatOps.sitofp .f32 (0#32 : BitVec 32) : Ideal .f32) = (0 : EReal) := by
  show (((0#32 : BitVec 32).toInt : ℝ) : EReal) = 0
  simp

theorem ref4 (h : FVec Ideal S16384x4096 .f32) (w : FVec Ideal S1x4096x22016 .f32) (r : Fin 16384) (x : Fin 11264) :
    ((truncf .bf16 (pad S16384x11264 ![0, 0] ![0, 256] ![0, 0] (mulf (mulf (extractStridedSlice S16384x11008 ![0, 0] (Host.dotGeneral dot_S16384x4096_S4096x22016_S16384x22016_1_0_0_1_n_n none h (shapeCast _ w shapeCasts_S1x4096x22016_S4096x22016)) slices_S16384x22016_S16384x11008_0_0) (Host.divf (broadcastInDim S16384x11008 ![] bcast_S_S16384x11008 (constant S_ .f32 0x3F800000#32)) (addf (broadcastInDim S16384x11008 ![] bcast_S_S16384x11008 (constant S_ .f32 0x3F800000#32)) (Host.exp (Host.negf (extractStridedSlice S16384x11008 ![0, 0] (Host.dotGeneral dot_S16384x4096_S4096x22016_S16384x22016_1_0_0_1_n_n none h (shapeCast _ w shapeCasts_S1x4096x22016_S4096x22016)) slices_S16384x22016_S16384x11008_0_0)))))) (extractStridedSlice S16384x11008 ![0, 11008] (Host.dotGeneral dot_S16384x4096_S4096x22016_S16384x22016_1_0_0_1_n_n none h (shapeCast _ w shapeCasts_S1x4096x22016_S4096x22016)) slices_S16384x22016_S16384x11008_0_11008)) (sitofp .f32 (constantI S_ 32 0#32)) pads_S16384x11008_S16384x11264_000_02560 h_S_) bitsLt_bf16_f32 : FVec Ideal S16384x11264 .bf16) (ix2 r x) : EReal)
      = Cert.Kernel2Ideal.In.outA h w r x := by
  pointwise
  rw [zero_i]
  unfold Cert.Kernel2Ideal.In.outA Cert.Ffn.silu
  rw [Cert.Ffn.one_f32, EReal.coe_one]

theorem ref5 (w : FVec Ideal S1x11008x4096 .f32) (r : Fin 11264) (x : Fin 4096) :
    ((truncf .bf16 (pad S11264x4096 ![0, 0] ![256, 0] ![0, 0] (shapeCast _ w shapeCasts_S1x11008x4096_S11008x4096) (sitofp .f32 (constantI S_ 32 0#32)) pads_S11008x4096_S11264x4096_02560_000 h_S_) bitsLt_bf16_f32 : FVec Ideal S11264x4096 .bf16) (ix2 r x) : EReal)
      = Cert.Kernel2Ideal.In.outW w r x := by
  pointwise
  rw [zero_i]
  rfl

end Cert.Reference2Ideal.In
-- ==== Proof.Ffn.Out.lean ====
module

public import proofs.«01_k».proof.Proof.Ffn.Silu
public import proofs.«01_k».proof.Proof.Gen.Kernel3Ideal.Value
public import Idealize.ShloMosaic.Lib.Pipeline.ValueKit

/-! What the feed-forward part's second call leaves in its array, over its arguments. -/

@[expose] public section
set_option maxRecDepth 16384
open scoped BigOperators
noncomputable section
namespace Cert.Kernel3Ideal.Out
open Cert.Kernel3Ideal Cert.Kernel3Ideal.Gen
open Idealize.ShloMosaic Idealize.ShloMosaic.TcCoe Idealize.SL.Sem Idealize.ShloMosaic.StableHlo

variable (m : (ℓ : Loc nD τ sig) → Buf (Elt Ideal) ℓ) (c : Dev nD)

theorem idx_val : ∀ t : Fin cfg0.N, win0_0.index t = ![t.val / 16, t.val % 4]
    ∧ win0_1.index t = ![t.val % 4, t.val / 4 % 4] ∧ win0_2.index t = ![t.val / 16, t.val / 4 % 4]
    ∧ win0_3.index t = ![t.val / 64 * 9 + 8, 0, t.val / 4 % 4] ∧ win0_4.index t = ![t.val / 16, t.val / 4 % 4] ∧ t.val < 256 :=
  (by decide +kernel : ∀ t : Fin grid0.N, _)

theorem flush_val : ∀ t : Fin cfg0.N, (cfg0.win 4).flush t = true → t.val % 4 = 3 := fun t h => (flush0_4 t).mp h

theorem zero_i : (FloatOps.sitofp .bf16 (0#32 : BitVec 32) : Ideal .bf16) = (0 : EReal) := by
  show (((0#32 : BitVec 32).toInt : ℝ) : EReal) = 0
  simp

theorem pad_a (w : FVec Ideal S16384x11008 .bf16) (r : Fin 16384) (k : Fin 11264) :
    (pad S16384x11264 ![0, 0] ![0, 256] ![0, 0] w (sitofp .bf16 (constantI S_ 32 0#32) : FVec Ideal S_ .bf16) pads_S16384x11008_S16384x11264_000_02560 h_S_ (ix2 r k) : EReal)
      = if h : k.val < 11008 then (w (ix2 r ⟨k.val, h⟩) : EReal) else (0 : EReal) := by
  pointwise
  rw [zero_i]

theorem pad_w (w : FVec Ideal S11008x4096 .bf16) (k : Fin 11264) (x : Fin 4096) :
    (pad S11264x4096 ![0, 0] ![256, 0] ![0, 0] w (sitofp .bf16 (constantI S_ 32 0#32) : FVec Ideal S_ .bf16) pads_S11008x4096_S11264x4096_02560_000 h_S_ (ix2 k x) : EReal)
      = if h : k.val < 11008 then (w (ix2 ⟨k.val, h⟩ x) : EReal) else (0 : EReal) := by
  pointwise
  rw [zero_i]

theorem a_at (r : Fin 16384) (k : Fin 11264) :
    (V m c main_v1 (ix2 r k) : EReal) = if h : k.val < 11008 then (m ((c : Thread nD τ).loc main_arg0) (ix2 r ⟨k.val, h⟩) : EReal) else (0 : EReal) := by
  simp only [V, hostOps0, hostOps0_1, hostOps0_2, hostOps0_3, hostOps0_4, List.flatten_cons, List.flatten_nil, List.append_nil, List.cons_append, List.nil_append]
  entry_read
  exact pad_a _ r k

theorem w_at (k : Fin 11264) (x : Fin 4096) :
    (V m c main_v4 (ix2 k x) : EReal) = if h : k.val < 11008 then (m ((c : Thread nD τ).loc main_arg1) (ix3 0 ⟨k.val, h⟩ x) : EReal) else (0 : EReal) := by
  simp only [V, hostOps0, hostOps0_1, hostOps0_2, hostOps0_3, hostOps0_4, List.flatten_cons, List.flatten_nil, List.append_nil, List.cons_append, List.nil_append]
  entry_read
  pointwise
  exact pad_w _ k x

theorem g_at (b : Fin 36) (x : Fin 4096) (b' : Fin 4) (x' : Fin 36864) (e : b'.val * 36864 + x'.val = b.val * 4096 + x.val) :
    (V m c main_v5 (ix3 b 0 x) : EReal) = m ((c : Thread nD τ).loc main_arg3) (ix2 b' x') := by
  simp only [V, hostOps0, hostOps0_1, hostOps0_2, hostOps0_3, hostOps0_4, List.flatten_cons, List.flatten_nil, List.append_nil, List.cons_append, List.nil_append]
  entry_read
  pointwise
  have := x.isLt
  have := x'.isLt
  exact congrArg₂ (fun (u : Fin 4) (v : Fin 36864) => (m ((c : Thread nD τ).loc main_arg3) (ix2 u v) : EReal))
    (Fin.ext (by show b.val / 9 = b'.val; omega)) (Fin.ext (by show b.val % 9 * 4096 + x.val = x'.val; omega))

theorem blk0 (t : Fin cfg0.N) (y : S1024x2816.Idx) (r : Fin 16384) (k : Fin 11264)
    (e0 : r.val = t.val / 16 * 1024 + (y 0).val) (e1 : k.val = t.val % 4 * 2816 + (y 1).val) :
    (iblk m c 0 t y : EReal) = V m c main_v1 (ix2 r k) := by
  blk_ext [iblk, idx_val t]

theorem blk1 (t : Fin cfg0.N) (y : S2816x1024.Idx) (k : Fin 11264) (x : Fin 4096)
    (e0 : k.val = t.val % 4 * 2816 + (y 0).val) (e1 : x.val = t.val / 4 % 4 * 1024 + (y 1).val) :
    (iblk m c 1 t y : EReal) = V m c main_v4 (ix2 k x) := by
  blk_ext [iblk, idx_val t]

theorem blk2 (t : Fin cfg0.N) (y : S1024x1024.Idx) (r : Fin 16384) (x : Fin 4096)
    (e0 : r.val = t.val / 16 * 1024 + (y 0).val) (e1 : x.val = t.val / 4 % 4 * 1024 + (y 1).val) :
    (iblk m c 2 t y : EReal) = m ((c : Thread nD τ).loc main_arg2) (ix2 r x) := by
  rw [← V_main_arg2 m c]
  blk_ext [iblk, idx_val t]

theorem blk3 (t : Fin cfg0.N) (y : S1x1x1024.Idx) (b : Fin 36) (x : Fin 4096)
    (e0 : b.val = t.val / 64 * 9 + 8) (e1 : x.val = t.val / 4 % 4 * 1024 + (y 2).val) :
    (iblk m c 3 t y : EReal) = V m c main_v5 (ix3 b 0 x) := by
  blk_ext [iblk, idx_val t]

theorem pay1_at (a : Vec Ideal S1024x2816 .bf16) (w : Vec Ideal S2816x1024 .bf16) (p q : Fin 1024) :
    (k0_pay1 a w (ix2 p q) : EReal) = ∑ k : Fin 2816, @HMul.hMul EReal EReal EReal _ (a (ix2 p k)) (w (ix2 k q)) := by
  pointwise [k0_pay1]

theorem pay2_at (s : Vec Ideal S1024x1024 .f32) (a : Vec Ideal S1024x2816 .bf16) (w : Vec Ideal S2816x1024 .bf16) (p q : Fin 1024) :
    (k0_pay2 s a w (ix2 p q) : EReal) = @HAdd.hAdd EReal EReal EReal _ (s (ix2 p q)) (∑ k : Fin 2816, @HMul.hMul EReal EReal EReal _ (a (ix2 p k)) (w (ix2 k q))) := by
  pointwise [k0_pay2]

theorem pay3_at (s : Vec Ideal S1024x1024 .f32) (a : Vec Ideal S1024x2816 .bf16) (w : Vec Ideal S2816x1024 .bf16) (x : Vec Ideal S1024x1024 .f32) (g : Vec Ideal S1x1x1024 .f32) (p q : Fin 1024) :
    (k0_pay3 s a w x g (ix2 p q) : EReal) = @HAdd.hAdd EReal EReal EReal _ (x (ix2 p q)) (Ideal.ofBits .f32 0x3F000000#32 * (g (ix3 0 0 q) : EReal) * @HAdd.hAdd EReal EReal EReal _ (s (ix2 p q)) (∑ k : Fin 2816, @HMul.hMul EReal EReal EReal _ (a (ix2 p k)) (w (ix2 k q)))) := by
  pointwise [k0_pay3]

theorem sA (t : Fin cfg0.N) (h : t.val % 4 = 0) : (outsAt0 m c t.val t.isLt).2 = k0_pay1 (iblk m c 0 t) (iblk m c 1 t) := by
  rw [outsAt0_A m c t h (by omega) (by omega)]
  frame_out

theorem sB (t : Fin cfg0.N) (h : 1 ≤ t.val % 4 ∧ t.val % 4 ≤ 2) :
    (outsAt0 m c t.val t.isLt).2 = k0_pay2 (outsAt0 m c (t.val - 1) (Nat.lt_of_le_of_lt (Nat.sub_le _ _) t.isLt)).2 (iblk m c 0 t) (iblk m c 1 t) := by
  rw [outsAt0_B m c t (by omega) h (by omega)]
  frame_out
  exact congrArg (fun s => k0_pay2 s (iblk m c 0 t) (iblk m c 1 t)) (Memref.IsWhole.read_unread (Memref.isWhole_whole cc0_scratch0) _)

theorem sC (t : Fin cfg0.N) (h : t.val % 4 = 3) :
    (outsAt0 m c t.val t.isLt).1 = k0_pay3 (outsAt0 m c (t.val - 1) (Nat.lt_of_le_of_lt (Nat.sub_le _ _) t.isLt)).2 (iblk m c 0 t) (iblk m c 1 t) (iblk m c 2 t) (iblk m c 3 t) := by
  rw [outsAt0_C m c t (by omega) (by omega) h]
  frame_out
  exact congrArg (fun s => k0_pay3 s (iblk m c 0 t) (iblk m c 1 t) (iblk m c 2 t) (iblk m c 3 t)) (Memref.IsWhole.read_unread (Memref.isWhole_whole cc0_scratch0) _)

/-- One product of the contraction, nothing past the weight's rows. -/
def term (a : S16384x11008.Idx → EReal) (w : S1x11008x4096.Idx → EReal) (r : Fin 16384) (x : Fin 4096) (k : ℕ) : EReal :=
  if h : k < 11008 then a (ix2 r ⟨k, h⟩) * w (ix3 0 ⟨k, h⟩ x) else 0

/-- The four pieces of the contraction make the whole. -/
theorem term_sum (a : S16384x11008.Idx → EReal) (w : S1x11008x4096.Idx → EReal) (r : Fin 16384) (x : Fin 4096) :
    (∑ k : Fin 2816, term a w r x (0 * 2816 + k.val)) + (∑ k : Fin 2816, term a w r x (1 * 2816 + k.val))
      + (∑ k : Fin 2816, term a w r x (2 * 2816 + k.val)) + (∑ k : Fin 2816, term a w r x (3 * 2816 + k.val))
      = ∑ k : Fin 11008, a (ix2 r k) * w (ix3 0 k x) := by
  have h : ∑ k : Fin 11008, a (ix2 r k) * w (ix3 0 k x) = ∑ k : Fin 11008, term a w r x k.val :=
    Finset.sum_congr rfl fun k _ => by unfold term; rw [dif_pos k.isLt]
  have h0 : ∑ k ∈ Finset.range 256, term a w r x (11008 + k) = 0 :=
    Finset.sum_eq_zero fun k _ => by unfold term; rw [dif_neg (by omega)]
  rw [h, Fin.sum_univ_eq_sum_range (fun k => term a w r x k) 11008, Fin.sum_univ_eq_sum_range (fun k => term a w r x (0 * 2816 + k)) 2816,
    Fin.sum_univ_eq_sum_range (fun k => term a w r x (1 * 2816 + k)) 2816, Fin.sum_univ_eq_sum_range (fun k => term a w r x (2 * 2816 + k)) 2816,
    Fin.sum_univ_eq_sum_range (fun k => term a w r x (3 * 2816 + k)) 2816]
  have e := Finset.sum_range_add (fun k => term a w r x k) 11008 256
  rw [h0, add_zero] at e
  have e3 := Finset.sum_range_add (fun k => term a w r x k) 8448 2816
  have e2 := Finset.sum_range_add (fun k => term a w r x k) 5632 2816
  have e1 := Finset.sum_range_add (fun k => term a w r x k) 2816 2816
  rw [← e, show 11008 + 256 = 8448 + 2816 from rfl, e3, show 8448 = 5632 + 2816 from rfl, e2, show 5632 = 2816 + 2816 from rfl, e1]
  simp only [Nat.zero_mul, Nat.zero_add, Nat.one_mul]

theorem part_at (t : Fin cfg0.N) (j : ℕ) (hj : t.val % 4 = j) (p q : Fin 1024) (r : Fin 16384) (x : Fin 4096)
    (hr : r.val = t.val / 16 * 1024 + p.val) (hx : x.val = t.val / 4 % 4 * 1024 + q.val) :
    (∑ k : Fin 2816, @HMul.hMul EReal EReal EReal _ (iblk m c 0 t (ix2 p k)) (iblk m c 1 t (ix2 k q)))
      = ∑ k : Fin 2816, term (m ((c : Thread nD τ).loc main_arg0)) (m ((c : Thread nD τ).loc main_arg1)) r x (j * 2816 + k.val) := by
  subst hj
  refine Finset.sum_congr rfl fun k _ => ?_
  have hk : t.val % 4 * 2816 + k.val < 11264 := by have := k.isLt; omega
  rw [blk0 m c t (ix2 p k) r ⟨_, hk⟩ hr rfl, blk1 m c t (ix2 k q) ⟨_, hk⟩ x rfl hx, a_at, w_at]
  unfold term
  by_cases h : t.val % 4 * 2816 + k.val < 11008
  · simp only [dif_pos h]
  · simp only [dif_neg h, mul_zero]

theorem acc0 (t : Fin cfg0.N) (h : t.val % 4 = 0) (p q : Fin 1024) (r : Fin 16384) (x : Fin 4096)
    (hr : r.val = t.val / 16 * 1024 + p.val) (hx : x.val = t.val / 4 % 4 * 1024 + q.val) :
    ((outsAt0 m c t.val t.isLt).2 (ix2 p q) : EReal) = ∑ k : Fin 2816, term (m ((c : Thread nD τ).loc main_arg0)) (m ((c : Thread nD τ).loc main_arg1)) r x (0 * 2816 + k.val) := by
  rw [sA m c t h, pay1_at, part_at m c t 0 h p q r x hr hx]

theorem acc1 (t : Fin cfg0.N) (h : t.val % 4 = 1) (p q : Fin 1024) (r : Fin 16384) (x : Fin 4096)
    (hr : r.val = t.val / 16 * 1024 + p.val) (hx : x.val = t.val / 4 % 4 * 1024 + q.val) :
    ((outsAt0 m c t.val t.isLt).2 (ix2 p q) : EReal) = (∑ k : Fin 2816, term (m ((c : Thread nD τ).loc main_arg0)) (m ((c : Thread nD τ).loc main_arg1)) r x (0 * 2816 + k.val))
      + ∑ k : Fin 2816, term (m ((c : Thread nD τ).loc main_arg0)) (m ((c : Thread nD τ).loc main_arg1)) r x (1 * 2816 + k.val) := by
  rw [sB m c t (by omega), pay2_at, part_at m c t 1 h p q r x hr hx,
    acc0 m c ⟨t.val - 1, Nat.lt_of_le_of_lt (Nat.sub_le _ _) t.isLt⟩ (by show (t.val - 1) % 4 = 0; omega) p q r x (by show r.val = (t.val - 1) / 16 * 1024 + p.val; omega) (by show x.val = (t.val - 1) / 4 % 4 * 1024 + q.val; omega)]

theorem acc2 (t : Fin cfg0.N) (h : t.val % 4 = 2) (p q : Fin 1024) (r : Fin 16384) (x : Fin 4096)
    (hr : r.val = t.val / 16 * 1024 + p.val) (hx : x.val = t.val / 4 % 4 * 1024 + q.val) :
    ((outsAt0 m c t.val t.isLt).2 (ix2 p q) : EReal) = (∑ k : Fin 2816, term (m ((c : Thread nD τ).loc main_arg0)) (m ((c : Thread nD τ).loc main_arg1)) r x (0 * 2816 + k.val))
      + (∑ k : Fin 2816, term (m ((c : Thread nD τ).loc main_arg0)) (m ((c : Thread nD τ).loc main_arg1)) r x (1 * 2816 + k.val))
      + ∑ k : Fin 2816, term (m ((c : Thread nD τ).loc main_arg0)) (m ((c : Thread nD τ).loc main_arg1)) r x (2 * 2816 + k.val) := by
  rw [sB m c t (by omega), pay2_at, part_at m c t 2 h p q r x hr hx,
    acc1 m c ⟨t.val - 1, Nat.lt_of_le_of_lt (Nat.sub_le _ _) t.isLt⟩ (by show (t.val - 1) % 4 = 1; omega) p q r x (by show r.val = (t.val - 1) / 16 * 1024 + p.val; omega) (by show x.val = (t.val - 1) / 4 % 4 * 1024 + q.val; omega)]

/-- The value at row `r`, column `x`: the residual plus half the gate times the product. -/
def outF (a : S16384x11008.Idx → EReal) (w : S1x11008x4096.Idx → EReal) (z : S16384x4096.Idx → EReal) (g : S4x36864.Idx → EReal) (r : Fin 16384) (x : Fin 4096) : EReal :=
  z (ix2 r x) + Ideal.ofBits .f32 0x3F000000#32 * g (ix2 ⟨r.val / 4096, by omega⟩ ⟨32768 + x.val, by omega⟩) * ∑ k : Fin 11008, a (ix2 r k) * w (ix3 0 k x)

theorem point (t : Fin cfg0.N) (h : t.val % 4 = 3) (p q : Fin 1024) (r : Fin 16384) (x : Fin 4096)
    (hr : r.val = t.val / 16 * 1024 + p.val) (hx : x.val = t.val / 4 % 4 * 1024 + q.val) :
    ((outsAt0 m c t.val t.isLt).1 (ix2 p q) : EReal)
      = outF (m ((c : Thread nD τ).loc main_arg0)) (m ((c : Thread nD τ).loc main_arg1)) (m ((c : Thread nD τ).loc main_arg2)) (m ((c : Thread nD τ).loc main_arg3)) r x := by
  have ht := (idx_val t).2.2.2.2.2
  have hb : t.val / 64 * 9 + 8 < 36 := by omega
  have hp := p.isLt
  rw [sC m c t h, pay3_at, part_at m c t 3 h p q r x hr hx,
    acc2 m c ⟨t.val - 1, Nat.lt_of_le_of_lt (Nat.sub_le _ _) t.isLt⟩ (by show (t.val - 1) % 4 = 2; omega) p q r x (by show r.val = (t.val - 1) / 16 * 1024 + p.val; omega) (by show x.val = (t.val - 1) / 4 % 4 * 1024 + q.val; omega),
    term_sum, blk2 m c t (ix2 p q) r x hr hx, blk3 m c t (ix3 0 0 q) ⟨_, hb⟩ x rfl hx,
    g_at m c ⟨_, hb⟩ x ⟨r.val / 4096, by omega⟩ ⟨32768 + x.val, by omega⟩ (by show r.val / 4096 * 36864 + (32768 + x.val) = (t.val / 64 * 9 + 8) * 4096 + x.val; omega)]
  rfl

theorem final : (dats m 0 c).arrAt 4 cfg0.N = fun y : S16384x4096.Idx =>
    outF (m ((c : Thread nD τ).loc main_arg0)) (m ((c : Thread nD τ).loc main_arg1)) (m ((c : Thread nD τ).loc main_arg2)) (m ((c : Thread nD τ).loc main_arg3)) (y 0) (y 1) := by
  refine (dats m 0 c).arrAt_eq_of_covers 4 _ (by decide +kernel) fun t hf y => ?_
  blk_simp
  rw [after0_4]
  obtain ⟨p, q, rfl⟩ : ∃ (p q : Fin 1024), y = ix2 p q := ⟨y 0, y 1, by funext a; match a with | 0 => rfl | 1 => rfl⟩
  have h := (idx_val t).2.2.2.2.1
  have e0 : win0_4.index t 0 = t.val / 16 := congrFun h 0
  have e1 : win0_4.index t 1 = t.val / 4 % 4 := congrFun h 1
  refine point m c t (flush_val t hf) p q _ _ ?_ ?_
  · blk_simp
    rw [e0]
  · blk_simp
    rw [e1]

end Cert.Kernel3Ideal.Out
-- ==== Proof.Ffn.OutRef.lean ====
module

public import proofs.«01_k».proof.Proof.Ffn.Out
public import proofs.«01_k».proof.Proof.Gen.Reference3Ideal.Run

/-! The reference's result of the feed-forward part's second call, index by index. -/

@[expose] public section
set_option maxRecDepth 16384
noncomputable section
namespace Cert.Reference3Ideal.Out
open Cert.Reference3Ideal Cert.Reference3Ideal.Gen
open Idealize.ShloMosaic Idealize.ShloMosaic.TcCoe Idealize.SL.Sem Idealize.ShloMosaic.StableHlo

theorem ref (a : FVec Ideal S16384x11008 .f32) (w : FVec Ideal S1x11008x4096 .f32) (z : FVec Ideal S16384x4096 .f32) (g : FVec Ideal S4x36864 .f32) (r : Fin 16384) (x : Fin 4096) :
    ((shapeCast _ (addf (shapeCast _ z shapeCasts_S16384x4096_S4x4096x4096) (mulf (broadcastInDim S4x4096x4096 ![0, 1, 2] bcast_S4x1x4096_S4x4096x4096_0_1_2 (mulf (broadcastInDim S4x1x4096 ![] bcast_S_S4x1x4096 (constant S_ .f32 0x3F000000#32)) (broadcastInDim S4x1x4096 ![0, 2] bcast_S4x4096_S4x1x4096_0_2 (extractStridedSlice S4x4096 ![0, 32768] g slices_S4x36864_S4x4096_0_32768)))) (shapeCast _ (Host.dotGeneral dot_S16384x11008_S11008x4096_S16384x4096_1_0_0_1_n_n none a (shapeCast _ w shapeCasts_S1x11008x4096_S11008x4096)) shapeCasts_S16384x4096_S4x4096x4096))) shapeCasts_S4x4096x4096_S16384x4096 : FVec Ideal S16384x4096 .f32) (ix2 r x) : EReal)
      = Cert.Kernel3Ideal.Out.outF a w z g r x := by
  pointwise
  rfl

end Cert.Reference3Ideal.Out
-- ==== Proof.Ffn.Resume.lean ====
module

public import proofs.«01_k».proof.Proof.Ffn.In
public import proofs.«01_k».proof.Proof.Gen.Kernel4Ideal.Value
public import Idealize.ShloMosaic.Lib.Pipeline.ValueKit

/-! What the resumed first call of the feed-forward part leaves in its two arrays, over its arguments. -/

@[expose] public section
set_option maxRecDepth 16384
open scoped BigOperators
noncomputable section
namespace Cert.Kernel4Ideal.Resume
open Cert.Kernel4Ideal Cert.Kernel4Ideal.Gen
open Idealize.ShloMosaic Idealize.ShloMosaic.TcCoe Idealize.SL.Sem Idealize.ShloMosaic.StableHlo

variable (m : (ℓ : Loc nD τ sig) → Buf (Elt Ideal) ℓ) (c : Dev nD)

theorem idx_val : ∀ t : Fin cfg0.N, win0_0.index t = ![max (t.val / 22) 1, 0]
    ∧ win0_1.index t = ![0, t.val % 22] ∧ win0_2.index t = ![0, t.val % 22]
    ∧ win0_3.index t = ![0, if t.val < 22 then t.val else 21] ∧ win0_4.index t = ![0, min t.val 343, 0] ∧ win0_5.index t = ![t.val / 22, t.val % 22]
    ∧ win0_6.index t = ![t.val, 0] ∧ t.val < 352 :=
  (by decide +kernel : ∀ t : Fin grid0.N, _)

theorem pad_at (w : FVec Ideal S4096x11008 .bf16) (e : Fin 4096) (x : Fin 11264) :
    (pad S4096x11264 ![0, 0] ![0, 256] ![0, 0] w (sitofp .bf16 (constantI S_ 32 0#32) : FVec Ideal S_ .bf16) pads_S4096x11008_S4096x11264_000_02560 h_S_ (ix2 e x) : EReal)
      = if h : x.val < 11008 then (w (ix2 e ⟨x.val, h⟩) : EReal) else (0 : EReal) := by
  pointwise
  rw [show (FloatOps.sitofp .bf16 (0#32 : BitVec 32) : Ideal .bf16) = (0 : EReal) from by
    show (((0#32 : BitVec 32).toInt : ℝ) : EReal) = 0
    simp]

theorem pad_a0 (w : FVec Ideal S1024x11008 .bf16) (e : Fin 1024) (x : Fin 11264) :
    (pad S1024x11264 ![0, 0] ![0, 256] ![0, 0] w (sitofp .bf16 (constantI S_ 32 0#32) : FVec Ideal S_ .bf16) pads_S1024x11008_S1024x11264_000_02560 h_S_ (ix2 e x) : EReal)
      = if h : x.val < 11008 then (w (ix2 e ⟨x.val, h⟩) : EReal) else (0 : EReal) := by
  pointwise
  rw [show (FloatOps.sitofp .bf16 (0#32 : BitVec 32) : Ideal .bf16) = (0 : EReal) from by
    show (((0#32 : BitVec 32).toInt : ℝ) : EReal) = 0
    simp]

theorem h_at (r : Fin 16384) (e : Fin 4096) :
    (V m c main_v10 (ix2 r e) : EReal) = m ((c : Thread nD τ).loc main_arg0) (ix2 r e) := by
  simp only [V, hostOps0, hostOps0_1, hostOps0_2, hostOps0_3, hostOps0_4, hostOps0_5, hostOps0_6, List.flatten_cons, List.flatten_nil, List.append_nil, List.cons_append, List.nil_append]
  entry_read
  pointwise

theorem wg_at (e : Fin 4096) (x : Fin 11264) :
    (V m c main_v3 (ix2 e x) : EReal) = if h : x.val < 11008 then (m ((c : Thread nD τ).loc main_arg1) (ix3 0 e ⟨x.val, by omega⟩) : EReal) else (0 : EReal) := by
  simp only [V, hostOps0, hostOps0_1, hostOps0_2, hostOps0_3, hostOps0_4, hostOps0_5, hostOps0_6, List.flatten_cons, List.flatten_nil, List.append_nil, List.cons_append, List.nil_append]
  entry_read
  pointwise
  exact pad_at _ e x

theorem wu_at (e : Fin 4096) (x : Fin 11264) :
    (V m c main_v7 (ix2 e x) : EReal) = if h : x.val < 11008 then (m ((c : Thread nD τ).loc main_arg1) (ix3 0 e ⟨11008 + x.val, by omega⟩) : EReal) else (0 : EReal) := by
  simp only [V, hostOps0, hostOps0_1, hostOps0_2, hostOps0_3, hostOps0_4, hostOps0_5, hostOps0_6, List.flatten_cons, List.flatten_nil, List.append_nil, List.cons_append, List.nil_append]
  entry_read
  pointwise
  exact pad_at _ e x

theorem a0_at (e : Fin 1024) (x : Fin 11264) :
    (V m c main_v9 (ix2 e x) : EReal) = if h : x.val < 11008 then (m ((c : Thread nD τ).loc main_arg3) (ix2 e ⟨x.val, h⟩) : EReal) else (0 : EReal) := by
  simp only [V, hostOps0, hostOps0_1, hostOps0_2, hostOps0_3, hostOps0_4, hostOps0_5, hostOps0_6, List.flatten_cons, List.flatten_nil, List.append_nil, List.cons_append, List.nil_append]
  entry_read
  pointwise
  exact pad_a0 _ e x

theorem pay1_eq (a : Vec Ideal S1024x512 .bf16) (r : Fin 1024) (x : Fin 512) : (k0_pay1 a (ix2 r x) : EReal) = a (ix2 r x) := by
  pointwise [k0_pay1]

theorem pay2_at (h : Vec Ideal S1024x4096 .bf16) (wg wu : Vec Ideal S4096x512 .bf16) (r : Fin 1024) (x : Fin 512) :
    (k0_pay2 h wg wu (ix2 r x) : EReal) = Cert.Ffn.silu (∑ e : Fin 4096, @HMul.hMul EReal EReal EReal _ (h (ix2 r e)) (wg (ix2 e x))) * (∑ e : Fin 4096, @HMul.hMul EReal EReal EReal _ (h (ix2 r e)) (wu (ix2 e x))) := by
  pointwise [k0_pay2]
  exact congrArg (· * _) (Cert.Ffn.silu_eq _)

theorem cond_val : ∀ t : Fin cfg0.N,
    Scalar.cmpi .slt (Scalar.addi (Scalar.muli (BitVec.ofNat 32 (grid0.coords t 0).val) 22#32) (BitVec.ofNat 32 (grid0.coords t 1).val)) 344#32
      = if t.val < 344 then 1#1 else 0#1 :=
  (by decide +kernel : ∀ t : Fin grid0.N, _)

theorem pay3_at (t : Fin cfg0.N) (w : Vec Ideal S1x32x4096 .f32) (r : Fin 32) (x : Fin 4096) :
    (k0_pay3 (grid0.coords t) w (ix2 r x) : EReal) = if t.val < 344 then (w (ix3 0 r x) : EReal) else (0 : EReal) := by
  pointwise [k0_pay3]
  rw [cond_val t]
  by_cases h : t.val < 344
  · rw [if_pos h, if_pos h]; rfl
  · rw [if_neg h, if_neg h]; rfl

theorem blk0 (t : Fin cfg0.N) (y : S1024x4096.Idx) (r : Fin 16384) (e : Fin 4096)
    (e0 : r.val = max (t.val / 22) 1 * 1024 + (y 0).val) (e1 : e.val = (y 1).val) :
    (iblk m c 0 t y : EReal) = V m c main_v10 (ix2 r e) := by
  blk_ext [iblk, idx_val t]

theorem blk1 (t : Fin cfg0.N) (y : S4096x512.Idx) (e : Fin 4096) (x : Fin 11264)
    (e0 : e.val = (y 0).val) (e1 : x.val = t.val % 22 * 512 + (y 1).val) :
    (iblk m c 1 t y : EReal) = V m c main_v3 (ix2 e x) := by
  blk_ext [iblk, idx_val t]

theorem blk2 (t : Fin cfg0.N) (y : S4096x512.Idx) (e : Fin 4096) (x : Fin 11264)
    (e0 : e.val = (y 0).val) (e1 : x.val = t.val % 22 * 512 + (y 1).val) :
    (iblk m c 2 t y : EReal) = V m c main_v7 (ix2 e x) := by
  blk_ext [iblk, idx_val t]

theorem blk3 (t : Fin cfg0.N) (h : t.val < 22) (y : S1024x512.Idx) (r : Fin 1024) (x : Fin 11264)
    (e0 : r.val = (y 0).val) (e1 : x.val = t.val * 512 + (y 1).val) :
    (iblk m c 3 t y : EReal) = V m c main_v9 (ix2 r x) := by
  have e := (idx_val t).2.2.2.1
  rw [if_pos h] at e
  blk_ext [iblk, e]

theorem blk4 (t : Fin cfg0.N) (y : S1x32x4096.Idx) (r : Fin 11008) (x : Fin 4096)
    (e0 : r.val = min t.val 343 * 32 + (y 1).val) (e1 : x.val = (y 2).val) :
    (iblk m c 4 t y : EReal) = m ((c : Thread nD τ).loc main_arg2) (ix3 0 r x) := by
  rw [← V_main_arg2 m c]
  blk_ext [iblk, idx_val t]

/-- The value at row `r`, column `x` of the first result: the rows given, then the reference's plain formula. -/
def outB (h : S16384x4096.Idx → EReal) (w : S1x4096x22016.Idx → EReal) (a0 : S1024x11008.Idx → EReal) (r : Fin 16384) (x : Fin 11264) : EReal :=
  if hr : r.val < 1024 then (if hx : x.val < 11008 then a0 (ix2 ⟨r.val, hr⟩ ⟨x.val, hx⟩) else 0) else Cert.Kernel2Ideal.In.outA h w r x

theorem point4 (t : Fin cfg0.N) (p : Fin 1024) (q : Fin 512) (r : Fin 16384) (x : Fin 11264)
    (ht : 22 ≤ t.val) (hr : r.val = t.val / 22 * 1024 + p.val) (hx : x.val = t.val % 22 * 512 + q.val) :
    (k0_pay2 (iblk m c 0 t) (iblk m c 1 t) (iblk m c 2 t) (ix2 p q) : EReal)
      = Cert.Kernel2Ideal.In.outA (m ((c : Thread nD τ).loc main_arg0)) (m ((c : Thread nD τ).loc main_arg1)) r x := by
  rw [pay2_at]
  have hg : ∀ e : Fin 4096, @HMul.hMul EReal EReal EReal _ (iblk m c 0 t (ix2 p e)) (iblk m c 1 t (ix2 e q))
      = @HMul.hMul EReal EReal EReal _ (m ((c : Thread nD τ).loc main_arg0) (ix2 r e)) (if h : x.val < 11008 then (m ((c : Thread nD τ).loc main_arg1) (ix3 0 e ⟨x.val, by omega⟩) : EReal) else (0 : EReal)) := fun e => by
    rw [blk0 m c t (ix2 p e) r e (by show r.val = max (t.val / 22) 1 * 1024 + p.val; omega) rfl, blk1 m c t (ix2 e q) e x rfl hx, h_at, wg_at]
  have hu : ∀ e : Fin 4096, @HMul.hMul EReal EReal EReal _ (iblk m c 0 t (ix2 p e)) (iblk m c 2 t (ix2 e q))
      = @HMul.hMul EReal EReal EReal _ (m ((c : Thread nD τ).loc main_arg0) (ix2 r e)) (if h : x.val < 11008 then (m ((c : Thread nD τ).loc main_arg1) (ix3 0 e ⟨11008 + x.val, by omega⟩) : EReal) else (0 : EReal)) := fun e => by
    rw [blk0 m c t (ix2 p e) r e (by show r.val = max (t.val / 22) 1 * 1024 + p.val; omega) rfl, blk2 m c t (ix2 e q) e x rfl hx, h_at, wu_at]
  refine (congrArg₂ (fun a b => Cert.Ffn.silu a * b) (Finset.sum_congr rfl fun e _ => hg e) (Finset.sum_congr rfl fun e _ => hu e)).trans ?_
  unfold Cert.Kernel2Ideal.In.outA
  by_cases h : x.val < 11008
  · simp only [dif_pos h]
  · simp only [dif_neg h, mul_zero, Finset.sum_const_zero]

theorem point4_all (t : Fin cfg0.N) (p : Fin 1024) (q : Fin 512) (r : Fin 16384) (x : Fin 11264)
    (hr : r.val = t.val / 22 * 1024 + p.val) (hx : x.val = t.val % 22 * 512 + q.val) :
    ((outsAt0 m c t.val t.isLt).1 (ix2 p q) : EReal)
      = outB (m ((c : Thread nD τ).loc main_arg0)) (m ((c : Thread nD τ).loc main_arg1)) (m ((c : Thread nD τ).loc main_arg3)) r x := by
  have hp := p.isLt
  unfold outB
  by_cases h : t.val < 22
  · have hr' : r.val < 1024 := by omega
    have e : (outsAt0 m c t.val t.isLt).1 = k0_pay1 (iblk m c 3 t) := by
      rw [outsAt0_A m c t h (by omega)]
      frame_out
    rw [e, pay1_eq, blk3 m c t h (ix2 p q) ⟨r.val, hr'⟩ x (by show r.val = p.val; omega) (by show x.val = t.val * 512 + q.val; omega), a0_at, dif_pos hr']
  · have e : (outsAt0 m c t.val t.isLt).1 = k0_pay2 (iblk m c 0 t) (iblk m c 1 t) (iblk m c 2 t) := by
      rw [outsAt0_B m c t h (by omega)]
      frame_out
    rw [e, point4 m c t p q r x (by omega) hr hx, dif_neg (by omega)]

theorem final5 : (dats m 0 c).arrAt 5 cfg0.N = fun y : S16384x11264.Idx => outB (m ((c : Thread nD τ).loc main_arg0)) (m ((c : Thread nD τ).loc main_arg1)) (m ((c : Thread nD τ).loc main_arg3)) (y 0) (y 1) := by
  refine (dats m 0 c).arrAt_eq_of_covers 5 _ (by decide +kernel) fun t _ y => ?_
  blk_simp
  rw [after0_5]
  obtain ⟨p, q, rfl⟩ : ∃ (p : Fin 1024) (q : Fin 512), y = ix2 p q := ⟨y 0, y 1, by funext a; match a with | 0 => rfl | 1 => rfl⟩
  have h := (idx_val t).2.2.2.2.2.1
  have e0 : win0_5.index t 0 = t.val / 22 := congrFun h 0
  have e1 : win0_5.index t 1 = t.val % 22 := congrFun h 1
  refine point4_all m c t p q _ _ ?_ ?_
  · blk_simp
    rw [e0]
  · blk_simp
    rw [e1]

theorem point6 (t : Fin cfg0.N) (p : Fin 32) (x : Fin 4096) (r : Fin 11264) (x' : Fin 4096) (hr : r.val = t.val * 32 + p.val) (hx : x'.val = x.val) :
    (k0_pay3 (grid0.coords t) (iblk m c 4 t) (ix2 p x) : EReal) = Cert.Kernel2Ideal.In.outW (m ((c : Thread nD τ).loc main_arg2)) r x' := by
  rw [pay3_at]
  unfold Cert.Kernel2Ideal.In.outW
  have := p.isLt
  by_cases h : t.val < 344
  · have h' : r.val < 11008 := by omega
    rw [if_pos h, dif_pos h', blk4 m c t (ix3 0 p x) ⟨r.val, h'⟩ x' (by show r.val = min t.val 343 * 32 + p.val; omega) hx]
  · rw [if_neg h, dif_neg (by omega)]

theorem final6 : (dats m 0 c).arrAt 6 cfg0.N = fun y : S11264x4096.Idx => Cert.Kernel2Ideal.In.outW (m ((c : Thread nD τ).loc main_arg2)) (y 0) (y 1) := by
  refine (dats m 0 c).arrAt_eq_of_covers 6 _ (by decide +kernel) fun t _ y => ?_
  blk_simp
  rw [after0_6]
  have e : (outsAt0 m c t.val t.isLt).2 = k0_pay3 (grid0.coords t) (iblk m c 4 t) := by
    by_cases h : t.val < 22
    · rw [outsAt0_A m c t h (by omega)]
      frame_out
    · rw [outsAt0_B m c t h (by omega)]
      frame_out
  rw [e]
  obtain ⟨p, q, rfl⟩ : ∃ (p : Fin 32) (q : Fin 4096), y = ix2 p q := ⟨y 0, y 1, by funext a; match a with | 0 => rfl | 1 => rfl⟩
  have h := (idx_val t).2.2.2.2.2.2.1
  have e0 : win0_6.index t 0 = t.val := congrFun h 0
  have e1 : win0_6.index t 1 = 0 := congrFun h 1
  refine point6 m c t p q _ _ ?_ ?_
  · blk_simp
    rw [e0]
  · blk_simp
    rw [e1, Nat.zero_mul, Nat.zero_add]

end Cert.Kernel4Ideal.Resume
-- ==== Proof.Ffn.ResumeRef.lean ====
module

public import proofs.«01_k».proof.Proof.Ffn.Resume
public import proofs.«01_k».proof.Proof.Gen.Reference4Ideal.Run

/-! The reference's two results of the resumed first call of the feed-forward part, index by index. -/

@[expose] public section
set_option maxRecDepth 16384
open scoped BigOperators
noncomputable section
namespace Cert.Reference4Ideal.Resume
open Cert.Reference4Ideal Cert.Reference4Ideal.Gen
open Idealize.ShloMosaic Idealize.ShloMosaic.TcCoe Idealize.SL.Sem Idealize.ShloMosaic.StableHlo

theorem zero_i : (FloatOps.sitofp .f32 (0#32 : BitVec 32) : Ideal .f32) = (0 : EReal) := by
  show (((0#32 : BitVec 32).toInt : ℝ) : EReal) = 0
  simp

theorem cat_lo (a : FVec Ideal S1024x11008 .f32) (b : FVec Ideal S15360x11008 .f32) (r : Fin 16384) (x : Fin 11008) (hr : r.val < 1024) :
    (concatenate S16384x11008 0 [⟨S1024x11008, a⟩, ⟨S15360x11008, b⟩] concatenates_S1024x11008_S15360x11008_S16384x11008_d0 (ix2 r x) : Ideal .f32) = a (ix2 ⟨r.val, hr⟩ x) :=
  concatenate_pair_apply_left (t := S16384x11008) (s₁ := S1024x11008) (s₂ := S15360x11008) 0 a b _ (ix2 r x) rfl (ix2 ⟨r.val, hr⟩ x) fun k => by
    match k with | 0 => rfl | 1 => rfl

theorem cat_hi (a : FVec Ideal S1024x11008 .f32) (b : FVec Ideal S15360x11008 .f32) (r : Fin 16384) (x : Fin 11008) (hr : ¬r.val < 1024) :
    (concatenate S16384x11008 0 [⟨S1024x11008, a⟩, ⟨S15360x11008, b⟩] concatenates_S1024x11008_S15360x11008_S16384x11008_d0 (ix2 r x) : Ideal .f32) = b (ix2 ⟨r.val - 1024, by omega⟩ x) :=
  concatenate_pair_apply_right (t := S16384x11008) (s₁ := S1024x11008) (s₂ := S15360x11008) 0 a b _ (ix2 r x) rfl rfl (ix2 ⟨r.val - 1024, by omega⟩ x)
    (fun k hk => by match k with | 0 => exact absurd rfl hk | 1 => rfl) (by show r.val - 1024 + 1024 = r.val; omega)

theorem pad_at (v : FVec Ideal S16384x11008 .f32) (r : Fin 16384) (x : Fin 11264) :
    ((truncf .bf16 (pad S16384x11264 ![0, 0] ![0, 256] ![0, 0] v (sitofp .f32 (constantI S_ 32 0#32)) pads_S16384x11008_S16384x11264_000_02560 h_S_) bitsLt_bf16_f32 : FVec Ideal S16384x11264 .bf16) (ix2 r x) : EReal)
      = if h : x.val < 11008 then (v (ix2 r ⟨x.val, h⟩) : EReal) else (0 : EReal) := by
  pointwise
  rw [zero_i]

theorem act_at (h : FVec Ideal S16384x4096 .f32) (w : FVec Ideal S1x4096x22016 .f32) (r : Fin 15360) (x : Fin 11008) :
    (((extractStridedSlice S15360x11008 ![1024, 0] (mulf (mulf (extractStridedSlice S16384x11008 ![0, 0] (Host.dotGeneral dot_S16384x4096_S4096x22016_S16384x22016_1_0_0_1_n_n none h (shapeCast _ w shapeCasts_S1x4096x22016_S4096x22016)) slices_S16384x22016_S16384x11008_0_0) (Host.divf (broadcastInDim S16384x11008 ![] bcast_S_S16384x11008 (constant S_ .f32 0x3F800000#32)) (addf (broadcastInDim S16384x11008 ![] bcast_S_S16384x11008 (constant S_ .f32 0x3F800000#32)) (Host.exp (Host.negf (extractStridedSlice S16384x11008 ![0, 0] (Host.dotGeneral dot_S16384x4096_S4096x22016_S16384x22016_1_0_0_1_n_n none h (shapeCast _ w shapeCasts_S1x4096x22016_S4096x22016)) slices_S16384x22016_S16384x11008_0_0)))))) (extractStridedSlice S16384x11008 ![0, 11008] (Host.dotGeneral dot_S16384x4096_S4096x22016_S16384x22016_1_0_0_1_n_n none h (shapeCast _ w shapeCasts_S1x4096x22016_S4096x22016)) slices_S16384x22016_S16384x11008_0_11008)) slices_S16384x11008_S15360x11008_1024_0) : FVec Ideal S15360x11008 .f32) (ix2 r x) : EReal)
      = Cert.Ffn.silu (∑ e : Fin 4096, @HMul.hMul EReal EReal EReal _ (h (ix2 ⟨1024 + r.val, by omega⟩ e)) (w (ix3 0 e ⟨x.val, by omega⟩))) * (∑ e : Fin 4096, @HMul.hMul EReal EReal EReal _ (h (ix2 ⟨1024 + r.val, by omega⟩ e)) (w (ix3 0 e ⟨11008 + x.val, by omega⟩))) := by
  pointwise
  unfold Cert.Ffn.silu
  rw [Cert.Ffn.one_f32, EReal.coe_one]

theorem ref_a (h : FVec Ideal S16384x4096 .f32) (w : FVec Ideal S1x4096x22016 .f32) (a0 : FVec Ideal S1024x11008 .f32) (r : Fin 16384) (x : Fin 11264) :
    ((truncf .bf16 (pad S16384x11264 ![0, 0] ![0, 256] ![0, 0] (concatenate S16384x11008 0 [⟨S1024x11008, a0⟩, ⟨S15360x11008, (extractStridedSlice S15360x11008 ![1024, 0] (mulf (mulf (extractStridedSlice S16384x11008 ![0, 0] (Host.dotGeneral dot_S16384x4096_S4096x22016_S16384x22016_1_0_0_1_n_n none h (shapeCast _ w shapeCasts_S1x4096x22016_S4096x22016)) slices_S16384x22016_S16384x11008_0_0) (Host.divf (broadcastInDim S16384x11008 ![] bcast_S_S16384x11008 (constant S_ .f32 0x3F800000#32)) (addf (broadcastInDim S16384x11008 ![] bcast_S_S16384x11008 (constant S_ .f32 0x3F800000#32)) (Host.exp (Host.negf (extractStridedSlice S16384x11008 ![0, 0] (Host.dotGeneral dot_S16384x4096_S4096x22016_S16384x22016_1_0_0_1_n_n none h (shapeCast _ w shapeCasts_S1x4096x22016_S4096x22016)) slices_S16384x22016_S16384x11008_0_0)))))) (extractStridedSlice S16384x11008 ![0, 11008] (Host.dotGeneral dot_S16384x4096_S4096x22016_S16384x22016_1_0_0_1_n_n none h (shapeCast _ w shapeCasts_S1x4096x22016_S4096x22016)) slices_S16384x22016_S16384x11008_0_11008)) slices_S16384x11008_S15360x11008_1024_0)⟩] concatenates_S1024x11008_S15360x11008_S16384x11008_d0) (sitofp .f32 (constantI S_ 32 0#32)) pads_S16384x11008_S16384x11264_000_02560 h_S_) bitsLt_bf16_f32 : FVec Ideal S16384x11264 .bf16) (ix2 r x) : EReal)
      = Cert.Kernel4Ideal.Resume.outB h w a0 r x := by
  rw [pad_at]
  unfold Cert.Kernel4Ideal.Resume.outB
  by_cases hr : r.val < 1024
  · rw [dif_pos hr]
    by_cases hx : x.val < 11008
    · rw [dif_pos hx, dif_pos hx]
      exact cat_lo _ _ r ⟨x.val, hx⟩ hr
    · rw [dif_neg hx, dif_neg hx]
  · rw [dif_neg hr]
    unfold Cert.Kernel2Ideal.In.outA
    by_cases hx : x.val < 11008
    · rw [dif_pos hx, dif_pos hx]
      refine (cat_hi _ _ r ⟨x.val, hx⟩ hr).trans ((act_at h w _ _).trans ?_)
      have e : ∀ H, (⟨1024 + (r.val - 1024), H⟩ : Fin 16384) = r := fun H => Fin.ext (by show 1024 + (r.val - 1024) = r.val; omega)
      simp only [e]
    · rw [dif_neg hx, dif_neg hx]

theorem ref_w (w : FVec Ideal S1x11008x4096 .f32) (r : Fin 11264) (x : Fin 4096) :
    ((truncf .bf16 (pad S11264x4096 ![0, 0] ![256, 0] ![0, 0] (shapeCast _ w shapeCasts_S1x11008x4096_S11008x4096) (sitofp .f32 (constantI S_ 32 0#32)) pads_S11008x4096_S11264x4096_02560_000 h_S_) bitsLt_bf16_f32 : FVec Ideal S11264x4096 .bf16) (ix2 r x) : EReal)
      = Cert.Kernel2Ideal.In.outW w r x := by
  pointwise
  rw [zero_i]
  rfl

end Cert.Reference4Ideal.Resume
-- ==== Proof.Ffn.First.lean ====
module

public import proofs.«01_k».proof.Proof.Ffn.In
public import proofs.«01_k».proof.Proof.Gen.Kernel5Ideal.Value
public import Idealize.ShloMosaic.Lib.Pipeline.ValueKit

/-! What the call for the first rows of the feed-forward part leaves in its three arrays, over its arguments. -/

@[expose] public section
set_option maxRecDepth 16384
open scoped BigOperators
noncomputable section
namespace Cert.Kernel5Ideal.First
open Cert.Kernel5Ideal Cert.Kernel5Ideal.Gen
open Idealize.ShloMosaic Idealize.ShloMosaic.TcCoe Idealize.SL.Sem Idealize.ShloMosaic.StableHlo

variable (m : (ℓ : Loc nD τ sig) → Buf (Elt Ideal) ℓ) (c : Dev nD)

theorem idx_val : ∀ t : Fin cfg0.N, win0_0.index t = ![0, 0]
    ∧ win0_1.index t = ![0, 0, min t.val 42] ∧ win0_2.index t = ![0, 0, 43 + min t.val 42]
    ∧ win0_3.index t = ![0, t.val] ∧ win0_4.index t = ![0, t.val]
    ∧ win0_5.index t = ![0, t.val] ∧ t.val < 44 :=
  (by decide +kernel : ∀ t : Fin grid0.N, _)

theorem h_at (r : Fin 16384) (e : Fin 4096) :
    (V m c main_v0 (ix2 r e) : EReal) = m ((c : Thread nD τ).loc main_arg0) (ix2 r e) := by
  entry_read
  pointwise

theorem cond_val : ∀ t : Fin cfg0.N,
    Scalar.cmpi .slt (BitVec.ofNat 32 (grid0.coords t 0).val) 43#32
      = if t.val < 43 then 1#1 else 0#1 :=
  (by decide +kernel : ∀ t : Fin grid0.N, _)

theorem pay1_at (t : Fin cfg0.N) (w : Vec Ideal S1x4096x256 .f32) (r : Fin 4096) (x : Fin 256) :
    (k0_pay1 (grid0.coords t) w (ix2 r x) : EReal) = if t.val < 43 then (w (ix3 0 r x) : EReal) else (0 : EReal) := by
  pointwise [k0_pay1]
  rw [cond_val t]
  by_cases h : t.val < 43
  · rw [if_pos h, if_pos h]; rfl
  · rw [if_neg h, if_neg h]; rfl

theorem pay2_at (t : Fin cfg0.N) (w : Vec Ideal S1x4096x256 .f32) (r : Fin 4096) (x : Fin 256) :
    (k0_pay2 (grid0.coords t) w (ix2 r x) : EReal) = if t.val < 43 then (w (ix3 0 r x) : EReal) else (0 : EReal) := by
  pointwise [k0_pay2]
  rw [cond_val t]
  by_cases h : t.val < 43
  · rw [if_pos h, if_pos h]; rfl
  · rw [if_neg h, if_neg h]; rfl

theorem pay3_at (t : Fin cfg0.N) (wg wu : Vec Ideal S1x4096x256 .f32) (h : Vec Ideal S1024x4096 .bf16) (r : Fin 1024) (x : Fin 256) :
    (k0_pay3 (grid0.coords t) wg wu h (ix2 r x) : EReal) = Cert.Ffn.silu (∑ e : Fin 4096, @HMul.hMul EReal EReal EReal _ (h (ix2 r e)) (k0_pay1 (grid0.coords t) wg (ix2 e x))) * (∑ e : Fin 4096, @HMul.hMul EReal EReal EReal _ (h (ix2 r e)) (k0_pay2 (grid0.coords t) wu (ix2 e x))) := by
  pointwise [k0_pay3]
  exact congrArg (· * _) (Cert.Ffn.silu_eq _)

theorem blk0 (t : Fin cfg0.N) (y : S1024x4096.Idx) (r : Fin 16384) (e : Fin 4096)
    (e0 : r.val = (y 0).val) (e1 : e.val = (y 1).val) :
    (iblk m c 0 t y : EReal) = V m c main_v0 (ix2 r e) := by
  blk_ext [iblk, idx_val t]

theorem blk1 (t : Fin cfg0.N) (y : S1x4096x256.Idx) (e : Fin 4096) (x : Fin 22016)
    (e0 : e.val = (y 1).val) (e1 : x.val = min t.val 42 * 256 + (y 2).val) :
    (iblk m c 1 t y : EReal) = m ((c : Thread nD τ).loc main_arg1) (ix3 0 e x) := by
  rw [← V_main_arg1 m c]
  blk_ext [iblk, idx_val t]

theorem blk2 (t : Fin cfg0.N) (y : S1x4096x256.Idx) (e : Fin 4096) (x : Fin 22016)
    (e0 : e.val = (y 1).val) (e1 : x.val = (43 + min t.val 42) * 256 + (y 2).val) :
    (iblk m c 2 t y : EReal) = m ((c : Thread nD τ).loc main_arg1) (ix3 0 e x) := by
  rw [← V_main_arg1 m c]
  blk_ext [iblk, idx_val t]

/-- The value at row `e`, column `x` of the second result: the gate half of the weight, then nothing. -/
def outG (w : S1x4096x22016.Idx → EReal) (e : Fin 4096) (x : Fin 11264) : EReal :=
  if hx : x.val < 11008 then w (ix3 0 e ⟨x.val, by omega⟩) else 0

/-- The value at row `e`, column `x` of the third result: the up half of the weight, then nothing. -/
def outU (w : S1x4096x22016.Idx → EReal) (e : Fin 4096) (x : Fin 11264) : EReal :=
  if hx : x.val < 11008 then w (ix3 0 e ⟨11008 + x.val, by omega⟩) else 0

theorem point4 (t : Fin cfg0.N) (e e' : Fin 4096) (q : Fin 256) (x : Fin 11264) (he : e'.val = e.val) (hx : x.val = t.val * 256 + q.val) :
    (k0_pay1 (grid0.coords t) (iblk m c 1 t) (ix2 e q) : EReal) = outG (m ((c : Thread nD τ).loc main_arg1)) e' x := by
  rw [pay1_at]
  unfold outG
  have := q.isLt
  by_cases h : t.val < 43
  · have h' : x.val < 11008 := by omega
    rw [if_pos h, dif_pos h', blk1 m c t (ix3 0 e q) e' ⟨x.val, by omega⟩ he (by show x.val = min t.val 42 * 256 + q.val; omega)]
  · rw [if_neg h, dif_neg (by omega)]

theorem point5 (t : Fin cfg0.N) (e e' : Fin 4096) (q : Fin 256) (x : Fin 11264) (he : e'.val = e.val) (hx : x.val = t.val * 256 + q.val) :
    (k0_pay2 (grid0.coords t) (iblk m c 2 t) (ix2 e q) : EReal) = outU (m ((c : Thread nD τ).loc main_arg1)) e' x := by
  rw [pay2_at]
  unfold outU
  have := q.isLt
  by_cases h : t.val < 43
  · have h' : x.val < 11008 := by omega
    rw [if_pos h, dif_pos h', blk2 m c t (ix3 0 e q) e' ⟨11008 + x.val, by omega⟩ he (by show 11008 + x.val = (43 + min t.val 42) * 256 + q.val; omega)]
  · rw [if_neg h, dif_neg (by omega)]

/-- The value at row `r`, column `x` of the first result: the plain formula at the first rows. -/
def outR (h : S16384x4096.Idx → EReal) (w : S1x4096x22016.Idx → EReal) (r : Fin 1024) (x : Fin 11264) : EReal :=
  Cert.Kernel2Ideal.In.outA h w (Fin.castLE (by decide) r) x

theorem point3_row (t : Fin cfg0.N) (p : Fin 1024) (q : Fin 256) (r : Fin 16384) (x : Fin 11264)
    (hr : r.val = p.val) (hx : x.val = t.val * 256 + q.val) :
    (k0_pay3 (grid0.coords t) (iblk m c 1 t) (iblk m c 2 t) (iblk m c 0 t) (ix2 p q) : EReal)
      = Cert.Kernel2Ideal.In.outA (m ((c : Thread nD τ).loc main_arg0)) (m ((c : Thread nD τ).loc main_arg1)) r x := by
  rw [pay3_at]
  have hg : ∀ e : Fin 4096, @HMul.hMul EReal EReal EReal _ (iblk m c 0 t (ix2 p e)) (k0_pay1 (grid0.coords t) (iblk m c 1 t) (ix2 e q))
      = @HMul.hMul EReal EReal EReal _ (m ((c : Thread nD τ).loc main_arg0) (ix2 r e)) (outG (m ((c : Thread nD τ).loc main_arg1)) e x) := fun e => by
    rw [blk0 m c t (ix2 p e) r e hr rfl, point4 m c t e e q x rfl hx, h_at]
  have hu : ∀ e : Fin 4096, @HMul.hMul EReal EReal EReal _ (iblk m c 0 t (ix2 p e)) (k0_pay2 (grid0.coords t) (iblk m c 2 t) (ix2 e q))
      = @HMul.hMul EReal EReal EReal _ (m ((c : Thread nD τ).loc main_arg0) (ix2 r e)) (outU (m ((c : Thread nD τ).loc main_arg1)) e x) := fun e => by
    rw [blk0 m c t (ix2 p e) r e hr rfl, point5 m c t e e q x rfl hx, h_at]
  refine (congrArg₂ (fun a b => Cert.Ffn.silu a * b) (Finset.sum_congr rfl fun e _ => hg e) (Finset.sum_congr rfl fun e _ => hu e)).trans ?_
  unfold Cert.Kernel2Ideal.In.outA outG outU
  by_cases h : x.val < 11008
  · simp only [dif_pos h]
  · simp only [dif_neg h, mul_zero, Finset.sum_const_zero]

theorem point3 (t : Fin cfg0.N) (p : Fin 1024) (q : Fin 256) (r : Fin 1024) (x : Fin 11264)
    (hr : r.val = p.val) (hx : x.val = t.val * 256 + q.val) :
    (k0_pay3 (grid0.coords t) (iblk m c 1 t) (iblk m c 2 t) (iblk m c 0 t) (ix2 p q) : EReal)
      = outR (m ((c : Thread nD τ).loc main_arg0)) (m ((c : Thread nD τ).loc main_arg1)) r x :=
  point3_row m c t p q (Fin.castLE (by decide) r) x hr hx

theorem final3 : (dats m 0 c).arrAt 3 cfg0.N = fun y : S1024x11264.Idx => outR (m ((c : Thread nD τ).loc main_arg0)) (m ((c : Thread nD τ).loc main_arg1)) (y 0) (y 1) := by
  refine (dats m 0 c).arrAt_eq_of_covers 3 _ (by decide +kernel) fun t _ y => ?_
  blk_simp
  rw [after0_3]
  frame_out
  obtain ⟨p, q, rfl⟩ : ∃ (p : Fin 1024) (q : Fin 256), y = ix2 p q := ⟨y 0, y 1, by funext a; match a with | 0 => rfl | 1 => rfl⟩
  have h := (idx_val t).2.2.2.1
  have e0 : win0_3.index t 0 = 0 := congrFun h 0
  have e1 : win0_3.index t 1 = t.val := congrFun h 1
  refine point3 m c t p q _ _ ?_ ?_
  · blk_simp
    rw [e0, Nat.zero_mul, Nat.zero_add]
  · blk_simp
    rw [e1]

theorem final4 : (dats m 0 c).arrAt 4 cfg0.N = fun y : S4096x11264.Idx => outG (m ((c : Thread nD τ).loc main_arg1)) (y 0) (y 1) := by
  refine (dats m 0 c).arrAt_eq_of_covers 4 _ (by decide +kernel) fun t _ y => ?_
  blk_simp
  rw [after0_4]
  frame_out
  obtain ⟨p, q, rfl⟩ : ∃ (p : Fin 4096) (q : Fin 256), y = ix2 p q := ⟨y 0, y 1, by funext a; match a with | 0 => rfl | 1 => rfl⟩
  have h := (idx_val t).2.2.2.2.1
  have e0 : win0_4.index t 0 = 0 := congrFun h 0
  have e1 : win0_4.index t 1 = t.val := congrFun h 1
  refine point4 m c t p _ q _ ?_ ?_
  · blk_simp
    rw [e0, Nat.zero_mul, Nat.zero_add]
  · blk_simp
    rw [e1]

theorem final5 : (dats m 0 c).arrAt 5 cfg0.N = fun y : S4096x11264.Idx => outU (m ((c : Thread nD τ).loc main_arg1)) (y 0) (y 1) := by
  refine (dats m 0 c).arrAt_eq_of_covers 5 _ (by decide +kernel) fun t _ y => ?_
  blk_simp
  rw [after0_5]
  frame_out
  obtain ⟨p, q, rfl⟩ : ∃ (p : Fin 4096) (q : Fin 256), y = ix2 p q := ⟨y 0, y 1, by funext a; match a with | 0 => rfl | 1 => rfl⟩
  have h := (idx_val t).2.2.2.2.2.1
  have e0 : win0_5.index t 0 = 0 := congrFun h 0
  have e1 : win0_5.index t 1 = t.val := congrFun h 1
  refine point5 m c t p _ q _ ?_ ?_
  · blk_simp
    rw [e0, Nat.zero_mul, Nat.zero_add]
  · blk_simp
    rw [e1]

end Cert.Kernel5Ideal.First
-- ==== Proof.Ffn.FirstRef.lean ====
module

public import proofs.«01_k».proof.Proof.Ffn.First
public import proofs.«01_k».proof.Proof.Gen.Reference5Ideal.Run

/-! The reference's three results of the call for the first rows of the feed-forward part, index by index. -/

@[expose] public section
set_option maxRecDepth 16384
noncomputable section
namespace Cert.Reference5Ideal.First
open Cert.Reference5Ideal Cert.Reference5Ideal.Gen
open Idealize.ShloMosaic Idealize.ShloMosaic.TcCoe Idealize.SL.Sem Idealize.ShloMosaic.StableHlo

theorem zero_i : (FloatOps.sitofp .f32 (0#32 : BitVec 32) : Ideal .f32) = (0 : EReal) := by
  show (((0#32 : BitVec 32).toInt : ℝ) : EReal) = 0
  simp

theorem ref_a (h : FVec Ideal S16384x4096 .f32) (w : FVec Ideal S1x4096x22016 .f32) (r : Fin 1024) (x : Fin 11264) :
    ((truncf .bf16 (pad S1024x11264 ![0, 0] ![0, 256] ![0, 0] (mulf (mulf (extractStridedSlice S1024x11008 ![0, 0] (Host.dotGeneral dot_S1024x4096_S4096x22016_S1024x22016_1_0_0_1_n_n none (extractStridedSlice S1024x4096 ![0, 0] h slices_S16384x4096_S1024x4096_0_0) (shapeCast _ w shapeCasts_S1x4096x22016_S4096x22016)) slices_S1024x22016_S1024x11008_0_0) (Host.divf (broadcastInDim S1024x11008 ![] bcast_S_S1024x11008 (constant S_ .f32 0x3F800000#32)) (addf (broadcastInDim S1024x11008 ![] bcast_S_S1024x11008 (constant S_ .f32 0x3F800000#32)) (Host.exp (Host.negf (extractStridedSlice S1024x11008 ![0, 0] (Host.dotGeneral dot_S1024x4096_S4096x22016_S1024x22016_1_0_0_1_n_n none (extractStridedSlice S1024x4096 ![0, 0] h slices_S16384x4096_S1024x4096_0_0) (shapeCast _ w shapeCasts_S1x4096x22016_S4096x22016)) slices_S1024x22016_S1024x11008_0_0)))))) (extractStridedSlice S1024x11008 ![0, 11008] (Host.dotGeneral dot_S1024x4096_S4096x22016_S1024x22016_1_0_0_1_n_n none (extractStridedSlice S1024x4096 ![0, 0] h slices_S16384x4096_S1024x4096_0_0) (shapeCast _ w shapeCasts_S1x4096x22016_S4096x22016)) slices_S1024x22016_S1024x11008_0_11008)) (sitofp .f32 (constantI S_ 32 0#32)) pads_S1024x11008_S1024x11264_000_02560 h_S_) bitsLt_bf16_f32 : FVec Ideal S1024x11264 .bf16) (ix2 r x) : EReal)
      = Cert.Kernel5Ideal.First.outR h w r x := by
  show _ = Cert.Kernel2Ideal.In.outA h w ⟨r.val, by omega⟩ x
  pointwise
  rw [zero_i]
  unfold Cert.Kernel2Ideal.In.outA Cert.Ffn.silu
  rw [Cert.Ffn.one_f32, EReal.coe_one]

theorem ref_g (w : FVec Ideal S1x4096x22016 .f32) (e : Fin 4096) (x : Fin 11264) :
    ((truncf .bf16 (pad S4096x11264 ![0, 0] ![0, 256] ![0, 0] (shapeCast _ (extractStridedSlice S1x4096x11008 ![0, 0, 0] w slices_S1x4096x22016_S1x4096x11008_0_0_0) shapeCasts_S1x4096x11008_S4096x11008) (sitofp .f32 (constantI S_ 32 0#32)) pads_S4096x11008_S4096x11264_000_02560 h_S_) bitsLt_bf16_f32 : FVec Ideal S4096x11264 .bf16) (ix2 e x) : EReal)
      = Cert.Kernel5Ideal.First.outG w e x := by
  pointwise
  rw [zero_i]
  rfl

theorem ref_u (w : FVec Ideal S1x4096x22016 .f32) (e : Fin 4096) (x : Fin 11264) :
    ((truncf .bf16 (pad S4096x11264 ![0, 0] ![0, 256] ![0, 0] (shapeCast _ (extractStridedSlice S1x4096x11008 ![0, 0, 11008] w slices_S1x4096x22016_S1x4096x11008_0_0_11008) shapeCasts_S1x4096x11008_S4096x11008) (sitofp .f32 (constantI S_ 32 0#32)) pads_S4096x11008_S4096x11264_000_02560 h_S_) bitsLt_bf16_f32 : FVec Ideal S4096x11264 .bf16) (ix2 e x) : EReal)
      = Cert.Kernel5Ideal.First.outU w e x := by
  pointwise
  rw [zero_i]
  rfl

end Cert.Reference5Ideal.First
-- ==== Proof.lean ====
/-
  The certificate: the frames of the kernel, of the kernel over the extended reals and of the reference, the one rewritten
  constant, and the equality of what the last two compute.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_finite
public import proofs.«01_k».proof.Proof.Gen.Kernel2
public import proofs.«01_k».proof.Proof.Gen.Kernel2.Frame
public import proofs.«01_k».proof.Proof.Gen.Kernel2Ideal
public import proofs.«01_k».proof.Proof.Gen.Reference2Ideal
public import proofs.«01_k».proof.Proof.Gen.Reference2Ideal.Run
public import proofs.«01_k».proof.Proof.Gen.Kernel2Ideal.Value
public import proofs.«01_k».proof.Proof.Gen.Kernel3
public import proofs.«01_k».proof.Proof.Gen.Kernel3.Frame
public import proofs.«01_k».proof.Proof.Gen.Kernel3Ideal
public import proofs.«01_k».proof.Proof.Gen.Reference3Ideal
public import proofs.«01_k».proof.Proof.Gen.Reference3Ideal.Run
public import proofs.«01_k».proof.Proof.Gen.Kernel3Ideal.Value
public import proofs.«01_k».proof.Proof.Gen.Kernel4
public import proofs.«01_k».proof.Proof.Gen.Kernel4.Frame
public import proofs.«01_k».proof.Proof.Gen.Kernel4Ideal
public import proofs.«01_k».proof.Proof.Gen.Reference4Ideal
public import proofs.«01_k».proof.Proof.Gen.Reference4Ideal.Run
public import proofs.«01_k».proof.Proof.Gen.Kernel4Ideal.Value
public import proofs.«01_k».proof.Proof.Gen.Kernel5
public import proofs.«01_k».proof.Proof.Gen.Kernel5.Frame
public import proofs.«01_k».proof.Proof.Gen.Kernel5Ideal
public import proofs.«01_k».proof.Proof.Gen.Reference5Ideal
public import proofs.«01_k».proof.Proof.Gen.Reference5Ideal.Run
public import proofs.«01_k».proof.Proof.Gen.Kernel5Ideal.Value
public import proofs.«01_k».proof.Proof.Fox.Frame
public import proofs.«01_k».proof.Proof.FoxK.Frame
public import proofs.«01_k».proof.Proof.Val.KernVal
public import proofs.«01_k».proof.Proof.Val.Ref
public import proofs.«01_k».proof.Proof.Val.Real
public import proofs.«01_k».proof.Proof.Ffn.InRef
public import proofs.«01_k».proof.Proof.Ffn.OutRef
public import proofs.«01_k».proof.Proof.Ffn.ResumeRef
public import proofs.«01_k».proof.Proof.Ffn.FirstRef
public import Idealize.ShloMosaic.Adequacy
public import Idealize.ShloMosaic.Init

@[expose] public section

noncomputable section

open Idealize.ShloMosaic Idealize.SL.Sem

/-- The reference runs from any memory with zero counters, leaves its arguments as they were and declares no semaphore. -/
theorem Cert.Proof.ref_frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
        ∧ r.2.sem = fun _ => 0) :=
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The kernel and the reference, both over the extended reals, end with the same array, from real arguments. -/
theorem Cert.Proof.equal : Cert.algebraic_KernelIdeal_ReferenceIdeal_pre_finite := by
  pair_intro
  · run_from Cert.KernelIdeal.Att.run_main m g
  · run_from Cert.ReferenceIdeal.Value.run m' g'
    obtain ⟨a0, a1, a2, a3, a4⟩ := hagree c
    obtain ⟨r0, r1, r2, r3⟩ := Cert.Softmax.real_of_pre _ _ _ _ _ (hpre c)
    have hq := Cert.Softmax.realAt_eq _ r0
    have hk := Cert.Softmax.realAt_eq _ r1
    have hv := Cert.Softmax.realAt_eq _ r2
    rw [Cert.ReferenceIdeal.Att.result_eq, a0, a1, a2, a3, a4]
    funext y
    exact (Cert.ReferenceIdeal.Att.result_real _ _ _ _ _ _ _ _ hq hk hv (fun a e => r3 (ix3 0 a e)) y).trans
      (congrFun (Cert.KernelIdeal.Att.final m c _ _ _ hq hk hv) y).symm

/-- The second reference runs from any memory with zero counters, leaves its arguments as they were and declares no semaphore. -/
theorem Cert.Proof.ref_frame2 (m : (ℓ : Loc Cert.Reference2Ideal.nD Cert.Reference2Ideal.τ Cert.Reference2Ideal.sig) → Buf (Elt Ideal) ℓ)
    (ρ : Dev Cert.Reference2Ideal.nD → PrngReg) :
    θ_run (Cert.Reference2Ideal.defs (F := Ideal)) (onTc (τ := Cert.Reference2Ideal.τ) (Cert.Reference2Ideal.main (F := Ideal)))
      ⟨m, fun _ => 0, ρ⟩ (fun r => (∀ c : Dev Cert.Reference2Ideal.nD,
        r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
        ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
        ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
        ∧ r.2.sem = fun _ => 0) :=
  (θ_run Cert.Reference2Ideal.defs _ _).mono
    (fun r h => ⟨fun c => (h c).2.2, Idealize.ShloMosaic.sem_eq_zero_of_no_sems (by decide) r.2⟩)
    (Cert.Reference2Ideal.Value.run (F := Ideal) m ρ)

/-- The third reference runs from any memory with zero counters, leaves its arguments as they were and declares no semaphore. -/
theorem Cert.Proof.ref_frame3 (m : (ℓ : Loc Cert.Reference3Ideal.nD Cert.Reference3Ideal.τ Cert.Reference3Ideal.sig) → Buf (Elt Ideal) ℓ)
    (ρ : Dev Cert.Reference3Ideal.nD → PrngReg) :
    θ_run (Cert.Reference3Ideal.defs (F := Ideal)) (onTc (τ := Cert.Reference3Ideal.τ) (Cert.Reference3Ideal.main (F := Ideal)))
      ⟨m, fun _ => 0, ρ⟩ (fun r => (∀ c : Dev Cert.Reference3Ideal.nD,
        r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
        ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
        ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
        ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
        ∧ r.2.sem = fun _ => 0) :=
  (θ_run Cert.Reference3Ideal.defs _ _).mono
    (fun r h => ⟨fun c => (h c).2, Idealize.ShloMosaic.sem_eq_zero_of_no_sems (by decide) r.2⟩)
    (Cert.Reference3Ideal.Value.run (F := Ideal) m ρ)

/-- The fourth reference runs from any memory with zero counters, leaves its arguments as they were and declares no semaphore. -/
theorem Cert.Proof.ref_frame4 (m : (ℓ : Loc Cert.Reference4Ideal.nD Cert.Reference4Ideal.τ Cert.Reference4Ideal.sig) → Buf (Elt Ideal) ℓ)
    (ρ : Dev Cert.Reference4Ideal.nD → PrngReg) :
    θ_run (Cert.Reference4Ideal.defs (F := Ideal)) (onTc (τ := Cert.Reference4Ideal.τ) (Cert.Reference4Ideal.main (F := Ideal)))
      ⟨m, fun _ => 0, ρ⟩ (fun r => (∀ c : Dev Cert.Reference4Ideal.nD,
        r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
        ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
        ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
        ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
        ∧ r.2.sem = fun _ => 0) :=
  (θ_run Cert.Reference4Ideal.defs _ _).mono
    (fun r h => ⟨fun c => (h c).2.2, Idealize.ShloMosaic.sem_eq_zero_of_no_sems (by decide) r.2⟩)
    (Cert.Reference4Ideal.Value.run (F := Ideal) m ρ)

/-- The fifth reference runs from any memory with zero counters, leaves its arguments as they were and declares no semaphore. -/
theorem Cert.Proof.ref_frame5 (m : (ℓ : Loc Cert.Reference5Ideal.nD Cert.Reference5Ideal.τ Cert.Reference5Ideal.sig) → Buf (Elt Ideal) ℓ)
    (ρ : Dev Cert.Reference5Ideal.nD → PrngReg) :
    θ_run (Cert.Reference5Ideal.defs (F := Ideal)) (onTc (τ := Cert.Reference5Ideal.τ) (Cert.Reference5Ideal.main (F := Ideal)))
      ⟨m, fun _ => 0, ρ⟩ (fun r => (∀ c : Dev Cert.Reference5Ideal.nD,
        r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
        ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
        ∧ r.2.sem = fun _ => 0) :=
  (θ_run Cert.Reference5Ideal.defs _ _).mono
    (fun r h => ⟨fun c => (h c).2.2.2, Idealize.ShloMosaic.sem_eq_zero_of_no_sems (by decide) r.2⟩)
    (Cert.Reference5Ideal.Value.run (F := Ideal) m ρ)

/-- The feed-forward part's first call and its reference, over the extended reals, end with the same two arrays. -/
theorem Cert.Proof.equal2 : Cert.algebraic_Kernel2Ideal_Reference2Ideal := by
  pair_intro
  · run_from Cert.Kernel2Ideal.Value.run_blocks m g
  · run_from Cert.Reference2Ideal.Value.run m' g'
    · refine Eq.trans ?_ (Cert.Kernel2Ideal.In.final4 m c).symm
      funext y
      obtain ⟨r, x, rfl⟩ : ∃ (r : Fin 16384) (x : Fin 11264), y = ix2 r x := ⟨y 0, y 1, by funext a; match a with | 0 => rfl | 1 => rfl⟩
      exact Cert.Reference2Ideal.In.ref4 _ _ r x
    · refine Eq.trans ?_ (Cert.Kernel2Ideal.In.final5 m c).symm
      funext y
      obtain ⟨r, x, rfl⟩ : ∃ (r : Fin 11264) (x : Fin 4096), y = ix2 r x := ⟨y 0, y 1, by funext a; match a with | 0 => rfl | 1 => rfl⟩
      exact Cert.Reference2Ideal.In.ref5 _ r x

/-- The feed-forward part's second call and its reference, over the extended reals, end with the same array. -/
theorem Cert.Proof.equal3 : Cert.algebraic_Kernel3Ideal_Reference3Ideal := by
  pair_intro
  · run_from Cert.Kernel3Ideal.Value.run_blocks m g
  · run_from Cert.Reference3Ideal.Value.run m' g'
    refine Eq.trans ?_ (Cert.Kernel3Ideal.Out.final m c).symm
    funext y
    obtain ⟨r, x, rfl⟩ : ∃ (r : Fin 16384) (x : Fin 4096), y = ix2 r x := ⟨y 0, y 1, by funext a; match a with | 0 => rfl | 1 => rfl⟩
    exact Cert.Reference3Ideal.Out.ref _ _ _ _ r x

/-- The resumed first call and its reference, over the extended reals, end with the same two arrays. -/
theorem Cert.Proof.equal4 : Cert.algebraic_Kernel4Ideal_Reference4Ideal := by
  pair_intro
  · run_from Cert.Kernel4Ideal.Value.run_blocks m g
  · run_from Cert.Reference4Ideal.Value.run m' g'
    · refine Eq.trans ?_ (Cert.Kernel4Ideal.Resume.final5 m c).symm
      funext y
      obtain ⟨r, x, rfl⟩ : ∃ (r : Fin 16384) (x : Fin 11264), y = ix2 r x := ⟨y 0, y 1, by funext a; match a with | 0 => rfl | 1 => rfl⟩
      obtain ⟨_, _, _, a3⟩ := hagree c
      refine (Cert.Reference4Ideal.Resume.ref_a _ _ _ r x).trans ?_
      exact congrArg (fun a => Cert.Kernel4Ideal.Resume.outB (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) a r x) a3
    · refine Eq.trans ?_ (Cert.Kernel4Ideal.Resume.final6 m c).symm
      funext y
      obtain ⟨r, x, rfl⟩ : ∃ (r : Fin 11264) (x : Fin 4096), y = ix2 r x := ⟨y 0, y 1, by funext a; match a with | 0 => rfl | 1 => rfl⟩
      exact Cert.Reference4Ideal.Resume.ref_w _ r x

/-- The call for the first rows and its reference, over the extended reals, end with the same three arrays. -/
theorem Cert.Proof.equal5 : Cert.algebraic_Kernel5Ideal_Reference5Ideal := by
  pair_intro
  · run_from Cert.Kernel5Ideal.Value.run_blocks m g
  · run_from Cert.Reference5Ideal.Value.run m' g'
    · refine Eq.trans ?_ (Cert.Kernel5Ideal.First.final3 m c).symm
      funext y
      obtain ⟨r, x, rfl⟩ : ∃ (r : Fin 1024) (x : Fin 11264), y = ix2 r x := ⟨y 0, y 1, by funext a; match a with | 0 => rfl | 1 => rfl⟩
      exact Cert.Reference5Ideal.First.ref_a _ _ r x
    · refine Eq.trans ?_ (Cert.Kernel5Ideal.First.final4 m c).symm
      funext y
      obtain ⟨r, x, rfl⟩ : ∃ (r : Fin 4096) (x : Fin 11264), y = ix2 r x := ⟨y 0, y 1, by funext a; match a with | 0 => rfl | 1 => rfl⟩
      exact Cert.Reference5Ideal.First.ref_g _ r x
    · refine Eq.trans ?_ (Cert.Kernel5Ideal.First.final5 m c).symm
      funext y
      obtain ⟨r, x, rfl⟩ : ∃ (r : Fin 4096) (x : Fin 11264), y = ix2 r x := ⟨y 0, y 1, by funext a; match a with | 0 => rfl | 1 => rfl⟩
      exact Cert.Reference5Ideal.First.ref_u _ r x

theorem Cert.Proof.claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts, Cert.Pre_finite.Gen.facts,
    fun m ρ _ => Cert.Kernel.Att.unchanged m ρ,
    fun m ρ _ => Cert.KernelIdeal.Att.unchanged m ρ,
    fun m ρ _ => Cert.KernelIdeal.Att.unchanged m ρ,
    fun m ρ _ => Cert.Proof.ref_frame m ρ,
    fun m ρ _ => Cert.Proof.ref_frame m ρ,
    fun m ρ _ => Cert.Kernel2.Gen.frame m ρ,
    fun m ρ _ => Cert.Kernel2Ideal.Gen.frame m ρ,
    fun m ρ _ => Cert.Proof.ref_frame2 m ρ,
    fun m ρ _ => Cert.Kernel3.Gen.frame m ρ,
    fun m ρ _ => Cert.Kernel3Ideal.Gen.frame m ρ,
    fun m ρ _ => Cert.Proof.ref_frame3 m ρ,
    fun m ρ _ => Cert.Kernel4.Gen.frame m ρ,
    fun m ρ _ => Cert.Kernel4Ideal.Gen.frame m ρ,
    fun m ρ _ => Cert.Proof.ref_frame4 m ρ,
    fun m ρ _ => Cert.Kernel5.Gen.frame m ρ,
    fun m ρ _ => Cert.Kernel5Ideal.Gen.frame m ρ,
    fun m ρ _ => Cert.Proof.ref_frame5 m ρ,
    IdealRules.named_const.statement Cert.KernelIdeal.κ "mask" .f32 0xF149F2CA#32 ⊥ rfl,
    Cert.Proof.equal,
    trivial,
    Cert.Proof.equal2,
    trivial,
    Cert.Proof.equal3,
    trivial,
    Cert.Proof.equal4,
    trivial,
    Cert.Proof.equal5⟩

end
